-- ==== Defs.lean ====
def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v79_0)) (v1 : (c : Dev Cert.Kernel4Ideal.nD) → Buf (Elt Ideal) ((c.tc : Thread Cert.Kernel4Ideal.nD Cert.Kernel4Ideal.τ).loc Cert.Kernel4Ideal.main_v79_3)) (v2 : (c : Dev Cert.Kernel4Ideal.nD) → Buf (Elt Ideal) ((c.tc : Thread Cert.Kernel4Ideal.nD Cert.Kernel4Ideal.τ).loc Cert.Kernel4Ideal.main_v79_4)) (v3 : (c : Dev Cert.Kernel4Ideal.nD) → Buf (Elt Ideal) ((c.tc : Thread Cert.Kernel4Ideal.nD Cert.Kernel4Ideal.τ).loc Cert.Kernel4Ideal.main_v79_5)) (v4 : (c : Dev Cert.Kernel4Ideal.nD) → Buf (Elt Ideal) ((c.tc : Thread Cert.Kernel4Ideal.nD Cert.Kernel4Ideal.τ).loc Cert.Kernel4Ideal.main_v79_6)) (v5 : (c : Dev Cert.Kernel4Ideal.nD) → Buf (Elt Ideal) ((c.tc : Thread Cert.Kernel4Ideal.nD Cert.Kernel4Ideal.τ).loc Cert.Kernel4Ideal.main_v79_7)) (v6 : (c : Dev Cert.Kernel4Ideal.nD) → Buf (Elt Ideal) ((c.tc : Thread Cert.Kernel4Ideal.nD Cert.Kernel4Ideal.τ).loc Cert.Kernel4Ideal.main_v79_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v79_0) = v0 c
          ∧ r.2.mem ((c.tc : Thread Cert.Kernel4Ideal.nD Cert.Kernel4Ideal.τ).loc Cert.Kernel4Ideal.main_v79_3) = v1 c
          ∧ r.2.mem ((c.tc : Thread Cert.Kernel4Ideal.nD Cert.Kernel4Ideal.τ).loc Cert.Kernel4Ideal.main_v79_4) = v2 c
          ∧ r.2.mem ((c.tc : Thread Cert.Kernel4Ideal.nD Cert.Kernel4Ideal.τ).loc Cert.Kernel4Ideal.main_v79_5) = v3 c
          ∧ r.2.mem ((c.tc : Thread Cert.Kernel4Ideal.nD Cert.Kernel4Ideal.τ).loc Cert.Kernel4Ideal.main_v79_6) = v4 c
          ∧ r.2.mem ((c.tc : Thread Cert.Kernel4Ideal.nD Cert.Kernel4Ideal.τ).loc Cert.Kernel4Ideal.main_v79_7) = v5 c
          ∧ r.2.mem ((c.tc : Thread Cert.Kernel4Ideal.nD Cert.Kernel4Ideal.τ).loc Cert.Kernel4Ideal.main_v79_8) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v80) = v0 c
          ∧ r.2.mem ((c.tc : Thread Cert.Reference4Ideal.nD Cert.Reference4Ideal.τ).loc Cert.Reference4Ideal.main_v82) = v1 c
          ∧ r.2.mem ((c.tc : Thread Cert.Reference4Ideal.nD Cert.Reference4Ideal.τ).loc Cert.Reference4Ideal.main_v84) = v2 c
          ∧ r.2.mem ((c.tc : Thread Cert.Reference4Ideal.nD Cert.Reference4Ideal.τ).loc Cert.Reference4Ideal.main_v87) = v3 c
          ∧ r.2.mem ((c.tc : Thread Cert.Reference4Ideal.nD Cert.Reference4Ideal.τ).loc Cert.Reference4Ideal.main_v90) = v4 c
          ∧ r.2.mem ((c.tc : Thread Cert.Reference4Ideal.nD Cert.Reference4Ideal.τ).loc Cert.Reference4Ideal.main_v93) = v5 c
          ∧ r.2.mem ((c.tc : Thread Cert.Reference4Ideal.nD Cert.Reference4Ideal.τ).loc Cert.Reference4Ideal.main_v95) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== KernelIdeal.lean ====
abbrev S128 : Shape := ⟨1, ![128]⟩
abbrev S4x32x256x256 : Shape := ⟨4, ![4, 32, 256, 256]⟩
abbrev S4x32x128x256 : Shape := ⟨4, ![4, 32, 128, 256]⟩
abbrev S4x32x8x256 : Shape := ⟨4, ![4, 32, 8, 256]⟩
abbrev S4x8192x256 : Shape := ⟨3, ![4, 8192, 256]⟩
abbrev S4x8192x128 : Shape := ⟨3, ![4, 8192, 128]⟩
abbrev S1x1x256x256 : Shape := ⟨4, ![1, 1, 256, 256]⟩
abbrev S1x1x128x256 : Shape := ⟨4, ![1, 1, 128, 256]⟩
abbrev S1x1x8x256 : Shape := ⟨4, ![1, 1, 8, 256]⟩
abbrev S1x8192x256 : Shape := ⟨3, ![1, 8192, 256]⟩
abbrev S1x8192x128 : Shape := ⟨3, ![1, 8192, 128]⟩
abbrev S1x32x256x256 : Shape := ⟨4, ![1, 32, 256, 256]⟩
abbrev S1x256x256 : Shape := ⟨3, ![1, 256, 256]⟩
abbrev S33x256x256 : Shape := ⟨3, ![33, 256, 256]⟩
abbrev S4x256x256 : Shape := ⟨3, ![4, 256, 256]⟩
abbrev S256x256 : Shape := ⟨2, ![256, 256]⟩
abbrev S4x128x256 : Shape := ⟨3, ![4, 128, 256]⟩
abbrev S1 : Shape := ⟨1, ![1]⟩
abbrev S128x256 : Shape := ⟨2, ![128, 256]⟩
abbrev S1x128x256 : Shape := ⟨3, ![1, 128, 256]⟩
abbrev S8x256 : Shape := ⟨2, ![8, 256]⟩
abbrev S1x256x128 : Shape := ⟨3, ![1, 256, 128]⟩
abbrev S256x128 : Shape := ⟨2, ![256, 128]⟩
abbrev S1x256 : Shape := ⟨2, ![1, 256]⟩
abbrev S256 : Shape := ⟨1, ![256]⟩
abbrev S16x256 : Shape := ⟨2, ![16, 256]⟩
abbrev S1x1x256 : Shape := ⟨3, ![1, 1, 256]⟩
abbrev S1x1x1 : Shape := ⟨3, ![1, 1, 1]⟩
abbrev S64x256 : Shape := ⟨2, ![64, 256]⟩
abbrev S80x256 : Shape := ⟨2, ![80, 256]⟩

abbrev nBuf : Space → Nat
  | .hbm => 8
  | .vmem => 25
  | .smem => 1
  | _ => 0

abbrev bufTy : (tb : Table) → Fin (tcTables nBuf tb) → BufTy
  | .hbm, ⟨0, _⟩ => ⟨S128, .f32⟩
  | .hbm, ⟨1, _⟩ => ⟨S4x32x256x256, .bf16⟩
  | .hbm, ⟨2, _⟩ => ⟨S4x32x128x256, .bf16⟩
  | .hbm, ⟨3, _⟩ => ⟨S4x32x8x256, .f32⟩
  | .hbm, ⟨4, _⟩ => ⟨S4x8192x256, .bf16⟩
  | .hbm, ⟨5, _⟩ => ⟨S4x8192x128, .bf16⟩
  | .hbm, ⟨6, _⟩ => ⟨S4x32x256x256, .bf16⟩
  | .hbm, ⟨7, _⟩ => ⟨S4x8192x256, .bf16⟩
  | .local _ .vmem, ⟨0, _⟩ => ⟨S1x1x256x256, .bf16⟩
  | .local _ .vmem, ⟨1, _⟩ => ⟨S1x1x256x256, .bf16⟩
  | .local _ .vmem, ⟨2, _⟩ => ⟨S1x1x128x256, .bf16⟩
  | .local _ .vmem, ⟨3, _⟩ => ⟨S1x1x128x256, .bf16⟩
  | .local _ .vmem, ⟨4, _⟩ => ⟨S1x1x8x256, .f32⟩
  | .local _ .vmem, ⟨5, _⟩ => ⟨S1x1x8x256, .f32⟩
  | .local _ .vmem, ⟨6, _⟩ => ⟨S1x8192x256, .bf16⟩
  | .local _ .vmem, ⟨7, _⟩ => ⟨S1x8192x256, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x32x256x256, .bf16⟩
  | .local _ .vmem, ⟨11, _⟩ => ⟨S1x32x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S33x256x256, .f32⟩
  | .local _ .vmem, ⟨15, _⟩ => ⟨S33x256x256, .f32⟩
  | .local _ .vmem, ⟨16, _⟩ => ⟨S33x256x256, .bf16⟩
  | .local _ .vmem, ⟨17, _⟩ => ⟨S4x256x256, .f32⟩
  | .local _ .vmem, ⟨18, _⟩ => ⟨S4x256x256, .f32⟩
  | .local _ .vmem, ⟨19, _⟩ => ⟨S256x256, .bf16⟩
  | .local _ .vmem, ⟨20, _⟩ => ⟨S4x256x256, .bf16⟩
  | .local _ .vmem, ⟨21, _⟩ => ⟨S4x128x256, .bf16⟩
  | .local _ .vmem, ⟨22, _⟩ => ⟨S256x256, .f32⟩
  | .local _ .vmem, ⟨23, _⟩ => ⟨S4x256x256, .f32⟩
  | .local _ .vmem, ⟨24, _⟩ => ⟨S4x256x256, .f32⟩
  | .local _ .smem, ⟨0, _⟩ => ⟨S128, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let c1_i32_79 : BitVec 32 := 1#32
  ⟨c0_i32_77, v166, c1_i32_79⟩
def k0_mult1 (i : grid0.Coords) (k0_t1 : Fin (k0_t1_loop i).trips) : BitVec 32 :=
  let c6_i32_198 : BitVec 32 := 6#32
  let c0_i32_77 : BitVec 32 := 0#32
  let c1_i32_79 : BitVec 32 := 1#32
  let arg21 : BitVec 32 := Scf.iv c0_i32_77 c1_i32_79 k0_t1
  let v633 : BitVec 32 := Scalar.muli c6_i32_198 arg21
  let c0_i32_199 : BitVec 32 := 0#32
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  v636
def k0_off1 (i : grid0.Coords) (k0_t1 : Fin (k0_t1_loop i).trips) (c0_i32_199 : BitVec 32) : Fin 3 → Nat :=
  let c0_202 : Index := 0#32
  let c6_i32_198 : BitVec 32 := 6#32
  let c0_i32_77 : BitVec 32 := 0#32
  let c1_i32_79 : BitVec 32 := 1#32
  let arg21 : BitVec 32 := Scf.iv c0_i32_77 c1_i32_79 k0_t1
  let v633 : BitVec 32 := Scalar.muli c6_i32_198 arg21
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  let v637 : BitVec 32 := v636
  let v638 : Index := Scalar.indexCast v637
  let c0_203 : Index := 0#32
  ![0, v638.toNat, 0]
def k0_off2 (i : grid0.Coords) (k0_t1 : Fin (k0_t1_loop i).trips) (c0_i32_199 : BitVec 32) : Fin 3 → Nat :=
  let c6_i32_198 : BitVec 32 := 6#32
  let c0_i32_77 : BitVec 32 := 0#32
  let c1_i32_79 : BitVec 32 := 1#32
  let arg21 : BitVec 32 := Scf.iv c0_i32_77 c1_i32_79 k0_t1
  let v633 : BitVec 32 := Scalar.muli c6_i32_198 arg21
  let v634 : BitVec 32 := Scalar.addi v633 c0_i32_199
  let v678 : Index := Scalar.indexCast v634
  let c0_225 : Index := 0#32
  let c0_226 : Index := 0#32
  ![v678.toNat, 0, 0]
def k0_mult2 (i : grid0.Coords) (k0_t1 : Fin (k0_t1_loop i).trips) : BitVec 32 :=
  let c6_i32_198 : BitVec 32 := 6#32
  let c0_i32_77 : BitVec 32 := 0#32
  let c1_i32_79 : BitVec 32 := 1#32
  let arg21 : BitVec 32 := Scf.iv c0_i32_77 c1_i32_79 k0_t1
  let v633 : BitVec 32 := Scalar.muli c6_i32_198 arg21
  let c1_i32_231 : BitVec 32 := 1#32
  let v885 : BitVec 32 := Scalar.addi v633 c1_i32_231
  let c31_i32_232 : BitVec 32 := 31#32
  let v886 : BitVec 32 := Scalar.minsi v885 c31_i32_232
  let c256_i32_233 : BitVec 32 := 256#32
  let v887 : BitVec 32 := Scalar.muli v886 c256_i32_233
  v887
def k0_mult3 (i : grid0.Coords) (k0_t1 : Fin (k0_t1_loop i).trips) : BitVec 32 :=
  let c6_i32_198 : BitVec 32 := 6#32
  let c0_i32_77 : BitVec 32 := 0#32
  let c1_i32_79 : BitVec 32 := 1#32
  let arg21 : BitVec 32 := Scf.iv c0_i32_77 c1_i32_79 k0_t1
  let v633 : BitVec 32 := Scalar.muli c6_i32_198 arg21
  let c2_i32_263 : BitVec 32 := 2#32
  let v1136 : BitVec 32 := Scalar.addi v633 c2_i32_263
  let c31_i32_264 : BitVec 32 := 31#32
  let v1137 : BitVec 32 := Scalar.minsi v1136 c31_i32_264
  let c256_i32_265 : BitVec 32 := 256#32
  let v1138 : BitVec 32 := Scalar.muli v1137 c256_i32_265
  v1138
def k0_mult4 (i : grid0.Coords) (k0_t1 : Fin (k0_t1_loop i).trips) : BitVec 32 :=
  let c6_i32_198 : BitVec 32 := 6#32
  let c0_i32_77 : BitVec 32 := 0#32
  let c1_i32_79 : BitVec 32 := 1#32
  let arg21 : BitVec 32 := Scf.iv c0_i32_77 c1_i32_79 k0_t1
  let v633 : BitVec 32 := Scalar.muli c6_i32_198 arg21
  let c3_i32_295 : BitVec 32 := 3#32
  let v1387 : BitVec 32 := Scalar.addi v633 c3_i32_295
  let c31_i32_296 : BitVec 32 := 31#32
  let v1388 : BitVec 32 := Scalar.minsi v1387 c31_i32_296
  let c256_i32_297 : BitVec 32 := 256#32
  let v1389 : BitVec 32 := Scalar.muli v1388 c256_i32_297
  v1389
def k0_mult5 (i : grid0.Coords) (k0_t1 : Fin (k0_t1_loop i).trips) : BitVec 32 :=
  let c6_i32_198 : BitVec 32 := 6#32
  let c0_i32_77 : BitVec 32 := 0#32
  let c1_i32_79 : BitVec 32 := 1#32
  let arg21 : BitVec 32 := Scf.iv c0_i32_77 c1_i32_79 k0_t1
  let v633 : BitVec 32 := Scalar.muli c6_i32_198 arg21
  let c4_i32 : BitVec 32 := 4#32
  let v1638 : BitVec 32 := Scalar.addi v633 c4_i32
  let c31_i32_327 : BitVec 32 := 31#32
  let v1639 : BitVec 32 := Scalar.minsi v1638 c31_i32_327
  let c256_i32_328 : BitVec 32 := 256#32
  let v1640 : BitVec 32 := Scalar.muli v1639 c256_i32_328
  v1640
def k0_mult6 (i : grid0.Coords) (k0_t1 : Fin (k0_t1_loop i).trips) : BitVec 32 :=
  let c6_i32_198 : BitVec 32 := 6#32
  let c0_i32_77 : BitVec 32 := 0#32
  let c1_i32_79 : BitVec 32 := 1#32
  let arg21 : BitVec 32 := Scf.iv c0_i32_77 c1_i32_79 k0_t1
  let v633 : BitVec 32 := Scalar.muli c6_i32_198 arg21
  let c5_i32_358 : BitVec 32 := 5#32
  let v1889 : BitVec 32 := Scalar.addi v633 c5_i32_358
  let c31_i32_359 : BitVec 32 := 31#32
  let v1890 : BitVec 32 := Scalar.minsi v1889 c31_i32_359
  let c256_i32_360 : BitVec 32 := 256#32
  let v1891 : BitVec 32 := Scalar.muli v1890 c256_i32_360
  v1891
@[reducible] def k0_t2_loop (i : grid0.Coords) : Scf.Loop 32 :=
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let v163 : BitVec 32 := Scalar.addi c0_i32_77 v162
  let c1_i32_80 : BitVec 32 := 1#32
  ⟨v166, v163, c1_i32_80⟩
def k0_mult7 (i : grid0.Coords) (k0_t2 : Fin (k0_t2_loop i).trips) : BitVec 32 :=
  let c6_i32_198 : BitVec 32 := 6#32
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let c1_i32_80 : BitVec 32 := 1#32
  let arg21 : BitVec 32 := Scf.iv v166 c1_i32_80 k0_t2
  let v633 : BitVec 32 := Scalar.muli c6_i32_198 arg21
  let c0_i32_199 : BitVec 32 := 0#32
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  v636
def k0_off3 (i : grid0.Coords) (k0_t2 : Fin (k0_t2_loop i).trips) (c0_i32_199 : BitVec 32) : Fin 3 → Nat :=
  let c0_202 : Index := 0#32
  let c6_i32_198 : BitVec 32 := 6#32
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let c1_i32_80 : BitVec 32 := 1#32
  let arg21 : BitVec 32 := Scf.iv v166 c1_i32_80 k0_t2
  let v633 : BitVec 32 := Scalar.muli c6_i32_198 arg21
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  let v637 : BitVec 32 := v636
  let v638 : Index := Scalar.indexCast v637
  let c0_203 : Index := 0#32
  ![0, v638.toNat, 0]
def k0_off4 (i : grid0.Coords) (k0_t2 : Fin (k0_t2_loop i).trips) (c0_i32_199 : BitVec 32) : Fin 3 → Nat :=
  let c6_i32_198 : BitVec 32 := 6#32
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let c1_i32_80 : BitVec 32 := 1#32
  let arg21 : BitVec 32 := Scf.iv v166 c1_i32_80 k0_t2
  let v633 : BitVec 32 := Scalar.muli c6_i32_198 arg21
  let v634 : BitVec 32 := Scalar.addi v633 c0_i32_199
  let v678 : Index := Scalar.indexCast v634
  let c0_225 : Index := 0#32
  let c0_226 : Index := 0#32
  ![v678.toNat, 0, 0]
def k0_mult8 (i : grid0.Coords) (k0_t2 : Fin (k0_t2_loop i).trips) : BitVec 32 :=
  let c6_i32_198 : BitVec 32 := 6#32
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let c1_i32_80 : BitVec 32 := 1#32
  let arg21 : BitVec 32 := Scf.iv v166 c1_i32_80 k0_t2
  let v633 : BitVec 32 := Scalar.muli c6_i32_198 arg21
  let c1_i32_231 : BitVec 32 := 1#32
  let v885 : BitVec 32 := Scalar.addi v633 c1_i32_231
  let c31_i32_232 : BitVec 32 := 31#32
  let v886 : BitVec 32 := Scalar.minsi v885 c31_i32_232
  let c256_i32_233 : BitVec 32 := 256#32
  let v887 : BitVec 32 := Scalar.muli v886 c256_i32_233
  v887
def k0_mult9 (i : grid0.Coords) (k0_t2 : Fin (k0_t2_loop i).trips) : BitVec 32 :=
  let c6_i32_198 : BitVec 32 := 6#32
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let c1_i32_80 : BitVec 32 := 1#32
  let arg21 : BitVec 32 := Scf.iv v166 c1_i32_80 k0_t2
  let v633 : BitVec 32 := Scalar.muli c6_i32_198 arg21
  let c2_i32_263 : BitVec 32 := 2#32
  let v1136 : BitVec 32 := Scalar.addi v633 c2_i32_263
  let c31_i32_264 : BitVec 32 := 31#32
  let v1137 : BitVec 32 := Scalar.minsi v1136 c31_i32_264
  let c256_i32_265 : BitVec 32 := 256#32
  let v1138 : BitVec 32 := Scalar.muli v1137 c256_i32_265
  v1138
def k0_mult10 (i : grid0.Coords) (k0_t2 : Fin (k0_t2_loop i).trips) : BitVec 32 :=
  let c6_i32_198 : BitVec 32 := 6#32
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let c1_i32_80 : BitVec 32 := 1#32
  let arg21 : BitVec 32 := Scf.iv v166 c1_i32_80 k0_t2
  let v633 : BitVec 32 := Scalar.muli c6_i32_198 arg21
  let c3_i32_295 : BitVec 32 := 3#32
  let v1387 : BitVec 32 := Scalar.addi v633 c3_i32_295
  let c31_i32_296 : BitVec 32 := 31#32
  let v1388 : BitVec 32 := Scalar.minsi v1387 c31_i32_296
  let c256_i32_297 : BitVec 32 := 256#32
  let v1389 : BitVec 32 := Scalar.muli v1388 c256_i32_297
  v1389
def k0_mult11 (i : grid0.Coords) (k0_t2 : Fin (k0_t2_loop i).trips) : BitVec 32 :=
  let c6_i32_198 : BitVec 32 := 6#32
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let c1_i32_80 : BitVec 32 := 1#32
  let arg21 : BitVec 32 := Scf.iv v166 c1_i32_80 k0_t2
  let v633 : BitVec 32 := Scalar.muli c6_i32_198 arg21
  let c4_i32 : BitVec 32 := 4#32
  let v1638 : BitVec 32 := Scalar.addi v633 c4_i32
  let c31_i32_327 : BitVec 32 := 31#32
  let v1639 : BitVec 32 := Scalar.minsi v1638 c31_i32_327
  let c256_i32_328 : BitVec 32 := 256#32
  let v1640 : BitVec 32 := Scalar.muli v1639 c256_i32_328
  v1640
def k0_mult12 (i : grid0.Coords) (k0_t2 : Fin (k0_t2_loop i).trips) : BitVec 32 :=
  let c6_i32_198 : BitVec 32 := 6#32
  let c0_i32_77 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v162 : BitVec 32 := Scalar.subi v159 c0_i32_77
  let c1_i32_78 : BitVec 32 := 1#32
  let v164 : BitVec 32 := Scalar.divsi v162 c1_i32_78
  let v165 : BitVec 32 := Scalar.muli v164 c1_i32_78
  let v166 : BitVec 32 := Scalar.addi c0_i32_77 v165
  let c1_i32_80 : BitVec 32 := 1#32
  let arg21 : BitVec 32 := Scf.iv v166 c1_i32_80 k0_t2
  let v633 : BitVec 32 := Scalar.muli c6_i32_198 arg21
  let c5_i32_358 : BitVec 32 := 5#32
  let v1889 : BitVec 32 := Scalar.addi v633 c5_i32_358
  let c31_i32_359 : BitVec 32 := 31#32
  let v1890 : BitVec 32 := Scalar.minsi v1889 c31_i32_359
  let c256_i32_360 : BitVec 32 := 256#32
  let v1891 : BitVec 32 := Scalar.muli v1890 c256_i32_360
  v1891
@[reducible] def k0_t3_loop (i : grid0.Coords) : Scf.Loop 32 :=
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_82 : BitVec 32 := 1#32
  let v170 : BitVec 32 := Scalar.subi v141 c1_i32_82
  let v171 : BitVec 32 := Scalar.subi v170 v169
  let c1_i32_83 : BitVec 32 := 1#32
  let v173 : BitVec 32 := Scalar.divsi v171 c1_i32_83
  let v174 : BitVec 32 := Scalar.muli v173 c1_i32_83
  let v175 : BitVec 32 := Scalar.addi v169 v174
  let c1_i32_84 : BitVec 32 := 1#32
  ⟨v169, v175, c1_i32_84⟩
def k0_mult13 (i : grid0.Coords) (k0_t3 : Fin (k0_t3_loop i).trips) : BitVec 32 :=
  let c2_i32_198 : BitVec 32 := 2#32
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_84 : BitVec 32 := 1#32
  let arg21 : BitVec 32 := Scf.iv v169 c1_i32_84 k0_t3
  let v633 : BitVec 32 := Scalar.muli c2_i32_198 arg21
  let c0_i32_199 : BitVec 32 := 0#32
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  v636
def k0_off5 (i : grid0.Coords) (k0_t3 : Fin (k0_t3_loop i).trips) (c0_i32_199 : BitVec 32) : Fin 3 → Nat :=
  let c0_202 : Index := 0#32
  let c2_i32_198 : BitVec 32 := 2#32
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_84 : BitVec 32 := 1#32
  let arg21 : BitVec 32 := Scf.iv v169 c1_i32_84 k0_t3
  let v633 : BitVec 32 := Scalar.muli c2_i32_198 arg21
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  let v637 : BitVec 32 := v636
  let v638 : Index := Scalar.indexCast v637
  let c0_203 : Index := 0#32
  ![0, v638.toNat, 0]
def k0_off6 (i : grid0.Coords) (k0_t3 : Fin (k0_t3_loop i).trips) (c0_i32_199 : BitVec 32) : Fin 3 → Nat :=
  let c2_i32_198 : BitVec 32 := 2#32
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_84 : BitVec 32 := 1#32
  let arg21 : BitVec 32 := Scf.iv v169 c1_i32_84 k0_t3
  let v633 : BitVec 32 := Scalar.muli c2_i32_198 arg21
  let v634 : BitVec 32 := Scalar.addi v633 c0_i32_199
  let v678 : Index := Scalar.indexCast v634
  let c0_225 : Index := 0#32
  let c0_226 : Index := 0#32
  ![v678.toNat, 0, 0]
def k0_mult14 (i : grid0.Coords) (k0_t3 : Fin (k0_t3_loop i).trips) : BitVec 32 :=
  let c2_i32_198 : BitVec 32 := 2#32
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_84 : BitVec 32 := 1#32
  let arg21 : BitVec 32 := Scf.iv v169 c1_i32_84 k0_t3
  let v633 : BitVec 32 := Scalar.muli c2_i32_198 arg21
  let c1_i32_231 : BitVec 32 := 1#32
  let v885 : BitVec 32 := Scalar.addi v633 c1_i32_231
  let c31_i32_232 : BitVec 32 := 31#32
  let v886 : BitVec 32 := Scalar.minsi v885 c31_i32_232
  let c256_i32_233 : BitVec 32 := 256#32
  let v887 : BitVec 32 := Scalar.muli v886 c256_i32_233
  v887
@[reducible] def k0_t4_loop (i : grid0.Coords) : Scf.Loop 32 :=
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_82 : BitVec 32 := 1#32
  let v170 : BitVec 32 := Scalar.subi v141 c1_i32_82
  let v171 : BitVec 32 := Scalar.subi v170 v169
  let c1_i32_83 : BitVec 32 := 1#32
  let v173 : BitVec 32 := Scalar.divsi v171 c1_i32_83
  let v174 : BitVec 32 := Scalar.muli v173 c1_i32_83
  let v175 : BitVec 32 := Scalar.addi v169 v174
  let v172 : BitVec 32 := Scalar.addi v169 v171
  let c1_i32_85 : BitVec 32 := 1#32
  ⟨v175, v172, c1_i32_85⟩
def k0_mult15 (i : grid0.Coords) (k0_t4 : Fin (k0_t4_loop i).trips) : BitVec 32 :=
  let c2_i32_198 : BitVec 32 := 2#32
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_82 : BitVec 32 := 1#32
  let v170 : BitVec 32 := Scalar.subi v141 c1_i32_82
  let v171 : BitVec 32 := Scalar.subi v170 v169
  let c1_i32_83 : BitVec 32 := 1#32
  let v173 : BitVec 32 := Scalar.divsi v171 c1_i32_83
  let v174 : BitVec 32 := Scalar.muli v173 c1_i32_83
  let v175 : BitVec 32 := Scalar.addi v169 v174
  let c1_i32_85 : BitVec 32 := 1#32
  let arg21 : BitVec 32 := Scf.iv v175 c1_i32_85 k0_t4
  let v633 : BitVec 32 := Scalar.muli c2_i32_198 arg21
  let c0_i32_199 : BitVec 32 := 0#32
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  v636
def k0_off7 (i : grid0.Coords) (k0_t4 : Fin (k0_t4_loop i).trips) (c0_i32_199 : BitVec 32) : Fin 3 → Nat :=
  let c0_202 : Index := 0#32
  let c2_i32_198 : BitVec 32 := 2#32
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_82 : BitVec 32 := 1#32
  let v170 : BitVec 32 := Scalar.subi v141 c1_i32_82
  let v171 : BitVec 32 := Scalar.subi v170 v169
  let c1_i32_83 : BitVec 32 := 1#32
  let v173 : BitVec 32 := Scalar.divsi v171 c1_i32_83
  let v174 : BitVec 32 := Scalar.muli v173 c1_i32_83
  let v175 : BitVec 32 := Scalar.addi v169 v174
  let c1_i32_85 : BitVec 32 := 1#32
  let arg21 : BitVec 32 := Scf.iv v175 c1_i32_85 k0_t4
  let v633 : BitVec 32 := Scalar.muli c2_i32_198 arg21
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  let v637 : BitVec 32 := v636
  let v638 : Index := Scalar.indexCast v637
  let c0_203 : Index := 0#32
  ![0, v638.toNat, 0]
def k0_off8 (i : grid0.Coords) (k0_t4 : Fin (k0_t4_loop i).trips) (c0_i32_199 : BitVec 32) : Fin 3 → Nat :=
  let c2_i32_198 : BitVec 32 := 2#32
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_82 : BitVec 32 := 1#32
  let v170 : BitVec 32 := Scalar.subi v141 c1_i32_82
  let v171 : BitVec 32 := Scalar.subi v170 v169
  let c1_i32_83 : BitVec 32 := 1#32
  let v173 : BitVec 32 := Scalar.divsi v171 c1_i32_83
  let v174 : BitVec 32 := Scalar.muli v173 c1_i32_83
  let v175 : BitVec 32 := Scalar.addi v169 v174
  let c1_i32_85 : BitVec 32 := 1#32
  let arg21 : BitVec 32 := Scf.iv v175 c1_i32_85 k0_t4
  let v633 : BitVec 32 := Scalar.muli c2_i32_198 arg21
  let v634 : BitVec 32 := Scalar.addi v633 c0_i32_199
  let v678 : Index := Scalar.indexCast v634
  let c0_225 : Index := 0#32
  let c0_226 : Index := 0#32
  ![v678.toNat, 0, 0]
def k0_mult16 (i : grid0.Coords) (k0_t4 : Fin (k0_t4_loop i).trips) : BitVec 32 :=
  let c2_i32_198 : BitVec 32 := 2#32
  let c3_i32_81 : BitVec 32 := 3#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_67 : BitVec 32 := 1#32
  let v142 : BitVec 32 := Scalar.subi v141 c1_i32_67
  let c0_i32_69 : BitVec 32 := 0#32
  let v144 : BitVec 1 := Scalar.cmpi .sgt v142 c0_i32_69
  let v145 : BitVec 32 := Scalar.extui v144
  let c0_i32_70 : BitVec 32 := 0#32
  let v146 : BitVec 1 := Scalar.cmpi .slt v142 c0_i32_70
  let v147 : BitVec 32 := Scalar.extui v146
  let v148 : BitVec 32 := Scalar.subi v145 v147
  let c3_i32_68 : BitVec 32 := 3#32
  let c0_i32_71 : BitVec 32 := 0#32
  let v149 : BitVec 1 := Scalar.cmpi .sgt c3_i32_68 c0_i32_71
  let v150 : BitVec 32 := Scalar.extui v149
  let c0_i32_72 : BitVec 32 := 0#32
  let v151 : BitVec 1 := Scalar.cmpi .slt c3_i32_68 c0_i32_72
  let v152 : BitVec 32 := Scalar.extui v151
  let v153 : BitVec 32 := Scalar.subi v150 v152
  let v154 : BitVec 1 := Scalar.cmpi .ne v148 v153
  let v155 : BitVec 32 := Scalar.remsi v142 c3_i32_68
  let c0_i32_73 : BitVec 32 := 0#32
  let v156 : BitVec 1 := Scalar.cmpi .ne v155 c0_i32_73
  let v157 : BitVec 1 := Scalar.andi v154 v156
  let v143 : BitVec 32 := Scalar.divsi v142 c3_i32_68
  let c1_i32_74 : BitVec 32 := 1#32
  let v158 : BitVec 32 := Scalar.subi v143 c1_i32_74
  let v159 : BitVec 32 := Scalar.select v157 v158 v143
  let v169 : BitVec 32 := Scalar.muli c3_i32_81 v159
  let c1_i32_82 : BitVec 32 := 1#32
  let v170 : BitVec 32 := Scalar.subi v141 c1_i32_82
  let v171 : BitVec 32 := Scalar.subi v170 v169
  let c1_i32_83 : BitVec 32 := 1#32
  let v173 : BitVec 32 := Scalar.divsi v171 c1_i32_83
  let v174 : BitVec 32 := Scalar.muli v173 c1_i32_83
  let v175 : BitVec 32 := Scalar.addi v169 v174
  let c1_i32_85 : BitVec 32 := 1#32
  let arg21 : BitVec 32 := Scf.iv v175 c1_i32_85 k0_t4
  let v633 : BitVec 32 := Scalar.muli c2_i32_198 arg21
  let c1_i32_231 : BitVec 32 := 1#32
  let v885 : BitVec 32 := Scalar.addi v633 c1_i32_231
  let c31_i32_232 : BitVec 32 := 31#32
  let v886 : BitVec 32 := Scalar.minsi v885 c31_i32_232
  let c256_i32_233 : BitVec 32 := 256#32
  let v887 : BitVec 32 := Scalar.muli v886 c256_i32_233
  v887
def k0_mult17 (i : grid0.Coords) : BitVec 32 :=
  let c2_i32_87 : BitVec 32 := 2#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_86 : BitVec 32 := 1#32
  let v178 : BitVec 32 := Scalar.subi v141 c1_i32_86
  let v179 : BitVec 32 := Scalar.muli c2_i32_87 v178
  let c0_i32_88 : BitVec 32 := 0#32
  let v180 : BitVec 32 := Scalar.addi v179 c0_i32_88
  let c31_i32 : BitVec 32 := 31#32
  let v181 : BitVec 32 := Scalar.minsi v180 c31_i32
  let c256_i32_89 : BitVec 32 := 256#32
  let v182 : BitVec 32 := Scalar.muli v181 c256_i32_89
  v182
def k0_off9 (i : grid0.Coords) : Fin 3 → Nat :=
  let c0_90 : Index := 0#32
  let c2_i32_87 : BitVec 32 := 2#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_86 : BitVec 32 := 1#32
  let v178 : BitVec 32 := Scalar.subi v141 c1_i32_86
  let v179 : BitVec 32 := Scalar.muli c2_i32_87 v178
  let c0_i32_88 : BitVec 32 := 0#32
  let v180 : BitVec 32 := Scalar.addi v179 c0_i32_88
  let c31_i32 : BitVec 32 := 31#32
  let v181 : BitVec 32 := Scalar.minsi v180 c31_i32
  let c256_i32_89 : BitVec 32 := 256#32
  let v182 : BitVec 32 := Scalar.muli v181 c256_i32_89
  let v183 : BitVec 32 := v182
  let v184 : Index := Scalar.indexCast v183
  let c0_91 : Index := 0#32
  ![0, v184.toNat, 0]
def k0_off10 (i : grid0.Coords) : Fin 3 → Nat :=
  let c2_i32_87 : BitVec 32 := 2#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_86 : BitVec 32 := 1#32
  let v178 : BitVec 32 := Scalar.subi v141 c1_i32_86
  let v179 : BitVec 32 := Scalar.muli c2_i32_87 v178
  let c0_i32_88 : BitVec 32 := 0#32
  let v180 : BitVec 32 := Scalar.addi v179 c0_i32_88
  let v295 : Index := Scalar.indexCast v180
  let c0_116 : Index := 0#32
  let c0_117 : Index := 0#32
  ![v295.toNat, 0, 0]
def k0_cond2 (i : grid0.Coords) : BitVec 1 :=
  let arg1 : BitVec 32 := BitVec.ofNat 32 (i 1).val
  let c2_i32_122 : BitVec 32 := 2#32
  let c0_i32_123 : BitVec 32 := 0#32
  let v499 : BitVec 1 := Scalar.cmpi .eq c2_i32_122 c0_i32_123
  let c1_i32_124 : BitVec 32 := 1#32
  let v500 : BitVec 32 := Scalar.select v499 c1_i32_124 c2_i32_122
  let v501 : BitVec 32 := Scalar.remsi arg1 v500
  let c0_i32_126 : BitVec 32 := 0#32
  let v503 : BitVec 1 := Scalar.cmpi .slt v501 c0_i32_126
  let c0_i32_127 : BitVec 32 := 0#32
  let v504 : BitVec 1 := Scalar.cmpi .slt v500 c0_i32_127
  let v505 : BitVec 1 := Scalar.xori v503 v504
  let c0_i32_125 : BitVec 32 := 0#32
  let v502 : BitVec 1 := Scalar.cmpi .ne v501 c0_i32_125
  let v506 : BitVec 1 := Scalar.andi v505 v502
  let v507 : BitVec 32 := Scalar.addi v501 v500
  let v508 : BitVec 32 := Scalar.select v506 v507 v501
  let c1_i32_128 : BitVec 32 := 1#32
  let v509 : BitVec 1 := Scalar.cmpi .eq v508 c1_i32_128
  let v510 : BitVec 32 := Scalar.extui v509
  let c0_i32_129 : BitVec 32 := 0#32
  let v511 : BitVec 1 := Scalar.cmpi .ne v510 c0_i32_129
  v511

def k0_mult18 (i : grid0.Coords) : BitVec 32 :=
  let c2_i32_87 : BitVec 32 := 2#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_86 : BitVec 32 := 1#32
  let v178 : BitVec 32 := Scalar.subi v141 c1_i32_86
  let v179 : BitVec 32 := Scalar.muli c2_i32_87 v178
  let c1_i32_198 : BitVec 32 := 1#32
  let v633 : BitVec 32 := Scalar.addi v179 c1_i32_198
  let c0_i32_199 : BitVec 32 := 0#32
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  v636
def k0_off11 (i : grid0.Coords) : Fin 3 → Nat :=
  let c0_202 : Index := 0#32
  let c2_i32_87 : BitVec 32 := 2#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_86 : BitVec 32 := 1#32
  let v178 : BitVec 32 := Scalar.subi v141 c1_i32_86
  let v179 : BitVec 32 := Scalar.muli c2_i32_87 v178
  let c1_i32_198 : BitVec 32 := 1#32
  let v633 : BitVec 32 := Scalar.addi v179 c1_i32_198
  let c0_i32_199 : BitVec 32 := 0#32
  let v634 : BitVec 32 := Scalar.addi v633 c0_i32_199
  let c31_i32_200 : BitVec 32 := 31#32
  let v635 : BitVec 32 := Scalar.minsi v634 c31_i32_200
  let c256_i32_201 : BitVec 32 := 256#32
  let v636 : BitVec 32 := Scalar.muli v635 c256_i32_201
  let v637 : BitVec 32 := v636
  let v638 : Index := Scalar.indexCast v637
  let c0_203 : Index := 0#32
  ![0, v638.toNat, 0]
def k0_off12 (i : grid0.Coords) : Fin 3 → Nat :=
  let c2_i32_87 : BitVec 32 := 2#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_86 : BitVec 32 := 1#32
  let v178 : BitVec 32 := Scalar.subi v141 c1_i32_86
  let v179 : BitVec 32 := Scalar.muli c2_i32_87 v178
  let c1_i32_198 : BitVec 32 := 1#32
  let v633 : BitVec 32 := Scalar.addi v179 c1_i32_198
  let c0_i32_199 : BitVec 32 := 0#32
  let v634 : BitVec 32 := Scalar.addi v633 c0_i32_199
  let v749 : Index := Scalar.indexCast v634
  let c0_228 : Index := 0#32
  let c0_229 : Index := 0#32
  ![v749.toNat, 0, 0]
def k0_off13 (i : grid0.Coords) : Fin 3 → Nat :=
  let c2_i32_87 : BitVec 32 := 2#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let c1_i32_86 : BitVec 32 := 1#32
  let v178 : BitVec 32 := Scalar.subi v141 c1_i32_86
  let v179 : BitVec 32 := Scalar.muli c2_i32_87 v178
  let c1_i32_199 : BitVec 32 := 1#32
  let v634 : BitVec 32 := Scalar.addi v179 c1_i32_199
  let v635 : Index := Scalar.indexCast v634
  let c0_200 : Index := 0#32
  let c0_201 : Index := 0#32
  ![v635.toNat, 0, 0]
@[reducible] def k0_t5_loop : Scf.Loop 32 :=
  let c0_i32_136 : BitVec 32 := 0#32
  let c10_i32 : BitVec 32 := 10#32
  let v531 : BitVec 32 := Scalar.addi c0_i32_136 c10_i32
  let c1_i32_137 : BitVec 32 := 1#32
  ⟨c0_i32_136, v531, c1_i32_137⟩
@[reducible] def k0_t6_loop (i : grid0.Coords) : Scf.Loop 32 :=
  let c0_i32_201 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v641 : BitVec 32 := Scalar.subi v141 c0_i32_201
  let c1_i32_202 : BitVec 32 := 1#32
  let v643 : BitVec 32 := Scalar.divsi v641 c1_i32_202
  let v644 : BitVec 32 := Scalar.muli v643 c1_i32_202
  let v645 : BitVec 32 := Scalar.addi c0_i32_201 v644
  let c1_i32_203 : BitVec 32 := 1#32
  ⟨c0_i32_201, v645, c1_i32_203⟩
def k0_off14 (i : grid0.Coords) (k0_t6 : Fin (k0_t6_loop i).trips) : Fin 3 → Nat :=
  let c2_i32_206 : BitVec 32 := 2#32
  let c0_i32_201 : BitVec 32 := 0#32
  let c1_i32_203 : BitVec 32 := 1#32
  let arg24 : BitVec 32 := Scf.iv c0_i32_201 c1_i32_203 k0_t6
  let v654 : BitVec 32 := Scalar.muli c2_i32_206 arg24
  let v655 : Index := Scalar.indexCast v654
  let c0_207 : Index := 0#32
  let c0_208 : Index := 0#32
  ![v655.toNat, 0, 0]
def k0_off15 (i : grid0.Coords) (k0_t6 : Fin (k0_t6_loop i).trips) : Fin 3 → Nat :=
  let c2_i32_225 : BitVec 32 := 2#32
  let c0_i32_201 : BitVec 32 := 0#32
  let c1_i32_203 : BitVec 32 := 1#32
  let arg24 : BitVec 32 := Scf.iv c0_i32_201 c1_i32_203 k0_t6
  let v729 : BitVec 32 := Scalar.muli c2_i32_225 arg24
  let c1_i32_226 : BitVec 32 := 1#32
  let v730 : BitVec 32 := Scalar.addi v729 c1_i32_226
  let v731 : Index := Scalar.indexCast v730
  let c0_227 : Index := 0#32
  let c0_228 : Index := 0#32
  ![v731.toNat, 0, 0]
@[reducible] def k0_t7_loop (i : grid0.Coords) : Scf.Loop 32 :=
  let c0_i32_201 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v641 : BitVec 32 := Scalar.subi v141 c0_i32_201
  let c1_i32_202 : BitVec 32 := 1#32
  let v643 : BitVec 32 := Scalar.divsi v641 c1_i32_202
  let v644 : BitVec 32 := Scalar.muli v643 c1_i32_202
  let v645 : BitVec 32 := Scalar.addi c0_i32_201 v644
  let v642 : BitVec 32 := Scalar.addi c0_i32_201 v641
  let c1_i32_204 : BitVec 32 := 1#32
  ⟨v645, v642, c1_i32_204⟩
def k0_off16 (i : grid0.Coords) (k0_t7 : Fin (k0_t7_loop i).trips) : Fin 3 → Nat :=
  let c2_i32_206 : BitVec 32 := 2#32
  let c0_i32_201 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v641 : BitVec 32 := Scalar.subi v141 c0_i32_201
  let c1_i32_202 : BitVec 32 := 1#32
  let v643 : BitVec 32 := Scalar.divsi v641 c1_i32_202
  let v644 : BitVec 32 := Scalar.muli v643 c1_i32_202
  let v645 : BitVec 32 := Scalar.addi c0_i32_201 v644
  let c1_i32_204 : BitVec 32 := 1#32
  let arg24 : BitVec 32 := Scf.iv v645 c1_i32_204 k0_t7
  let v654 : BitVec 32 := Scalar.muli c2_i32_206 arg24
  let v655 : Index := Scalar.indexCast v654
  let c0_207 : Index := 0#32
  let c0_208 : Index := 0#32
  ![v655.toNat, 0, 0]
def k0_off17 (i : grid0.Coords) (k0_t7 : Fin (k0_t7_loop i).trips) : Fin 3 → Nat :=
  let c2_i32_225 : BitVec 32 := 2#32
  let c0_i32_201 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v641 : BitVec 32 := Scalar.subi v141 c0_i32_201
  let c1_i32_202 : BitVec 32 := 1#32
  let v643 : BitVec 32 := Scalar.divsi v641 c1_i32_202
  let v644 : BitVec 32 := Scalar.muli v643 c1_i32_202
  let v645 : BitVec 32 := Scalar.addi c0_i32_201 v644
  let c1_i32_204 : BitVec 32 := 1#32
  let arg24 : BitVec 32 := Scf.iv v645 c1_i32_204 k0_t7
  let v729 : BitVec 32 := Scalar.muli c2_i32_225 arg24
  let c1_i32_226 : BitVec 32 := 1#32
  let v730 : BitVec 32 := Scalar.addi v729 c1_i32_226
  let v731 : Index := Scalar.indexCast v730
  let c0_227 : Index := 0#32
  let c0_228 : Index := 0#32
  ![v731.toNat, 0, 0]
@[reducible] def k0_t8_loop (i : grid0.Coords) : Scf.Loop 32 :=
  let c0_i32_141 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v540 : BitVec 32 := Scalar.subi v141 c0_i32_141
  let c1_i32_142 : BitVec 32 := 1#32
  let v542 : BitVec 32 := Scalar.divsi v540 c1_i32_142
  let v543 : BitVec 32 := Scalar.muli v542 c1_i32_142
  let v544 : BitVec 32 := Scalar.addi c0_i32_141 v543
  let c1_i32_143 : BitVec 32 := 1#32
  ⟨c0_i32_141, v544, c1_i32_143⟩
def k0_off18 (i : grid0.Coords) (k0_t8 : Fin (k0_t8_loop i).trips) : Fin 3 → Nat :=
  let c2_i32_198 : BitVec 32 := 2#32
  let c0_i32_141 : BitVec 32 := 0#32
  let c1_i32_143 : BitVec 32 := 1#32
  let arg21 : BitVec 32 := Scf.iv c0_i32_141 c1_i32_143 k0_t8
  let v633 : BitVec 32 := Scalar.muli c2_i32_198 arg21
  let v634 : Index := Scalar.indexCast v633
  let c0_199 : Index := 0#32
  let c0_200 : Index := 0#32
  ![v634.toNat, 0, 0]
def k0_off19 (i : grid0.Coords) (k0_t8 : Fin (k0_t8_loop i).trips) : Fin 3 → Nat :=
  let c2_i32_233 : BitVec 32 := 2#32
  let c0_i32_141 : BitVec 32 := 0#32
  let c1_i32_143 : BitVec 32 := 1#32
  let arg21 : BitVec 32 := Scf.iv c0_i32_141 c1_i32_143 k0_t8
  let v780 : BitVec 32 := Scalar.muli c2_i32_233 arg21
  let c1_i32_234 : BitVec 32 := 1#32
  let v781 : BitVec 32 := Scalar.addi v780 c1_i32_234
  let v782 : Index := Scalar.indexCast v781
  let c0_235 : Index := 0#32
  let c0_236 : Index := 0#32
  ![v782.toNat, 0, 0]
@[reducible] def k0_t9_loop (i : grid0.Coords) : Scf.Loop 32 :=
  let c0_i32_141 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v540 : BitVec 32 := Scalar.subi v141 c0_i32_141
  let c1_i32_142 : BitVec 32 := 1#32
  let v542 : BitVec 32 := Scalar.divsi v540 c1_i32_142
  let v543 : BitVec 32 := Scalar.muli v542 c1_i32_142
  let v544 : BitVec 32 := Scalar.addi c0_i32_141 v543
  let v541 : BitVec 32 := Scalar.addi c0_i32_141 v540
  let c1_i32_144 : BitVec 32 := 1#32
  ⟨v544, v541, c1_i32_144⟩
def k0_off20 (i : grid0.Coords) (k0_t9 : Fin (k0_t9_loop i).trips) : Fin 3 → Nat :=
  let c2_i32_198 : BitVec 32 := 2#32
  let c0_i32_141 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v540 : BitVec 32 := Scalar.subi v141 c0_i32_141
  let c1_i32_142 : BitVec 32 := 1#32
  let v542 : BitVec 32 := Scalar.divsi v540 c1_i32_142
  let v543 : BitVec 32 := Scalar.muli v542 c1_i32_142
  let v544 : BitVec 32 := Scalar.addi c0_i32_141 v543
  let c1_i32_144 : BitVec 32 := 1#32
  let arg21 : BitVec 32 := Scf.iv v544 c1_i32_144 k0_t9
  let v633 : BitVec 32 := Scalar.muli c2_i32_198 arg21
  let v634 : Index := Scalar.indexCast v633
  let c0_199 : Index := 0#32
  let c0_200 : Index := 0#32
  ![v634.toNat, 0, 0]
def k0_off21 (i : grid0.Coords) (k0_t9 : Fin (k0_t9_loop i).trips) : Fin 3 → Nat :=
  let c2_i32_233 : BitVec 32 := 2#32
  let c0_i32_141 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v540 : BitVec 32 := Scalar.subi v141 c0_i32_141
  let c1_i32_142 : BitVec 32 := 1#32
  let v542 : BitVec 32 := Scalar.divsi v540 c1_i32_142
  let v543 : BitVec 32 := Scalar.muli v542 c1_i32_142
  let v544 : BitVec 32 := Scalar.addi c0_i32_141 v543
  let c1_i32_144 : BitVec 32 := 1#32
  let arg21 : BitVec 32 := Scf.iv v544 c1_i32_144 k0_t9
  let v780 : BitVec 32 := Scalar.muli c2_i32_233 arg21
  let c1_i32_234 : BitVec 32 := 1#32
  let v781 : BitVec 32 := Scalar.addi v780 c1_i32_234
  let v782 : Index := Scalar.indexCast v781
  let c0_235 : Index := 0#32
  let c0_236 : Index := 0#32
  ![v782.toNat, 0, 0]
@[reducible] def k0_t10_loop : Scf.Loop 32 :=
  let c0_i32_146 : BitVec 32 := 0#32
  let c8_i32 : BitVec 32 := 8#32
  let v549 : BitVec 32 := Scalar.addi c0_i32_146 c8_i32
  let c1_i32_147 : BitVec 32 := 1#32
  ⟨c0_i32_146, v549, c1_i32_147⟩
@[reducible] def k0_t11_loop (i : grid0.Coords) : Scf.Loop 32 :=
  let c0_i32_201 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v640 : BitVec 32 := Scalar.subi v141 c0_i32_201
  let c1_i32_202 : BitVec 32 := 1#32
  let v642 : BitVec 32 := Scalar.divsi v640 c1_i32_202
  let v643 : BitVec 32 := Scalar.muli v642 c1_i32_202
  let v644 : BitVec 32 := Scalar.addi c0_i32_201 v643
  let c1_i32_203 : BitVec 32 := 1#32
  ⟨c0_i32_201, v644, c1_i32_203⟩
def k0_off22 (i : grid0.Coords) (k0_t11 : Fin (k0_t11_loop i).trips) : Fin 3 → Nat :=
  let c2_i32_206 : BitVec 32 := 2#32
  let c0_i32_201 : BitVec 32 := 0#32
  let c1_i32_203 : BitVec 32 := 1#32
  let arg25 : BitVec 32 := Scf.iv c0_i32_201 c1_i32_203 k0_t11
  let v653 : BitVec 32 := Scalar.muli c2_i32_206 arg25
  let v654 : Index := Scalar.indexCast v653
  let c0_207 : Index := 0#32
  let c0_208 : Index := 0#32
  ![v654.toNat, 0, 0]
def k0_off23 (i : grid0.Coords) (k0_t11 : Fin (k0_t11_loop i).trips) : Fin 3 → Nat :=
  let c2_i32_241 : BitVec 32 := 2#32
  let c0_i32_201 : BitVec 32 := 0#32
  let c1_i32_203 : BitVec 32 := 1#32
  let arg25 : BitVec 32 := Scf.iv c0_i32_201 c1_i32_203 k0_t11
  let v800 : BitVec 32 := Scalar.muli c2_i32_241 arg25
  let c1_i32_242 : BitVec 32 := 1#32
  let v801 : BitVec 32 := Scalar.addi v800 c1_i32_242
  let v802 : Index := Scalar.indexCast v801
  let c0_243 : Index := 0#32
  let c0_244 : Index := 0#32
  ![v802.toNat, 0, 0]
@[reducible] def k0_t12_loop (i : grid0.Coords) : Scf.Loop 32 :=
  let c0_i32_201 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v640 : BitVec 32 := Scalar.subi v141 c0_i32_201
  let c1_i32_202 : BitVec 32 := 1#32
  let v642 : BitVec 32 := Scalar.divsi v640 c1_i32_202
  let v643 : BitVec 32 := Scalar.muli v642 c1_i32_202
  let v644 : BitVec 32 := Scalar.addi c0_i32_201 v643
  let v641 : BitVec 32 := Scalar.addi c0_i32_201 v640
  let c1_i32_204 : BitVec 32 := 1#32
  ⟨v644, v641, c1_i32_204⟩
def k0_off24 (i : grid0.Coords) (k0_t12 : Fin (k0_t12_loop i).trips) : Fin 3 → Nat :=
  let c2_i32_206 : BitVec 32 := 2#32
  let c0_i32_201 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v640 : BitVec 32 := Scalar.subi v141 c0_i32_201
  let c1_i32_202 : BitVec 32 := 1#32
  let v642 : BitVec 32 := Scalar.divsi v640 c1_i32_202
  let v643 : BitVec 32 := Scalar.muli v642 c1_i32_202
  let v644 : BitVec 32 := Scalar.addi c0_i32_201 v643
  let c1_i32_204 : BitVec 32 := 1#32
  let arg25 : BitVec 32 := Scf.iv v644 c1_i32_204 k0_t12
  let v653 : BitVec 32 := Scalar.muli c2_i32_206 arg25
  let v654 : Index := Scalar.indexCast v653
  let c0_207 : Index := 0#32
  let c0_208 : Index := 0#32
  ![v654.toNat, 0, 0]
def k0_off25 (i : grid0.Coords) (k0_t12 : Fin (k0_t12_loop i).trips) : Fin 3 → Nat :=
  let c2_i32_241 : BitVec 32 := 2#32
  let c0_i32_201 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v640 : BitVec 32 := Scalar.subi v141 c0_i32_201
  let c1_i32_202 : BitVec 32 := 1#32
  let v642 : BitVec 32 := Scalar.divsi v640 c1_i32_202
  let v643 : BitVec 32 := Scalar.muli v642 c1_i32_202
  let v644 : BitVec 32 := Scalar.addi c0_i32_201 v643
  let c1_i32_204 : BitVec 32 := 1#32
  let arg25 : BitVec 32 := Scf.iv v644 c1_i32_204 k0_t12
  let v800 : BitVec 32 := Scalar.muli c2_i32_241 arg25
  let c1_i32_242 : BitVec 32 := 1#32
  let v801 : BitVec 32 := Scalar.addi v800 c1_i32_242
  let v802 : Index := Scalar.indexCast v801
  let c0_243 : Index := 0#32
  let c0_244 : Index := 0#32
  ![v802.toNat, 0, 0]
@[reducible] def k0_t13_loop (i : grid0.Coords) : Scf.Loop 32 :=
  let c0_i32_199 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v634 : BitVec 32 := Scalar.subi v141 c0_i32_199
  let c1_i32_200 : BitVec 32 := 1#32
  let v636 : BitVec 32 := Scalar.divsi v634 c1_i32_200
  let v637 : BitVec 32 := Scalar.muli v636 c1_i32_200
  let v638 : BitVec 32 := Scalar.addi c0_i32_199 v637
  let c1_i32_201 : BitVec 32 := 1#32
  ⟨c0_i32_199, v638, c1_i32_201⟩
def k0_off26 (i : grid0.Coords) (k0_t13 : Fin (k0_t13_loop i).trips) : Fin 3 → Nat :=
  let c2_i32_216 : BitVec 32 := 2#32
  let c0_i32_199 : BitVec 32 := 0#32
  let c1_i32_201 : BitVec 32 := 1#32
  let arg26 : BitVec 32 := Scf.iv c0_i32_199 c1_i32_201 k0_t13
  let v673 : BitVec 32 := Scalar.muli c2_i32_216 arg26
  let v676 : Index := Scalar.indexCast v673
  let c0_219 : Index := 0#32
  let c0_220 : Index := 0#32
  ![v676.toNat, 0, 0]
def k0_off27 (i : grid0.Coords) (k0_t13 : Fin (k0_t13_loop i).trips) : Fin 3 → Nat :=
  let c2_i32_217 : BitVec 32 := 2#32
  let c0_i32_199 : BitVec 32 := 0#32
  let c1_i32_201 : BitVec 32 := 1#32
  let arg26 : BitVec 32 := Scf.iv c0_i32_199 c1_i32_201 k0_t13
  let v674 : BitVec 32 := Scalar.muli c2_i32_217 arg26
  let c1_i32_218 : BitVec 32 := 1#32
  let v675 : BitVec 32 := Scalar.addi v674 c1_i32_218
  let v787 : Index := Scalar.indexCast v675
  let c0_225 : Index := 0#32
  let c0_226 : Index := 0#32
  ![v787.toNat, 0, 0]
@[reducible] def k0_t14_loop (i : grid0.Coords) : Scf.Loop 32 :=
  let c0_i32_199 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v634 : BitVec 32 := Scalar.subi v141 c0_i32_199
  let c1_i32_200 : BitVec 32 := 1#32
  let v636 : BitVec 32 := Scalar.divsi v634 c1_i32_200
  let v637 : BitVec 32 := Scalar.muli v636 c1_i32_200
  let v638 : BitVec 32 := Scalar.addi c0_i32_199 v637
  let v635 : BitVec 32 := Scalar.addi c0_i32_199 v634
  let c1_i32_202 : BitVec 32 := 1#32
  ⟨v638, v635, c1_i32_202⟩
def k0_off28 (i : grid0.Coords) (k0_t14 : Fin (k0_t14_loop i).trips) : Fin 3 → Nat :=
  let c2_i32_216 : BitVec 32 := 2#32
  let c0_i32_199 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v634 : BitVec 32 := Scalar.subi v141 c0_i32_199
  let c1_i32_200 : BitVec 32 := 1#32
  let v636 : BitVec 32 := Scalar.divsi v634 c1_i32_200
  let v637 : BitVec 32 := Scalar.muli v636 c1_i32_200
  let v638 : BitVec 32 := Scalar.addi c0_i32_199 v637
  let c1_i32_202 : BitVec 32 := 1#32
  let arg26 : BitVec 32 := Scf.iv v638 c1_i32_202 k0_t14
  let v673 : BitVec 32 := Scalar.muli c2_i32_216 arg26
  let v676 : Index := Scalar.indexCast v673
  let c0_219 : Index := 0#32
  let c0_220 : Index := 0#32
  ![v676.toNat, 0, 0]
def k0_off29 (i : grid0.Coords) (k0_t14 : Fin (k0_t14_loop i).trips) : Fin 3 → Nat :=
  let c2_i32_217 : BitVec 32 := 2#32
  let c0_i32_199 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v634 : BitVec 32 := Scalar.subi v141 c0_i32_199
  let c1_i32_200 : BitVec 32 := 1#32
  let v636 : BitVec 32 := Scalar.divsi v634 c1_i32_200
  let v637 : BitVec 32 := Scalar.muli v636 c1_i32_200
  let v638 : BitVec 32 := Scalar.addi c0_i32_199 v637
  let c1_i32_202 : BitVec 32 := 1#32
  let arg26 : BitVec 32 := Scf.iv v638 c1_i32_202 k0_t14
  let v674 : BitVec 32 := Scalar.muli c2_i32_217 arg26
  let c1_i32_218 : BitVec 32 := 1#32
  let v675 : BitVec 32 := Scalar.addi v674 c1_i32_218
  let v787 : Index := Scalar.indexCast v675
  let c0_225 : Index := 0#32
  let c0_226 : Index := 0#32
  ![v787.toNat, 0, 0]
@[reducible] def k0_t15_loop (i : grid0.Coords) : Scf.Loop 32 :=
  let c0_i32_205 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v644 : BitVec 32 := Scalar.subi v141 c0_i32_205
  let c1_i32_206 : BitVec 32 := 1#32
  let v646 : BitVec 32 := Scalar.divsi v644 c1_i32_206
  let v647 : BitVec 32 := Scalar.muli v646 c1_i32_206
  let v648 : BitVec 32 := Scalar.addi c0_i32_205 v647
  let c1_i32_207 : BitVec 32 := 1#32
  ⟨c0_i32_205, v648, c1_i32_207⟩
def k0_off30 (i : grid0.Coords) (k0_t15 : Fin (k0_t15_loop i).trips) : Fin 3 → Nat :=
  let c2_i32_216 : BitVec 32 := 2#32
  let c0_i32_205 : BitVec 32 := 0#32
  let c1_i32_207 : BitVec 32 := 1#32
  let arg26 : BitVec 32 := Scf.iv c0_i32_205 c1_i32_207 k0_t15
  let v673 : BitVec 32 := Scalar.muli c2_i32_216 arg26
  let v674 : Index := Scalar.indexCast v673
  let c0_217 : Index := 0#32
  let c0_218 : Index := 0#32
  ![v674.toNat, 0, 0]
def k0_off31 (i : grid0.Coords) (k0_t15 : Fin (k0_t15_loop i).trips) : Fin 3 → Nat :=
  let c2_i32_251 : BitVec 32 := 2#32
  let c0_i32_205 : BitVec 32 := 0#32
  let c1_i32_207 : BitVec 32 := 1#32
  let arg26 : BitVec 32 := Scf.iv c0_i32_205 c1_i32_207 k0_t15
  let v820 : BitVec 32 := Scalar.muli c2_i32_251 arg26
  let c1_i32_252 : BitVec 32 := 1#32
  let v821 : BitVec 32 := Scalar.addi v820 c1_i32_252
  let v822 : Index := Scalar.indexCast v821
  let c0_253 : Index := 0#32
  let c0_254 : Index := 0#32
  ![v822.toNat, 0, 0]
@[reducible] def k0_t16_loop (i : grid0.Coords) : Scf.Loop 32 :=
  let c0_i32_205 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v644 : BitVec 32 := Scalar.subi v141 c0_i32_205
  let c1_i32_206 : BitVec 32 := 1#32
  let v646 : BitVec 32 := Scalar.divsi v644 c1_i32_206
  let v647 : BitVec 32 := Scalar.muli v646 c1_i32_206
  let v648 : BitVec 32 := Scalar.addi c0_i32_205 v647
  let v645 : BitVec 32 := Scalar.addi c0_i32_205 v644
  let c1_i32_208 : BitVec 32 := 1#32
  ⟨v648, v645, c1_i32_208⟩
def k0_off32 (i : grid0.Coords) (k0_t16 : Fin (k0_t16_loop i).trips) : Fin 3 → Nat :=
  let c2_i32_216 : BitVec 32 := 2#32
  let c0_i32_205 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v644 : BitVec 32 := Scalar.subi v141 c0_i32_205
  let c1_i32_206 : BitVec 32 := 1#32
  let v646 : BitVec 32 := Scalar.divsi v644 c1_i32_206
  let v647 : BitVec 32 := Scalar.muli v646 c1_i32_206
  let v648 : BitVec 32 := Scalar.addi c0_i32_205 v647
  let c1_i32_208 : BitVec 32 := 1#32
  let arg26 : BitVec 32 := Scf.iv v648 c1_i32_208 k0_t16
  let v673 : BitVec 32 := Scalar.muli c2_i32_216 arg26
  let v674 : Index := Scalar.indexCast v673
  let c0_217 : Index := 0#32
  let c0_218 : Index := 0#32
  ![v674.toNat, 0, 0]
def k0_off33 (i : grid0.Coords) (k0_t16 : Fin (k0_t16_loop i).trips) : Fin 3 → Nat :=
  let c2_i32_251 : BitVec 32 := 2#32
  let c0_i32_205 : BitVec 32 := 0#32
  let arg1 : BitVec 32 := BitVec.ofNat 32 (i 1).val
  let c2_i32_59 : BitVec 32 := 2#32
  let v124 : BitVec 32 := Scalar.addi arg1 c2_i32_59
  let c0_i32_61 : BitVec 32 := 0#32
  let v126 : BitVec 1 := Scalar.cmpi .sgt v124 c0_i32_61
  let v127 : BitVec 32 := Scalar.extui v126
  let c0_i32_62 : BitVec 32 := 0#32
  let v128 : BitVec 1 := Scalar.cmpi .slt v124 c0_i32_62
  let v129 : BitVec 32 := Scalar.extui v128
  let v130 : BitVec 32 := Scalar.subi v127 v129
  let c2_i32_60 : BitVec 32 := 2#32
  let c0_i32_63 : BitVec 32 := 0#32
  let v131 : BitVec 1 := Scalar.cmpi .sgt c2_i32_60 c0_i32_63
  let v132 : BitVec 32 := Scalar.extui v131
  let c0_i32_64 : BitVec 32 := 0#32
  let v133 : BitVec 1 := Scalar.cmpi .slt c2_i32_60 c0_i32_64
  let v134 : BitVec 32 := Scalar.extui v133
  let v135 : BitVec 32 := Scalar.subi v132 v134
  let v136 : BitVec 1 := Scalar.cmpi .ne v130 v135
  let v137 : BitVec 32 := Scalar.remsi v124 c2_i32_60
  let c0_i32_65 : BitVec 32 := 0#32
  let v138 : BitVec 1 := Scalar.cmpi .ne v137 c0_i32_65
  let v139 : BitVec 1 := Scalar.andi v136 v138
  let v125 : BitVec 32 := Scalar.divsi v124 c2_i32_60
  let c1_i32_66 : BitVec 32 := 1#32
  let v140 : BitVec 32 := Scalar.subi v125 c1_i32_66
  let v141 : BitVec 32 := Scalar.select v139 v140 v125
  let v644 : BitVec 32 := Scalar.subi v141 c0_i32_205
  let c1_i32_206 : BitVec 32 := 1#32
  let v646 : BitVec 32 := Scalar.divsi v644 c1_i32_206
  let v647 : BitVec 32 := Scalar.muli v646 c1_i32_206
  let v648 : BitVec 32 := Scalar.addi c0_i32_205 v647
  let c1_i32_208 : BitVec 32 := 1#32
  let arg26 : BitVec 32 := Scf.iv v648 c1_i32_208 k0_t16
  let v820 : BitVec 32 := Scalar.muli c2_i32_251 arg26
  let c1_i32_252 : BitVec 32 := 1#32
  let v821 : BitVec 32 := Scalar.addi v820 c1_i32_252
  let v822 : Index := Scalar.indexCast v821
  let c0_253 : Index := 0#32
  let c0_254 : Index := 0#32
  ![v822.toNat, 0, 0]
def k0_cond3 (i : grid0.Coords) : BitVec 1 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c1_i32_170 : BitVec 32 := 1#32
  let v586 : BitVec 1 := Scalar.cmpi .sge v577 c1_i32_170
  let v587 : BitVec 32 := Scalar.extui v586
  let c0_i32_172 : BitVec 32 := 0#32
  let v588 : BitVec 1 := Scalar.cmpi .ne v587 c0_i32_172
  v588

def k0_off34 (c0_i32_199 : BitVec 32) : Fin 3 → Nat :=
  let c0_i32_198 : BitVec 32 := 0#32
  let v633 : BitVec 32 := Scalar.addi c0_i32_198 c0_i32_199
  let v639 : Index := Scalar.indexCast v633
  let c0_209 : Index := 0#32
  let c0_210 : Index := 0#32
  ![v639.toNat, 0, 0]
def k0_mult19 : BitVec 32 :=
  let c0_i32_198 : BitVec 32 := 0#32
  let c0_i32_199 : BitVec 32 := 0#32
  let v633 : BitVec 32 := Scalar.addi c0_i32_198 c0_i32_199
  let c256_i32_218 : BitVec 32 := 256#32
  let v661 : BitVec 32 := Scalar.muli v633 c256_i32_218
  v661
def k0_off35 (c0_i32_199 : BitVec 32) : Fin 3 → Nat :=
  let c0_219 : Index := 0#32
  let c0_i32_198 : BitVec 32 := 0#32
  let v633 : BitVec 32 := Scalar.addi c0_i32_198 c0_i32_199
  let c256_i32_218 : BitVec 32 := 256#32
  let v661 : BitVec 32 := Scalar.muli v633 c256_i32_218
  let v662 : BitVec 32 := v661
  let v663 : Index := Scalar.indexCast v662
  let c0_220 : Index := 0#32
  ![0, v663.toNat, 0]
def k0_mult20 : BitVec 32 :=
  let c0_i32_200 : BitVec 32 := 0#32
  let c1_i32_201 : BitVec 32 := 1#32
  let v634 : BitVec 32 := Scalar.addi c0_i32_200 c1_i32_201
  let c256_i32_262 : BitVec 32 := 256#32
  let v978 : BitVec 32 := Scalar.muli v634 c256_i32_262
  v978
def k0_off36 (c0_i32_199 : BitVec 32) : Fin 4 → Nat :=
  let c0_297 : Index := 0#32
  let c0_i32_198 : BitVec 32 := 0#32
  let v633 : BitVec 32 := Scalar.addi c0_i32_198 c0_i32_199
  let v1273 : Index := Scalar.indexCast v633
  let c0_298 : Index := 0#32
  let c0_299 : Index := 0#32
  ![0, v1273.toNat, 0, 0]
def k0_mult21 : BitVec 32 :=
  let c0_i32_202 : BitVec 32 := 0#32
  let c2_i32_203 : BitVec 32 := 2#32
  let v635 : BitVec 32 := Scalar.addi c0_i32_202 c2_i32_203
  let c256_i32_329 : BitVec 32 := 256#32
  let v1378 : BitVec 32 := Scalar.muli v635 c256_i32_329
  v1378
def k0_mult22 : BitVec 32 :=
  let c0_i32_204 : BitVec 32 := 0#32
  let c3_i32_205 : BitVec 32 := 3#32
  let v636 : BitVec 32 := Scalar.addi c0_i32_204 c3_i32_205
  let c256_i32_396 : BitVec 32 := 256#32
  let v1778 : BitVec 32 := Scalar.muli v636 c256_i32_396
  v1778
def k0_mult23 : BitVec 32 :=
  let c0_i32_206 : BitVec 32 := 0#32
  let c4_i32 : BitVec 32 := 4#32
  let v637 : BitVec 32 := Scalar.addi c0_i32_206 c4_i32
  let c256_i32_463 : BitVec 32 := 256#32
  let v2178 : BitVec 32 := Scalar.muli v637 c256_i32_463
  v2178
def k0_mult24 : BitVec 32 :=
  let c0_i32_207 : BitVec 32 := 0#32
  let c5_i32_208 : BitVec 32 := 5#32
  let v638 : BitVec 32 := Scalar.addi c0_i32_207 c5_i32_208
  let c256_i32_530 : BitVec 32 := 256#32
  let v2578 : BitVec 32 := Scalar.muli v638 c256_i32_530
  v2578
@[reducible] def k0_t17_loop (i : grid0.Coords) : Scf.Loop 32 :=
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_175 : BitVec 32 := 1#32
  ⟨c1_i32_173, v594, c1_i32_175⟩
def k0_off37 (i : grid0.Coords) (k0_t17 : Fin (k0_t17_loop i).trips) : Fin 3 → Nat :=
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let c0_i32_199 : BitVec 32 := 0#32
  let v634 : BitVec 32 := Scalar.addi v633 c0_i32_199
  let v640 : Index := Scalar.indexCast v634
  let c0_204 : Index := 0#32
  let c0_205 : Index := 0#32
  ![v640.toNat, 0, 0]
def k0_mult25 (i : grid0.Coords) (k0_t17 : Fin (k0_t17_loop i).trips) : BitVec 32 :=
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let c0_i32_199 : BitVec 32 := 0#32
  let v634 : BitVec 32 := Scalar.addi v633 c0_i32_199
  let c256_i32_213 : BitVec 32 := 256#32
  let v662 : BitVec 32 := Scalar.muli v634 c256_i32_213
  v662
def k0_off38 (i : grid0.Coords) (k0_t17 : Fin (k0_t17_loop i).trips) : Fin 3 → Nat :=
  let c0_214 : Index := 0#32
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let c0_i32_199 : BitVec 32 := 0#32
  let v634 : BitVec 32 := Scalar.addi v633 c0_i32_199
  let c256_i32_213 : BitVec 32 := 256#32
  let v662 : BitVec 32 := Scalar.muli v634 c256_i32_213
  let v663 : BitVec 32 := v662
  let v664 : Index := Scalar.indexCast v663
  let c0_215 : Index := 0#32
  ![0, v664.toNat, 0]
def k0_off39 (arg35 : BitVec 32) : Fin 4 → Nat :=
  let c0_248 : Index := 0#32
  let v957 : Index := Scalar.indexCast arg35
  let c0_249 : Index := 0#32
  let c0_250 : Index := 0#32
  ![0, v957.toNat, 0, 0]

def k0_chk1 (i : grid0.Coords) (k0_t17 : Fin (k0_t17_loop i).trips) (arg35 : BitVec 32) : Prop :=
  (∀ a, (k0_off39 arg35) a + S1x1x256x256.size a ≤ S1x32x256x256.size a)
theorem k0_off39_inb : ∀ (i : grid0.Coords) (k0_t17 : Fin (k0_t17_loop i).trips) (arg35 : BitVec 32) (k0_hw1 : k0_chk1 i k0_t17 arg35), ∀ a, (k0_off39 arg35) a + S1x1x256x256.size a ≤ S1x32x256x256.size a := fun i k0_t17 arg35 k0_hw1 => k0_hw1

def k0_off40 (i : grid0.Coords) (k0_t17 : Fin (k0_t17_loop i).trips) (c1_i32_200 : BitVec 32) : Fin 3 → Nat :=
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let v635 : BitVec 32 := Scalar.addi v633 c1_i32_200
  let v1040 : Index := Scalar.indexCast v635
  let c0_271 : Index := 0#32
  let c0_272 : Index := 0#32
  ![v1040.toNat, 0, 0]
def k0_mult26 (i : grid0.Coords) (k0_t17 : Fin (k0_t17_loop i).trips) : BitVec 32 :=
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let c1_i32_200 : BitVec 32 := 1#32
  let v635 : BitVec 32 := Scalar.addi v633 c1_i32_200
  let c256_i32_280 : BitVec 32 := 256#32
  let v1062 : BitVec 32 := Scalar.muli v635 c256_i32_280
  v1062
def k0_off41 (i : grid0.Coords) (k0_t17 : Fin (k0_t17_loop i).trips) (c1_i32_200 : BitVec 32) : Fin 3 → Nat :=
  let c0_281 : Index := 0#32
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let v635 : BitVec 32 := Scalar.addi v633 c1_i32_200
  let c256_i32_280 : BitVec 32 := 256#32
  let v1062 : BitVec 32 := Scalar.muli v635 c256_i32_280
  let v1063 : BitVec 32 := v1062
  let v1064 : Index := Scalar.indexCast v1063
  let c0_282 : Index := 0#32
  ![0, v1064.toNat, 0]
def k0_off42 (i : grid0.Coords) (k0_t17 : Fin (k0_t17_loop i).trips) (c0_i32_199 : BitVec 32) : Fin 4 → Nat :=
  let c0_315 : Index := 0#32
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let v634 : BitVec 32 := Scalar.addi v633 c0_i32_199
  let v1357 : Index := Scalar.indexCast v634
  let c0_316 : Index := 0#32
  let c0_317 : Index := 0#32
  ![0, v1357.toNat, 0, 0]
def k0_mult27 (i : grid0.Coords) (k0_t17 : Fin (k0_t17_loop i).trips) : BitVec 32 :=
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let c2_i32_201 : BitVec 32 := 2#32
  let v636 : BitVec 32 := Scalar.addi v633 c2_i32_201
  let c256_i32_347 : BitVec 32 := 256#32
  let v1462 : BitVec 32 := Scalar.muli v636 c256_i32_347
  v1462
def k0_mult28 (i : grid0.Coords) (k0_t17 : Fin (k0_t17_loop i).trips) : BitVec 32 :=
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let c3_i32_202 : BitVec 32 := 3#32
  let v637 : BitVec 32 := Scalar.addi v633 c3_i32_202
  let c256_i32_414 : BitVec 32 := 256#32
  let v1862 : BitVec 32 := Scalar.muli v637 c256_i32_414
  v1862
def k0_mult29 (i : grid0.Coords) (k0_t17 : Fin (k0_t17_loop i).trips) : BitVec 32 :=
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let c4_i32 : BitVec 32 := 4#32
  let v638 : BitVec 32 := Scalar.addi v633 c4_i32
  let c256_i32_481 : BitVec 32 := 256#32
  let v2262 : BitVec 32 := Scalar.muli v638 c256_i32_481
  v2262
def k0_mult30 (i : grid0.Coords) (k0_t17 : Fin (k0_t17_loop i).trips) : BitVec 32 :=
  let c6_i32_198 : BitVec 32 := 6#32
  let c1_i32_173 : BitVec 32 := 1#32
  let c1_i32_175 : BitVec 32 := 1#32
  let arg21 : BitVec 32 := Scf.iv c1_i32_173 c1_i32_175 k0_t17
  let v633 : BitVec 32 := Scalar.muli c6_i32_198 arg21
  let c5_i32_203 : BitVec 32 := 5#32
  let v639 : BitVec 32 := Scalar.addi v633 c5_i32_203
  let c256_i32_548 : BitVec 32 := 256#32
  let v2662 : BitVec 32 := Scalar.muli v639 c256_i32_548
  v2662
@[reducible] def k0_t18_loop (i : grid0.Coords) : Scf.Loop 32 :=
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let v591 : BitVec 32 := Scalar.addi c1_i32_173 v590
  let c1_i32_176 : BitVec 32 := 1#32
  ⟨v594, v591, c1_i32_176⟩
def k0_off43 (i : grid0.Coords) (k0_t18 : Fin (k0_t18_loop i).trips) : Fin 3 → Nat :=
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let c0_i32_199 : BitVec 32 := 0#32
  let v634 : BitVec 32 := Scalar.addi v633 c0_i32_199
  let v640 : Index := Scalar.indexCast v634
  let c0_204 : Index := 0#32
  let c0_205 : Index := 0#32
  ![v640.toNat, 0, 0]
def k0_mult31 (i : grid0.Coords) (k0_t18 : Fin (k0_t18_loop i).trips) : BitVec 32 :=
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let c0_i32_199 : BitVec 32 := 0#32
  let v634 : BitVec 32 := Scalar.addi v633 c0_i32_199
  let c256_i32_213 : BitVec 32 := 256#32
  let v662 : BitVec 32 := Scalar.muli v634 c256_i32_213
  v662
def k0_off44 (i : grid0.Coords) (k0_t18 : Fin (k0_t18_loop i).trips) : Fin 3 → Nat :=
  let c0_214 : Index := 0#32
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let c0_i32_199 : BitVec 32 := 0#32
  let v634 : BitVec 32 := Scalar.addi v633 c0_i32_199
  let c256_i32_213 : BitVec 32 := 256#32
  let v662 : BitVec 32 := Scalar.muli v634 c256_i32_213
  let v663 : BitVec 32 := v662
  let v664 : Index := Scalar.indexCast v663
  let c0_215 : Index := 0#32
  ![0, v664.toNat, 0]
def k0_off45 (arg35 : BitVec 32) : Fin 4 → Nat :=
  let c0_248 : Index := 0#32
  let v957 : Index := Scalar.indexCast arg35
  let c0_249 : Index := 0#32
  let c0_250 : Index := 0#32
  ![0, v957.toNat, 0, 0]

def k0_chk2 (i : grid0.Coords) (k0_t18 : Fin (k0_t18_loop i).trips) (arg35 : BitVec 32) : Prop :=
  (∀ a, (k0_off45 arg35) a + S1x1x256x256.size a ≤ S1x32x256x256.size a)
theorem k0_off45_inb : ∀ (i : grid0.Coords) (k0_t18 : Fin (k0_t18_loop i).trips) (arg35 : BitVec 32) (k0_hw2 : k0_chk2 i k0_t18 arg35), ∀ a, (k0_off45 arg35) a + S1x1x256x256.size a ≤ S1x32x256x256.size a := fun i k0_t18 arg35 k0_hw2 => k0_hw2

def k0_off46 (i : grid0.Coords) (k0_t18 : Fin (k0_t18_loop i).trips) (c1_i32_200 : BitVec 32) : Fin 3 → Nat :=
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let v635 : BitVec 32 := Scalar.addi v633 c1_i32_200
  let v1040 : Index := Scalar.indexCast v635
  let c0_271 : Index := 0#32
  let c0_272 : Index := 0#32
  ![v1040.toNat, 0, 0]
def k0_mult32 (i : grid0.Coords) (k0_t18 : Fin (k0_t18_loop i).trips) : BitVec 32 :=
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let c1_i32_200 : BitVec 32 := 1#32
  let v635 : BitVec 32 := Scalar.addi v633 c1_i32_200
  let c256_i32_280 : BitVec 32 := 256#32
  let v1062 : BitVec 32 := Scalar.muli v635 c256_i32_280
  v1062
def k0_off47 (i : grid0.Coords) (k0_t18 : Fin (k0_t18_loop i).trips) (c1_i32_200 : BitVec 32) : Fin 3 → Nat :=
  let c0_281 : Index := 0#32
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let v635 : BitVec 32 := Scalar.addi v633 c1_i32_200
  let c256_i32_280 : BitVec 32 := 256#32
  let v1062 : BitVec 32 := Scalar.muli v635 c256_i32_280
  let v1063 : BitVec 32 := v1062
  let v1064 : Index := Scalar.indexCast v1063
  let c0_282 : Index := 0#32
  ![0, v1064.toNat, 0]
def k0_off48 (i : grid0.Coords) (k0_t18 : Fin (k0_t18_loop i).trips) (c0_i32_199 : BitVec 32) : Fin 4 → Nat :=
  let c0_315 : Index := 0#32
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let v634 : BitVec 32 := Scalar.addi v633 c0_i32_199
  let v1357 : Index := Scalar.indexCast v634
  let c0_316 : Index := 0#32
  let c0_317 : Index := 0#32
  ![0, v1357.toNat, 0, 0]
def k0_mult33 (i : grid0.Coords) (k0_t18 : Fin (k0_t18_loop i).trips) : BitVec 32 :=
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let c2_i32_201 : BitVec 32 := 2#32
  let v636 : BitVec 32 := Scalar.addi v633 c2_i32_201
  let c256_i32_347 : BitVec 32 := 256#32
  let v1462 : BitVec 32 := Scalar.muli v636 c256_i32_347
  v1462
def k0_mult34 (i : grid0.Coords) (k0_t18 : Fin (k0_t18_loop i).trips) : BitVec 32 :=
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let c3_i32_202 : BitVec 32 := 3#32
  let v637 : BitVec 32 := Scalar.addi v633 c3_i32_202
  let c256_i32_414 : BitVec 32 := 256#32
  let v1862 : BitVec 32 := Scalar.muli v637 c256_i32_414
  v1862
def k0_mult35 (i : grid0.Coords) (k0_t18 : Fin (k0_t18_loop i).trips) : BitVec 32 :=
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let c4_i32 : BitVec 32 := 4#32
  let v638 : BitVec 32 := Scalar.addi v633 c4_i32
  let c256_i32_481 : BitVec 32 := 256#32
  let v2262 : BitVec 32 := Scalar.muli v638 c256_i32_481
  v2262
def k0_mult36 (i : grid0.Coords) (k0_t18 : Fin (k0_t18_loop i).trips) : BitVec 32 :=
  let c6_i32_198 : BitVec 32 := 6#32
  let c1_i32_173 : BitVec 32 := 1#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let v590 : BitVec 32 := Scalar.subi v577 c1_i32_173
  let c1_i32_174 : BitVec 32 := 1#32
  let v592 : BitVec 32 := Scalar.divsi v590 c1_i32_174
  let v593 : BitVec 32 := Scalar.muli v592 c1_i32_174
  let v594 : BitVec 32 := Scalar.addi c1_i32_173 v593
  let c1_i32_176 : BitVec 32 := 1#32
  let arg21 : BitVec 32 := Scf.iv v594 c1_i32_176 k0_t18
  let v633 : BitVec 32 := Scalar.muli c6_i32_198 arg21
  let c5_i32_203 : BitVec 32 := 5#32
  let v639 : BitVec 32 := Scalar.addi v633 c5_i32_203
  let c256_i32_548 : BitVec 32 := 256#32
  let v2662 : BitVec 32 := Scalar.muli v639 c256_i32_548
  v2662
def k0_cond4 (i : grid0.Coords) : BitVec 1 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v598 : BitVec 32 := Scalar.subi v560 v597
  let c0_i32_178 : BitVec 32 := 0#32
  let v599 : BitVec 32 := Scalar.maxsi v598 c0_i32_178
  let c5_i32 : BitVec 32 := 5#32
  let v600 : BitVec 32 := Scalar.minsi v599 c5_i32
  let c0_i32_179 : BitVec 32 := 0#32
  let v601 : BitVec 1 := Scalar.cmpi .ne v600 c0_i32_179
  v601

def k0_cond5 (i : grid0.Coords) : BitVec 1 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v598 : BitVec 32 := Scalar.subi v560 v597
  let c0_i32_178 : BitVec 32 := 0#32
  let v599 : BitVec 32 := Scalar.maxsi v598 c0_i32_178
  let c5_i32 : BitVec 32 := 5#32
  let v600 : BitVec 32 := Scalar.minsi v599 c5_i32
  let c1_i32_198 : BitVec 32 := 1#32
  let v633 : BitVec 32 := Scalar.subi v600 c1_i32_198
  let c0_i32_199 : BitVec 32 := 0#32
  let v634 : BitVec 1 := Scalar.cmpi .ne v633 c0_i32_199
  v634

def k0_cond6 (i : grid0.Coords) : BitVec 1 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v598 : BitVec 32 := Scalar.subi v560 v597
  let c0_i32_178 : BitVec 32 := 0#32
  let v599 : BitVec 32 := Scalar.maxsi v598 c0_i32_178
  let c5_i32 : BitVec 32 := 5#32
  let v600 : BitVec 32 := Scalar.minsi v599 c5_i32
  let c1_i32_198 : BitVec 32 := 1#32
  let v633 : BitVec 32 := Scalar.subi v600 c1_i32_198
  let c1_i32_200 : BitVec 32 := 1#32
  let v636 : BitVec 32 := Scalar.subi v633 c1_i32_200
  let c0_i32_201 : BitVec 32 := 0#32
  let v637 : BitVec 1 := Scalar.cmpi .ne v636 c0_i32_201
  v637

def k0_cond7 (i : grid0.Coords) : BitVec 1 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v598 : BitVec 32 := Scalar.subi v560 v597
  let c0_i32_178 : BitVec 32 := 0#32
  let v599 : BitVec 32 := Scalar.maxsi v598 c0_i32_178
  let c5_i32 : BitVec 32 := 5#32
  let v600 : BitVec 32 := Scalar.minsi v599 c5_i32
  let c1_i32_198 : BitVec 32 := 1#32
  let v633 : BitVec 32 := Scalar.subi v600 c1_i32_198
  let c1_i32_200 : BitVec 32 := 1#32
  let v636 : BitVec 32 := Scalar.subi v633 c1_i32_200
  let c1_i32_202 : BitVec 32 := 1#32
  let v639 : BitVec 32 := Scalar.subi v636 c1_i32_202
  let c0_i32_203 : BitVec 32 := 0#32
  let v640 : BitVec 1 := Scalar.cmpi .ne v639 c0_i32_203
  v640

def k0_cond8 (i : grid0.Coords) : BitVec 1 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v598 : BitVec 32 := Scalar.subi v560 v597
  let c0_i32_178 : BitVec 32 := 0#32
  let v599 : BitVec 32 := Scalar.maxsi v598 c0_i32_178
  let c5_i32 : BitVec 32 := 5#32
  let v600 : BitVec 32 := Scalar.minsi v599 c5_i32
  let c1_i32_198 : BitVec 32 := 1#32
  let v633 : BitVec 32 := Scalar.subi v600 c1_i32_198
  let c1_i32_200 : BitVec 32 := 1#32
  let v636 : BitVec 32 := Scalar.subi v633 c1_i32_200
  let c1_i32_202 : BitVec 32 := 1#32
  let v639 : BitVec 32 := Scalar.subi v636 c1_i32_202
  let c1_i32_204 : BitVec 32 := 1#32
  let v642 : BitVec 32 := Scalar.subi v639 c1_i32_204
  let c0_i32_205 : BitVec 32 := 0#32
  let v643 : BitVec 1 := Scalar.cmpi .ne v642 c0_i32_205
  v643

def k0_off49 (i : grid0.Coords) : Fin 3 → Nat :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_206 : BitVec 32 := 0#32
  let v645 : BitVec 32 := Scalar.addi v597 c0_i32_206
  let v653 : Index := Scalar.indexCast v645
  let c0_213 : Index := 0#32
  let c0_214 : Index := 0#32
  ![v653.toNat, 0, 0]
def k0_mult37 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_206 : BitVec 32 := 0#32
  let v645 : BitVec 32 := Scalar.addi v597 c0_i32_206
  let c256_i32_222 : BitVec 32 := 256#32
  let v675 : BitVec 32 := Scalar.muli v645 c256_i32_222
  v675
def k0_off50 (i : grid0.Coords) : Fin 3 → Nat :=
  let c0_223 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_206 : BitVec 32 := 0#32
  let v645 : BitVec 32 := Scalar.addi v597 c0_i32_206
  let c256_i32_222 : BitVec 32 := 256#32
  let v675 : BitVec 32 := Scalar.muli v645 c256_i32_222
  let v676 : BitVec 32 := v675
  let v677 : Index := Scalar.indexCast v676
  let c0_224 : Index := 0#32
  ![0, v677.toNat, 0]
def k0_off51 (v596_13 : BitVec 32) : Fin 4 → Nat :=
  let c0_257 : Index := 0#32
  let v970 : Index := Scalar.indexCast v596_13
  let c0_258 : Index := 0#32
  let c0_259 : Index := 0#32
  ![0, v970.toNat, 0, 0]

def k0_off52 (i : grid0.Coords) (c1_i32_207 : BitVec 32) : Fin 3 → Nat :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v646 : BitVec 32 := Scalar.addi v597 c1_i32_207
  let v1053 : Index := Scalar.indexCast v646
  let c0_280 : Index := 0#32
  let c0_281 : Index := 0#32
  ![v1053.toNat, 0, 0]
def k0_mult38 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c1_i32_207 : BitVec 32 := 1#32
  let v646 : BitVec 32 := Scalar.addi v597 c1_i32_207
  let c256_i32_289 : BitVec 32 := 256#32
  let v1075 : BitVec 32 := Scalar.muli v646 c256_i32_289
  v1075
def k0_off53 (i : grid0.Coords) (c1_i32_207 : BitVec 32) : Fin 3 → Nat :=
  let c0_290 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v646 : BitVec 32 := Scalar.addi v597 c1_i32_207
  let c256_i32_289 : BitVec 32 := 256#32
  let v1075 : BitVec 32 := Scalar.muli v646 c256_i32_289
  let v1076 : BitVec 32 := v1075
  let v1077 : Index := Scalar.indexCast v1076
  let c0_291 : Index := 0#32
  ![0, v1077.toNat, 0]
def k0_off54 (i : grid0.Coords) (c0_i32_206 : BitVec 32) : Fin 4 → Nat :=
  let c0_324 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v645 : BitVec 32 := Scalar.addi v597 c0_i32_206
  let v1370 : Index := Scalar.indexCast v645
  let c0_325 : Index := 0#32
  let c0_326 : Index := 0#32
  ![0, v1370.toNat, 0, 0]
def k0_mult39 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c2_i32_208 : BitVec 32 := 2#32
  let v647 : BitVec 32 := Scalar.addi v597 c2_i32_208
  let c256_i32_356 : BitVec 32 := 256#32
  let v1475 : BitVec 32 := Scalar.muli v647 c256_i32_356
  v1475
def k0_mult40 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c3_i32_209 : BitVec 32 := 3#32
  let v648 : BitVec 32 := Scalar.addi v597 c3_i32_209
  let c256_i32_423 : BitVec 32 := 256#32
  let v1875 : BitVec 32 := Scalar.muli v648 c256_i32_423
  v1875
def k0_mult41 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c4_i32 : BitVec 32 := 4#32
  let v649 : BitVec 32 := Scalar.addi v597 c4_i32
  let c256_i32_490 : BitVec 32 := 256#32
  let v2275 : BitVec 32 := Scalar.muli v649 c256_i32_490
  v2275
def k0_off55 (i : grid0.Coords) : Fin 3 → Nat :=
  let arg1 : BitVec 32 := BitVec.ofNat 32 (i 1).val
  let c1_i32_210 : BitVec 32 := 1#32
  let v650 : BitVec 32 := Scalar.subi arg1 c1_i32_210
  let c0_i32_211 : BitVec 32 := 0#32
  let v651 : BitVec 32 := Scalar.maxsi v650 c0_i32_211
  let v2653 : Index := Scalar.indexCast v651
  let c0_548 : Index := 0#32
  let c0_549 : Index := 0#32
  ![v2653.toNat, 0, 0]
def k0_mult42 (i : grid0.Coords) : BitVec 32 :=
  let arg1 : BitVec 32 := BitVec.ofNat 32 (i 1).val
  let c1_i32_210 : BitVec 32 := 1#32
  let v650 : BitVec 32 := Scalar.subi arg1 c1_i32_210
  let c0_i32_211 : BitVec 32 := 0#32
  let v651 : BitVec 32 := Scalar.maxsi v650 c0_i32_211
  let c256_i32_559 : BitVec 32 := 256#32
  let v2679 : BitVec 32 := Scalar.muli v651 c256_i32_559
  v2679
def k0_off56 (i : grid0.Coords) : Fin 3 → Nat :=
  let c0_560 : Index := 0#32
  let arg1 : BitVec 32 := BitVec.ofNat 32 (i 1).val
  let c1_i32_210 : BitVec 32 := 1#32
  let v650 : BitVec 32 := Scalar.subi arg1 c1_i32_210
  let c0_i32_211 : BitVec 32 := 0#32
  let v651 : BitVec 32 := Scalar.maxsi v650 c0_i32_211
  let c256_i32_559 : BitVec 32 := 256#32
  let v2679 : BitVec 32 := Scalar.muli v651 c256_i32_559
  let v2680 : BitVec 32 := v2679
  let v2681 : Index := Scalar.indexCast v2680
  let c0_561 : Index := 0#32
  ![0, v2681.toNat, 0]
def k0_off57 (i : grid0.Coords) : Fin 3 → Nat :=
  let arg1 : BitVec 32 := BitVec.ofNat 32 (i 1).val
  let v3069 : Index := Scalar.indexCast arg1
  let c0_629 : Index := 0#32
  let c0_630 : Index := 0#32
  ![v3069.toNat, 0, 0]
def k0_mult43 (i : grid0.Coords) : BitVec 32 :=
  let arg1 : BitVec 32 := BitVec.ofNat 32 (i 1).val
  let c256_i32_638 : BitVec 32 := 256#32
  let v3091 : BitVec 32 := Scalar.muli arg1 c256_i32_638
  v3091
def k0_off58 (i : grid0.Coords) : Fin 3 → Nat :=
  let c0_639 : Index := 0#32
  let arg1 : BitVec 32 := BitVec.ofNat 32 (i 1).val
  let c256_i32_638 : BitVec 32 := 256#32
  let v3091 : BitVec 32 := Scalar.muli arg1 c256_i32_638
  let v3092 : BitVec 32 := v3091
  let v3093 : Index := Scalar.indexCast v3092
  let c0_640 : Index := 0#32
  ![0, v3093.toNat, 0]
def k0_off59 (i : grid0.Coords) : Fin 4 → Nat :=
  let c0_685 : Index := 0#32
  let arg1 : BitVec 32 := BitVec.ofNat 32 (i 1).val
  let c1_i32_210 : BitVec 32 := 1#32
  let v650 : BitVec 32 := Scalar.subi arg1 c1_i32_210
  let c0_i32_211 : BitVec 32 := 0#32
  let v651 : BitVec 32 := Scalar.maxsi v650 c0_i32_211
  let v3396 : Index := Scalar.indexCast v651
  let c0_686 : Index := 0#32
  let c0_687 : Index := 0#32
  ![0, v3396.toNat, 0, 0]
def k0_off60 (i : grid0.Coords) : Fin 4 → Nat :=
  let c0_708 : Index := 0#32
  let arg1 : BitVec 32 := BitVec.ofNat 32 (i 1).val
  let v3479 : Index := Scalar.indexCast arg1
  let c0_709 : Index := 0#32
  let c0_710 : Index := 0#32
  ![0, v3479.toNat, 0, 0]
def k0_off61 (i : grid0.Coords) (c0_i32_206 : BitVec 32) : Fin 3 → Nat :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v645 : BitVec 32 := Scalar.addi v597 c0_i32_206
  let v652 : Index := Scalar.indexCast v645
  let c0_213 : Index := 0#32
  let c0_214 : Index := 0#32
  ![v652.toNat, 0, 0]
def k0_mult44 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_206 : BitVec 32 := 0#32
  let v645 : BitVec 32 := Scalar.addi v597 c0_i32_206
  let c256_i32_222 : BitVec 32 := 256#32
  let v674 : BitVec 32 := Scalar.muli v645 c256_i32_222
  v674
def k0_off62 (i : grid0.Coords) (c0_i32_206 : BitVec 32) : Fin 3 → Nat :=
  let c0_223 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v645 : BitVec 32 := Scalar.addi v597 c0_i32_206
  let c256_i32_222 : BitVec 32 := 256#32
  let v674 : BitVec 32 := Scalar.muli v645 c256_i32_222
  let v675 : BitVec 32 := v674
  let v676 : Index := Scalar.indexCast v675
  let c0_224 : Index := 0#32
  ![0, v676.toNat, 0]
def k0_off63 (v596_13 : BitVec 32) : Fin 4 → Nat :=
  let c0_257 : Index := 0#32
  let v969 : Index := Scalar.indexCast v596_13
  let c0_258 : Index := 0#32
  let c0_259 : Index := 0#32
  ![0, v969.toNat, 0, 0]
def k0_mult45 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c1_i32_207 : BitVec 32 := 1#32
  let v646 : BitVec 32 := Scalar.addi v597 c1_i32_207
  let c256_i32_289 : BitVec 32 := 256#32
  let v1074 : BitVec 32 := Scalar.muli v646 c256_i32_289
  v1074
def k0_off64 (i : grid0.Coords) (c0_i32_206 : BitVec 32) : Fin 4 → Nat :=
  let c0_324 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v645 : BitVec 32 := Scalar.addi v597 c0_i32_206
  let v1369 : Index := Scalar.indexCast v645
  let c0_325 : Index := 0#32
  let c0_326 : Index := 0#32
  ![0, v1369.toNat, 0, 0]
def k0_mult46 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c2_i32_208 : BitVec 32 := 2#32
  let v647 : BitVec 32 := Scalar.addi v597 c2_i32_208
  let c256_i32_356 : BitVec 32 := 256#32
  let v1474 : BitVec 32 := Scalar.muli v647 c256_i32_356
  v1474
def k0_mult47 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c3_i32_209 : BitVec 32 := 3#32
  let v648 : BitVec 32 := Scalar.addi v597 c3_i32_209
  let c256_i32_423 : BitVec 32 := 256#32
  let v1874 : BitVec 32 := Scalar.muli v648 c256_i32_423
  v1874
def k0_off65 (i : grid0.Coords) : Fin 3 → Nat :=
  let arg1 : BitVec 32 := BitVec.ofNat 32 (i 1).val
  let c1_i32_210 : BitVec 32 := 1#32
  let v649 : BitVec 32 := Scalar.subi arg1 c1_i32_210
  let c0_i32_211 : BitVec 32 := 0#32
  let v650 : BitVec 32 := Scalar.maxsi v649 c0_i32_211
  let v2252 : Index := Scalar.indexCast v650
  let c0_481 : Index := 0#32
  let c0_482 : Index := 0#32
  ![v2252.toNat, 0, 0]
def k0_mult48 (i : grid0.Coords) : BitVec 32 :=
  let arg1 : BitVec 32 := BitVec.ofNat 32 (i 1).val
  let c1_i32_210 : BitVec 32 := 1#32
  let v649 : BitVec 32 := Scalar.subi arg1 c1_i32_210
  let c0_i32_211 : BitVec 32 := 0#32
  let v650 : BitVec 32 := Scalar.maxsi v649 c0_i32_211
  let c256_i32_492 : BitVec 32 := 256#32
  let v2278 : BitVec 32 := Scalar.muli v650 c256_i32_492
  v2278
def k0_off66 (i : grid0.Coords) : Fin 3 → Nat :=
  let c0_493 : Index := 0#32
  let arg1 : BitVec 32 := BitVec.ofNat 32 (i 1).val
  let c1_i32_210 : BitVec 32 := 1#32
  let v649 : BitVec 32 := Scalar.subi arg1 c1_i32_210
  let c0_i32_211 : BitVec 32 := 0#32
  let v650 : BitVec 32 := Scalar.maxsi v649 c0_i32_211
  let c256_i32_492 : BitVec 32 := 256#32
  let v2278 : BitVec 32 := Scalar.muli v650 c256_i32_492
  let v2279 : BitVec 32 := v2278
  let v2280 : Index := Scalar.indexCast v2279
  let c0_494 : Index := 0#32
  ![0, v2280.toNat, 0]
def k0_off67 (i : grid0.Coords) : Fin 3 → Nat :=
  let arg1 : BitVec 32 := BitVec.ofNat 32 (i 1).val
  let v2668 : Index := Scalar.indexCast arg1
  let c0_562 : Index := 0#32
  let c0_563 : Index := 0#32
  ![v2668.toNat, 0, 0]
def k0_mult49 (i : grid0.Coords) : BitVec 32 :=
  let arg1 : BitVec 32 := BitVec.ofNat 32 (i 1).val
  let c256_i32_571 : BitVec 32 := 256#32
  let v2690 : BitVec 32 := Scalar.muli arg1 c256_i32_571
  v2690
def k0_off68 (i : grid0.Coords) : Fin 3 → Nat :=
  let c0_572 : Index := 0#32
  let arg1 : BitVec 32 := BitVec.ofNat 32 (i 1).val
  let c256_i32_571 : BitVec 32 := 256#32
  let v2690 : BitVec 32 := Scalar.muli arg1 c256_i32_571
  let v2691 : BitVec 32 := v2690
  let v2692 : Index := Scalar.indexCast v2691
  let c0_573 : Index := 0#32
  ![0, v2692.toNat, 0]
def k0_off69 (i : grid0.Coords) : Fin 4 → Nat :=
  let c0_618 : Index := 0#32
  let arg1 : BitVec 32 := BitVec.ofNat 32 (i 1).val
  let c1_i32_210 : BitVec 32 := 1#32
  let v649 : BitVec 32 := Scalar.subi arg1 c1_i32_210
  let c0_i32_211 : BitVec 32 := 0#32
  let v650 : BitVec 32 := Scalar.maxsi v649 c0_i32_211
  let v2995 : Index := Scalar.indexCast v650
  let c0_619 : Index := 0#32
  let c0_620 : Index := 0#32
  ![0, v2995.toNat, 0, 0]
def k0_off70 (i : grid0.Coords) : Fin 4 → Nat :=
  let c0_641 : Index := 0#32
  let arg1 : BitVec 32 := BitVec.ofNat 32 (i 1).val
  let v3078 : Index := Scalar.indexCast arg1
  let c0_642 : Index := 0#32
  let c0_643 : Index := 0#32
  ![0, v3078.toNat, 0, 0]
def k0_off71 (i : grid0.Coords) (c0_i32_204 : BitVec 32) : Fin 3 → Nat :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v642 : BitVec 32 := Scalar.addi v597 c0_i32_204
  let v648 : Index := Scalar.indexCast v642
  let c0_210 : Index := 0#32
  let c0_211 : Index := 0#32
  ![v648.toNat, 0, 0]
def k0_mult50 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_204 : BitVec 32 := 0#32
  let v642 : BitVec 32 := Scalar.addi v597 c0_i32_204
  let c256_i32_219 : BitVec 32 := 256#32
  let v670 : BitVec 32 := Scalar.muli v642 c256_i32_219
  v670
def k0_off72 (i : grid0.Coords) (c0_i32_204 : BitVec 32) : Fin 3 → Nat :=
  let c0_220 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v642 : BitVec 32 := Scalar.addi v597 c0_i32_204
  let c256_i32_219 : BitVec 32 := 256#32
  let v670 : BitVec 32 := Scalar.muli v642 c256_i32_219
  let v671 : BitVec 32 := v670
  let v672 : Index := Scalar.indexCast v671
  let c0_221 : Index := 0#32
  ![0, v672.toNat, 0]
def k0_off73 (v596_13 : BitVec 32) : Fin 4 → Nat :=
  let c0_254 : Index := 0#32
  let v965 : Index := Scalar.indexCast v596_13
  let c0_255 : Index := 0#32
  let c0_256 : Index := 0#32
  ![0, v965.toNat, 0, 0]
def k0_mult51 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c1_i32_205 : BitVec 32 := 1#32
  let v643 : BitVec 32 := Scalar.addi v597 c1_i32_205
  let c256_i32_286 : BitVec 32 := 256#32
  let v1070 : BitVec 32 := Scalar.muli v643 c256_i32_286
  v1070
def k0_off74 (i : grid0.Coords) (c0_i32_204 : BitVec 32) : Fin 4 → Nat :=
  let c0_321 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v642 : BitVec 32 := Scalar.addi v597 c0_i32_204
  let v1365 : Index := Scalar.indexCast v642
  let c0_322 : Index := 0#32
  let c0_323 : Index := 0#32
  ![0, v1365.toNat, 0, 0]
def k0_mult52 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c2_i32_206 : BitVec 32 := 2#32
  let v644 : BitVec 32 := Scalar.addi v597 c2_i32_206
  let c256_i32_353 : BitVec 32 := 256#32
  let v1470 : BitVec 32 := Scalar.muli v644 c256_i32_353
  v1470
def k0_off75 (i : grid0.Coords) : Fin 3 → Nat :=
  let arg1 : BitVec 32 := BitVec.ofNat 32 (i 1).val
  let c1_i32_207 : BitVec 32 := 1#32
  let v645 : BitVec 32 := Scalar.subi arg1 c1_i32_207
  let c0_i32_208 : BitVec 32 := 0#32
  let v646 : BitVec 32 := Scalar.maxsi v645 c0_i32_208
  let v1848 : Index := Scalar.indexCast v646
  let c0_411 : Index := 0#32
  let c0_412 : Index := 0#32
  ![v1848.toNat, 0, 0]
def k0_mult53 (i : grid0.Coords) : BitVec 32 :=
  let arg1 : BitVec 32 := BitVec.ofNat 32 (i 1).val
  let c1_i32_207 : BitVec 32 := 1#32
  let v645 : BitVec 32 := Scalar.subi arg1 c1_i32_207
  let c0_i32_208 : BitVec 32 := 0#32
  let v646 : BitVec 32 := Scalar.maxsi v645 c0_i32_208
  let c256_i32_422 : BitVec 32 := 256#32
  let v1874 : BitVec 32 := Scalar.muli v646 c256_i32_422
  v1874
def k0_off76 (i : grid0.Coords) : Fin 3 → Nat :=
  let c0_423 : Index := 0#32
  let arg1 : BitVec 32 := BitVec.ofNat 32 (i 1).val
  let c1_i32_207 : BitVec 32 := 1#32
  let v645 : BitVec 32 := Scalar.subi arg1 c1_i32_207
  let c0_i32_208 : BitVec 32 := 0#32
  let v646 : BitVec 32 := Scalar.maxsi v645 c0_i32_208
  let c256_i32_422 : BitVec 32 := 256#32
  let v1874 : BitVec 32 := Scalar.muli v646 c256_i32_422
  let v1875 : BitVec 32 := v1874
  let v1876 : Index := Scalar.indexCast v1875
  let c0_424 : Index := 0#32
  ![0, v1876.toNat, 0]
def k0_off77 (i : grid0.Coords) : Fin 3 → Nat :=
  let arg1 : BitVec 32 := BitVec.ofNat 32 (i 1).val
  let v2264 : Index := Scalar.indexCast arg1
  let c0_492 : Index := 0#32
  let c0_493 : Index := 0#32
  ![v2264.toNat, 0, 0]
def k0_mult54 (i : grid0.Coords) : BitVec 32 :=
  let arg1 : BitVec 32 := BitVec.ofNat 32 (i 1).val
  let c256_i32_501 : BitVec 32 := 256#32
  let v2286 : BitVec 32 := Scalar.muli arg1 c256_i32_501
  v2286
def k0_off78 (i : grid0.Coords) : Fin 3 → Nat :=
  let c0_502 : Index := 0#32
  let arg1 : BitVec 32 := BitVec.ofNat 32 (i 1).val
  let c256_i32_501 : BitVec 32 := 256#32
  let v2286 : BitVec 32 := Scalar.muli arg1 c256_i32_501
  let v2287 : BitVec 32 := v2286
  let v2288 : Index := Scalar.indexCast v2287
  let c0_503 : Index := 0#32
  ![0, v2288.toNat, 0]
def k0_off79 (i : grid0.Coords) : Fin 4 → Nat :=
  let c0_548 : Index := 0#32
  let arg1 : BitVec 32 := BitVec.ofNat 32 (i 1).val
  let c1_i32_207 : BitVec 32 := 1#32
  let v645 : BitVec 32 := Scalar.subi arg1 c1_i32_207
  let c0_i32_208 : BitVec 32 := 0#32
  let v646 : BitVec 32 := Scalar.maxsi v645 c0_i32_208
  let v2591 : Index := Scalar.indexCast v646
  let c0_549 : Index := 0#32
  let c0_550 : Index := 0#32
  ![0, v2591.toNat, 0, 0]
def k0_off80 (i : grid0.Coords) : Fin 4 → Nat :=
  let c0_571 : Index := 0#32
  let arg1 : BitVec 32 := BitVec.ofNat 32 (i 1).val
  let v2674 : Index := Scalar.indexCast arg1
  let c0_572 : Index := 0#32
  let c0_573 : Index := 0#32
  ![0, v2674.toNat, 0, 0]
def k0_off81 (i : grid0.Coords) (c0_i32_202 : BitVec 32) : Fin 3 → Nat :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v639 : BitVec 32 := Scalar.addi v597 c0_i32_202
  let v644 : Index := Scalar.indexCast v639
  let c0_207 : Index := 0#32
  let c0_208 : Index := 0#32
  ![v644.toNat, 0, 0]
def k0_mult55 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_202 : BitVec 32 := 0#32
  let v639 : BitVec 32 := Scalar.addi v597 c0_i32_202
  let c256_i32_216 : BitVec 32 := 256#32
  let v666 : BitVec 32 := Scalar.muli v639 c256_i32_216
  v666
def k0_off82 (i : grid0.Coords) (c0_i32_202 : BitVec 32) : Fin 3 → Nat :=
  let c0_217 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v639 : BitVec 32 := Scalar.addi v597 c0_i32_202
  let c256_i32_216 : BitVec 32 := 256#32
  let v666 : BitVec 32 := Scalar.muli v639 c256_i32_216
  let v667 : BitVec 32 := v666
  let v668 : Index := Scalar.indexCast v667
  let c0_218 : Index := 0#32
  ![0, v668.toNat, 0]
def k0_off83 (v596_13 : BitVec 32) : Fin 4 → Nat :=
  let c0_251 : Index := 0#32
  let v961 : Index := Scalar.indexCast v596_13
  let c0_252 : Index := 0#32
  let c0_253 : Index := 0#32
  ![0, v961.toNat, 0, 0]
def k0_mult56 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c1_i32_203 : BitVec 32 := 1#32
  let v640 : BitVec 32 := Scalar.addi v597 c1_i32_203
  let c256_i32_283 : BitVec 32 := 256#32
  let v1066 : BitVec 32 := Scalar.muli v640 c256_i32_283
  v1066
def k0_off84 (i : grid0.Coords) (c0_i32_202 : BitVec 32) : Fin 4 → Nat :=
  let c0_318 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let v639 : BitVec 32 := Scalar.addi v597 c0_i32_202
  let v1361 : Index := Scalar.indexCast v639
  let c0_319 : Index := 0#32
  let c0_320 : Index := 0#32
  ![0, v1361.toNat, 0, 0]
def k0_off85 (i : grid0.Coords) : Fin 3 → Nat :=
  let arg1 : BitVec 32 := BitVec.ofNat 32 (i 1).val
  let c1_i32_204 : BitVec 32 := 1#32
  let v641 : BitVec 32 := Scalar.subi arg1 c1_i32_204
  let c0_i32_205 : BitVec 32 := 0#32
  let v642 : BitVec 32 := Scalar.maxsi v641 c0_i32_205
  let v1444 : Index := Scalar.indexCast v642
  let c0_341 : Index := 0#32
  let c0_342 : Index := 0#32
  ![v1444.toNat, 0, 0]
def k0_mult57 (i : grid0.Coords) : BitVec 32 :=
  let arg1 : BitVec 32 := BitVec.ofNat 32 (i 1).val
  let c1_i32_204 : BitVec 32 := 1#32
  let v641 : BitVec 32 := Scalar.subi arg1 c1_i32_204
  let c0_i32_205 : BitVec 32 := 0#32
  let v642 : BitVec 32 := Scalar.maxsi v641 c0_i32_205
  let c256_i32_352 : BitVec 32 := 256#32
  let v1470 : BitVec 32 := Scalar.muli v642 c256_i32_352
  v1470
def k0_off86 (i : grid0.Coords) : Fin 3 → Nat :=
  let c0_353 : Index := 0#32
  let arg1 : BitVec 32 := BitVec.ofNat 32 (i 1).val
  let c1_i32_204 : BitVec 32 := 1#32
  let v641 : BitVec 32 := Scalar.subi arg1 c1_i32_204
  let c0_i32_205 : BitVec 32 := 0#32
  let v642 : BitVec 32 := Scalar.maxsi v641 c0_i32_205
  let c256_i32_352 : BitVec 32 := 256#32
  let v1470 : BitVec 32 := Scalar.muli v642 c256_i32_352
  let v1471 : BitVec 32 := v1470
  let v1472 : Index := Scalar.indexCast v1471
  let c0_354 : Index := 0#32
  ![0, v1472.toNat, 0]
def k0_off87 (i : grid0.Coords) : Fin 3 → Nat :=
  let arg1 : BitVec 32 := BitVec.ofNat 32 (i 1).val
  let v1860 : Index := Scalar.indexCast arg1
  let c0_422 : Index := 0#32
  let c0_423 : Index := 0#32
  ![v1860.toNat, 0, 0]
def k0_mult58 (i : grid0.Coords) : BitVec 32 :=
  let arg1 : BitVec 32 := BitVec.ofNat 32 (i 1).val
  let c256_i32_431 : BitVec 32 := 256#32
  let v1882 : BitVec 32 := Scalar.muli arg1 c256_i32_431
  v1882
def k0_off88 (i : grid0.Coords) : Fin 3 → Nat :=
  let c0_432 : Index := 0#32
  let arg1 : BitVec 32 := BitVec.ofNat 32 (i 1).val
  let c256_i32_431 : BitVec 32 := 256#32
  let v1882 : BitVec 32 := Scalar.muli arg1 c256_i32_431
  let v1883 : BitVec 32 := v1882
  let v1884 : Index := Scalar.indexCast v1883
  let c0_433 : Index := 0#32
  ![0, v1884.toNat, 0]
def k0_off89 (i : grid0.Coords) : Fin 4 → Nat :=
  let c0_478 : Index := 0#32
  let arg1 : BitVec 32 := BitVec.ofNat 32 (i 1).val
  let c1_i32_204 : BitVec 32 := 1#32
  let v641 : BitVec 32 := Scalar.subi arg1 c1_i32_204
  let c0_i32_205 : BitVec 32 := 0#32
  let v642 : BitVec 32 := Scalar.maxsi v641 c0_i32_205
  let v2187 : Index := Scalar.indexCast v642
  let c0_479 : Index := 0#32
  let c0_480 : Index := 0#32
  ![0, v2187.toNat, 0, 0]
def k0_off90 (i : grid0.Coords) : Fin 4 → Nat :=
  let c0_501 : Index := 0#32
  let arg1 : BitVec 32 := BitVec.ofNat 32 (i 1).val
  let v2270 : Index := Scalar.indexCast arg1
  let c0_502 : Index := 0#32
  let c0_503 : Index := 0#32
  ![0, v2270.toNat, 0, 0]
def k0_off91 (i : grid0.Coords) : Fin 3 → Nat :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_200 : BitVec 32 := 0#32
  let v636 : BitVec 32 := Scalar.addi v597 c0_i32_200
  let v640 : Index := Scalar.indexCast v636
  let c0_204 : Index := 0#32
  let c0_205 : Index := 0#32
  ![v640.toNat, 0, 0]
def k0_mult59 (i : grid0.Coords) : BitVec 32 :=
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_200 : BitVec 32 := 0#32
  let v636 : BitVec 32 := Scalar.addi v597 c0_i32_200
  let c256_i32_213 : BitVec 32 := 256#32
  let v662 : BitVec 32 := Scalar.muli v636 c256_i32_213
  v662
def k0_off92 (i : grid0.Coords) : Fin 3 → Nat :=
  let c0_214 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_200 : BitVec 32 := 0#32
  let v636 : BitVec 32 := Scalar.addi v597 c0_i32_200
  let c256_i32_213 : BitVec 32 := 256#32
  let v662 : BitVec 32 := Scalar.muli v636 c256_i32_213
  let v663 : BitVec 32 := v662
  let v664 : Index := Scalar.indexCast v663
  let c0_215 : Index := 0#32
  ![0, v664.toNat, 0]
def k0_off93 (v596_13 : BitVec 32) : Fin 4 → Nat :=
  let c0_248 : Index := 0#32
  let v957 : Index := Scalar.indexCast v596_13
  let c0_249 : Index := 0#32
  let c0_250 : Index := 0#32
  ![0, v957.toNat, 0, 0]
def k0_off94 (i : grid0.Coords) : Fin 3 → Nat :=
  let arg1 : BitVec 32 := BitVec.ofNat 32 (i 1).val
  let c1_i32_201 : BitVec 32 := 1#32
  let v637 : BitVec 32 := Scalar.subi arg1 c1_i32_201
  let c0_i32_202 : BitVec 32 := 0#32
  let v638 : BitVec 32 := Scalar.maxsi v637 c0_i32_202
  let v1040 : Index := Scalar.indexCast v638
  let c0_271 : Index := 0#32
  let c0_272 : Index := 0#32
  ![v1040.toNat, 0, 0]
def k0_mult60 (i : grid0.Coords) : BitVec 32 :=
  let arg1 : BitVec 32 := BitVec.ofNat 32 (i 1).val
  let c1_i32_201 : BitVec 32 := 1#32
  let v637 : BitVec 32 := Scalar.subi arg1 c1_i32_201
  let c0_i32_202 : BitVec 32 := 0#32
  let v638 : BitVec 32 := Scalar.maxsi v637 c0_i32_202
  let c256_i32_282 : BitVec 32 := 256#32
  let v1066 : BitVec 32 := Scalar.muli v638 c256_i32_282
  v1066
def k0_off95 (i : grid0.Coords) : Fin 3 → Nat :=
  let c0_283 : Index := 0#32
  let arg1 : BitVec 32 := BitVec.ofNat 32 (i 1).val
  let c1_i32_201 : BitVec 32 := 1#32
  let v637 : BitVec 32 := Scalar.subi arg1 c1_i32_201
  let c0_i32_202 : BitVec 32 := 0#32
  let v638 : BitVec 32 := Scalar.maxsi v637 c0_i32_202
  let c256_i32_282 : BitVec 32 := 256#32
  let v1066 : BitVec 32 := Scalar.muli v638 c256_i32_282
  let v1067 : BitVec 32 := v1066
  let v1068 : Index := Scalar.indexCast v1067
  let c0_284 : Index := 0#32
  ![0, v1068.toNat, 0]
def k0_off96 (i : grid0.Coords) : Fin 4 → Nat :=
  let c0_329 : Index := 0#32
  let arg1 : BitVec 32 := BitVec.ofNat 32 (i 1).val
  let c1_i32_154 : BitVec 32 := 1#32
  let v559 : BitVec 32 := Scalar.subi arg1 c1_i32_154
  let c0_i32_155 : BitVec 32 := 0#32
  let v560 : BitVec 32 := Scalar.maxsi v559 c0_i32_155
  let c0_i32_156 : BitVec 32 := 0#32
  let v562 : BitVec 1 := Scalar.cmpi .sgt v560 c0_i32_156
  let v563 : BitVec 32 := Scalar.extui v562
  let c0_i32_157 : BitVec 32 := 0#32
  let v564 : BitVec 1 := Scalar.cmpi .slt v560 c0_i32_157
  let v565 : BitVec 32 := Scalar.extui v564
  let v566 : BitVec 32 := Scalar.subi v563 v565
  let c6_i32 : BitVec 32 := 6#32
  let c0_i32_158 : BitVec 32 := 0#32
  let v567 : BitVec 1 := Scalar.cmpi .sgt c6_i32 c0_i32_158
  let v568 : BitVec 32 := Scalar.extui v567
  let c0_i32_159 : BitVec 32 := 0#32
  let v569 : BitVec 1 := Scalar.cmpi .slt c6_i32 c0_i32_159
  let v570 : BitVec 32 := Scalar.extui v569
  let v571 : BitVec 32 := Scalar.subi v568 v570
  let v572 : BitVec 1 := Scalar.cmpi .ne v566 v571
  let v573 : BitVec 32 := Scalar.remsi v560 c6_i32
  let c0_i32_160 : BitVec 32 := 0#32
  let v574 : BitVec 1 := Scalar.cmpi .ne v573 c0_i32_160
  let v575 : BitVec 1 := Scalar.andi v572 v574
  let v561 : BitVec 32 := Scalar.divsi v560 c6_i32
  let c1_i32_161 : BitVec 32 := 1#32
  let v576 : BitVec 32 := Scalar.subi v561 c1_i32_161
  let v577 : BitVec 32 := Scalar.select v575 v576 v561
  let c6_i32_177 : BitVec 32 := 6#32
  let v597 : BitVec 32 := Scalar.muli v577 c6_i32_177
  let c0_i32_200 : BitVec 32 := 0#32
  let v636 : BitVec 32 := Scalar.addi v597 c0_i32_200
  let v1373 : Index := Scalar.indexCast v636
  let c0_330 : Index := 0#32
  let c0_331 : Index := 0#32
  ![0, v1373.toNat, 0, 0]
def k0_off97 (i : grid0.Coords) : Fin 3 → Nat :=
  let arg1 : BitVec 32 := BitVec.ofNat 32 (i 1).val
  let v1456 : Index := Scalar.indexCast arg1
  let c0_352 : Index := 0#32
  let c0_353 : Index := 0#32
  ![v1456.toNat, 0, 0]
def k0_mult61 (i : grid0.Coords) : BitVec 32 :=
  let arg1 : BitVec 32 := BitVec.ofNat 32 (i 1).val
  let c256_i32_361 : BitVec 32 := 256#32
  let v1478 : BitVec 32 := Scalar.muli arg1 c256_i32_361
  v1478
def k0_off98 (i : grid0.Coords) : Fin 3 → Nat :=
  let c0_362 : Index := 0#32
  let arg1 : BitVec 32 := BitVec.ofNat 32 (i 1).val
  let c256_i32_361 : BitVec 32 := 256#32
  let v1478 : BitVec 32 := Scalar.muli arg1 c256_i32_361
  let v1479 : BitVec 32 := v1478
  let v1480 : Index := Scalar.indexCast v1479
  let c0_363 : Index := 0#32
  ![0, v1480.toNat, 0]
def k0_off99 (i : grid0.Coords) : Fin 4 → Nat :=
  let c0_408 : Index := 0#32
  let arg1 : BitVec 32 := BitVec.ofNat 32 (i 1).val
  let c1_i32_201 : BitVec 32 := 1#32
  let v637 : BitVec 32 := Scalar.subi arg1 c1_i32_201
  let c0_i32_202 : BitVec 32 := 0#32
  let v638 : BitVec 32 := Scalar.maxsi v637 c0_i32_202
  let v1783 : Index := Scalar.indexCast v638
  let c0_409 : Index := 0#32
  let c0_410 : Index := 0#32
  ![0, v1783.toNat, 0, 0]
def k0_off100 (i : grid0.Coords) : Fin 4 → Nat :=
  let c0_431 : Index := 0#32
  let arg1 : BitVec 32 := BitVec.ofNat 32 (i 1).val
  let v1866 : Index := Scalar.indexCast arg1
  let c0_432 : Index := 0#32
  let c0_433 : Index := 0#32
  ![0, v1866.toNat, 0, 0]
def k0_off101 (i : grid0.Coords) : Fin 3 → Nat :=
  let arg1 : BitVec 32 := BitVec.ofNat 32 (i 1).val
  let c1_i32_198 : BitVec 32 := 1#32
  let v633 : BitVec 32 := Scalar.subi arg1 c1_i32_198
  let c0_i32_199 : BitVec 32 := 0#32
  let v634 : BitVec 32 := Scalar.maxsi v633 c0_i32_199
  let v636 : Index := Scalar.indexCast v634
  let c0_201 : Index := 0#32
  let c0_202 : Index := 0#32
  ![v636.toNat, 0, 0]
def k0_mult62 (i : grid0.Coords) : BitVec 32 :=
  let arg1 : BitVec 32 := BitVec.ofNat 32 (i 1).val
  let c1_i32_198 : BitVec 32 := 1#32
  let v633 : BitVec 32 := Scalar.subi arg1 c1_i32_198
  let c0_i32_199 : BitVec 32 := 0#32
  let v634 : BitVec 32 := Scalar.maxsi v633 c0_i32_199
  let c256_i32_212 : BitVec 32 := 256#32
  let v662 : BitVec 32 := Scalar.muli v634 c256_i32_212
  v662
def k0_off102 (i : grid0.Coords) : Fin 3 → Nat :=
  let c0_213 : Index := 0#32
  let arg1 : BitVec 32 := BitVec.ofNat 32 (i 1).val
  let c1_i32_198 : BitVec 32 := 1#32
  let v633 : BitVec 32 := Scalar.subi arg1 c1_i32_198
  let c0_i32_199 : BitVec 32 := 0#32
  let v634 : BitVec 32 := Scalar.maxsi v633 c0_i32_199
  let c256_i32_212 : BitVec 32 := 256#32
  let v662 : BitVec 32 := Scalar.muli v634 c256_i32_212
  let v663 : BitVec 32 := v662
  let v664 : Index := Scalar.indexCast v663
  let c0_214 : Index := 0#32
  ![0, v664.toNat, 0]
def k0_off103 (v596_13 : BitVec 32) : Fin 4 → Nat :=
  let c0_259 : Index := 0#32
  let v969 : Index := Scalar.indexCast v596_13
  let c0_260 : Index := 0#32
  let c0_261 : Index := 0#32
  ![0, v969.toNat, 0, 0]

def k0_chk3 (i : grid0.Coords) (v596_13 : BitVec 32) : Prop :=
  (∀ (k0_h4 : k0_cond4 i = 1#1), ∀ (k0_h5 : k0_cond5 i = 1#1), ∀ (k0_h6 : k0_cond6 i = 1#1), ∀ (k0_h7 : k0_cond7 i = 1#1), ∀ (k0_h8 : k0_cond8 i = 1#1), ∀ a, (k0_off51 v596_13) a + S1x1x256x256.size a ≤ S1x32x256x256.size a) ∧
  (∀ (k0_h4 : k0_cond4 i = 1#1), ∀ (k0_h5 : k0_cond5 i = 1#1), ∀ (k0_h6 : k0_cond6 i = 1#1), ∀ (k0_h7 : k0_cond7 i = 1#1), ∀ (k0_h8 : ¬(k0_cond8 i = 1#1)), ∀ a, (k0_off63 v596_13) a + S1x1x256x256.size a ≤ S1x32x256x256.size a) ∧
  (∀ (k0_h4 : k0_cond4 i = 1#1), ∀ (k0_h5 : k0_cond5 i = 1#1), ∀ (k0_h6 : k0_cond6 i = 1#1), ∀ (k0_h7 : ¬(k0_cond7 i = 1#1)), ∀ a, (k0_off73 v596_13) a + S1x1x256x256.size a ≤ S1x32x256x256.size a) ∧
  (∀ (k0_h4 : k0_cond4 i = 1#1), ∀ (k0_h5 : k0_cond5 i = 1#1), ∀ (k0_h6 : ¬(k0_cond6 i = 1#1)), ∀ a, (k0_off83 v596_13) a + S1x1x256x256.size a ≤ S1x32x256x256.size a) ∧
  (∀ (k0_h4 : k0_cond4 i = 1#1), ∀ (k0_h5 : ¬(k0_cond5 i = 1#1)), ∀ a, (k0_off93 v596_13) a + S1x1x256x256.size a ≤ S1x32x256x256.size a) ∧
  (∀ (k0_h4 : ¬(k0_cond4 i = 1#1)), ∀ a, (k0_off103 v596_13) a + S1x1x256x256.size a ≤ S1x32x256x256.size a)
theorem k0_off51_inb : ∀ (i : grid0.Coords) (v596_13 : BitVec 32) (k0_hw3 : k0_chk3 i v596_13), ∀ (k0_h4 : k0_cond4 i = 1#1), ∀ (k0_h5 : k0_cond5 i = 1#1), ∀ (k0_h6 : k0_cond6 i = 1#1), ∀ (k0_h7 : k0_cond7 i = 1#1), ∀ (k0_h8 : k0_cond8 i = 1#1), ∀ a, (k0_off51 v596_13) a + S1x1x256x256.size a ≤ S1x32x256x256.size a := fun i v596_13 k0_hw3 k0_h4 k0_h5 k0_h6 k0_h7 k0_h8 => k0_hw3.1 k0_h4 k0_h5 k0_h6 k0_h7 k0_h8
theorem k0_off63_inb : ∀ (i : grid0.Coords) (v596_13 : BitVec 32) (k0_hw3 : k0_chk3 i v596_13), ∀ (k0_h4 : k0_cond4 i = 1#1), ∀ (k0_h5 : k0_cond5 i = 1#1), ∀ (k0_h6 : k0_cond6 i = 1#1), ∀ (k0_h7 : k0_cond7 i = 1#1), ∀ (k0_h8 : ¬(k0_cond8 i = 1#1)), ∀ a, (k0_off63 v596_13) a + S1x1x256x256.size a ≤ S1x32x256x256.size a := fun i v596_13 k0_hw3 k0_h4 k0_h5 k0_h6 k0_h7 k0_h8 => k0_hw3.2.1 k0_h4 k0_h5 k0_h6 k0_h7 k0_h8
theorem k0_off73_inb : ∀ (i : grid0.Coords) (v596_13 : BitVec 32) (k0_hw3 : k0_chk3 i v596_13), ∀ (k0_h4 : k0_cond4 i = 1#1), ∀ (k0_h5 : k0_cond5 i = 1#1), ∀ (k0_h6 : k0_cond6 i = 1#1), ∀ (k0_h7 : ¬(k0_cond7 i = 1#1)), ∀ a, (k0_off73 v596_13) a + S1x1x256x256.size a ≤ S1x32x256x256.size a := fun i v596_13 k0_hw3 k0_h4 k0_h5 k0_h6 k0_h7 => k0_hw3.2.2.1 k0_h4 k0_h5 k0_h6 k0_h7
theorem k0_off83_inb : ∀ (i : grid0.Coords) (v596_13 : BitVec 32) (k0_hw3 : k0_chk3 i v596_13), ∀ (k0_h4 : k0_cond4 i = 1#1), ∀ (k0_h5 : k0_cond5 i = 1#1), ∀ (k0_h6 : ¬(k0_cond6 i = 1#1)), ∀ a, (k0_off83 v596_13) a + S1x1x256x256.size a ≤ S1x32x256x256.size a := fun i v596_13 k0_hw3 k0_h4 k0_h5 k0_h6 => k0_hw3.2.2.2.1 k0_h4 k0_h5 k0_h6
theorem k0_off93_inb : ∀ (i : grid0.Coords) (v596_13 : BitVec 32) (k0_hw3 : k0_chk3 i v596_13), ∀ (k0_h4 : k0_cond4 i = 1#1), ∀ (k0_h5 : ¬(k0_cond5 i = 1#1)), ∀ a, (k0_off93 v596_13) a + S1x1x256x256.size a ≤ S1x32x256x256.size a := fun i v596_13 k0_hw3 k0_h4 k0_h5 => k0_hw3.2.2.2.2.1 k0_h4 k0_h5
theorem k0_off103_inb : ∀ (i : grid0.Coords) (v596_13 : BitVec 32) (k0_hw3 : k0_chk3 i v596_13), ∀ (k0_h4 : ¬(k0_cond4 i = 1#1)), ∀ a, (k0_off103 v596_13) a + S1x1x256x256.size a ≤ S1x32x256x256.size a := fun i v596_13 k0_hw3 k0_h4 => k0_hw3.2.2.2.2.2 k0_h4

def k0_off104 (i : grid0.Coords) : Fin 3 → Nat :=
  let arg1 : BitVec 32 := BitVec.ofNat 32 (i 1).val
  let v1052 : Index := Scalar.indexCast arg1
  let c0_282 : Index := 0#32
  let c0_283 : Index := 0#32
  ![v1052.toNat, 0, 0]
def k0_mult63 (i : grid0.Coords) : BitVec 32 :=
  let arg1 : BitVec 32 := BitVec.ofNat 32 (i 1).val
  let c256_i32_291 : BitVec 32 := 256#32
  let v1074 : BitVec 32 := Scalar.muli arg1 c256_i32_291
  v1074
def k0_off105 (i : grid0.Coords) : Fin 3 → Nat :=
  let c0_292 : Index := 0#32
  let arg1 : BitVec 32 := BitVec.ofNat 32 (i 1).val
  let c256_i32_291 : BitVec 32 := 256#32
  let v1074 : BitVec 32 := Scalar.muli arg1 c256_i32_291
  let v1075 : BitVec 32 := v1074
  let v1076 : Index := Scalar.indexCast v1075
  let c0_293 : Index := 0#32
  ![0, v1076.toNat, 0]
def k0_off106 (i : grid0.Coords) : Fin 4 → Nat :=
  let c0_338 : Index := 0#32
  let arg1 : BitVec 32 := BitVec.ofNat 32 (i 1).val
  let c1_i32_198 : BitVec 32 := 1#32
  let v633 : BitVec 32 := Scalar.subi arg1 c1_i32_198
  let c0_i32_199 : BitVec 32 := 0#32
  let v634 : BitVec 32 := Scalar.maxsi v633 c0_i32_199
  let v1379 : Index := Scalar.indexCast v634
  let c0_339 : Index := 0#32
  let c0_340 : Index := 0#32
  ![0, v1379.toNat, 0, 0]
def k0_off107 (i : grid0.Coords) : Fin 4 → Nat :=
  let c0_361 : Index := 0#32
  let arg1 : BitVec 32 := BitVec.ofNat 32 (i 1).val
  let v1462 : Index := Scalar.indexCast arg1
  let c0_362 : Index := 0#32
  let c0_363 : Index := 0#32
  ![0, v1462.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S4x8192x1024 : Shape := ⟨3, ![4, 8192, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 13
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S4x1024x5632, .bf16⟩
  | .hbm, ⟨4, _⟩ => ⟨S4x2816x1024, .bf16⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x8192x1024 : Shape := ⟨3, ![4, 8192, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S4x1024x5632, .bf16⟩
  | .hbm, ⟨4, _⟩ => ⟨S4x2816x1024, .bf16⟩
  | .hbm, ⟨5, _⟩ => ⟨S1x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1x1024x5632, .bf16⟩
  | .hbm, ⟨24, _⟩ => ⟨S1024x5632, .bf16⟩
  | .hbm, ⟨25, _⟩ => ⟨S1024x5632, .f32⟩
  | .hbm, ⟨26, _⟩ => ⟨S1x2816x1024, .bf16⟩
  | .hbm, ⟨27, _⟩ => ⟨S2816x1024, .bf16⟩
  | .hbm, ⟨28, _⟩ => ⟨S2816x1024, .f32⟩
  | .hbm, ⟨29, _⟩ => ⟨S4x8192x5632, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x2816, .f32⟩
  | .hbm, ⟨34, _⟩ => ⟨S_, .f32⟩
  | .hbm, ⟨35, _⟩ => ⟨S4x8192x2816, .f32⟩
  | .hbm, ⟨36, _⟩ => ⟨S4x8192x2816, .f32⟩
  | .hbm, ⟨37, _⟩ => ⟨S_, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S4x8192x1024, .f32⟩
  | .hbm, ⟨43, _⟩ => ⟨S1x1024, .f32⟩
  | .hbm, ⟨44, _⟩ => ⟨S1024, .f32⟩
  | .hbm, ⟨45, _⟩ => ⟨S4x8192x1024, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S1x1x1024, .f32⟩
  | .hbm, ⟨59, _⟩ => ⟨S4x8192x1024, .f32⟩
  | .hbm, ⟨60, _⟩ => ⟨S4x8192x1024, .f32⟩
  | .hbm, ⟨61, _⟩ => ⟨S_, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Kernel3.lean ====
abbrev S32768x1024 : Shape := ⟨2, ![32768, 1024]⟩
abbrev S32768x256 : Shape := ⟨2, ![32768, 256]⟩
abbrev S4x8192x256 : Shape := ⟨3, ![4, 8192, 256]⟩
abbrev S4x1024 : Shape := ⟨2, ![4, 1024]⟩
abbrev S4x1024x6308 : Shape := ⟨3, ![4, 1024, 6308]⟩
abbrev S4x4x256x1024 : Shape := ⟨4, ![4, 4, 256, 1024]⟩
abbrev S4x1024x1024 : Shape := ⟨3, ![4, 1024, 1024]⟩
abbrev S1x1024x6308 : Shape := ⟨3, ![1, 1024, 6308]⟩
abbrev S1024x6308 : Shape := ⟨2, ![1024, 6308]⟩
abbrev S1024x4096 : Shape := ⟨2, ![1024, 4096]⟩
abbrev S1024x4x1024 : Shape := ⟨3, ![1024, 4, 1024]⟩
abbrev S1x1024 : Shape := ⟨2, ![1, 1024]⟩
abbrev S1024 : Shape := ⟨1, ![1024]⟩
abbrev S1x4x256x1024 : Shape := ⟨4, ![1, 4, 256, 1024]⟩
abbrev S4x256x1024 : Shape := ⟨3, ![4, 256, 1024]⟩
abbrev S1x1024x1024 : Shape := ⟨3, ![1, 1024, 1024]⟩
abbrev S1024x1024 : Shape := ⟨2, ![1024, 1024]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S512x256 : Shape := ⟨2, ![512, 256]⟩
abbrev S1x256x256 : Shape := ⟨3, ![1, 256, 256]⟩
abbrev S256x256 : Shape := ⟨2, ![256, 256]⟩
abbrev S256x1024 : Shape := ⟨2, ![256, 1024]⟩

abbrev nBuf : Space → Nat
  | .hbm => 30
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S4x8192x256, .bf16⟩
  | .hbm, ⟨4, _⟩ => ⟨S32768x256, .bf16⟩
  | .hbm, ⟨5, _⟩ => ⟨S4x1024, .f32⟩
  | .hbm, ⟨6, _⟩ => ⟨S4x1024, .f32⟩
  | .hbm, ⟨7, _⟩ => ⟨S4x1024x6308, .f32⟩
  | .hbm, ⟨8, _⟩ => ⟨S4x4x256x1024, .f32⟩
  | .hbm, ⟨9, _⟩ => ⟨S4x1024x1024, .f32⟩
  | .hbm, ⟨10, _⟩ => ⟨S1x1024x6308, .f32⟩
  | .hbm, ⟨11, _⟩ => ⟨S1024x6308, .f32⟩
  | .hbm, ⟨12, _⟩ => ⟨S1024x4096, .f32⟩
  | .hbm, ⟨13, _⟩ => ⟨S1024x4x1024, .f32⟩
  | .hbm, ⟨14, _⟩ => ⟨S4x1024x1024, .f32⟩
  | .hbm, ⟨15, _⟩ => ⟨S4x1024x1024, .bf16⟩
  | .hbm, ⟨16, _⟩ => ⟨S32768x256, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x4x256x1024, .f32⟩
  | .hbm, ⟨24, _⟩ => ⟨S4x256x1024, .f32⟩
  | .hbm, ⟨25, _⟩ => ⟨S4x256x1024, .bf16⟩
  | .hbm, ⟨26, _⟩ => ⟨S1x1024x1024, .f32⟩
  | .hbm, ⟨27, _⟩ => ⟨S1024x1024, .f32⟩
  | .hbm, ⟨28, _⟩ => ⟨S1024x1024, .bf16⟩
  | .hbm, ⟨29, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1x1024, .f32⟩
  | .local _ .vmem, ⟨11, _⟩ => ⟨S1x1024, .f32⟩
  | .local _ .vmem, ⟨12, _⟩ => ⟨S4x1024x1024, .bf16⟩
  | .local _ .vmem, ⟨13, _⟩ => ⟨S4x256x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32768x1024 : Shape := ⟨2, ![32768, 1024]⟩
abbrev S32768x256 : Shape := ⟨2, ![32768, 256]⟩
abbrev S4x8192x256 : Shape := ⟨3, ![4, 8192, 256]⟩
abbrev S4x1024 : Shape := ⟨2, ![4, 1024]⟩
abbrev S4x1024x6308 : Shape := ⟨3, ![4, 1024, 6308]⟩
abbrev S4x4x256x1024 : Shape := ⟨4, ![4, 4, 256, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x6308 : Shape := ⟨3, ![1, 1024, 6308]⟩
abbrev S1024x6308 : Shape := ⟨2, ![1024, 6308]⟩
abbrev S32768x6308 : Shape := ⟨2, ![32768, 6308]⟩
abbrev S32768x4096 : Shape := ⟨2, ![32768, 4096]⟩
abbrev S32768x4x1024 : Shape := ⟨3, ![32768, 4, 1024]⟩
abbrev S32768x1x1024 : Shape := ⟨3, ![32768, 1, 1024]⟩
abbrev S1x1x256x1024 : Shape := ⟨4, ![1, 1, 256, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S4x8192x256, .bf16⟩
  | .hbm, ⟨4, _⟩ => ⟨S32768x256, .bf16⟩
  | .hbm, ⟨5, _⟩ => ⟨S4x1024, .f32⟩
  | .hbm, ⟨6, _⟩ => ⟨S4x1024, .f32⟩
  | .hbm, ⟨7, _⟩ => ⟨S4x1024x6308, .f32⟩
  | .hbm, ⟨8, _⟩ => ⟨S4x4x256x1024, .f32⟩
  | .hbm, ⟨9, _⟩ => ⟨S4x1024x1024, .f32⟩
  | .hbm, ⟨10, _⟩ => ⟨S1x1024, .f32⟩
  | .hbm, ⟨11, _⟩ => ⟨S1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S1x1024x6308, .f32⟩
  | .hbm, ⟨29, _⟩ => ⟨S1024x6308, .f32⟩
  | .hbm, ⟨30, _⟩ => ⟨S32768x6308, .f32⟩
  | .hbm, ⟨31, _⟩ => ⟨S32768x4096, .f32⟩
  | .hbm, ⟨32, _⟩ => ⟨S32768x256, .f32⟩
  | .hbm, ⟨33, _⟩ => ⟨S32768x256, .f32⟩
  | .hbm, ⟨34, _⟩ => ⟨S4x8192x256, .f32⟩
  | .hbm, ⟨35, _⟩ => ⟨S32768x256, .f32⟩
  | .hbm, ⟨36, _⟩ => ⟨S32768x256, .f32⟩
  | .hbm, ⟨37, _⟩ => ⟨S32768x4x1024, .f32⟩
  | .hbm, ⟨38, _⟩ => ⟨S32768x4x1024, .f32⟩
  | .hbm, ⟨39, _⟩ => ⟨S32768x4x1024, .f32⟩
  | .hbm, ⟨40, _⟩ => ⟨S_, .f32⟩
  | .hbm, ⟨41, _⟩ => ⟨S32768x4x1024, .f32⟩
  | .hbm, ⟨42, _⟩ => ⟨S32768x4x1024, .f32⟩
  | .hbm, ⟨43, _⟩ => ⟨S_, .f32⟩
  | .hbm, ⟨44, _⟩ => ⟨S32768x4x1024, .f32⟩
  | .hbm, ⟨45, _⟩ => ⟨S32768x4x1024, .f32⟩
  | .hbm, ⟨46, _⟩ => ⟨S32768x1x1024, .f32⟩
  | .hbm, ⟨47, _⟩ => ⟨S32768x1024, .f32⟩
  | .hbm, ⟨48, _⟩ => ⟨S1x1x256x1024, .f32⟩
  | .hbm, ⟨49, _⟩ => ⟨S256x1024, .f32⟩
  | .hbm, ⟨50, _⟩ => ⟨S32768x1024, .f32⟩
  | .hbm, ⟨51, _⟩ => ⟨S32768x1024, .f32⟩
  | .hbm, ⟨52, _⟩ => ⟨S32768x1x1024, .f32⟩
  | .hbm, ⟨53, _⟩ => ⟨S32768x1024, .f32⟩
  | .hbm, ⟨54, _⟩ => ⟨S1x1x256x1024, .f32⟩
  | .hbm, ⟨55, _⟩ => ⟨S256x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1x1024, .f32⟩
  | .hbm, ⟨60, _⟩ => ⟨S32768x1024, .f32⟩
  | .hbm, ⟨61, _⟩ => ⟨S1x1x256x1024, .f32⟩
  | .hbm, ⟨62, _⟩ => ⟨S256x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1x1024, .f32⟩
  | .hbm, ⟨67, _⟩ => ⟨S32768x1024, .f32⟩
  | .hbm, ⟨68, _⟩ => ⟨S1x1x256x1024, .f32⟩
  | .hbm, ⟨69, _⟩ => ⟨S256x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S1x1024x1024, .f32⟩
  | .hbm, ⟨74, _⟩ => ⟨S1024x1024, .f32⟩
  | .hbm, ⟨75, _⟩ => ⟨S32768x1024, .f32⟩
  | .hbm, ⟨76, _⟩ => ⟨S1x1024, .f32⟩
  | .hbm, ⟨77, _⟩ => ⟨S1024, .f32⟩
  | .hbm, ⟨78, _⟩ => ⟨S32768x1024, .f32⟩
  | .hbm, ⟨79, _⟩ => ⟨S_, .f32⟩
  | .hbm, ⟨80, _⟩ => ⟨S32768, .f32⟩
  | .hbm, ⟨81, _⟩ => ⟨S32768x1, .f32⟩
  | .hbm, ⟨82, _⟩ => ⟨S_, .f32⟩
  | .hbm, ⟨83, _⟩ => ⟨S32768x1, .f32⟩
  | .hbm, ⟨84, _⟩ => ⟨S32768x1, .f32⟩
  | .hbm, ⟨85, _⟩ => ⟨S_, .f32⟩
  | .hbm, ⟨86, _⟩ => ⟨S32768x1, .f32⟩
  | .hbm, ⟨87, _⟩ => ⟨S32768x1, .f32⟩
  | .hbm, ⟨88, _⟩ => ⟨S32768x1, .f32⟩
  | .hbm, ⟨89, _⟩ => ⟨S32768x1024, .f32⟩
  | .hbm, ⟨90, _⟩ => ⟨S32768x1024, .f32⟩
  | .hbm, ⟨91, _⟩ => ⟨S1x1024, .f32⟩
  | .hbm, ⟨92, _⟩ => ⟨S32768x1024, .f32⟩
  | .hbm, ⟨93, _⟩ => ⟨S32768x1024, .f32⟩
  | .hbm, ⟨94, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_4 : Ref sig .tc := ⟨.hbm, 79, rfl⟩
abbrev main_v64 : Ref sig .tc := ⟨.hbm, 80, rfl⟩
abbrev main_v65 : Ref sig .tc := ⟨.hbm, 81, rfl⟩
abbrev main_cst_5 : Ref sig .tc := ⟨.hbm, 82, rfl⟩
abbrev main_v66 : Ref sig .tc := ⟨.hbm, 83, rfl⟩
abbrev main_v67 : Ref sig .tc := ⟨.hbm, 84, rfl⟩
abbrev main_cst_6 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Kernel4.lean ====
abbrev S32768x1024 : Shape := ⟨2, ![32768, 1024]⟩
abbrev S4x1024 : Shape := ⟨2, ![4, 1024]⟩
abbrev S4x1024x6308 : Shape := ⟨3, ![4, 1024, 6308]⟩
abbrev S4x256 : Shape := ⟨2, ![4, 256]⟩
abbrev S4x4x128x128 : Shape := ⟨4, ![4, 4, 128, 128]⟩
abbrev S4x4x128 : Shape := ⟨3, ![4, 4, 128]⟩
abbrev S4x4x64x64 : Shape := ⟨4, ![4, 4, 64, 64]⟩
abbrev S4x31x256 : Shape := ⟨3, ![4, 31, 256]⟩
abbrev S1x1024x6308 : Shape := ⟨3, ![1, 1024, 6308]⟩
abbrev S1024x6308 : Shape := ⟨2, ![1024, 6308]⟩
abbrev S1024x512 : Shape := ⟨2, ![1024, 512]⟩
abbrev S1024x256 : Shape := ⟨2, ![1024, 256]⟩
abbrev S1024x128 : Shape := ⟨2, ![1024, 128]⟩
abbrev S1024x32 : Shape := ⟨2, ![1024, 32]⟩
abbrev S1024x4 : Shape := ⟨2, ![1024, 4]⟩
abbrev S1024x4096 : Shape := ⟨2, ![1024, 4096]⟩
abbrev S1024x1664 : Shape := ⟨2, ![1024, 1664]⟩
abbrev S_ : Shape := ⟨0, ![]⟩
abbrev S1024x16 : Shape := ⟨2, ![1024, 16]⟩
abbrev S1024x656 : Shape := ⟨2, ![1024, 656]⟩
abbrev S656x1024 : Shape := ⟨2, ![656, 1024]⟩
abbrev S1024x4x1024 : Shape := ⟨3, ![1024, 4, 1024]⟩
abbrev S4x1024x1024 : Shape := ⟨3, ![4, 1024, 1024]⟩
abbrev S1x4x128x128 : Shape := ⟨4, ![1, 4, 128, 128]⟩
abbrev S4x128x128 : Shape := ⟨3, ![4, 128, 128]⟩
abbrev S128x4x128 : Shape := ⟨3, ![128, 4, 128]⟩
abbrev S128x512 : Shape := ⟨2, ![128, 512]⟩
abbrev S1x4x128 : Shape := ⟨3, ![1, 4, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x31x256 : Shape := ⟨3, ![1, 31, 256]⟩
abbrev S31x256 : Shape := ⟨2, ![31, 256]⟩
abbrev S32x256 : Shape := ⟨2, ![32, 256]⟩
abbrev S1x1024 : Shape := ⟨2, ![1, 1024]⟩
abbrev S1024 : Shape := ⟨1, ![1024]⟩
abbrev S1x256 : Shape := ⟨2, ![1, 256]⟩
abbrev S256 : Shape := ⟨1, ![256]⟩
abbrev S1x4x64x64 : Shape := ⟨4, ![1, 4, 64, 64]⟩
abbrev S4x64x64 : Shape := ⟨3, ![4, 64, 64]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S32768x256 : Shape := ⟨2, ![32768, 256]⟩
abbrev S32768x128 : Shape := ⟨2, ![32768, 128]⟩
abbrev S4x32x256x256 : Shape := ⟨4, ![4, 32, 256, 256]⟩
abbrev S4x32x128x256 : Shape := ⟨4, ![4, 32, 128, 256]⟩
abbrev S4x32x8x256 : Shape := ⟨4, ![4, 32, 8, 256]⟩
abbrev S1024x1024 : Shape := ⟨2, ![1024, 1024]⟩
abbrev S1x4x256x256 : Shape := ⟨4, ![1, 4, 256, 256]⟩
abbrev S1x4x128x256 : Shape := ⟨4, ![1, 4, 128, 256]⟩
abbrev S1x4x8x256 : Shape := ⟨4, ![1, 4, 8, 256]⟩
abbrev S1064x256 : Shape := ⟨2, ![1064, 256]⟩
abbrev S1040x256 : Shape := ⟨2, ![1040, 256]⟩
abbrev S16x256 : Shape := ⟨2, ![16, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S656x512 : Shape := ⟨2, ![656, 512]⟩
abbrev S1x1x256x256 : Shape := ⟨4, ![1, 1, 256, 256]⟩
abbrev S1x1x128x256 : Shape := ⟨4, ![1, 1, 128, 256]⟩
abbrev S8x256 : Shape := ⟨2, ![8, 256]⟩
abbrev S1x1x8x256 : Shape := ⟨4, ![1, 1, 8, 256]⟩
abbrev S520x128 : Shape := ⟨2, ![520, 128]⟩
abbrev S136x256 : Shape := ⟨2, ![136, 256]⟩
abbrev S128 : Shape := ⟨1, ![128]⟩
abbrev S128x1 : Shape := ⟨2, ![128, 1]⟩

abbrev nBuf : Space → Nat
  | .hbm => 113
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S4x1024x6308, .f32⟩
  | .hbm, ⟨3, _⟩ => ⟨S4x256, .f32⟩
  | .hbm, ⟨4, _⟩ => ⟨S4x4x128x128, .f32⟩
  | .hbm, ⟨5, _⟩ => ⟨S4x4x128, .f32⟩
  | .hbm, ⟨6, _⟩ => ⟨S4x4x64x64, .f32⟩
  | .hbm, ⟨7, _⟩ => ⟨S4x256, .f32⟩
  | .hbm, ⟨8, _⟩ => ⟨S4x31x256, .f32⟩
  | .hbm, ⟨9, _⟩ => ⟨S4x256, .f32⟩
  | .hbm, ⟨10, _⟩ => ⟨S4x256, .f32⟩
  | .hbm, ⟨11, _⟩ => ⟨S4x256, .f32⟩
  | .hbm, ⟨12, _⟩ => ⟨S1x1024x6308, .f32⟩
  | .hbm, ⟨13, _⟩ => ⟨S1024x6308, .f32⟩
  | .hbm, ⟨14, _⟩ => ⟨S1024x512, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x128, .f32⟩
  | .hbm, ⟨20, _⟩ => ⟨S1024x32, .f32⟩
  | .hbm, ⟨21, _⟩ => ⟨S1024x4, .f32⟩
  | .hbm, ⟨22, _⟩ => ⟨S1024x512, .f32⟩
  | .hbm, ⟨23, _⟩ => ⟨S1024x4096, .f32⟩
  | .hbm, ⟨24, _⟩ => ⟨S1024x1664, .f32⟩
  | .hbm, ⟨25, _⟩ => ⟨S1024x1664, .bf16⟩
  | .hbm, ⟨26, _⟩ => ⟨S_, .i32⟩
  | .hbm, ⟨27, _⟩ => ⟨S_, .f32⟩
  | .hbm, ⟨28, _⟩ => ⟨S1024x16, .f32⟩
  | .hbm, ⟨29, _⟩ => ⟨S1024x656, .f32⟩
  | .hbm, ⟨30, _⟩ => ⟨S656x1024, .f32⟩
  | .hbm, ⟨31, _⟩ => ⟨S656x1024, .bf16⟩
  | .hbm, ⟨32, _⟩ => ⟨S1024x4x1024, .f32⟩
  | .hbm, ⟨33, _⟩ => ⟨S4x1024x1024, .f32⟩
  | .hbm, ⟨34, _⟩ => ⟨S4x1024x1024, .bf16⟩
  | .hbm, ⟨35, _⟩ => ⟨S1x4x128x128, .f32⟩
  | .hbm, ⟨36, _⟩ => ⟨S4x128x128, .f32⟩
  | .hbm, ⟨37, _⟩ => ⟨S128x4x128, .f32⟩
  | .hbm, ⟨38, _⟩ => ⟨S128x512, .f32⟩
  | .hbm, ⟨39, _⟩ => ⟨S1x4x128, .f32⟩
  | .hbm, ⟨40, _⟩ => ⟨S4x128, .f32⟩
  | .hbm, ⟨41, _⟩ => ⟨S128x4, .f32⟩
  | .hbm, ⟨42, _⟩ => ⟨S128x4x64, .f32⟩
  | .hbm, ⟨43, _⟩ => ⟨S128x256, .f32⟩
  | .hbm, ⟨44, _⟩ => ⟨S1x31x256, .f32⟩
  | .hbm, ⟨45, _⟩ => ⟨S31x256, .f32⟩
  | .hbm, ⟨46, _⟩ => ⟨S_, .i32⟩
  | .hbm, ⟨47, _⟩ => ⟨S_, .f32⟩
  | .hbm, ⟨48, _⟩ => ⟨S32x256, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S1x4x64x64, .f32⟩
  | .hbm, ⟨56, _⟩ => ⟨S4x64x64, .f32⟩
  | .hbm, ⟨57, _⟩ => ⟨S_, .f32⟩
  | .hbm, ⟨58, _⟩ => ⟨S256x256, .f32⟩
  | .hbm, ⟨59, _⟩ => ⟨S1x64x64, .f32⟩
  | .hbm, ⟨60, _⟩ => ⟨S64x64, .f32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S2, .i32⟩
  | .hbm, ⟨66, _⟩ => ⟨S256x256, .f32⟩
  | .hbm, ⟨67, _⟩ => ⟨S1x64x64, .f32⟩
  | .hbm, ⟨68, _⟩ => ⟨S64x64, .f32⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S256x256, .f32⟩
  | .hbm, ⟨75, _⟩ => ⟨S1x64x64, .f32⟩
  | .hbm, ⟨76, _⟩ => ⟨S64x64, .f32⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S256x256, .f32⟩
  | .hbm, ⟨83, _⟩ => ⟨S1x64x64, .f32⟩
  | .hbm, ⟨84, _⟩ => ⟨S64x64, .f32⟩
  | .hbm, ⟨85, _⟩ => ⟨S_, .i32⟩
  | .hbm, ⟨86, _⟩ => ⟨S1, .i32⟩
  | .hbm, ⟨87, _⟩ => ⟨S_, .i32⟩
  | .hbm, ⟨88, _⟩ => ⟨S1, .i32⟩
  | .hbm, ⟨89, _⟩ => ⟨S2, .i32⟩
  | .hbm, ⟨90, _⟩ => ⟨S256x256, .f32⟩
  | .hbm, ⟨91, _⟩ => ⟨S256x256, .bf16⟩
  | .hbm, ⟨92, _⟩ => ⟨S1x256, .f32⟩
  | .hbm, ⟨93, _⟩ => ⟨S256, .f32⟩
  | .hbm, ⟨94, _⟩ => ⟨S1x256, .f32⟩
  | .hbm, ⟨95, _⟩ => ⟨S1x256, .f32⟩
  | .hbm, ⟨96, _⟩ => ⟨S256, .f32⟩
  | .hbm, ⟨97, _⟩ => ⟨S1x256, .f32⟩
  | .hbm, ⟨98, _⟩ => ⟨S1x256, .f32⟩
  | .hbm, ⟨99, _⟩ => ⟨S256, .f32⟩
  | .hbm, ⟨100, _⟩ => ⟨S1x256, .f32⟩
  | .hbm, ⟨101, _⟩ => ⟨S1x256, .f32⟩
  | .hbm, ⟨102, _⟩ => ⟨S256, .f32⟩
  | .hbm, ⟨103, _⟩ => ⟨S1x256, .f32⟩
  | .hbm, ⟨104, _⟩ => ⟨S32768x256, .bf16⟩
  | .hbm, ⟨105, _⟩ => ⟨S32768x256, .bf16⟩
  | .hbm, ⟨106, _⟩ => ⟨S32768x256, .bf16⟩
  | .hbm, ⟨107, _⟩ => ⟨S32768x256, .bf16⟩
  | .hbm, ⟨108, _⟩ => ⟨S32768x128, .bf16⟩
  | .hbm, ⟨109, _⟩ => ⟨S4x32x256x256, .bf16⟩
  | .hbm, ⟨110, _⟩ => ⟨S4x32x256x256, .bf16⟩
  | .hbm, ⟨111, _⟩ => ⟨S4x32x128x256, .bf16⟩
  | .hbm, ⟨112, _⟩ => ⟨S4x32x8x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1664, .bf16⟩
  | .local _ .vmem, ⟨4, _⟩ => ⟨S656x1024, .bf16⟩
  | .local _ .vmem, ⟨5, _⟩ => ⟨S1x256, .f32⟩
  | .local _ .vmem, ⟨6, _⟩ => ⟨S128x512, .f32⟩
  | .local _ .vmem, ⟨7, _⟩ => ⟨S128x256, .f32⟩
  | .local _ .vmem, ⟨8, _⟩ => ⟨S256x256, .bf16⟩
  | .local _ .vmem, ⟨9, _⟩ => ⟨S1x256, .f32⟩
  | .local _ .vmem, ⟨10, _⟩ => ⟨S32x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x128, .bf16⟩
  | .local _ .vmem, ⟨23, _⟩ => ⟨S1024x128, .bf16⟩
  | .local _ .vmem, ⟨24, _⟩ => ⟨S1x4x256x256, .bf16⟩
  | .local _ .vmem, ⟨25, _⟩ => ⟨S1x4x256x256, .bf16⟩
  | .local _ .vmem, ⟨26, _⟩ => ⟨S1x4x256x256, .bf16⟩
  | .local _ .vmem, ⟨27, _⟩ => ⟨S1x4x256x256, .bf16⟩
  | .local _ .vmem, ⟨28, _⟩ => ⟨S1x4x128x256, .bf16⟩
  | .local _ .vmem, ⟨29, _⟩ => ⟨S1x4x128x256, .bf16⟩
  | .local _ .vmem, ⟨30, _⟩ => ⟨S1x4x8x256, .f32⟩
  | .local _ .vmem, ⟨31, _⟩ => ⟨S1x4x8x256, .f32⟩
  | .local _ .vmem, ⟨32, _⟩ => ⟨S1064x256, .f32⟩
  | .local _ .vmem, ⟨33, _⟩ => ⟨S1040x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_0 : Ref sig .tc := ⟨.hbm, 46, rfl⟩
abbrev main_call1_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_1 : Ref sig .tc := ⟨.hbm, 61, rfl⟩
abbrev main_v44 : Ref sig .tc := ⟨.hbm, 62, rfl⟩
abbrev main_c_2 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_3 : Ref sig .tc := ⟨.hbm, 69, rfl⟩
abbrev main_v50 : Ref sig .tc := ⟨.hbm, 70, rfl⟩
abbrev main_c_4 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_5 : Ref sig .tc := ⟨.hbm, 77, rfl⟩
abbrev main_v56 : Ref sig .tc := ⟨.hbm, 78, rfl⟩
abbrev main_c_6 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_7 : Ref sig .tc := ⟨.hbm, 85, rfl⟩
abbrev main_v62 : Ref sig .tc := ⟨.hbm, 86, rfl⟩
abbrev main_c_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79_0 : Ref sig .tc := ⟨.hbm, 104, rfl⟩
abbrev main_v79_1 : Ref sig .tc := ⟨.hbm, 105, rfl⟩
abbrev main_v79_2 : Ref sig .tc := ⟨.hbm, 106, rfl⟩
abbrev main_v79_3 : Ref sig .tc := ⟨.hbm, 107, rfl⟩
abbrev main_v79_4 : Ref sig .tc := ⟨.hbm, 108, rfl⟩
abbrev main_v79_5 : Ref sig .tc := ⟨.hbm, 109, rfl⟩
abbrev main_v79_6 : Ref sig .tc := ⟨.hbm, 110, rfl⟩
abbrev main_v79_7 : Ref sig .tc := ⟨.hbm, 111, rfl⟩
abbrev main_v79_8 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_19 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_20 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_21 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S656x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x4x128x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x4x8x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S32768x1024 : Shape := ⟨2, ![32768, 1024]⟩
abbrev S4x1024 : Shape := ⟨2, ![4, 1024]⟩
abbrev S4x1024x6308 : Shape := ⟨3, ![4, 1024, 6308]⟩
abbrev S4x256 : Shape := ⟨2, ![4, 256]⟩
abbrev S4x4x128x128 : Shape := ⟨4, ![4, 4, 128, 128]⟩
abbrev S4x4x128 : Shape := ⟨3, ![4, 4, 128]⟩
abbrev S4x4x64x64 : Shape := ⟨4, ![4, 4, 64, 64]⟩
abbrev S4x31x256 : Shape := ⟨3, ![4, 31, 256]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x6308 : Shape := ⟨3, ![1, 1024, 6308]⟩
abbrev S1024x6308 : Shape := ⟨2, ![1024, 6308]⟩
abbrev S32768x6308 : Shape := ⟨2, ![32768, 6308]⟩
abbrev S4x8192x6308 : Shape := ⟨3, ![4, 8192, 6308]⟩
abbrev S4x8192x512 : Shape := ⟨3, ![4, 8192, 512]⟩
abbrev S1x256 : Shape := ⟨2, ![1, 256]⟩
abbrev S256 : Shape := ⟨1, ![256]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S4x8192x256 : Shape := ⟨3, ![4, 8192, 256]⟩
abbrev S4x8192 : Shape := ⟨2, ![4, 8192]⟩
abbrev S4x8192x1 : Shape := ⟨3, ![4, 8192, 1]⟩
abbrev S1x1x256 : Shape := ⟨3, ![1, 1, 256]⟩
abbrev S4x64x128x4x64 : Shape := ⟨5, ![4, 64, 128, 4, 64]⟩
abbrev S128x128 : Shape := ⟨2, ![128, 128]⟩
abbrev S1x128x128 : Shape := ⟨3, ![1, 128, 128]⟩
abbrev S4x4x64x64x128 : Shape := ⟨5, ![4, 4, 64, 64, 128]⟩
abbrev S128x4 : Shape := ⟨2, ![128, 4]⟩
abbrev S1x1x128x4x1 : Shape := ⟨5, ![1, 1, 128, 4, 1]⟩
abbrev S4x8192x128 : Shape := ⟨3, ![4, 8192, 128]⟩
abbrev S4x8192x32 : Shape := ⟨3, ![4, 8192, 32]⟩
abbrev S1x4x1x8192x1x32 : Shape := ⟨6, ![1, 4, 1, 8192, 1, 32]⟩
abbrev S1x4x1x8192x4x32 : Shape := ⟨6, ![1, 4, 1, 8192, 4, 32]⟩
abbrev S4x8192x4 : Shape := ⟨3, ![4, 8192, 4]⟩
abbrev S4x8192x8 : Shape := ⟨3, ![4, 8192, 8]⟩
abbrev S32768x256 : Shape := ⟨2, ![32768, 256]⟩
abbrev S32768x128 : Shape := ⟨2, ![32768, 128]⟩
abbrev S4x32x256x256 : Shape := ⟨4, ![4, 32, 256, 256]⟩
abbrev S4x32x256x128 : Shape := ⟨4, ![4, 32, 256, 128]⟩
abbrev S4x32x128x256 : Shape := ⟨4, ![4, 32, 128, 256]⟩
abbrev S4x32x256x8 : Shape := ⟨4, ![4, 32, 256, 8]⟩
abbrev S4x32x8x256 : Shape := ⟨4, ![4, 32, 8, 256]⟩

abbrev nBuf : Space → Nat
  | .hbm => 134
  | .vmem => 0
  | .smem => 0
  | _ => 0

abbrev hbmTy0_0 (i : Nat) : BufTy := match i % 128 with
  | 0 => ⟨S32768x1024, .f32⟩
  | 1 => ⟨S4x1024, .f32⟩
  | 2 => ⟨S4x1024x6308, .f32⟩
  | 3 => ⟨S4x256, .f32⟩
  | 4 => ⟨S4x4x128x128, .f32⟩
  | 5 => ⟨S4x4x128, .f32⟩
  | 6 => ⟨S4x4x64x64, .f32⟩
  | 7 => ⟨S4x256, .f32⟩
  | 8 => ⟨S4x31x256, .f32⟩
  | 9 => ⟨S4x256, .f32⟩
  | 10 => ⟨S4x256, .f32⟩
  | 11 => ⟨S4x256, .f32⟩
  | 12 => ⟨S1x1024, .f32⟩
  | 13 => ⟨S1024, .f32⟩
  | 14 => ⟨S32768x1024, .f32⟩
  | 15 => ⟨S_, .f32⟩
  | 16 => ⟨S32768, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x1024, .f32⟩
  | 26 => ⟨S32768x1024, .f32⟩
  | 27 => ⟨S1x1024, .f32⟩
  | 28 => ⟨S32768x1024, .f32⟩
  | 29 => ⟨S32768x1024, .f32⟩
  | 30 => ⟨S1x1024x6308, .f32⟩
  | 31 => ⟨S1024x6308, .f32⟩
  | 32 => ⟨S32768x6308, .f32⟩
  | 33 => ⟨S4x8192x6308, .f32⟩
  | 34 => ⟨S4x8192x512, .f32⟩
  | 35 => ⟨S1x256, .f32⟩
  | 36 => ⟨S256, .f32⟩
  | 37 => ⟨S1x4x128x128, .f32⟩
  | 38 => ⟨S4x128x128, .f32⟩
  | 39 => ⟨S1x4x128, .f32⟩
  | 40 => ⟨S4x128, .f32⟩
  | 41 => ⟨S4x8192x512, .f32⟩
  | 42 => ⟨S4x8192x512, .f32⟩
  | 43 => ⟨S_, .f32⟩
  | 44 => ⟨S4x8192x512, .f32⟩
  | 45 => ⟨S4x8192x512, .f32⟩
  | 46 => ⟨S4x8192x512, .f32⟩
  | 47 => ⟨S_, .f32⟩
  | 48 => ⟨S4x8192x512, .f32⟩
  | 49 => ⟨S4x8192x512, .f32⟩
  | 50 => ⟨S4x8192x512, .f32⟩
  | 51 => ⟨S_, .f32⟩
  | 52 => ⟨S4x8192x512, .f32⟩
  | 53 => ⟨S4x8192x512, .f32⟩
  | 54 => ⟨S_, .f32⟩
  | 55 => ⟨S4x8192x512, .f32⟩
  | 56 => ⟨S4x8192x512, .f32⟩
  | 57 => ⟨S4x8192x512, .f32⟩
  | 58 => ⟨S4x8192x256, .f32⟩
  | 59 => ⟨S4x8192x256, .f32⟩
  | 60 => ⟨S4x8192x256, .f32⟩
  | 61 => ⟨S_, .f32⟩
  | 62 => ⟨S4x8192, .f32⟩
  | 63 => ⟨S4x8192x1, .f32⟩
  | 64 => ⟨S_, .f32⟩
  | 65 => ⟨S4x8192x1, .f32⟩
  | 66 => ⟨S4x8192x1, .f32⟩
  | 67 => ⟨S_, .f32⟩
  | 68 => ⟨S4x8192x1, .f32⟩
  | 69 => ⟨S4x8192x1, .f32⟩
  | 70 => ⟨S4x8192x1, .f32⟩
  | 71 => ⟨S4x8192x256, .f32⟩
  | 72 => ⟨S4x8192x256, .f32⟩
  | 73 => ⟨S1x1x256, .f32⟩
  | 74 => ⟨S4x8192x256, .f32⟩
  | 75 => ⟨S4x8192x256, .f32⟩
  | 76 => ⟨S4x64x128x4x64, .f32⟩
  | 77 => ⟨S_, .i1⟩
  | 78 => ⟨S128x128, .i1⟩
  | 79 => ⟨S128x128, .i32⟩
  | 80 => ⟨S_, .i32⟩
  | 81 => ⟨S128x128, .i32⟩
  | 82 => ⟨S128x128, .i32⟩
  | 83 => ⟨S128x128, .i32⟩
  | 84 => ⟨S128x128, .i1⟩
  | 85 => ⟨S_, .i1⟩
  | 86 => ⟨S128x128, .i1⟩
  | 87 => ⟨S128x128, .i1⟩
  | 88 => ⟨S1x128x128, .i1⟩
  | 89 => ⟨S_, .f32⟩
  | 90 => ⟨S_, .f32⟩
  | 91 => ⟨S4x128x128, .i1⟩
  | 92 => ⟨S4x128x128, .f32⟩
  | 93 => ⟨S4x128x128, .f32⟩
  | 94 => ⟨S4x4x64x64x128, .f32⟩
  | 95 => ⟨S4x64x128x4x64, .f32⟩
  | 96 => ⟨S128x4, .f32⟩
  | 97 => ⟨S1x1x128x4x1, .f32⟩
  | 98 => ⟨S4x64x128x4x64, .f32⟩
  | 99 => ⟨S4x64x128x4x64, .f32⟩
  | 100 => ⟨S4x8192x256, .f32⟩
  | 101 => ⟨S4x8192x256, .f32⟩
  | 102 => ⟨S4x8192x256, .f32⟩
  | 103 => ⟨S_, .f32⟩
  | 104 => ⟨S4x8192x256, .f32⟩
  | 105 => ⟨S4x8192x256, .f32⟩
  | 106 => ⟨S4x8192x256, .f32⟩
  | 107 => ⟨S4x8192x256, .f32⟩
  | 108 => ⟨S4x8192x128, .f32⟩
  | 109 => ⟨S4x8192x32, .f32⟩
  | 110 => ⟨S1x4x1x8192x1x32, .f32⟩
  | 111 => ⟨S1x4x1x8192x4x32, .f32⟩
  | 112 => ⟨S4x8192x128, .f32⟩
  | 113 => ⟨S4x8192x4, .f32⟩
  | 114 => ⟨S_, .i32⟩
  | 115 => ⟨S_, .f32⟩
  | 116 => ⟨S4x8192x8, .f32⟩
  | 117 => ⟨S32768x256, .f32⟩
  | 118 => ⟨S32768x256, .bf16⟩
  | 119 => ⟨S32768x256, .f32⟩
  | 120 => ⟨S32768x256, .bf16⟩
  | 121 => ⟨S32768x128, .f32⟩
  | 122 => ⟨S32768x128, .bf16⟩
  | 123 => ⟨S4x32x256x256, .f32⟩
  | 124 => ⟨S4x32x256x256, .f32⟩
  | 125 => ⟨S4x32x256x256, .bf16⟩
  | 126 => ⟨S4x32x256x256, .f32⟩
  | 127 => ⟨S4x32x256x256, .f32⟩
  | _ => ⟨S32768x1024, .f32⟩

abbrev hbmTy0_1 (i : Nat) : BufTy := match i % 128 with
  | 0 => ⟨S4x32x256x256, .bf16⟩
  | 1 => ⟨S4x32x256x128, .f32⟩
  | 2 => ⟨S4x32x128x256, .f32⟩
  | 3 => ⟨S4x32x128x256, .bf16⟩
  | 4 => ⟨S4x32x256x8, .f32⟩
  | 5 => ⟨S4x32x8x256, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c : Ref sig .tc := ⟨.hbm, 77, rfl⟩
abbrev main_v55 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_c_0 : Ref sig .tc := ⟨.hbm, 85, rfl⟩
abbrev main_call0_v5 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_10 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_11 : Ref sig .tc := ⟨.hbm, 114, rfl⟩
abbrev main_call2_v0 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]
-- ==== Proof.Att.Ok.lean ====
/-
  A small logic for the attention kernel's body. The claim about it says nothing of what the kernel leaves in its buffers, so a
  buffer is held at SOME contents throughout, and what has to be followed of a program is only which buffers it touches, and
  the few values that decide how long it runs. `Held I m`: the buffer of `m` can be taken out of the resource `I` at some
  contents and put back at any. `Ok I p Q`: from `I` the program `p` runs, faultlessly and to an end, back to `I`, its result
  satisfying `Q`. The rules below go through a program an operation at a time.
-/
module

public import proofs.«01_k».proof.Proof.Gen.KernelIdeal
public import proofs.«01_k».proof.Proof.Gen.KernelIdeal.Launch
public import Idealize.ShloMosaic.Lib.Pipeline.Sound
public import Idealize.ShloMosaic.Lib.Pipeline.Frame
public import Idealize.ShloMosaic.Lib.Tactic

@[expose] public section

noncomputable section

namespace Cert.Proof.Att

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the run at the float values `F`. -/
abbrev MM (F : FTy → Type) : Type := MT nD τ sig Unit (Elt F) ℕ (UR sig nD τ) ℕ

/-- The variants: the naturals, a bound on the trips the finishing loop still has to run. -/
abbrev 𝒱 : Variants := Variants.nat

/-- A program of the kernel body. -/
abbrev KProg (F : FTy → Type) [FloatOps F] (α : Type) := Prog (TpuEff nD τ sig (Elt F) (Λ₀ F) .tc) α

variable (c : Dev nD) (bd : Option ℕ) (I : sProp (MM F))

/-- The buffer of `m` can be taken out of `I` at some contents and put back at any. -/
def Held {sp : Space} {s : Shape} {e : EltTy} (m : Memref sig .tc sp s e) : Prop :=
  I ⊢ iprop(∃ f, (m.view.loc (c : Thread nD τ) ↦[m.view.set]{fullShare} f)
    ∗ (∀ f', (m.view.loc (c : Thread nD τ) ↦[m.view.set]{fullShare} f') -∗ I))

/-- From `I` the program runs back to `I`, its result satisfying `Q`. -/
def Ok {α : Type} (p : KProg F α) (Q : α → Prop) : Prop :=
  ∀ Φ : α → sProp (MM F), (∀ a, Q a → I ⊢ Φ a) →
    I ⊢ wp frame (wpE (defs₀ (F := F)) 𝒱 (c : Thread nD τ) bd) Set.univ p Φ

variable {c bd I}

theorem ok_ret {α : Type} {a : α} {Q : α → Prop} (h : Q a) : Ok c bd I (pure a : KProg F α) Q := by
  intro Φ hΦ
  rw [Prog.pure_eq_ret, wp_ret]
  exact (hΦ a h).trans BI.fupd_intro

theorem Ok.mono {α : Type} {p : KProg F α} {Q Q' : α → Prop} (h : Ok c bd I p Q) (hQ : ∀ a, Q a → Q' a) : Ok c bd I p Q' :=
  fun Φ hΦ => h Φ fun a ha => hΦ a (hQ a ha)

theorem ok_bind {α β : Type} {p : KProg F α} {k : α → KProg F β} {Q : α → Prop} {R : β → Prop}
    (hp : Ok c bd I p Q) (hk : ∀ a, Q a → Ok c bd I (k a) R) : Ok c bd I (p >>= k) R := by
  intro Φ hΦ
  rw [wp_bind]
  exact hp _ fun a ha => hk a ha Φ hΦ

/-- A program of which nothing but its running is known, then the rest. -/
theorem ok_seq {α β : Type} {p : KProg F α} {k : α → KProg F β} {R : β → Prop}
    (hp : Ok c bd I p fun _ => True) (hk : ∀ a, Ok c bd I (k a) R) : Ok c bd I (p >>= k) R :=
  ok_bind hp fun a _ => hk a

theorem ok_load {cs : CoreSpace} {s : Shape} {e : EltTy} {m : Memref sig .tc cs s e} {r : LoadRect s} {hl : m.view.LoadsAt r}
    (h : Held c I m) : Ok c bd I (Prog.lift (.load m r hl) : KProg F _) fun _ => True := by
  intro Φ hΦ
  refine BIBase.Entails.trans h ?_
  rw [Prog.lift]
  iintro ⟨%f, Hm, HI⟩
  iapply (wp_load 𝒱 (c : Thread nD τ) bd Set.univ (m := m) (View.setOn_subset_set _ _)) $$ Hm
  iintro Hm
  rw [wp_ret]; imodintro
  iapply (hΦ _ trivial)
  iapply HI; iexact Hm

theorem ok_store {cs : CoreSpace} {s : Shape} {e : EltTy} {m : Memref sig .tc cs s e} {r : Rect s} {w : r.shape.Idx → Elt F e}
    {Mk : Finset r.shape.Idx} {hx : (m.access r).Stores Mk} {hm}
    (h : Held c I m) : Ok c bd I (Prog.lift (.store m r w Mk hx hm) : KProg F _) fun _ => True := by
  intro Φ hΦ
  refine BIBase.Entails.trans h ?_
  rw [Prog.lift]
  iintro ⟨%f, Hm, HI⟩
  iapply (show iprop(m.view.loc (c : Thread nD τ) ↦[m.view.set]{fullShare} f) ⊢ _ from
    wp_store 𝒱 (c : Thread nD τ) bd Set.univ (m := m) (r := r) (Mk := Mk) (S := m.view.set) (f := f) (m.setOn_access_subset r Mk)) $$ Hm
  iintro Hm
  rw [wp_ret]; imodintro
  iapply (hΦ _ trivial)
  iapply HI; iexact Hm

theorem ok_smem {s : Shape} {e : EltTy} {m : Memref sig .tc .smem s e} {r : Rect s} {h1 : r.shape.numel = 1} {hp : e.packing = 1}
    (h : Held c I m) : Ok c bd I (smemLoad m r h1 hp : KProg F _) fun _ => True := by
  have : (smemLoad m r h1 hp : KProg F _) = Prog.lift (.load m r.toLoadRect (View.loadsAt_rect (View.loads_smem_one hp h1)))
      >>= fun f => pure (f (Shape.Idx.first (h1.symm ▸ Nat.one_pos))) := rfl
  rw [this]
  exact ok_seq (ok_load h) fun _ => ok_ret trivial

theorem ok_assume {P : Prop} {d : Decidable P} (h : P) : Ok c bd I (Prog.lift (.assume P d) : KProg F _) fun _ => True := by
  intro Φ hΦ
  rw [Prog.lift]
  refine BIBase.Entails.trans ?_ (wp_assume 𝒱 (c : Thread nD τ) bd Set.univ h)
  rw [wp_ret]
  exact (hΦ _ trivial).trans BI.fupd_intro

theorem ok_dite {α : Type} {P : Prop} {_ : Decidable P} {p : P → KProg F α} {q : ¬P → KProg F α} {Q : α → Prop}
    (hp : ∀ h, Ok c bd I (p h) Q) (hq : ∀ h, Ok c bd I (q h) Q) : Ok c bd I (if h : P then p h else q h) Q := by
  by_cases h : P
  · rw [dif_pos h]; exact hp h
  · rw [dif_neg h]; exact hq h

theorem ok_ite {α : Type} {P : Prop} {_ : Decidable P} {p q : KProg F α} {Q : α → Prop}
    (hp : P → Ok c bd I p Q) (hq : ¬P → Ok c bd I q Q) : Ok c bd I (if P then p else q) Q := by
  by_cases h : P
  · rw [if_pos h]; exact hp h
  · rw [if_neg h]; exact hq h

theorem ok_for {w : ℕ} {α : Type} {l : Scf.Loop w} {hok : l.OK} {init : α} {body : Fin l.trips → α → KProg F α}
    (J : ℕ → α → Prop) (h0 : J 0 init) (hbody : ∀ k acc, J k.val acc → Ok c bd I (body k acc) (J (k.val + 1))) :
    Ok c bd I (Scf.Loop.for l hok init body) (J l.trips) := by
  intro Φ hΦ
  have hb : ∀ (k : Fin (Scf.trips l.lb l.ub l.st)) (acc : α), iprop(⌜J k.val acc⌝ ∗ I)
      ⊢ wp frame (wpE (defs₀ (F := F)) 𝒱 (c : Thread nD τ) bd) Set.univ (body k acc) (fun a => iprop(⌜J (k.val + 1) a⌝ ∗ I)) := by
    intro k acc
    iintro ⟨%h, HI⟩
    iapply (hbody k acc h _ fun a ha => by iintro HI; isplitr; · ipureintro; exact ha
                                           iexact HI)
    iexact HI
  iintro HI
  iapply (Scf.wp_for _ _ _ l.lb l.ub l.st hok init body (fun k a => iprop(⌜J k a⌝ ∗ I)) hb)
  isplitl [HI]
  · isplitr; · ipureintro; exact h0
    iexact HI
  · iintro %a ⟨%ha, HI⟩
    iapply (hΦ a ha); iexact HI

/-- Every buffer of the body is held. -/
structure Bufs (c : Dev nD) (I : sProp (MM F))
    (m2 : Memref sig .tc .smem S128 .f32)
    (m3 : Memref sig .tc .vmem S1x1x256x256 .bf16)
    (m4 : Memref sig .tc .vmem S1x1x128x256 .bf16)
    (m5 : Memref sig .tc .vmem S1x1x8x256 .f32)
    (m6 : Memref sig .tc .vmem S1x8192x256 .bf16)
    (m7 : Memref sig .tc .vmem S1x8192x128 .bf16)
    (m8 : Memref sig .tc .vmem S1x32x256x256 .bf16)
    (m9 : Memref sig .tc .vmem S1x256x256 .bf16)
    (m10 : Memref sig .tc .vmem S33x256x256 .f32)
    (m11 : Memref sig .tc .vmem S33x256x256 .f32)
    (m12 : Memref sig .tc .vmem S33x256x256 .bf16)
    (m13 : Memref sig .tc .vmem S4x256x256 .f32)
    (m14 : Memref sig .tc .vmem S4x256x256 .f32)
    (m15 : Memref sig .tc .vmem S256x256 .bf16)
    (m16 : Memref sig .tc .vmem S4x256x256 .bf16)
    (m17 : Memref sig .tc .vmem S4x128x256 .bf16)
    (m18 : Memref sig .tc .vmem S256x256 .f32)
    (m19 : Memref sig .tc .vmem S4x256x256 .f32)
    (m20 : Memref sig .tc .vmem S4x256x256 .f32) : Prop where
  /-- Buffer 2. -/
  h2 : Held c I m2
  /-- Buffer 3. -/
  h3 : Held c I m3
  /-- Buffer 4. -/
  h4 : Held c I m4
  /-- Buffer 5. -/
  h5 : Held c I m5
  /-- Buffer 6. -/
  h6 : Held c I m6
  /-- Buffer 7. -/
  h7 : Held c I m7
  /-- Buffer 8. -/
  h8 : Held c I m8
  /-- Buffer 9. -/
  h9 : Held c I m9
  /-- Buffer 10. -/
  h10 : Held c I m10
  /-- Buffer 11. -/
  h11 : Held c I m11
  /-- Buffer 12. -/
  h12 : Held c I m12
  /-- Buffer 13. -/
  h13 : Held c I m13
  /-- Buffer 14. -/
  h14 : Held c I m14
  /-- Buffer 15. -/
  h15 : Held c I m15
  /-- Buffer 16. -/
  h16 : Held c I m16
  /-- Buffer 17. -/
  h17 : Held c I m17
  /-- Buffer 18. -/
  h18 : Held c I m18
  /-- Buffer 19. -/
  h19 : Held c I m19
  /-- Buffer 20. -/
  h20 : Held c I m20

end Cert.Proof.Att

end
-- ==== Proof.Att.Leaf00.lean ====
/-
  Straight-line stretches of the attention kernel's body, part1 to part127: each loads and stores buffers that are held, and no more.
-/
module

public import proofs.«01_k».proof.Proof.Att.Ok

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

theorem ok_part1 {x1 x2} : Ok c bd I (k0_part1 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part1
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part2 {x1 x2 x3 x4} : Ok c bd I (k0_part2 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part2
  repeat first
    | with_reducible exact ok_ret trivial
    | refine ok_seq (ok_load (by with_reducible assumption)) fun _ => ?_
    | refine ok_seq (ok_smem (by with_reducible assumption)) fun _ => ?_

theorem ok_part3 {x1 x2 x3} : Ok c bd I (k0_part3 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part3
  repeat first
    | with_reducible exact ok_ret trivial
    | refine ok_seq (ok_load (by with_reducible assumption)) fun _ => ?_
    | refine ok_seq (ok_smem (by with_reducible assumption)) fun _ => ?_

theorem ok_part4 {x1 x2} : Ok c bd I (k0_part4 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part4
  repeat first
    | with_reducible exact ok_ret trivial
    | refine ok_seq (ok_load (by with_reducible assumption)) fun _ => ?_
    | refine ok_seq (ok_smem (by with_reducible assumption)) fun _ => ?_

theorem ok_part5 {x1 x2 x3} : Ok c bd I (k0_part5 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part5
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part6 {x1 x2 x3 x4} : Ok c bd I (k0_part6 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part6
  repeat first
    | with_reducible exact ok_ret trivial
    | refine ok_seq (ok_load (by with_reducible assumption)) fun _ => ?_
    | refine ok_seq (ok_smem (by with_reducible assumption)) fun _ => ?_

theorem ok_part7 {x1 x2 x3} : Ok c bd I (k0_part7 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part7
  repeat first
    | with_reducible exact ok_ret trivial
    | refine ok_seq (ok_load (by with_reducible assumption)) fun _ => ?_
    | refine ok_seq (ok_smem (by with_reducible assumption)) fun _ => ?_

theorem ok_part8 {x1 x2} : Ok c bd I (k0_part8 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part8
  repeat first
    | with_reducible exact ok_ret trivial
    | refine ok_seq (ok_load (by with_reducible assumption)) fun _ => ?_
    | refine ok_seq (ok_smem (by with_reducible assumption)) fun _ => ?_

theorem ok_part9 {x1 x2 x3} : Ok c bd I (k0_part9 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part9
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part10 {x1 x2 x3 x4} : Ok c bd I (k0_part10 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part10
  repeat first
    | with_reducible exact ok_ret trivial
    | refine ok_seq (ok_load (by with_reducible assumption)) fun _ => ?_
    | refine ok_seq (ok_smem (by with_reducible assumption)) fun _ => ?_

theorem ok_part11 {x1 x2 x3} : Ok c bd I (k0_part11 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part11
  repeat first
    | with_reducible exact ok_ret trivial
    | refine ok_seq (ok_load (by with_reducible assumption)) fun _ => ?_
    | refine ok_seq (ok_smem (by with_reducible assumption)) fun _ => ?_

theorem ok_part12 {x1 x2} : Ok c bd I (k0_part12 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part12
  repeat first
    | with_reducible exact ok_ret trivial
    | refine ok_seq (ok_load (by with_reducible assumption)) fun _ => ?_
    | refine ok_seq (ok_smem (by with_reducible assumption)) fun _ => ?_

theorem ok_part13 {x1 x2 x3} : Ok c bd I (k0_part13 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part13
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part14 {x1 x2 x3 x4} : Ok c bd I (k0_part14 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part14
  repeat first
    | with_reducible exact ok_ret trivial
    | refine ok_seq (ok_load (by with_reducible assumption)) fun _ => ?_
    | refine ok_seq (ok_smem (by with_reducible assumption)) fun _ => ?_

theorem ok_part15 {x1 x2 x3} : Ok c bd I (k0_part15 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part15
  repeat first
    | with_reducible exact ok_ret trivial
    | refine ok_seq (ok_load (by with_reducible assumption)) fun _ => ?_
    | refine ok_seq (ok_smem (by with_reducible assumption)) fun _ => ?_

theorem ok_part16 {x1 x2} : Ok c bd I (k0_part16 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part16
  repeat first
    | with_reducible exact ok_ret trivial
    | refine ok_seq (ok_load (by with_reducible assumption)) fun _ => ?_
    | refine ok_seq (ok_smem (by with_reducible assumption)) fun _ => ?_

theorem ok_part17 {x1 x2 x3 x4 x5} : Ok c bd I (k0_part17 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part17
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part18 {x1 x2} : Ok c bd I (k0_part18 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part18
  repeat first
    | with_reducible exact ok_ret trivial
    | refine ok_seq (ok_load (by with_reducible assumption)) fun _ => ?_
    | refine ok_seq (ok_smem (by with_reducible assumption)) fun _ => ?_

theorem ok_part19 {x1 x2 x3 x4} : Ok c bd I (k0_part19 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part19
  repeat first
    | with_reducible exact ok_ret trivial
    | refine ok_seq (ok_load (by with_reducible assumption)) fun _ => ?_
    | refine ok_seq (ok_smem (by with_reducible assumption)) fun _ => ?_

theorem ok_part20 {x1 x2 x3} : Ok c bd I (k0_part20 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part20
  repeat first
    | with_reducible exact ok_ret trivial
    | refine ok_seq (ok_load (by with_reducible assumption)) fun _ => ?_
    | refine ok_seq (ok_smem (by with_reducible assumption)) fun _ => ?_

theorem ok_part21 {x1 x2} : Ok c bd I (k0_part21 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part21
  repeat first
    | with_reducible exact ok_ret trivial
    | refine ok_seq (ok_load (by with_reducible assumption)) fun _ => ?_
    | refine ok_seq (ok_smem (by with_reducible assumption)) fun _ => ?_

theorem ok_part22 {x1 x2 x3} : Ok c bd I (k0_part22 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part22
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part23 {x1 x2 x3 x4} : Ok c bd I (k0_part23 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part23
  repeat first
    | with_reducible exact ok_ret trivial
    | refine ok_seq (ok_load (by with_reducible assumption)) fun _ => ?_
    | refine ok_seq (ok_smem (by with_reducible assumption)) fun _ => ?_

theorem ok_part24 {x1 x2 x3} : Ok c bd I (k0_part24 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part24
  repeat first
    | with_reducible exact ok_ret trivial
    | refine ok_seq (ok_load (by with_reducible assumption)) fun _ => ?_
    | refine ok_seq (ok_smem (by with_reducible assumption)) fun _ => ?_

theorem ok_part25 {x1 x2} : Ok c bd I (k0_part25 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part25
  repeat first
    | with_reducible exact ok_ret trivial
    | refine ok_seq (ok_load (by with_reducible assumption)) fun _ => ?_
    | refine ok_seq (ok_smem (by with_reducible assumption)) fun _ => ?_

theorem ok_part26 {x1 x2 x3} : Ok c bd I (k0_part26 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part26
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part27 {x1 x2 x3 x4} : Ok c bd I (k0_part27 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part27
  repeat first
    | with_reducible exact ok_ret trivial
    | refine ok_seq (ok_load (by with_reducible assumption)) fun _ => ?_
    | refine ok_seq (ok_smem (by with_reducible assumption)) fun _ => ?_

theorem ok_part28 {x1 x2 x3} : Ok c bd I (k0_part28 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part28
  repeat first
    | with_reducible exact ok_ret trivial
    | refine ok_seq (ok_load (by with_reducible assumption)) fun _ => ?_
    | refine ok_seq (ok_smem (by with_reducible assumption)) fun _ => ?_

theorem ok_part29 {x1 x2} : Ok c bd I (k0_part29 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part29
  repeat first
    | with_reducible exact ok_ret trivial
    | refine ok_seq (ok_load (by with_reducible assumption)) fun _ => ?_
    | refine ok_seq (ok_smem (by with_reducible assumption)) fun _ => ?_

theorem ok_part30 {x1 x2 x3} : Ok c bd I (k0_part30 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part30
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part31 {x1 x2 x3 x4} : Ok c bd I (k0_part31 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part31
  repeat first
    | with_reducible exact ok_ret trivial
    | refine ok_seq (ok_load (by with_reducible assumption)) fun _ => ?_
    | refine ok_seq (ok_smem (by with_reducible assumption)) fun _ => ?_

theorem ok_part32 {x1 x2 x3} : Ok c bd I (k0_part32 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part32
  repeat first
    | with_reducible exact ok_ret trivial
    | refine ok_seq (ok_load (by with_reducible assumption)) fun _ => ?_
    | refine ok_seq (ok_smem (by with_reducible assumption)) fun _ => ?_

theorem ok_part33 {x1 x2} : Ok c bd I (k0_part33 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part33
  repeat first
    | with_reducible exact ok_ret trivial
    | refine ok_seq (ok_load (by with_reducible assumption)) fun _ => ?_
    | refine ok_seq (ok_smem (by with_reducible assumption)) fun _ => ?_

theorem ok_part34 {x1 x2 x3 x4} : Ok c bd I (k0_part34 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part34
  repeat first
    | with_reducible exact ok_ret trivial
    | refine ok_seq (ok_load (by with_reducible assumption)) fun _ => ?_
    | refine ok_seq (ok_smem (by with_reducible assumption)) fun _ => ?_

theorem ok_part35 {x1 x2 x3 x4 x5} : Ok c bd I (k0_part35 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part35
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part36 {x1 x2 x3 x4 x5 x6 x7 x8 x9 x10 x11 x12 x13 x14 x15 x16} : Ok c bd I (k0_part36 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part36
  repeat first
    | with_reducible exact ok_ret trivial
    | refine ok_seq (ok_smem (by with_reducible assumption)) fun _ => ?_

theorem ok_part37 {x1 x2 x3 x4 x5 x6 x7 x8 x9 x10 x11 x12 x13 x14 x15 x16 x17 x18 x19 x20 x21 x22} : Ok c bd I (k0_part37 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22) (fun _ => True) := by
  cases H
  unfold k0_part37
  repeat first
    | with_reducible exact ok_ret trivial
    | refine ok_seq (ok_smem (by with_reducible assumption)) fun _ => ?_

theorem ok_part38 {x1 x2 x3 x4 x5 x6 x7 x8 x9 x10 x11 x12 x13 x14 x15 x16 x17 x18 x19 x20 x21 x22 x23 x24 x25 x26 x27 x28 x29 x30 x31 x32 x33 x34 x35 x36 x37} : Ok c bd I (k0_part38 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37) (fun _ => True) := by
  cases H
  unfold k0_part38
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part39 {x1 x2 x3} : Ok c bd I (k0_part39 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part39
  repeat first
    | with_reducible exact ok_ret trivial
    | refine ok_seq (ok_load (by with_reducible assumption)) fun _ => ?_
    | refine ok_seq (ok_smem (by with_reducible assumption)) fun _ => ?_

theorem ok_part40 {x1 x2} : Ok c bd I (k0_part40 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part40
  repeat first
    | with_reducible exact ok_ret trivial
    | refine ok_seq (ok_load (by with_reducible assumption)) fun _ => ?_
    | refine ok_seq (ok_store (by with_reducible assumption)) fun _ => ?_
    | refine ok_seq (ok_smem (by with_reducible assumption)) fun _ => ?_

theorem ok_part41 {x1 x2 x3 x4 x5 x6 x7 x8 x9 x10 x11 x12 x13 x14 x15 x16 x17 x18 x19} : Ok c bd I (k0_part41 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  cases H
  unfold k0_part41
  repeat first
    | with_reducible exact ok_ret trivial
    | refine ok_seq (ok_smem (by with_reducible assumption)) fun _ => ?_

theorem ok_part42 {x1 x2 x3 x4 x5 x6 x7 x8 x9 x10 x11 x12 x13 x14 x15 x16} : Ok c bd I (k0_part42 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part42
  repeat first
    | with_reducible exact ok_ret trivial
    | refine ok_seq (ok_smem (by with_reducible assumption)) fun _ => ?_

theorem ok_part43 {x1 x2 x3 x4 x5 x6 x7 x8 x9 x10 x11 x12 x13 x14 x15 x16 x17 x18 x19 x20 x21 x22 x23 x24 x25 x26 x27 x28 x29 x30 x31 x32 x33 x34 x35 x36 x37 x38} : Ok c bd I (k0_part43 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37 x38) (fun _ => True) := by
  cases H
  unfold k0_part43
  repeat first
    | with_reducible exact ok_ret trivial
    | refine ok_seq (ok_load (by with_reducible assumption)) fun _ => ?_
    | refine ok_seq (ok_store (by with_reducible assumption)) fun _ => ?_

theorem ok_part44 {x1 x2 x3 x4 x5 x6 x7} : Ok c bd I (k0_part44 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  cases H
  unfold k0_part44
  repeat first
    | with_reducible exact ok_ret trivial
    | refine ok_seq (ok_load (by with_reducible assumption)) fun _ => ?_
    | refine ok_seq (ok_store (by with_reducible assumption)) fun _ => ?_

theorem ok_part45 {x1 x2 x3 x4 x5 x6 x7 x8 x9} : Ok c bd I (k0_part45 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  unfold k0_part45
  exact ok_ret trivial

theorem ok_part46 {x1 x2 x3 x4 x5 x6 x7 x8 x9 x10 x11 x12 x13 x14 x15 x16 x17 x18} : Ok c bd I (k0_part46 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  unfold k0_part46
  exact ok_ret trivial

theorem ok_part47 {x1 x2 x3 x4 x5 x6 x7 x8 x9 x10 x11 x12 x13 x14 x15 x16 x17 x18 x19 x20 x21 x22 x23 x24 x25 x26 x27 x28 x29 x30 x31 x32 x33} : Ok c bd I (k0_part47 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33) (fun _ => True) := by
  unfold k0_part47
  exact ok_ret trivial

theorem ok_part48 {x1 x2 x3 x4 x5 x6 x7 x8 x9 x10 x11 x12 x13 x14 x15 x16 x17 x18 x19 x20 x21 x22 x23 x24 x25 x26 x27 x28 x29 x30 x31 x32 x33 x34 x35 x36 x37 x38 x39} : Ok c bd I (k0_part48 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37 x38 x39) (fun _ => True) := by
  cases H
  unfold k0_part48
  repeat first
    | with_reducible exact ok_ret trivial
    | refine ok_seq (ok_load (by with_reducible assumption)) fun _ => ?_
    | refine ok_seq (ok_store (by with_reducible assumption)) fun _ => ?_

theorem ok_part49 {x1 x2 x3 x4 x5 x6 x7} : Ok c bd I (k0_part49 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  cases H
  unfold k0_part49
  repeat first
    | with_reducible exact ok_ret trivial
    | refine ok_seq (ok_load (by with_reducible assumption)) fun _ => ?_
    | refine ok_seq (ok_store (by with_reducible assumption)) fun _ => ?_

theorem ok_part50 {x1 x2 x3 x4 x5 x6 x7 x8 x9 x10 x11 x12 x13 x14 x15} : Ok c bd I (k0_part50 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  unfold k0_part50
  exact ok_ret trivial

theorem ok_part51 {x1 x2 x3 x4 x5 x6 x7 x8 x9 x10 x11 x12 x13 x14 x15 x16} : Ok c bd I (k0_part51 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  unfold k0_part51
  exact ok_ret trivial

theorem ok_part52 {x1 x2 x3 x4 x5 x6 x7 x8 x9 x10 x11 x12 x13 x14 x15 x16 x17 x18 x19 x20 x21 x22 x23 x24 x25 x26 x27 x28 x29 x30 x31 x32 x33 x34} : Ok c bd I (k0_part52 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34) (fun _ => True) := by
  cases H
  unfold k0_part52
  repeat first
    | with_reducible exact ok_ret trivial
    | refine ok_seq (ok_load (by with_reducible assumption)) fun _ => ?_
    | refine ok_seq (ok_store (by with_reducible assumption)) fun _ => ?_

theorem ok_part53 {x1 x2 x3 x4 x5 x6 x7 x8 x9 x10 x11 x12} : Ok c bd I (k0_part53 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part53
  repeat first
    | with_reducible exact ok_ret trivial
    | refine ok_seq (ok_load (by with_reducible assumption)) fun _ => ?_

theorem ok_part54 {x1 x2 x3 x4 x5 x6 x7} : Ok c bd I (k0_part54 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  cases H
  unfold k0_part54
  repeat first
    | with_reducible exact ok_ret trivial
    | refine ok_seq (ok_load (by with_reducible assumption)) fun _ => ?_
    | refine ok_seq (ok_store (by with_reducible assumption)) fun _ => ?_

theorem ok_part55 {x1 x2 x3 x4 x5 x6 x7 x8 x9 x10 x11 x12 x13 x14 x15 x16} : Ok c bd I (k0_part55 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  unfold k0_part55
  exact ok_ret trivial

theorem ok_part56 {x1 x2 x3 x4 x5 x6 x7 x8 x9 x10 x11 x12 x13 x14 x15 x16 x17 x18 x19} : Ok c bd I (k0_part56 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  unfold k0_part56
  exact ok_ret trivial

theorem ok_part57 {x1 x2 x3 x4 x5 x6 x7 x8 x9 x10 x11 x12 x13 x14 x15 x16 x17 x18 x19 x20 x21 x22 x23 x24 x25 x26 x27 x28 x29 x30 x31 x32 x33 x34 x35 x36 x37} : Ok c bd I (k0_part57 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37) (fun _ => True) := by
  cases H
  unfold k0_part57
  repeat first
    | with_reducible exact ok_ret trivial
    | refine ok_seq (ok_load (by with_reducible assumption)) fun _ => ?_
    | refine ok_seq (ok_store (by with_reducible assumption)) fun _ => ?_

theorem ok_part58 {x1 x2 x3} : Ok c bd I (k0_part58 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part58
  repeat first
    | with_reducible exact ok_ret trivial
    | refine ok_seq (ok_load (by with_reducible assumption)) fun _ => ?_

theorem ok_part59 {x1 x2 x3 x4 x5} : Ok c bd I (k0_part59 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part59
  repeat first
    | with_reducible exact ok_ret trivial
    | refine ok_seq (ok_load (by with_reducible assumption)) fun _ => ?_
    | refine ok_seq (ok_store (by with_reducible assumption)) fun _ => ?_

theorem ok_part60 {x1 x2 x3 x4 x5 x6 x7 x8 x9 x10 x11 x12 x13 x14 x15 x16 x17 x18} : Ok c bd I (k0_part60 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  unfold k0_part60
  exact ok_ret trivial

theorem ok_part61 {x1 x2 x3 x4 x5 x6 x7 x8 x9 x10 x11 x12 x13 x14 x15 x16} : Ok c bd I (k0_part61 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  unfold k0_part61
  exact ok_ret trivial

theorem ok_part92 {x1 x2 x3 x4} : Ok c bd I (k0_part92 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part92
  repeat first
    | with_reducible exact ok_ret trivial
    | refine ok_seq (ok_load (by with_reducible assumption)) fun _ => ?_

theorem ok_part93 {x1 x2 x3 x4 x5} : Ok c bd I (k0_part93 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part93
  repeat first
    | with_reducible exact ok_ret trivial
    | refine ok_seq (ok_load (by with_reducible assumption)) fun _ => ?_
    | refine ok_seq (ok_store (by with_reducible assumption)) fun _ => ?_

theorem ok_part94 {x1 x2 x3 x4 x5 x6 x7 x8 x9 x10 x11 x12 x13 x14 x15 x16} : Ok c bd I (k0_part94 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  unfold k0_part94
  exact ok_ret trivial

theorem ok_part95 {x1 x2 x3 x4 x5 x6 x7 x8 x9 x10 x11 x12 x13 x14 x15 x16 x17 x18 x19 x20 x21 x22} : Ok c bd I (k0_part95 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22) (fun _ => True) := by
  unfold k0_part95
  exact ok_ret trivial

theorem ok_part96 {x1 x2 x3 x4 x5 x6 x7 x8 x9 x10 x11 x12 x13 x14 x15 x16 x17 x18 x19 x20 x21 x22 x23 x24 x25 x26 x27 x28 x29 x30 x31 x32 x33 x34 x35 x36 x37} : Ok c bd I (k0_part96 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37) (fun _ => True) := by
  cases H
  unfold k0_part96
  repeat first
    | with_reducible exact ok_ret trivial
    | refine ok_seq (ok_load (by with_reducible assumption)) fun _ => ?_
    | refine ok_seq (ok_store (by with_reducible assumption)) fun _ => ?_

theorem ok_part97 {x1 x2 x3} : Ok c bd I (k0_part97 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part97
  repeat first
    | with_reducible exact ok_ret trivial
    | refine ok_seq (ok_load (by with_reducible assumption)) fun _ => ?_

theorem ok_part98 {x1 x2} : Ok c bd I (k0_part98 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part98
  repeat first
    | with_reducible exact ok_ret trivial
    | refine ok_seq (ok_load (by with_reducible assumption)) fun _ => ?_
    | refine ok_seq (ok_store (by with_reducible assumption)) fun _ => ?_

theorem ok_part99 {x1 x2 x3 x4 x5 x6 x7 x8 x9 x10 x11 x12 x13 x14 x15 x16 x17 x18 x19} : Ok c bd I (k0_part99 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  unfold k0_part99
  exact ok_ret trivial

theorem ok_part100 {x1 x2 x3 x4 x5 x6 x7 x8 x9 x10 x11 x12 x13 x14 x15 x16} : Ok c bd I (k0_part100 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  unfold k0_part100
  exact ok_ret trivial

theorem ok_part110 {x1 x2 x3} : Ok c bd I (k0_part110 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part110
  repeat first
    | with_reducible exact ok_ret trivial
    | refine ok_seq (ok_load (by with_reducible assumption)) fun _ => ?_

theorem ok_part111 {x1 x2 x3 x4 x5 x6} : Ok c bd I (k0_part111 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  cases H
  unfold k0_part111
  repeat first
    | with_reducible exact ok_ret trivial
    | refine ok_seq (ok_load (by with_reducible assumption)) fun _ => ?_

theorem ok_part112 {x1 x2 x3 x4 x5 x6 x7 x8 x9 x10 x11 x12 x13 x14 x15 x16 x17 x18 x19 x20 x21 x22 x23 x24 x25 x26 x27 x28} : Ok c bd I (k0_part112 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28) (fun _ => True) := by
  cases H
  unfold k0_part112
  repeat first
    | with_reducible exact ok_ret trivial
    | refine ok_seq (ok_load (by with_reducible assumption)) fun _ => ?_
    | refine ok_seq (ok_store (by with_reducible assumption)) fun _ => ?_

theorem ok_part113 {x1 x2 x3 x4 x5 x6 x7 x8 x9 x10 x11 x12 x13 x14 x15 x16 x17} : Ok c bd I (k0_part113 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17) (fun _ => True) := by
  unfold k0_part113
  exact ok_ret trivial

theorem ok_part114 {x1 x2 x3 x4 x5 x6 x7 x8 x9 x10 x11 x12 x13 x14 x15 x16 x17 x18 x19} : Ok c bd I (k0_part114 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  unfold k0_part114
  exact ok_ret trivial

theorem ok_part116 {x1 x2 x3 x4} : Ok c bd I (k0_part116 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part116
  repeat first
    | with_reducible exact ok_ret trivial
    | refine ok_seq (ok_load (by with_reducible assumption)) fun _ => ?_

theorem ok_part117 {x1 x2 x3 x4 x5 x6 x7 x8 x9 x10 x11 x12 x13} : Ok c bd I (k0_part117 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part117
  repeat first
    | with_reducible exact ok_ret trivial
    | refine ok_seq (ok_load (by with_reducible assumption)) fun _ => ?_

theorem ok_part118 {x1 x2 x3 x4 x5 x6} : Ok c bd I (k0_part118 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  unfold k0_part118
  exact ok_ret trivial

theorem ok_part122 {x1 x2 x3 x4} : Ok c bd I (k0_part122 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part122
  repeat first
    | with_reducible exact ok_ret trivial
    | refine ok_seq (ok_load (by with_reducible assumption)) fun _ => ?_

theorem ok_part123 {x1 x2 x3 x4 x5 x6 x7 x8 x9 x10 x11} : Ok c bd I (k0_part123 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  unfold k0_part123
  exact ok_ret trivial

theorem ok_part124 {x1 x2 x3 x4 x5 x6 x7 x8} : Ok c bd I (k0_part124 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  unfold k0_part124
  exact ok_ret trivial

theorem ok_part125 {x1 x2 x3 x4 x5 x6 x7} : Ok c bd I (k0_part125 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  cases H
  unfold k0_part125
  repeat first
    | with_reducible exact ok_ret trivial
    | refine ok_seq (ok_load (by with_reducible assumption)) fun _ => ?_

theorem ok_part126 {x1 x2 x3 x4 x5 x6 x7} : Ok c bd I (k0_part126 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  unfold k0_part126
  exact ok_ret trivial

theorem ok_part127 {x1 x2 x3 x4 x5 x6 x7 x8} : Ok c bd I (k0_part127 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  unfold k0_part127
  exact ok_ret trivial

end Cert.Proof.Att

end
-- ==== Proof.Att.Leaf01.lean ====
/-
  Straight-line stretches of the attention kernel's body, part134 to part226: each loads and stores buffers that are held, and no more.
-/
module

public import proofs.«01_k».proof.Proof.Att.Ok

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

theorem ok_part134 {x1 x2 x3 x4} : Ok c bd I (k0_part134 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part134
  repeat first
    | with_reducible exact ok_ret trivial
    | refine ok_seq (ok_load (by with_reducible assumption)) fun _ => ?_

theorem ok_part135 {x1 x2 x3 x4 x5 x6 x7 x8 x9 x10 x11} : Ok c bd I (k0_part135 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  unfold k0_part135
  exact ok_ret trivial

theorem ok_part136 {x1 x2 x3 x4 x5 x6 x7 x8} : Ok c bd I (k0_part136 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  unfold k0_part136
  exact ok_ret trivial

theorem ok_part137 {x1 x2 x3 x4 x5 x6 x7} : Ok c bd I (k0_part137 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  cases H
  unfold k0_part137
  repeat first
    | with_reducible exact ok_ret trivial
    | refine ok_seq (ok_load (by with_reducible assumption)) fun _ => ?_

theorem ok_part138 {x1 x2 x3 x4 x5 x6 x7} : Ok c bd I (k0_part138 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  unfold k0_part138
  exact ok_ret trivial

theorem ok_part139 {x1 x2 x3 x4 x5 x6 x7 x8} : Ok c bd I (k0_part139 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  unfold k0_part139
  exact ok_ret trivial

theorem ok_part147 {x1 x2} : Ok c bd I (k0_part147 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part147
  repeat first
    | with_reducible exact ok_ret trivial
    | refine ok_seq (ok_load (by with_reducible assumption)) fun _ => ?_
    | refine ok_seq (ok_store (by with_reducible assumption)) fun _ => ?_

theorem ok_part148 {x1 x2 x3 x4 x5 x6 x7 x8 x9 x10 x11 x12 x13 x14 x15 x16 x17 x18} : Ok c bd I (k0_part148 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  cases H
  unfold k0_part148
  repeat first
    | with_reducible exact ok_ret trivial
    | refine ok_seq (ok_load (by with_reducible assumption)) fun _ => ?_
    | refine ok_seq (ok_store (by with_reducible assumption)) fun _ => ?_

theorem ok_part149 {x1 x2 x3 x4 x5 x6 x7 x8 x9 x10 x11 x12 x13 x14 x15 x16 x17 x18 x19 x20 x21 x22 x23 x24 x25 x26 x27 x28 x29 x30} : Ok c bd I (k0_part149 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30) (fun _ => True) := by
  cases H
  unfold k0_part149
  repeat first
    | with_reducible exact ok_ret trivial
    | refine ok_seq (ok_load (by with_reducible assumption)) fun _ => ?_
    | refine ok_seq (ok_store (by with_reducible assumption)) fun _ => ?_

theorem ok_part150 {x1 x2 x3 x4 x5 x6 x7} : Ok c bd I (k0_part150 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  unfold k0_part150
  exact ok_ret trivial

theorem ok_part151 {x1 x2} : Ok c bd I (k0_part151 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part151
  repeat first
    | with_reducible exact ok_ret trivial
    | refine ok_seq (ok_load (by with_reducible assumption)) fun _ => ?_
    | refine ok_seq (ok_store (by with_reducible assumption)) fun _ => ?_

theorem ok_part152 {x1 x2 x3 x4 x5 x6 x7 x8 x9 x10 x11 x12 x13 x14 x15 x16 x17 x18 x19 x20 x21 x22 x23 x24 x25} : Ok c bd I (k0_part152 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25) (fun _ => True) := by
  cases H
  unfold k0_part152
  repeat first
    | with_reducible exact ok_ret trivial
    | refine ok_seq (ok_load (by with_reducible assumption)) fun _ => ?_

theorem ok_part153 {x1 x2} : Ok c bd I (k0_part153 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part153
  repeat first
    | with_reducible exact ok_ret trivial
    | refine ok_seq (ok_load (by with_reducible assumption)) fun _ => ?_
    | refine ok_seq (ok_store (by with_reducible assumption)) fun _ => ?_

theorem ok_part154 {x1 x2 x3 x4 x5 x6 x7 x8 x9 x10 x11 x12 x13 x14 x15 x16 x17 x18 x19 x20 x21 x22 x23} : Ok c bd I (k0_part154 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23) (fun _ => True) := by
  cases H
  unfold k0_part154
  repeat first
    | with_reducible exact ok_ret trivial
    | refine ok_seq (ok_load (by with_reducible assumption)) fun _ => ?_
    | refine ok_seq (ok_store (by with_reducible assumption)) fun _ => ?_

theorem ok_part155 {x1 x2 x3 x4 x5 x6 x7 x8 x9 x10 x11 x12 x13 x14 x15 x16 x17 x18 x19 x20 x21 x22 x23 x24 x25} : Ok c bd I (k0_part155 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25) (fun _ => True) := by
  cases H
  unfold k0_part155
  repeat first
    | with_reducible exact ok_ret trivial
    | refine ok_seq (ok_load (by with_reducible assumption)) fun _ => ?_
    | refine ok_seq (ok_store (by with_reducible assumption)) fun _ => ?_

theorem ok_part156 {x1 x2} : Ok c bd I (k0_part156 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  unfold k0_part156
  exact ok_ret trivial

theorem ok_part157 {x1 x2 x3 x4 x5} : Ok c bd I (k0_part157 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part157
  repeat first
    | with_reducible exact ok_ret trivial
    | refine ok_seq (ok_load (by with_reducible assumption)) fun _ => ?_
    | refine ok_seq (ok_store (by with_reducible assumption)) fun _ => ?_

theorem ok_part158 {x1 x2 x3 x4 x5 x6 x7 x8 x9 x10 x11 x12 x13 x14 x15 x16 x17 x18 x19 x20 x21 x22 x23 x24 x25 x26 x27 x28 x29 x30 x31 x32 x33 x34 x35 x36 x37} : Ok c bd I (k0_part158 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37) (fun _ => True) := by
  cases H
  unfold k0_part158
  repeat first
    | with_reducible exact ok_ret trivial
    | refine ok_seq (ok_load (by with_reducible assumption)) fun _ => ?_

theorem ok_part159 {x1 x2 x3 x4 x5 x6 x7 x8 x9 x10 x11 x12 x13 x14 x15} : Ok c bd I (k0_part159 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part159
  repeat first
    | with_reducible exact ok_ret trivial
    | refine ok_seq (ok_load (by with_reducible assumption)) fun _ => ?_

theorem ok_part160 {x1 x2 x3 x4 x5 x6 x7 x8 x9 x10} : Ok c bd I (k0_part160 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part160
  repeat first
    | with_reducible exact ok_ret trivial
    | refine ok_seq (ok_load (by with_reducible assumption)) fun _ => ?_
    | refine ok_seq (ok_store (by with_reducible assumption)) fun _ => ?_

theorem ok_part161 {x1 x2 x3 x4} : Ok c bd I (k0_part161 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part161
  repeat first
    | with_reducible exact ok_ret trivial
    | refine ok_seq (ok_load (by with_reducible assumption)) fun _ => ?_
    | refine ok_seq (ok_store (by with_reducible assumption)) fun _ => ?_

theorem ok_part162 {x1 x2 x3 x4 x5 x6 x7 x8 x9 x10 x11 x12 x13 x14 x15} : Ok c bd I (k0_part162 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part162
  repeat first
    | with_reducible exact ok_ret trivial
    | refine ok_seq (ok_load (by with_reducible assumption)) fun _ => ?_
    | refine ok_seq (ok_store (by with_reducible assumption)) fun _ => ?_

theorem ok_part163 {x1 x2 x3 x4 x5 x6 x7 x8 x9 x10 x11 x12 x13 x14 x15 x16 x17 x18 x19 x20 x21 x22 x23 x24 x25 x26 x27 x28 x29 x30 x31 x32 x33} : Ok c bd I (k0_part163 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33) (fun _ => True) := by
  cases H
  unfold k0_part163
  repeat first
    | with_reducible exact ok_ret trivial
    | refine ok_seq (ok_load (by with_reducible assumption)) fun _ => ?_
    | refine ok_seq (ok_store (by with_reducible assumption)) fun _ => ?_

theorem ok_part164 {x1 x2 x3 x4 x5 x6 x7 x8 x9 x10} : Ok c bd I (k0_part164 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  unfold k0_part164
  exact ok_ret trivial

theorem ok_part165 {x1 x2} : Ok c bd I (k0_part165 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part165
  repeat first
    | with_reducible exact ok_ret trivial
    | refine ok_seq (ok_load (by with_reducible assumption)) fun _ => ?_
    | refine ok_seq (ok_store (by with_reducible assumption)) fun _ => ?_

theorem ok_part166 {x1 x2 x3 x4 x5 x6 x7 x8 x9 x10 x11 x12 x13 x14 x15 x16 x17 x18 x19 x20 x21 x22 x23 x24 x25 x26 x27 x28 x29} : Ok c bd I (k0_part166 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29) (fun _ => True) := by
  cases H
  unfold k0_part166
  repeat first
    | with_reducible exact ok_ret trivial
    | refine ok_seq (ok_load (by with_reducible assumption)) fun _ => ?_

theorem ok_part167 {x1 x2 x3 x4 x5 x6 x7 x8 x9 x10 x11 x12 x13 x14 x15} : Ok c bd I (k0_part167 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part167
  repeat first
    | with_reducible exact ok_ret trivial
    | refine ok_seq (ok_load (by with_reducible assumption)) fun _ => ?_

theorem ok_part168 {x1 x2 x3 x4 x5 x6 x7} : Ok c bd I (k0_part168 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  cases H
  unfold k0_part168
  repeat first
    | with_reducible exact ok_ret trivial
    | refine ok_seq (ok_load (by with_reducible assumption)) fun _ => ?_
    | refine ok_seq (ok_store (by with_reducible assumption)) fun _ => ?_

theorem ok_part169 {x1 x2} : Ok c bd I (k0_part169 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part169
  repeat first
    | with_reducible exact ok_ret trivial
    | refine ok_seq (ok_store (by with_reducible assumption)) fun _ => ?_

theorem ok_part170 {x1 x2 x3 x4 x5 x6 x7} : Ok c bd I (k0_part170 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  cases H
  unfold k0_part170
  repeat first
    | with_reducible exact ok_ret trivial
    | refine ok_seq (ok_load (by with_reducible assumption)) fun _ => ?_
    | refine ok_seq (ok_store (by with_reducible assumption)) fun _ => ?_

theorem ok_part171 {x1 x2 x3 x4 x5 x6 x7 x8 x9 x10 x11 x12 x13 x14 x15 x16 x17 x18 x19 x20 x21 x22 x23 x24 x25 x26 x27 x28} : Ok c bd I (k0_part171 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28) (fun _ => True) := by
  cases H
  unfold k0_part171
  repeat first
    | with_reducible exact ok_ret trivial
    | refine ok_seq (ok_load (by with_reducible assumption)) fun _ => ?_
    | refine ok_seq (ok_store (by with_reducible assumption)) fun _ => ?_

theorem ok_part172 {x1 x2 x3 x4 x5 x6 x7 x8 x9 x10 x11 x12 x13 x14 x15 x16 x17 x18 x19 x20} : Ok c bd I (k0_part172 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20) (fun _ => True) := by
  cases H
  unfold k0_part172
  repeat first
    | with_reducible exact ok_ret trivial
    | refine ok_seq (ok_load (by with_reducible assumption)) fun _ => ?_

theorem ok_part173 {x1} : Ok c bd I (k0_part173 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part173
  repeat first
    | with_reducible exact ok_ret trivial
    | refine ok_seq (ok_load (by with_reducible assumption)) fun _ => ?_
    | refine ok_seq (ok_store (by with_reducible assumption)) fun _ => ?_

theorem ok_part174 {x1 x2 x3 x4 x5 x6 x7 x8 x9 x10 x11 x12 x13 x14 x15 x16 x17 x18 x19 x20 x21} : Ok c bd I (k0_part174 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part174
  repeat first
    | with_reducible exact ok_ret trivial
    | refine ok_seq (ok_load (by with_reducible assumption)) fun _ => ?_

theorem ok_part175 {x1 x2 x3 x4 x5 x6 x7 x8 x9 x10 x11 x12 x13 x14 x15 x16} : Ok c bd I (k0_part175 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part175
  repeat first
    | with_reducible exact ok_ret trivial
    | refine ok_seq (ok_load (by with_reducible assumption)) fun _ => ?_
    | refine ok_seq (ok_store (by with_reducible assumption)) fun _ => ?_

theorem ok_part176 {x1 x2 x3 x4 x5} : Ok c bd I (k0_part176 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part176
  repeat first
    | with_reducible exact ok_ret trivial
    | refine ok_seq (ok_load (by with_reducible assumption)) fun _ => ?_
    | refine ok_seq (ok_store (by with_reducible assumption)) fun _ => ?_

theorem ok_part177 {x1 x2 x3 x4 x5 x6 x7 x8} : Ok c bd I (k0_part177 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  unfold k0_part177
  exact ok_ret trivial

theorem ok_part178 {x1 x2} : Ok c bd I (k0_part178 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part178
  repeat first
    | with_reducible exact ok_ret trivial
    | refine ok_seq (ok_load (by with_reducible assumption)) fun _ => ?_
    | refine ok_seq (ok_store (by with_reducible assumption)) fun _ => ?_

theorem ok_part179 {x1 x2 x3 x4 x5 x6 x7 x8 x9 x10 x11 x12 x13 x14 x15 x16 x17 x18 x19 x20} : Ok c bd I (k0_part179 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20) (fun _ => True) := by
  cases H
  unfold k0_part179
  repeat first
    | with_reducible exact ok_ret trivial
    | refine ok_seq (ok_load (by with_reducible assumption)) fun _ => ?_
    | refine ok_seq (ok_store (by with_reducible assumption)) fun _ => ?_

theorem ok_part180 {x1 x2 x3 x4 x5 x6 x7 x8 x9 x10 x11 x12 x13 x14 x15 x16 x17 x18 x19 x20 x21 x22 x23 x24 x25 x26 x27 x28} : Ok c bd I (k0_part180 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28) (fun _ => True) := by
  cases H
  unfold k0_part180
  repeat first
    | with_reducible exact ok_ret trivial
    | refine ok_seq (ok_load (by with_reducible assumption)) fun _ => ?_
    | refine ok_seq (ok_store (by with_reducible assumption)) fun _ => ?_

theorem ok_part181 {x1 x2 x3 x4 x5} : Ok c bd I (k0_part181 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  unfold k0_part181
  exact ok_ret trivial

theorem ok_part182 {x1 x2 x3 x4 x5 x6 x7 x8 x9 x10 x11 x12 x13 x14} : Ok c bd I (k0_part182 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14) (fun _ => True) := by
  cases H
  unfold k0_part182
  repeat first
    | with_reducible exact ok_ret trivial
    | refine ok_seq (ok_load (by with_reducible assumption)) fun _ => ?_

theorem ok_part183 {x1 x2 x3 x4 x5 x6 x7 x8 x9 x10 x11 x12 x13 x14 x15 x16 x17 x18 x19} : Ok c bd I (k0_part183 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  cases H
  unfold k0_part183
  repeat first
    | with_reducible exact ok_ret trivial
    | refine ok_seq (ok_load (by with_reducible assumption)) fun _ => ?_
    | refine ok_seq (ok_store (by with_reducible assumption)) fun _ => ?_

theorem ok_part184 {x1 x2 x3 x4 x5 x6 x7 x8 x9} : Ok c bd I (k0_part184 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  cases H
  unfold k0_part184
  repeat first
    | with_reducible exact ok_ret trivial
    | refine ok_seq (ok_load (by with_reducible assumption)) fun _ => ?_
    | refine ok_seq (ok_store (by with_reducible assumption)) fun _ => ?_

theorem ok_part185 {x1 x2 x3 x4 x5 x6 x7 x8 x9 x10 x11 x12 x13 x14 x15 x16 x17 x18} : Ok c bd I (k0_part185 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  cases H
  unfold k0_part185
  repeat first
    | with_reducible exact ok_ret trivial
    | refine ok_seq (ok_load (by with_reducible assumption)) fun _ => ?_

theorem ok_part186 {x1} : Ok c bd I (k0_part186 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part186
  repeat first
    | with_reducible exact ok_ret trivial
    | refine ok_seq (ok_load (by with_reducible assumption)) fun _ => ?_
    | refine ok_seq (ok_store (by with_reducible assumption)) fun _ => ?_

theorem ok_part187 {x1 x2 x3 x4 x5 x6 x7 x8 x9 x10 x11 x12} : Ok c bd I (k0_part187 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part187
  repeat first
    | with_reducible exact ok_ret trivial
    | refine ok_seq (ok_load (by with_reducible assumption)) fun _ => ?_
    | refine ok_seq (ok_store (by with_reducible assumption)) fun _ => ?_

theorem ok_part188 {x1 x2 x3 x4 x5 x6 x7 x8 x9 x10 x11 x12 x13 x14 x15 x16 x17 x18 x19 x20 x21 x22 x23 x24 x25 x26 x27 x28 x29 x30 x31 x32 x33} : Ok c bd I (k0_part188 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33) (fun _ => True) := by
  cases H
  unfold k0_part188
  repeat first
    | with_reducible exact ok_ret trivial
    | refine ok_seq (ok_load (by with_reducible assumption)) fun _ => ?_
    | refine ok_seq (ok_store (by with_reducible assumption)) fun _ => ?_

theorem ok_part189 {x1 x2 x3 x4 x5 x6 x7 x8 x9 x10 x11 x12 x13 x14 x15 x16} : Ok c bd I (k0_part189 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  unfold k0_part189
  exact ok_ret trivial

theorem ok_part190 {x1 x2 x3 x4 x5 x6 x7 x8 x9 x10} : Ok c bd I (k0_part190 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part190
  repeat first
    | with_reducible exact ok_ret trivial
    | refine ok_seq (ok_load (by with_reducible assumption)) fun _ => ?_

theorem ok_part193 {x1 x2 x3} : Ok c bd I (k0_part193 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part193
  repeat first
    | with_reducible exact ok_ret trivial
    | refine ok_seq (ok_load (by with_reducible assumption)) fun _ => ?_
    | refine ok_seq (ok_store (by with_reducible assumption)) fun _ => ?_

theorem ok_part194 {x1 x2 x3 x4 x5 x6 x7 x8 x9 x10 x11 x12 x13 x14 x15 x16} : Ok c bd I (k0_part194 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part194
  repeat first
    | with_reducible exact ok_ret trivial
    | refine ok_seq (ok_load (by with_reducible assumption)) fun _ => ?_
    | refine ok_seq (ok_store (by with_reducible assumption)) fun _ => ?_

theorem ok_part195 {x1 x2 x3 x4 x5 x6 x7 x8 x9 x10 x11 x12 x13 x14 x15 x16 x17 x18 x19 x20 x21 x22 x23 x24 x25 x26 x27 x28 x29 x30 x31 x32} : Ok c bd I (k0_part195 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32) (fun _ => True) := by
  cases H
  unfold k0_part195
  repeat first
    | with_reducible exact ok_ret trivial
    | refine ok_seq (ok_load (by with_reducible assumption)) fun _ => ?_
    | refine ok_seq (ok_store (by with_reducible assumption)) fun _ => ?_

theorem ok_part196 {x1 x2 x3 x4 x5 x6 x7 x8 x9} : Ok c bd I (k0_part196 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  unfold k0_part196
  exact ok_ret trivial

theorem ok_part197 {x1 x2} : Ok c bd I (k0_part197 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part197
  repeat first
    | with_reducible exact ok_ret trivial
    | refine ok_seq (ok_load (by with_reducible assumption)) fun _ => ?_
    | refine ok_seq (ok_store (by with_reducible assumption)) fun _ => ?_

theorem ok_part198 {x1 x2 x3 x4 x5 x6 x7 x8 x9 x10 x11 x12 x13 x14 x15 x16 x17 x18 x19 x20 x21 x22 x23 x24 x25 x26 x27 x28 x29 x30 x31} : Ok c bd I (k0_part198 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31) (fun _ => True) := by
  cases H
  unfold k0_part198
  repeat first
    | with_reducible exact ok_ret trivial
    | refine ok_seq (ok_load (by with_reducible assumption)) fun _ => ?_

theorem ok_part199 {x1 x2 x3 x4 x5 x6 x7 x8 x9 x10 x11 x12 x13 x14 x15 x16} : Ok c bd I (k0_part199 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part199
  repeat first
    | with_reducible exact ok_ret trivial
    | refine ok_seq (ok_load (by with_reducible assumption)) fun _ => ?_

theorem ok_part200 {x1 x2 x3 x4 x5 x6 x7 x8} : Ok c bd I (k0_part200 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  cases H
  unfold k0_part200
  repeat first
    | with_reducible exact ok_ret trivial
    | refine ok_seq (ok_load (by with_reducible assumption)) fun _ => ?_
    | refine ok_seq (ok_store (by with_reducible assumption)) fun _ => ?_

theorem ok_part201 {x1} : Ok c bd I (k0_part201 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part201
  repeat first
    | with_reducible exact ok_ret trivial
    | refine ok_seq (ok_store (by with_reducible assumption)) fun _ => ?_

theorem ok_part202 {x1 x2 x3 x4 x5 x6 x7 x8} : Ok c bd I (k0_part202 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  cases H
  unfold k0_part202
  repeat first
    | with_reducible exact ok_ret trivial
    | refine ok_seq (ok_load (by with_reducible assumption)) fun _ => ?_
    | refine ok_seq (ok_store (by with_reducible assumption)) fun _ => ?_

theorem ok_part203 {x1 x2 x3 x4 x5 x6 x7 x8 x9 x10 x11 x12 x13 x14 x15 x16 x17 x18 x19 x20 x21 x22 x23 x24 x25 x26 x27 x28 x29} : Ok c bd I (k0_part203 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29) (fun _ => True) := by
  cases H
  unfold k0_part203
  repeat first
    | with_reducible exact ok_ret trivial
    | refine ok_seq (ok_load (by with_reducible assumption)) fun _ => ?_
    | refine ok_seq (ok_store (by with_reducible assumption)) fun _ => ?_

theorem ok_part204 {x1 x2 x3 x4 x5 x6 x7 x8 x9 x10 x11 x12 x13 x14 x15 x16 x17 x18 x19} : Ok c bd I (k0_part204 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  cases H
  unfold k0_part204
  repeat first
    | with_reducible exact ok_ret trivial
    | refine ok_seq (ok_load (by with_reducible assumption)) fun _ => ?_

theorem ok_part205 {x1} : Ok c bd I (k0_part205 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part205
  repeat first
    | with_reducible exact ok_ret trivial
    | refine ok_seq (ok_load (by with_reducible assumption)) fun _ => ?_
    | refine ok_seq (ok_store (by with_reducible assumption)) fun _ => ?_

theorem ok_part206 {x1 x2 x3 x4 x5 x6 x7 x8 x9 x10 x11 x12 x13 x14 x15 x16 x17 x18 x19 x20 x21 x22} : Ok c bd I (k0_part206 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22) (fun _ => True) := by
  cases H
  unfold k0_part206
  repeat first
    | with_reducible exact ok_ret trivial
    | refine ok_seq (ok_load (by with_reducible assumption)) fun _ => ?_

theorem ok_part207 {x1 x2 x3 x4 x5 x6 x7 x8 x9 x10 x11 x12 x13 x14 x15} : Ok c bd I (k0_part207 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part207
  repeat first
    | with_reducible exact ok_ret trivial
    | refine ok_seq (ok_load (by with_reducible assumption)) fun _ => ?_
    | refine ok_seq (ok_store (by with_reducible assumption)) fun _ => ?_

theorem ok_part208 {x1 x2 x3 x4 x5} : Ok c bd I (k0_part208 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part208
  repeat first
    | with_reducible exact ok_ret trivial
    | refine ok_seq (ok_load (by with_reducible assumption)) fun _ => ?_
    | refine ok_seq (ok_store (by with_reducible assumption)) fun _ => ?_

theorem ok_part209 {x1 x2 x3 x4 x5 x6 x7} : Ok c bd I (k0_part209 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  unfold k0_part209
  exact ok_ret trivial

theorem ok_part210 {x1 x2} : Ok c bd I (k0_part210 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part210
  repeat first
    | with_reducible exact ok_ret trivial
    | refine ok_seq (ok_load (by with_reducible assumption)) fun _ => ?_
    | refine ok_seq (ok_store (by with_reducible assumption)) fun _ => ?_

theorem ok_part211 {x1 x2 x3 x4 x5 x6 x7 x8 x9 x10 x11 x12 x13 x14 x15 x16 x17 x18 x19 x20 x21} : Ok c bd I (k0_part211 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part211
  repeat first
    | with_reducible exact ok_ret trivial
    | refine ok_seq (ok_load (by with_reducible assumption)) fun _ => ?_
    | refine ok_seq (ok_store (by with_reducible assumption)) fun _ => ?_

theorem ok_part212 {x1 x2 x3 x4 x5 x6 x7 x8 x9 x10 x11 x12 x13 x14 x15 x16 x17 x18 x19 x20 x21 x22 x23 x24 x25 x26 x27} : Ok c bd I (k0_part212 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27) (fun _ => True) := by
  cases H
  unfold k0_part212
  repeat first
    | with_reducible exact ok_ret trivial
    | refine ok_seq (ok_load (by with_reducible assumption)) fun _ => ?_
    | refine ok_seq (ok_store (by with_reducible assumption)) fun _ => ?_

theorem ok_part213 {x1 x2 x3 x4} : Ok c bd I (k0_part213 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  unfold k0_part213
  exact ok_ret trivial

theorem ok_part214 {x1 x2 x3 x4 x5 x6 x7 x8 x9 x10 x11 x12 x13 x14} : Ok c bd I (k0_part214 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14) (fun _ => True) := by
  cases H
  unfold k0_part214
  repeat first
    | with_reducible exact ok_ret trivial
    | refine ok_seq (ok_load (by with_reducible assumption)) fun _ => ?_

theorem ok_part215 {x1 x2 x3 x4 x5 x6 x7 x8 x9 x10 x11 x12 x13 x14 x15 x16 x17 x18} : Ok c bd I (k0_part215 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  cases H
  unfold k0_part215
  repeat first
    | with_reducible exact ok_ret trivial
    | refine ok_seq (ok_load (by with_reducible assumption)) fun _ => ?_
    | refine ok_seq (ok_store (by with_reducible assumption)) fun _ => ?_

theorem ok_part216 {x1 x2 x3 x4 x5 x6 x7 x8} : Ok c bd I (k0_part216 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  cases H
  unfold k0_part216
  repeat first
    | with_reducible exact ok_ret trivial
    | refine ok_seq (ok_load (by with_reducible assumption)) fun _ => ?_
    | refine ok_seq (ok_store (by with_reducible assumption)) fun _ => ?_

theorem ok_part217 {x1 x2 x3 x4 x5 x6 x7 x8 x9 x10 x11 x12 x13 x14 x15 x16 x17} : Ok c bd I (k0_part217 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17) (fun _ => True) := by
  cases H
  unfold k0_part217
  repeat first
    | with_reducible exact ok_ret trivial
    | refine ok_seq (ok_load (by with_reducible assumption)) fun _ => ?_

theorem ok_part218 {x1} : Ok c bd I (k0_part218 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part218
  repeat first
    | with_reducible exact ok_ret trivial
    | refine ok_seq (ok_load (by with_reducible assumption)) fun _ => ?_
    | refine ok_seq (ok_store (by with_reducible assumption)) fun _ => ?_

theorem ok_part219 {x1 x2 x3 x4 x5 x6 x7 x8 x9 x10 x11 x12 x13} : Ok c bd I (k0_part219 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part219
  repeat first
    | with_reducible exact ok_ret trivial
    | refine ok_seq (ok_load (by with_reducible assumption)) fun _ => ?_
    | refine ok_seq (ok_store (by with_reducible assumption)) fun _ => ?_

theorem ok_part220 {x1 x2 x3 x4 x5 x6 x7 x8 x9 x10 x11 x12 x13 x14 x15 x16 x17 x18 x19 x20 x21 x22 x23 x24 x25 x26 x27 x28 x29 x30 x31 x32 x33 x34} : Ok c bd I (k0_part220 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34) (fun _ => True) := by
  cases H
  unfold k0_part220
  repeat first
    | with_reducible exact ok_ret trivial
    | refine ok_seq (ok_load (by with_reducible assumption)) fun _ => ?_
    | refine ok_seq (ok_store (by with_reducible assumption)) fun _ => ?_

theorem ok_part221 {x1 x2 x3 x4 x5 x6 x7 x8 x9 x10 x11 x12 x13 x14 x15} : Ok c bd I (k0_part221 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  unfold k0_part221
  exact ok_ret trivial

theorem ok_part222 {x1 x2 x3 x4 x5 x6 x7 x8 x9 x10} : Ok c bd I (k0_part222 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part222
  repeat first
    | with_reducible exact ok_ret trivial
    | refine ok_seq (ok_load (by with_reducible assumption)) fun _ => ?_

theorem ok_part223 {x1 x2 x3 x4 x5 x6 x7 x8 x9 x10 x11 x12 x13 x14 x15 x16 x17} : Ok c bd I (k0_part223 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17) (fun _ => True) := by
  cases H
  unfold k0_part223
  repeat first
    | with_reducible exact ok_ret trivial
    | refine ok_seq (ok_load (by with_reducible assumption)) fun _ => ?_
    | refine ok_seq (ok_store (by with_reducible assumption)) fun _ => ?_

theorem ok_part224 {x1 x2 x3 x4 x5 x6 x7 x8} : Ok c bd I (k0_part224 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  cases H
  unfold k0_part224
  repeat first
    | with_reducible exact ok_ret trivial
    | refine ok_seq (ok_load (by with_reducible assumption)) fun _ => ?_
    | refine ok_seq (ok_store (by with_reducible assumption)) fun _ => ?_

theorem ok_part225 {x1 x2 x3 x4 x5 x6 x7 x8 x9 x10 x11 x12 x13 x14 x15 x16 x17 x18 x19 x20 x21 x22 x23 x24 x25} : Ok c bd I (k0_part225 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25) (fun _ => True) := by
  cases H
  unfold k0_part225
  repeat first
    | with_reducible exact ok_ret trivial
    | refine ok_seq (ok_load (by with_reducible assumption)) fun _ => ?_
    | refine ok_seq (ok_store (by with_reducible assumption)) fun _ => ?_

theorem ok_part226 {x1 x2} : Ok c bd I (k0_part226 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  unfold k0_part226
  exact ok_ret trivial

end Cert.Proof.Att

end
-- ==== Proof.Att.Leaf02.lean ====
/-
  Straight-line stretches of the attention kernel's body, part227 to part360: each loads and stores buffers that are held, and no more.
-/
module

public import proofs.«01_k».proof.Proof.Att.Ok

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

theorem ok_part227 {x1 x2 x3 x4 x5} : Ok c bd I (k0_part227 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part227
  repeat first
    | with_reducible exact ok_ret trivial
    | refine ok_seq (ok_load (by with_reducible assumption)) fun _ => ?_
    | refine ok_seq (ok_store (by with_reducible assumption)) fun _ => ?_

theorem ok_part228 {x1 x2 x3 x4 x5 x6 x7 x8 x9 x10 x11 x12 x13 x14 x15 x16 x17 x18 x19 x20 x21 x22 x23 x24 x25 x26} : Ok c bd I (k0_part228 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26) (fun _ => True) := by
  cases H
  unfold k0_part228
  repeat first
    | with_reducible exact ok_ret trivial
    | refine ok_seq (ok_load (by with_reducible assumption)) fun _ => ?_
    | refine ok_seq (ok_store (by with_reducible assumption)) fun _ => ?_

theorem ok_part229 {x1 x2 x3 x4 x5 x6 x7 x8 x9 x10 x11 x12 x13 x14 x15 x16 x17 x18 x19 x20 x21 x22 x23 x24 x25 x26 x27 x28 x29 x30 x31 x32} : Ok c bd I (k0_part229 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32) (fun _ => True) := by
  cases H
  unfold k0_part229
  repeat first
    | with_reducible exact ok_ret trivial
    | refine ok_seq (ok_load (by with_reducible assumption)) fun _ => ?_

theorem ok_part230 {x1 x2 x3 x4 x5 x6 x7 x8 x9 x10 x11} : Ok c bd I (k0_part230 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  cases H
  unfold k0_part230
  repeat first
    | with_reducible exact ok_ret trivial
    | refine ok_seq (ok_load (by with_reducible assumption)) fun _ => ?_

theorem ok_part231 {x1 x2 x3 x4 x5 x6 x7 x8 x9 x10 x11 x12 x13 x14 x15 x16 x17} : Ok c bd I (k0_part231 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17) (fun _ => True) := by
  cases H
  unfold k0_part231
  repeat first
    | with_reducible exact ok_ret trivial
    | refine ok_seq (ok_load (by with_reducible assumption)) fun _ => ?_
    | refine ok_seq (ok_store (by with_reducible assumption)) fun _ => ?_

theorem ok_part232 {x1 x2 x3 x4 x5 x6} : Ok c bd I (k0_part232 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  cases H
  unfold k0_part232
  repeat first
    | with_reducible exact ok_ret trivial
    | refine ok_seq (ok_load (by with_reducible assumption)) fun _ => ?_
    | refine ok_seq (ok_store (by with_reducible assumption)) fun _ => ?_

theorem ok_part233 {x1 x2 x3 x4 x5 x6 x7 x8 x9 x10 x11 x12 x13 x14 x15 x16 x17 x18 x19 x20 x21 x22 x23 x24 x25 x26 x27 x28 x29 x30 x31 x32 x33} : Ok c bd I (k0_part233 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33) (fun _ => True) := by
  cases H
  unfold k0_part233
  repeat first
    | with_reducible exact ok_ret trivial
    | refine ok_seq (ok_load (by with_reducible assumption)) fun _ => ?_
    | refine ok_seq (ok_store (by with_reducible assumption)) fun _ => ?_

theorem ok_part234 {x1 x2 x3 x4 x5 x6 x7 x8 x9 x10} : Ok c bd I (k0_part234 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  unfold k0_part234
  exact ok_ret trivial

theorem ok_part235 {x1 x2} : Ok c bd I (k0_part235 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part235
  repeat first
    | with_reducible exact ok_ret trivial
    | refine ok_seq (ok_load (by with_reducible assumption)) fun _ => ?_
    | refine ok_seq (ok_store (by with_reducible assumption)) fun _ => ?_

theorem ok_part236 {x1 x2 x3 x4 x5 x6 x7 x8 x9 x10 x11 x12 x13 x14 x15 x16 x17 x18} : Ok c bd I (k0_part236 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  cases H
  unfold k0_part236
  repeat first
    | with_reducible exact ok_ret trivial
    | refine ok_seq (ok_load (by with_reducible assumption)) fun _ => ?_
    | refine ok_seq (ok_store (by with_reducible assumption)) fun _ => ?_

theorem ok_part237 {x1 x2 x3 x4 x5 x6 x7 x8 x9 x10 x11 x12 x13 x14 x15 x16 x17 x18 x19 x20 x21 x22 x23 x24 x25 x26 x27 x28 x29 x30 x31 x32 x33 x34 x35 x36 x37 x38 x39 x40} : Ok c bd I (k0_part237 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37 x38 x39 x40) (fun _ => True) := by
  cases H
  unfold k0_part237
  repeat first
    | with_reducible exact ok_ret trivial
    | refine ok_seq (ok_load (by with_reducible assumption)) fun _ => ?_

theorem ok_part238 {x1 x2 x3 x4 x5 x6 x7 x8 x9 x10 x11 x12 x13} : Ok c bd I (k0_part238 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part238
  repeat first
    | with_reducible exact ok_ret trivial
    | refine ok_seq (ok_load (by with_reducible assumption)) fun _ => ?_

theorem ok_part288 {x1 x2 x3 x4 x5 x6 x7 x8 x9 x10} : Ok c bd I (k0_part288 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part288
  repeat first
    | with_reducible exact ok_ret trivial
    | refine ok_seq (ok_load (by with_reducible assumption)) fun _ => ?_

theorem ok_part289 {x1 x2 x3} : Ok c bd I (k0_part289 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part289
  repeat first
    | with_reducible exact ok_ret trivial
    | refine ok_seq (ok_load (by with_reducible assumption)) fun _ => ?_
    | refine ok_seq (ok_store (by with_reducible assumption)) fun _ => ?_

theorem ok_part290 {x1 x2 x3 x4 x5 x6 x7 x8 x9 x10 x11 x12 x13 x14 x15 x16} : Ok c bd I (k0_part290 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part290
  repeat first
    | with_reducible exact ok_ret trivial
    | refine ok_seq (ok_load (by with_reducible assumption)) fun _ => ?_
    | refine ok_seq (ok_store (by with_reducible assumption)) fun _ => ?_

theorem ok_part291 {x1 x2 x3 x4 x5 x6 x7 x8 x9 x10 x11 x12 x13 x14 x15 x16 x17 x18 x19 x20 x21 x22 x23 x24 x25 x26 x27 x28 x29 x30 x31 x32} : Ok c bd I (k0_part291 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32) (fun _ => True) := by
  cases H
  unfold k0_part291
  repeat first
    | with_reducible exact ok_ret trivial
    | refine ok_seq (ok_load (by with_reducible assumption)) fun _ => ?_
    | refine ok_seq (ok_store (by with_reducible assumption)) fun _ => ?_

theorem ok_part292 {x1 x2 x3 x4 x5 x6 x7 x8 x9} : Ok c bd I (k0_part292 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  unfold k0_part292
  exact ok_ret trivial

theorem ok_part293 {x1 x2} : Ok c bd I (k0_part293 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part293
  repeat first
    | with_reducible exact ok_ret trivial
    | refine ok_seq (ok_load (by with_reducible assumption)) fun _ => ?_
    | refine ok_seq (ok_store (by with_reducible assumption)) fun _ => ?_

theorem ok_part294 {x1 x2 x3 x4 x5 x6 x7 x8 x9 x10 x11 x12 x13 x14 x15 x16 x17 x18 x19 x20 x21 x22 x23 x24 x25 x26 x27 x28 x29 x30 x31 x32 x33 x34 x35} : Ok c bd I (k0_part294 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35) (fun _ => True) := by
  cases H
  unfold k0_part294
  repeat first
    | with_reducible exact ok_ret trivial
    | refine ok_seq (ok_load (by with_reducible assumption)) fun _ => ?_

theorem ok_part295 {x1 x2 x3 x4 x5 x6 x7 x8 x9 x10 x11 x12 x13 x14 x15 x16} : Ok c bd I (k0_part295 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part295
  repeat first
    | with_reducible exact ok_ret trivial
    | refine ok_seq (ok_load (by with_reducible assumption)) fun _ => ?_

theorem ok_part296 {x1 x2 x3 x4 x5 x6 x7 x8 x9 x10 x11 x12} : Ok c bd I (k0_part296 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part296
  repeat first
    | with_reducible exact ok_ret trivial
    | refine ok_seq (ok_load (by with_reducible assumption)) fun _ => ?_
    | refine ok_seq (ok_store (by with_reducible assumption)) fun _ => ?_

theorem ok_part297 {x1} : Ok c bd I (k0_part297 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part297
  repeat first
    | with_reducible exact ok_ret trivial
    | refine ok_seq (ok_store (by with_reducible assumption)) fun _ => ?_

theorem ok_part298 {x1 x2 x3 x4 x5 x6 x7 x8} : Ok c bd I (k0_part298 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  cases H
  unfold k0_part298
  repeat first
    | with_reducible exact ok_ret trivial
    | refine ok_seq (ok_load (by with_reducible assumption)) fun _ => ?_
    | refine ok_seq (ok_store (by with_reducible assumption)) fun _ => ?_

theorem ok_part299 {x1 x2 x3 x4 x5 x6 x7 x8 x9 x10 x11 x12 x13 x14 x15 x16 x17 x18 x19 x20 x21 x22 x23 x24 x25 x26 x27 x28 x29} : Ok c bd I (k0_part299 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29) (fun _ => True) := by
  cases H
  unfold k0_part299
  repeat first
    | with_reducible exact ok_ret trivial
    | refine ok_seq (ok_load (by with_reducible assumption)) fun _ => ?_
    | refine ok_seq (ok_store (by with_reducible assumption)) fun _ => ?_

theorem ok_part300 {x1 x2 x3 x4 x5 x6 x7 x8 x9 x10 x11 x12 x13 x14 x15 x16 x17 x18 x19} : Ok c bd I (k0_part300 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  cases H
  unfold k0_part300
  repeat first
    | with_reducible exact ok_ret trivial
    | refine ok_seq (ok_load (by with_reducible assumption)) fun _ => ?_

theorem ok_part301 {x1} : Ok c bd I (k0_part301 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part301
  repeat first
    | with_reducible exact ok_ret trivial
    | refine ok_seq (ok_load (by with_reducible assumption)) fun _ => ?_
    | refine ok_seq (ok_store (by with_reducible assumption)) fun _ => ?_

theorem ok_part302 {x1 x2 x3 x4 x5 x6 x7 x8 x9 x10 x11 x12 x13 x14 x15 x16 x17 x18 x19 x20 x21 x22 x23 x24 x25 x26} : Ok c bd I (k0_part302 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26) (fun _ => True) := by
  cases H
  unfold k0_part302
  repeat first
    | with_reducible exact ok_ret trivial
    | refine ok_seq (ok_load (by with_reducible assumption)) fun _ => ?_

theorem ok_part303 {x1 x2 x3 x4 x5 x6 x7 x8 x9 x10 x11 x12 x13 x14 x15} : Ok c bd I (k0_part303 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part303
  repeat first
    | with_reducible exact ok_ret trivial
    | refine ok_seq (ok_load (by with_reducible assumption)) fun _ => ?_
    | refine ok_seq (ok_store (by with_reducible assumption)) fun _ => ?_

theorem ok_part304 {x1 x2 x3 x4 x5 x6 x7 x8 x9} : Ok c bd I (k0_part304 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  cases H
  unfold k0_part304
  repeat first
    | with_reducible exact ok_ret trivial
    | refine ok_seq (ok_load (by with_reducible assumption)) fun _ => ?_
    | refine ok_seq (ok_store (by with_reducible assumption)) fun _ => ?_

theorem ok_part305 {x1 x2 x3 x4 x5 x6 x7} : Ok c bd I (k0_part305 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  unfold k0_part305
  exact ok_ret trivial

theorem ok_part306 {x1 x2} : Ok c bd I (k0_part306 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part306
  repeat first
    | with_reducible exact ok_ret trivial
    | refine ok_seq (ok_load (by with_reducible assumption)) fun _ => ?_
    | refine ok_seq (ok_store (by with_reducible assumption)) fun _ => ?_

theorem ok_part307 {x1 x2 x3 x4 x5 x6 x7 x8 x9 x10 x11 x12 x13 x14 x15 x16 x17 x18 x19 x20 x21} : Ok c bd I (k0_part307 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part307
  repeat first
    | with_reducible exact ok_ret trivial
    | refine ok_seq (ok_load (by with_reducible assumption)) fun _ => ?_
    | refine ok_seq (ok_store (by with_reducible assumption)) fun _ => ?_

theorem ok_part308 {x1 x2 x3 x4 x5 x6 x7 x8 x9 x10 x11 x12 x13 x14 x15 x16 x17 x18 x19 x20 x21 x22 x23 x24 x25 x26 x27} : Ok c bd I (k0_part308 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27) (fun _ => True) := by
  cases H
  unfold k0_part308
  repeat first
    | with_reducible exact ok_ret trivial
    | refine ok_seq (ok_load (by with_reducible assumption)) fun _ => ?_
    | refine ok_seq (ok_store (by with_reducible assumption)) fun _ => ?_

theorem ok_part309 {x1 x2 x3 x4} : Ok c bd I (k0_part309 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  unfold k0_part309
  exact ok_ret trivial

theorem ok_part310 {x1 x2 x3 x4 x5 x6 x7 x8 x9 x10 x11 x12 x13 x14 x15 x16 x17 x18} : Ok c bd I (k0_part310 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  cases H
  unfold k0_part310
  repeat first
    | with_reducible exact ok_ret trivial
    | refine ok_seq (ok_load (by with_reducible assumption)) fun _ => ?_

theorem ok_part311 {x1 x2 x3 x4 x5 x6 x7 x8 x9 x10 x11 x12 x13 x14 x15 x16 x17 x18 x19 x20 x21 x22} : Ok c bd I (k0_part311 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22) (fun _ => True) := by
  cases H
  unfold k0_part311
  repeat first
    | with_reducible exact ok_ret trivial
    | refine ok_seq (ok_load (by with_reducible assumption)) fun _ => ?_
    | refine ok_seq (ok_store (by with_reducible assumption)) fun _ => ?_

theorem ok_part312 {x1 x2 x3 x4 x5 x6 x7 x8 x9 x10 x11 x12} : Ok c bd I (k0_part312 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part312
  repeat first
    | with_reducible exact ok_ret trivial
    | refine ok_seq (ok_load (by with_reducible assumption)) fun _ => ?_
    | refine ok_seq (ok_store (by with_reducible assumption)) fun _ => ?_

theorem ok_part313 {x1 x2 x3 x4 x5 x6 x7 x8 x9 x10 x11 x12 x13 x14 x15 x16 x17} : Ok c bd I (k0_part313 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17) (fun _ => True) := by
  cases H
  unfold k0_part313
  repeat first
    | with_reducible exact ok_ret trivial
    | refine ok_seq (ok_load (by with_reducible assumption)) fun _ => ?_

theorem ok_part314 {x1} : Ok c bd I (k0_part314 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part314
  repeat first
    | with_reducible exact ok_ret trivial
    | refine ok_seq (ok_load (by with_reducible assumption)) fun _ => ?_
    | refine ok_seq (ok_store (by with_reducible assumption)) fun _ => ?_

theorem ok_part315 {x1 x2 x3 x4 x5 x6 x7 x8 x9 x10 x11 x12 x13} : Ok c bd I (k0_part315 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part315
  repeat first
    | with_reducible exact ok_ret trivial
    | refine ok_seq (ok_load (by with_reducible assumption)) fun _ => ?_
    | refine ok_seq (ok_store (by with_reducible assumption)) fun _ => ?_

theorem ok_part316 {x1 x2 x3 x4 x5 x6 x7 x8 x9 x10 x11 x12 x13 x14 x15 x16 x17 x18 x19 x20 x21 x22 x23 x24 x25 x26 x27 x28 x29 x30 x31 x32 x33 x34} : Ok c bd I (k0_part316 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34) (fun _ => True) := by
  cases H
  unfold k0_part316
  repeat first
    | with_reducible exact ok_ret trivial
    | refine ok_seq (ok_load (by with_reducible assumption)) fun _ => ?_
    | refine ok_seq (ok_store (by with_reducible assumption)) fun _ => ?_

theorem ok_part317 {x1 x2 x3 x4 x5 x6 x7 x8 x9 x10 x11 x12 x13 x14 x15} : Ok c bd I (k0_part317 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  unfold k0_part317
  exact ok_ret trivial

theorem ok_part318 {x1 x2 x3 x4 x5 x6 x7 x8 x9 x10 x11 x12 x13 x14} : Ok c bd I (k0_part318 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14) (fun _ => True) := by
  cases H
  unfold k0_part318
  repeat first
    | with_reducible exact ok_ret trivial
    | refine ok_seq (ok_load (by with_reducible assumption)) fun _ => ?_

theorem ok_part319 {x1 x2 x3 x4 x5 x6 x7 x8 x9 x10 x11 x12 x13 x14 x15 x16 x17 x18 x19 x20 x21} : Ok c bd I (k0_part319 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part319
  repeat first
    | with_reducible exact ok_ret trivial
    | refine ok_seq (ok_load (by with_reducible assumption)) fun _ => ?_
    | refine ok_seq (ok_store (by with_reducible assumption)) fun _ => ?_

theorem ok_part320 {x1 x2 x3 x4 x5 x6 x7 x8 x9 x10 x11 x12} : Ok c bd I (k0_part320 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part320
  repeat first
    | with_reducible exact ok_ret trivial
    | refine ok_seq (ok_load (by with_reducible assumption)) fun _ => ?_
    | refine ok_seq (ok_store (by with_reducible assumption)) fun _ => ?_

theorem ok_part321 {x1 x2 x3 x4 x5 x6 x7 x8 x9 x10 x11 x12 x13 x14 x15 x16 x17 x18 x19 x20 x21 x22 x23 x24 x25} : Ok c bd I (k0_part321 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25) (fun _ => True) := by
  cases H
  unfold k0_part321
  repeat first
    | with_reducible exact ok_ret trivial
    | refine ok_seq (ok_load (by with_reducible assumption)) fun _ => ?_
    | refine ok_seq (ok_store (by with_reducible assumption)) fun _ => ?_

theorem ok_part322 {x1 x2} : Ok c bd I (k0_part322 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  unfold k0_part322
  exact ok_ret trivial

theorem ok_part323 {x1 x2 x3 x4 x5} : Ok c bd I (k0_part323 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part323
  repeat first
    | with_reducible exact ok_ret trivial
    | refine ok_seq (ok_load (by with_reducible assumption)) fun _ => ?_
    | refine ok_seq (ok_store (by with_reducible assumption)) fun _ => ?_

theorem ok_part324 {x1 x2 x3 x4 x5 x6 x7 x8 x9 x10 x11 x12 x13 x14 x15 x16 x17 x18 x19 x20 x21 x22 x23 x24 x25 x26} : Ok c bd I (k0_part324 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26) (fun _ => True) := by
  cases H
  unfold k0_part324
  repeat first
    | with_reducible exact ok_ret trivial
    | refine ok_seq (ok_load (by with_reducible assumption)) fun _ => ?_
    | refine ok_seq (ok_store (by with_reducible assumption)) fun _ => ?_

theorem ok_part325 {x1 x2 x3 x4 x5 x6 x7 x8 x9 x10 x11 x12 x13 x14 x15 x16 x17 x18 x19 x20 x21 x22 x23 x24 x25 x26 x27 x28 x29 x30 x31 x32 x33 x34 x35 x36} : Ok c bd I (k0_part325 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36) (fun _ => True) := by
  cases H
  unfold k0_part325
  repeat first
    | with_reducible exact ok_ret trivial
    | refine ok_seq (ok_load (by with_reducible assumption)) fun _ => ?_

theorem ok_part326 {x1 x2 x3 x4 x5 x6 x7 x8 x9 x10 x11} : Ok c bd I (k0_part326 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  cases H
  unfold k0_part326
  repeat first
    | with_reducible exact ok_ret trivial
    | refine ok_seq (ok_load (by with_reducible assumption)) fun _ => ?_

theorem ok_part327 {x1 x2 x3 x4 x5 x6 x7 x8 x9 x10 x11 x12 x13 x14 x15 x16 x17 x18 x19 x20 x21} : Ok c bd I (k0_part327 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part327
  repeat first
    | with_reducible exact ok_ret trivial
    | refine ok_seq (ok_load (by with_reducible assumption)) fun _ => ?_
    | refine ok_seq (ok_store (by with_reducible assumption)) fun _ => ?_

theorem ok_part328 {x1 x2 x3 x4 x5 x6 x7 x8 x9 x10 x11} : Ok c bd I (k0_part328 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  cases H
  unfold k0_part328
  repeat first
    | with_reducible exact ok_ret trivial
    | refine ok_seq (ok_load (by with_reducible assumption)) fun _ => ?_
    | refine ok_seq (ok_store (by with_reducible assumption)) fun _ => ?_

theorem ok_part329 {x1 x2 x3 x4 x5 x6 x7 x8 x9 x10 x11 x12 x13 x14 x15 x16 x17 x18 x19 x20 x21} : Ok c bd I (k0_part329 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part329
  repeat first
    | with_reducible exact ok_ret trivial
    | refine ok_seq (ok_load (by with_reducible assumption)) fun _ => ?_

theorem ok_part330 {x1 x2} : Ok c bd I (k0_part330 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part330
  repeat first
    | with_reducible exact ok_ret trivial
    | refine ok_seq (ok_load (by with_reducible assumption)) fun _ => ?_
    | refine ok_seq (ok_store (by with_reducible assumption)) fun _ => ?_

theorem ok_part331 {x1 x2 x3 x4 x5 x6 x7 x8 x9 x10 x11 x12 x13 x14 x15} : Ok c bd I (k0_part331 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part331
  repeat first
    | with_reducible exact ok_ret trivial
    | refine ok_seq (ok_load (by with_reducible assumption)) fun _ => ?_
    | refine ok_seq (ok_store (by with_reducible assumption)) fun _ => ?_

theorem ok_part332 {x1 x2 x3 x4 x5 x6 x7 x8 x9 x10 x11 x12 x13 x14 x15 x16 x17 x18 x19 x20 x21 x22 x23 x24 x25 x26 x27} : Ok c bd I (k0_part332 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27) (fun _ => True) := by
  cases H
  unfold k0_part332
  repeat first
    | with_reducible exact ok_ret trivial
    | refine ok_seq (ok_load (by with_reducible assumption)) fun _ => ?_

theorem ok_part333 {x1 x2} : Ok c bd I (k0_part333 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part333
  repeat first
    | with_reducible exact ok_ret trivial
    | refine ok_seq (ok_store (by with_reducible assumption)) fun _ => ?_

theorem ok_part334 {x1 x2 x3 x4 x5 x6 x7 x8 x9 x10 x11 x12 x13 x14 x15 x16 x17 x18 x19 x20 x21 x22 x23 x24} : Ok c bd I (k0_part334 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24) (fun _ => True) := by
  cases H
  unfold k0_part334
  repeat first
    | with_reducible exact ok_ret trivial
    | refine ok_seq (ok_load (by with_reducible assumption)) fun _ => ?_

theorem ok_part335 {x1 x2 x3 x4 x5 x6 x7 x8 x9 x10 x11 x12 x13 x14 x15 x16} : Ok c bd I (k0_part335 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part335
  repeat first
    | with_reducible exact ok_ret trivial
    | refine ok_seq (ok_load (by with_reducible assumption)) fun _ => ?_
    | refine ok_seq (ok_store (by with_reducible assumption)) fun _ => ?_

theorem ok_part336 {x1 x2 x3 x4 x5 x6 x7 x8 x9} : Ok c bd I (k0_part336 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  cases H
  unfold k0_part336
  repeat first
    | with_reducible exact ok_ret trivial
    | refine ok_seq (ok_load (by with_reducible assumption)) fun _ => ?_
    | refine ok_seq (ok_store (by with_reducible assumption)) fun _ => ?_

theorem ok_part337 {x1 x2 x3} : Ok c bd I (k0_part337 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  unfold k0_part337
  exact ok_ret trivial

theorem ok_part338 {x1 x2 x3 x4} : Ok c bd I (k0_part338 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part338
  repeat first
    | with_reducible exact ok_ret trivial
    | refine ok_seq (ok_load (by with_reducible assumption)) fun _ => ?_
    | refine ok_seq (ok_store (by with_reducible assumption)) fun _ => ?_

theorem ok_part339 {x1 x2 x3 x4 x5 x6 x7 x8 x9 x10 x11 x12 x13 x14 x15 x16 x17 x18 x19 x20 x21 x22 x23 x24 x25 x26 x27 x28 x29 x30 x31} : Ok c bd I (k0_part339 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31) (fun _ => True) := by
  cases H
  unfold k0_part339
  repeat first
    | with_reducible exact ok_ret trivial
    | refine ok_seq (ok_load (by with_reducible assumption)) fun _ => ?_
    | refine ok_seq (ok_store (by with_reducible assumption)) fun _ => ?_

theorem ok_part340 {x1 x2 x3 x4 x5 x6 x7 x8 x9} : Ok c bd I (k0_part340 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  unfold k0_part340
  exact ok_ret trivial

theorem ok_part341 {x1 x2} : Ok c bd I (k0_part341 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part341
  repeat first
    | with_reducible exact ok_ret trivial
    | refine ok_seq (ok_load (by with_reducible assumption)) fun _ => ?_
    | refine ok_seq (ok_store (by with_reducible assumption)) fun _ => ?_

theorem ok_part342 {x1 x2 x3 x4 x5 x6 x7 x8 x9 x10 x11 x12 x13 x14 x15 x16 x17 x18 x19 x20 x21 x22 x23 x24 x25 x26 x27 x28 x29 x30 x31 x32 x33 x34 x35 x36 x37 x38} : Ok c bd I (k0_part342 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37 x38) (fun _ => True) := by
  cases H
  unfold k0_part342
  repeat first
    | with_reducible exact ok_ret trivial
    | refine ok_seq (ok_load (by with_reducible assumption)) fun _ => ?_

theorem ok_part343 {x1 x2 x3 x4 x5 x6 x7 x8 x9 x10 x11 x12 x13 x14 x15} : Ok c bd I (k0_part343 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part343
  repeat first
    | with_reducible exact ok_ret trivial
    | refine ok_seq (ok_load (by with_reducible assumption)) fun _ => ?_

theorem ok_part344 {x1 x2 x3 x4 x5 x6 x7 x8 x9 x10 x11 x12 x13 x14 x15 x16 x17 x18 x19 x20} : Ok c bd I (k0_part344 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20) (fun _ => True) := by
  cases H
  unfold k0_part344
  repeat first
    | with_reducible exact ok_ret trivial
    | refine ok_seq (ok_load (by with_reducible assumption)) fun _ => ?_
    | refine ok_seq (ok_store (by with_reducible assumption)) fun _ => ?_

theorem ok_part346 {x1 x2 x3 x4 x5 x6 x7 x8 x9 x10} : Ok c bd I (k0_part346 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part346
  repeat first
    | with_reducible exact ok_ret trivial
    | refine ok_seq (ok_load (by with_reducible assumption)) fun _ => ?_

theorem ok_part347 {x1 x2} : Ok c bd I (k0_part347 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part347
  repeat first
    | with_reducible exact ok_ret trivial
    | refine ok_seq (ok_load (by with_reducible assumption)) fun _ => ?_
    | refine ok_seq (ok_store (by with_reducible assumption)) fun _ => ?_

theorem ok_part348 {x1 x2 x3 x4 x5 x6 x7 x8 x9 x10 x11 x12 x13 x14} : Ok c bd I (k0_part348 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14) (fun _ => True) := by
  cases H
  unfold k0_part348
  repeat first
    | with_reducible exact ok_ret trivial
    | refine ok_seq (ok_load (by with_reducible assumption)) fun _ => ?_
    | refine ok_seq (ok_store (by with_reducible assumption)) fun _ => ?_

theorem ok_part349 {x1 x2 x3 x4 x5 x6 x7 x8 x9 x10 x11 x12 x13 x14 x15 x16 x17 x18 x19 x20 x21 x22 x23 x24 x25 x26 x27 x28 x29 x30 x31 x32 x33 x34} : Ok c bd I (k0_part349 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34) (fun _ => True) := by
  cases H
  unfold k0_part349
  repeat first
    | with_reducible exact ok_ret trivial
    | refine ok_seq (ok_load (by with_reducible assumption)) fun _ => ?_
    | refine ok_seq (ok_store (by with_reducible assumption)) fun _ => ?_

theorem ok_part350 {x1 x2 x3 x4 x5 x6 x7 x8 x9 x10 x11} : Ok c bd I (k0_part350 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  cases H
  unfold k0_part350
  repeat first
    | with_reducible exact ok_ret trivial
    | refine ok_seq (ok_load (by with_reducible assumption)) fun _ => ?_

theorem ok_part351 {x1 x2 x3} : Ok c bd I (k0_part351 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part351
  repeat first
    | with_reducible exact ok_ret trivial
    | refine ok_seq (ok_load (by with_reducible assumption)) fun _ => ?_
    | refine ok_seq (ok_store (by with_reducible assumption)) fun _ => ?_

theorem ok_part352 {x1 x2 x3 x4 x5 x6 x7 x8 x9 x10 x11 x12 x13 x14 x15 x16 x17 x18 x19 x20 x21 x22 x23 x24 x25 x26 x27 x28 x29 x30 x31 x32 x33} : Ok c bd I (k0_part352 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33) (fun _ => True) := by
  cases H
  unfold k0_part352
  repeat first
    | with_reducible exact ok_ret trivial
    | refine ok_seq (ok_load (by with_reducible assumption)) fun _ => ?_

theorem ok_part353 {x1 x2 x3 x4 x5 x6 x7 x8 x9 x10 x11 x12 x13 x14 x15} : Ok c bd I (k0_part353 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part353
  repeat first
    | with_reducible exact ok_ret trivial
    | refine ok_seq (ok_load (by with_reducible assumption)) fun _ => ?_

theorem ok_part354 {x1 x2 x3 x4 x5 x6 x7 x8 x9 x10} : Ok c bd I (k0_part354 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part354
  repeat first
    | with_reducible exact ok_ret trivial
    | refine ok_seq (ok_load (by with_reducible assumption)) fun _ => ?_
    | refine ok_seq (ok_store (by with_reducible assumption)) fun _ => ?_

theorem ok_part355 {x1} : Ok c bd I (k0_part355 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  unfold k0_part355
  exact ok_ret trivial

theorem ok_part356 {x1 x2 x3 x4 x5 x6} : Ok c bd I (k0_part356 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  cases H
  unfold k0_part356
  repeat first
    | with_reducible exact ok_ret trivial
    | refine ok_seq (ok_load (by with_reducible assumption)) fun _ => ?_
    | refine ok_seq (ok_store (by with_reducible assumption)) fun _ => ?_

theorem ok_part357 {x1 x2 x3 x4 x5 x6 x7 x8 x9 x10 x11 x12 x13 x14 x15 x16 x17 x18 x19 x20 x21 x22 x23 x24 x25 x26 x27} : Ok c bd I (k0_part357 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27) (fun _ => True) := by
  cases H
  unfold k0_part357
  repeat first
    | with_reducible exact ok_ret trivial
    | refine ok_seq (ok_load (by with_reducible assumption)) fun _ => ?_
    | refine ok_seq (ok_store (by with_reducible assumption)) fun _ => ?_

theorem ok_part358 {x1 x2 x3 x4 x5 x6 x7 x8 x9 x10 x11 x12 x13 x14 x15 x16 x17 x18 x19 x20 x21} : Ok c bd I (k0_part358 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part358
  repeat first
    | with_reducible exact ok_ret trivial
    | refine ok_seq (ok_load (by with_reducible assumption)) fun _ => ?_

theorem ok_part359 {x1 x2} : Ok c bd I (k0_part359 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part359
  repeat first
    | with_reducible exact ok_ret trivial
    | refine ok_seq (ok_store (by with_reducible assumption)) fun _ => ?_

theorem ok_part360 {x1 x2 x3 x4 x5 x6 x7 x8 x9 x10 x11 x12 x13 x14 x15 x16 x17 x18 x19 x20 x21 x22 x23 x24} : Ok c bd I (k0_part360 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24) (fun _ => True) := by
  cases H
  unfold k0_part360
  repeat first
    | with_reducible exact ok_ret trivial
    | refine ok_seq (ok_load (by with_reducible assumption)) fun _ => ?_

end Cert.Proof.Att

end
-- ==== Proof.Att.Leaf03.lean ====
/-
  Straight-line stretches of the attention kernel's body, part361 to part444: each loads and stores buffers that are held, and no more.
-/
module

public import proofs.«01_k».proof.Proof.Att.Ok

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

theorem ok_part361 {x1 x2 x3 x4 x5 x6 x7 x8 x9 x10 x11 x12 x13 x14 x15 x16} : Ok c bd I (k0_part361 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part361
  repeat first
    | with_reducible exact ok_ret trivial
    | refine ok_seq (ok_load (by with_reducible assumption)) fun _ => ?_
    | refine ok_seq (ok_store (by with_reducible assumption)) fun _ => ?_

theorem ok_part362 {x1 x2 x3 x4 x5 x6 x7 x8 x9} : Ok c bd I (k0_part362 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  cases H
  unfold k0_part362
  repeat first
    | with_reducible exact ok_ret trivial
    | refine ok_seq (ok_load (by with_reducible assumption)) fun _ => ?_
    | refine ok_seq (ok_store (by with_reducible assumption)) fun _ => ?_

theorem ok_part363 {x1 x2 x3 x4 x5 x6 x7 x8 x9} : Ok c bd I (k0_part363 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  unfold k0_part363
  exact ok_ret trivial

theorem ok_part364 {x1 x2} : Ok c bd I (k0_part364 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part364
  repeat first
    | with_reducible exact ok_ret trivial
    | refine ok_seq (ok_load (by with_reducible assumption)) fun _ => ?_
    | refine ok_seq (ok_store (by with_reducible assumption)) fun _ => ?_

theorem ok_part365 {x1 x2 x3 x4 x5 x6 x7 x8 x9 x10 x11 x12 x13 x14 x15 x16 x17 x18 x19} : Ok c bd I (k0_part365 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  cases H
  unfold k0_part365
  repeat first
    | with_reducible exact ok_ret trivial
    | refine ok_seq (ok_load (by with_reducible assumption)) fun _ => ?_
    | refine ok_seq (ok_store (by with_reducible assumption)) fun _ => ?_

theorem ok_part366 {x1 x2 x3 x4 x5 x6 x7 x8 x9 x10 x11 x12 x13 x14 x15 x16 x17 x18 x19 x20 x21 x22 x23 x24 x25 x26 x27 x28 x29} : Ok c bd I (k0_part366 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29) (fun _ => True) := by
  cases H
  unfold k0_part366
  repeat first
    | with_reducible exact ok_ret trivial
    | refine ok_seq (ok_load (by with_reducible assumption)) fun _ => ?_
    | refine ok_seq (ok_store (by with_reducible assumption)) fun _ => ?_

theorem ok_part367 {x1 x2 x3 x4 x5 x6} : Ok c bd I (k0_part367 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  unfold k0_part367
  exact ok_ret trivial

theorem ok_part368 {x1 x2 x3 x4 x5 x6 x7 x8 x9 x10 x11 x12 x13 x14 x15 x16 x17 x18} : Ok c bd I (k0_part368 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  cases H
  unfold k0_part368
  repeat first
    | with_reducible exact ok_ret trivial
    | refine ok_seq (ok_load (by with_reducible assumption)) fun _ => ?_

theorem ok_part369 {x1 x2 x3 x4 x5 x6 x7 x8 x9 x10 x11 x12 x13 x14 x15 x16 x17 x18 x19 x20 x21} : Ok c bd I (k0_part369 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part369
  repeat first
    | with_reducible exact ok_ret trivial
    | refine ok_seq (ok_load (by with_reducible assumption)) fun _ => ?_
    | refine ok_seq (ok_store (by with_reducible assumption)) fun _ => ?_

theorem ok_part370 {x1 x2 x3 x4 x5 x6 x7 x8 x9 x10 x11 x12 x13} : Ok c bd I (k0_part370 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part370
  repeat first
    | with_reducible exact ok_ret trivial
    | refine ok_seq (ok_load (by with_reducible assumption)) fun _ => ?_
    | refine ok_seq (ok_store (by with_reducible assumption)) fun _ => ?_

theorem ok_part371 {x1 x2 x3 x4 x5 x6 x7 x8 x9 x10 x11 x12 x13 x14 x15 x16 x17 x18 x19} : Ok c bd I (k0_part371 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  cases H
  unfold k0_part371
  repeat first
    | with_reducible exact ok_ret trivial
    | refine ok_seq (ok_load (by with_reducible assumption)) fun _ => ?_

theorem ok_part372 {x1} : Ok c bd I (k0_part372 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part372
  repeat first
    | with_reducible exact ok_ret trivial
    | refine ok_seq (ok_load (by with_reducible assumption)) fun _ => ?_
    | refine ok_seq (ok_store (by with_reducible assumption)) fun _ => ?_

theorem ok_part373 {x1 x2 x3 x4 x5 x6 x7 x8 x9 x10 x11} : Ok c bd I (k0_part373 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  cases H
  unfold k0_part373
  repeat first
    | with_reducible exact ok_ret trivial
    | refine ok_seq (ok_load (by with_reducible assumption)) fun _ => ?_
    | refine ok_seq (ok_store (by with_reducible assumption)) fun _ => ?_

theorem ok_part374 {x1 x2 x3 x4 x5 x6 x7 x8 x9 x10 x11 x12 x13 x14 x15 x16 x17 x18 x19 x20 x21 x22 x23 x24 x25 x26 x27 x28 x29 x30 x31 x32} : Ok c bd I (k0_part374 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32) (fun _ => True) := by
  cases H
  unfold k0_part374
  repeat first
    | with_reducible exact ok_ret trivial
    | refine ok_seq (ok_load (by with_reducible assumption)) fun _ => ?_
    | refine ok_seq (ok_store (by with_reducible assumption)) fun _ => ?_

theorem ok_part375 {x1 x2 x3 x4 x5 x6 x7 x8 x9 x10 x11 x12 x13 x14 x15 x16 x17 x18 x19 x20 x21 x22} : Ok c bd I (k0_part375 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22) (fun _ => True) := by
  cases H
  unfold k0_part375
  repeat first
    | with_reducible exact ok_ret trivial
    | refine ok_seq (ok_load (by with_reducible assumption)) fun _ => ?_

theorem ok_part376 {x1 x2 x3 x4 x5 x6 x7 x8 x9 x10} : Ok c bd I (k0_part376 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part376
  repeat first
    | with_reducible exact ok_ret trivial
    | refine ok_seq (ok_load (by with_reducible assumption)) fun _ => ?_

theorem ok_part377 {x1 x2 x3 x4 x5 x6 x7 x8 x9 x10 x11 x12 x13 x14 x15 x16 x17 x18 x19 x20 x21 x22} : Ok c bd I (k0_part377 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22) (fun _ => True) := by
  cases H
  unfold k0_part377
  repeat first
    | with_reducible exact ok_ret trivial
    | refine ok_seq (ok_load (by with_reducible assumption)) fun _ => ?_
    | refine ok_seq (ok_store (by with_reducible assumption)) fun _ => ?_

theorem ok_part378 {x1 x2 x3 x4 x5 x6 x7 x8 x9 x10 x11 x12 x13} : Ok c bd I (k0_part378 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part378
  repeat first
    | with_reducible exact ok_ret trivial
    | refine ok_seq (ok_load (by with_reducible assumption)) fun _ => ?_
    | refine ok_seq (ok_store (by with_reducible assumption)) fun _ => ?_

theorem ok_part379 {x1 x2 x3 x4 x5 x6 x7 x8 x9 x10 x11 x12 x13} : Ok c bd I (k0_part379 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part379
  repeat first
    | with_reducible exact ok_ret trivial
    | refine ok_seq (ok_load (by with_reducible assumption)) fun _ => ?_

theorem ok_part380 {x1 x2 x3 x4} : Ok c bd I (k0_part380 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part380
  repeat first
    | with_reducible exact ok_ret trivial
    | refine ok_seq (ok_load (by with_reducible assumption)) fun _ => ?_
    | refine ok_seq (ok_store (by with_reducible assumption)) fun _ => ?_

theorem ok_part381 {x1 x2 x3 x4 x5 x6 x7 x8 x9 x10 x11 x12 x13 x14 x15 x16 x17 x18 x19 x20 x21} : Ok c bd I (k0_part381 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part381
  repeat first
    | with_reducible exact ok_ret trivial
    | refine ok_seq (ok_load (by with_reducible assumption)) fun _ => ?_
    | refine ok_seq (ok_store (by with_reducible assumption)) fun _ => ?_

theorem ok_part382 {x1 x2 x3 x4 x5 x6 x7 x8 x9 x10 x11 x12 x13 x14 x15 x16 x17 x18 x19 x20 x21} : Ok c bd I (k0_part382 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part382
  repeat first
    | with_reducible exact ok_ret trivial
    | refine ok_seq (ok_load (by with_reducible assumption)) fun _ => ?_

theorem ok_part383 {x1 x2} : Ok c bd I (k0_part383 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part383
  repeat first
    | with_reducible exact ok_ret trivial
    | refine ok_seq (ok_load (by with_reducible assumption)) fun _ => ?_
    | refine ok_seq (ok_store (by with_reducible assumption)) fun _ => ?_

theorem ok_part384 {x1 x2 x3 x4 x5 x6 x7 x8 x9 x10 x11 x12 x13 x14 x15 x16 x17 x18 x19 x20 x21 x22 x23 x24 x25 x26 x27 x28 x29 x30} : Ok c bd I (k0_part384 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30) (fun _ => True) := by
  cases H
  unfold k0_part384
  repeat first
    | with_reducible exact ok_ret trivial
    | refine ok_seq (ok_load (by with_reducible assumption)) fun _ => ?_

theorem ok_part385 {x1 x2 x3 x4 x5 x6 x7 x8 x9 x10 x11 x12 x13 x14 x15 x16} : Ok c bd I (k0_part385 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part385
  repeat first
    | with_reducible exact ok_ret trivial
    | refine ok_seq (ok_load (by with_reducible assumption)) fun _ => ?_

theorem ok_part386 {x1 x2 x3 x4 x5 x6 x7 x8 x9 x10} : Ok c bd I (k0_part386 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part386
  repeat first
    | with_reducible exact ok_ret trivial
    | refine ok_seq (ok_load (by with_reducible assumption)) fun _ => ?_
    | refine ok_seq (ok_store (by with_reducible assumption)) fun _ => ?_

theorem ok_part387 {x1} : Ok c bd I (k0_part387 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part387
  repeat first
    | with_reducible exact ok_ret trivial
    | refine ok_seq (ok_load (by with_reducible assumption)) fun _ => ?_
    | refine ok_seq (ok_store (by with_reducible assumption)) fun _ => ?_

theorem ok_part388 {x1 x2 x3 x4 x5 x6 x7 x8 x9 x10} : Ok c bd I (k0_part388 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part388
  repeat first
    | with_reducible exact ok_ret trivial
    | refine ok_seq (ok_load (by with_reducible assumption)) fun _ => ?_
    | refine ok_seq (ok_store (by with_reducible assumption)) fun _ => ?_

theorem ok_part389 {x1 x2 x3 x4 x5 x6 x7 x8 x9 x10 x11 x12 x13 x14 x15 x16 x17 x18 x19 x20 x21 x22 x23 x24 x25 x26 x27 x28 x29 x30 x31 x32} : Ok c bd I (k0_part389 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32) (fun _ => True) := by
  cases H
  unfold k0_part389
  repeat first
    | with_reducible exact ok_ret trivial
    | refine ok_seq (ok_load (by with_reducible assumption)) fun _ => ?_
    | refine ok_seq (ok_store (by with_reducible assumption)) fun _ => ?_

theorem ok_part390 {x1 x2 x3} : Ok c bd I (k0_part390 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  unfold k0_part390
  exact ok_ret trivial

theorem ok_part391 {x1 x2 x3 x4} : Ok c bd I (k0_part391 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part391
  repeat first
    | with_reducible exact ok_ret trivial
    | refine ok_seq (ok_load (by with_reducible assumption)) fun _ => ?_
    | refine ok_seq (ok_store (by with_reducible assumption)) fun _ => ?_

theorem ok_part392 {x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44} : Ok c bd I (k0_part392 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44) (fun _ => True) := by
  cases H
  unfold k0_part392
  repeat first
    | with_reducible exact ok_ret trivial
    | refine ok_seq (ok_load (by with_reducible assumption)) fun _ => ?_

theorem ok_part393 {x1 x2 x3 x4 x5 x6 x7 x8 x9 x10 x11 x12 x13 x14 x15} : Ok c bd I (k0_part393 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part393
  repeat first
    | with_reducible exact ok_ret trivial
    | refine ok_seq (ok_load (by with_reducible assumption)) fun _ => ?_

theorem ok_part394 {x1 x2 x3 x4 x5 x6 x7 x8 x9 x10 x11 x12 x13 x14 x15 x16 x17 x18 x19 x20} : Ok c bd I (k0_part394 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20) (fun _ => True) := by
  cases H
  unfold k0_part394
  repeat first
    | with_reducible exact ok_ret trivial
    | refine ok_seq (ok_load (by with_reducible assumption)) fun _ => ?_
    | refine ok_seq (ok_store (by with_reducible assumption)) fun _ => ?_

theorem ok_part395 {x1 x2 x3 x4 x5 x6 x7 x8 x9 x10 x11 x12 x13 x14 x15} : Ok c bd I (k0_part395 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part395
  repeat first
    | with_reducible exact ok_ret trivial
    | refine ok_seq (ok_load (by with_reducible assumption)) fun _ => ?_

theorem ok_part396 {x1 x2 x3 x4 x5 x6 x7 x8 x9} : Ok c bd I (k0_part396 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  cases H
  unfold k0_part396
  repeat first
    | with_reducible exact ok_ret trivial
    | refine ok_seq (ok_load (by with_reducible assumption)) fun _ => ?_

theorem ok_part397 {x1} : Ok c bd I (k0_part397 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part397
  repeat first
    | with_reducible exact ok_ret trivial
    | refine ok_seq (ok_load (by with_reducible assumption)) fun _ => ?_
    | refine ok_seq (ok_store (by with_reducible assumption)) fun _ => ?_

theorem ok_part398 {x1 x2 x3 x4 x5 x6 x7 x8 x9 x10 x11 x12} : Ok c bd I (k0_part398 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part398
  repeat first
    | with_reducible exact ok_ret trivial
    | refine ok_seq (ok_load (by with_reducible assumption)) fun _ => ?_
    | refine ok_seq (ok_store (by with_reducible assumption)) fun _ => ?_

theorem ok_part399 {x1 x2 x3 x4 x5 x6 x7 x8 x9 x10 x11 x12 x13 x14 x15 x16 x17 x18 x19 x20 x21 x22 x23 x24 x25 x26 x27 x28 x29 x30 x31 x32 x33} : Ok c bd I (k0_part399 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33) (fun _ => True) := by
  cases H
  unfold k0_part399
  repeat first
    | with_reducible exact ok_ret trivial
    | refine ok_seq (ok_load (by with_reducible assumption)) fun _ => ?_
    | refine ok_seq (ok_store (by with_reducible assumption)) fun _ => ?_

theorem ok_part400 {x1 x2 x3 x4 x5 x6 x7 x8 x9 x10 x11 x12 x13} : Ok c bd I (k0_part400 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part400
  repeat first
    | with_reducible exact ok_ret trivial
    | refine ok_seq (ok_load (by with_reducible assumption)) fun _ => ?_

theorem ok_part401 {x1 x2 x3 x4} : Ok c bd I (k0_part401 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part401
  repeat first
    | with_reducible exact ok_ret trivial
    | refine ok_seq (ok_load (by with_reducible assumption)) fun _ => ?_
    | refine ok_seq (ok_store (by with_reducible assumption)) fun _ => ?_

theorem ok_part402 {x1 x2 x3 x4 x5 x6 x7 x8 x9 x10 x11 x12 x13 x14 x15 x16 x17 x18 x19 x20 x21 x22 x23 x24 x25 x26 x27 x28 x29 x30} : Ok c bd I (k0_part402 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30) (fun _ => True) := by
  cases H
  unfold k0_part402
  repeat first
    | with_reducible exact ok_ret trivial
    | refine ok_seq (ok_load (by with_reducible assumption)) fun _ => ?_

theorem ok_part403 {x1 x2 x3 x4 x5 x6 x7 x8 x9 x10 x11 x12 x13 x14 x15 x16} : Ok c bd I (k0_part403 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part403
  repeat first
    | with_reducible exact ok_ret trivial
    | refine ok_seq (ok_load (by with_reducible assumption)) fun _ => ?_

theorem ok_part404 {x1 x2 x3 x4 x5 x6 x7 x8 x9} : Ok c bd I (k0_part404 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  cases H
  unfold k0_part404
  repeat first
    | with_reducible exact ok_ret trivial
    | refine ok_seq (ok_load (by with_reducible assumption)) fun _ => ?_
    | refine ok_seq (ok_store (by with_reducible assumption)) fun _ => ?_

theorem ok_part405 {x1 x2 x3} : Ok c bd I (k0_part405 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  unfold k0_part405
  exact ok_ret trivial

theorem ok_part406 {x1 x2 x3 x4} : Ok c bd I (k0_part406 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part406
  repeat first
    | with_reducible exact ok_ret trivial
    | refine ok_seq (ok_load (by with_reducible assumption)) fun _ => ?_
    | refine ok_seq (ok_store (by with_reducible assumption)) fun _ => ?_

theorem ok_part407 {x1 x2 x3 x4 x5 x6 x7 x8 x9 x10 x11 x12 x13 x14 x15 x16 x17 x18 x19 x20 x21 x22 x23 x24 x25} : Ok c bd I (k0_part407 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25) (fun _ => True) := by
  cases H
  unfold k0_part407
  repeat first
    | with_reducible exact ok_ret trivial
    | refine ok_seq (ok_load (by with_reducible assumption)) fun _ => ?_
    | refine ok_seq (ok_store (by with_reducible assumption)) fun _ => ?_

theorem ok_part408 {x1 x2 x3 x4 x5 x6 x7 x8 x9 x10 x11 x12 x13 x14 x15 x16 x17 x18 x19 x20 x21 x22 x23} : Ok c bd I (k0_part408 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23) (fun _ => True) := by
  cases H
  unfold k0_part408
  repeat first
    | with_reducible exact ok_ret trivial
    | refine ok_seq (ok_load (by with_reducible assumption)) fun _ => ?_

theorem ok_part409 {x1 x2} : Ok c bd I (k0_part409 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part409
  repeat first
    | with_reducible exact ok_ret trivial
    | refine ok_seq (ok_store (by with_reducible assumption)) fun _ => ?_

theorem ok_part410 {x1 x2 x3 x4 x5 x6 x7 x8 x9 x10 x11 x12 x13 x14 x15 x16 x17 x18 x19 x20 x21} : Ok c bd I (k0_part410 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part410
  repeat first
    | with_reducible exact ok_ret trivial
    | refine ok_seq (ok_load (by with_reducible assumption)) fun _ => ?_

theorem ok_part411 {x1 x2 x3 x4 x5 x6 x7 x8 x9 x10 x11 x12 x13 x14 x15 x16 x17 x18 x19 x20 x21} : Ok c bd I (k0_part411 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  cases H
  unfold k0_part411
  repeat first
    | with_reducible exact ok_ret trivial
    | refine ok_seq (ok_load (by with_reducible assumption)) fun _ => ?_
    | refine ok_seq (ok_store (by with_reducible assumption)) fun _ => ?_

theorem ok_part412 {x1 x2 x3 x4 x5 x6 x7 x8 x9} : Ok c bd I (k0_part412 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  cases H
  unfold k0_part412
  repeat first
    | with_reducible exact ok_ret trivial
    | refine ok_seq (ok_load (by with_reducible assumption)) fun _ => ?_
    | refine ok_seq (ok_store (by with_reducible assumption)) fun _ => ?_

theorem ok_part413 {x1 x2 x3 x4 x5 x6 x7 x8 x9 x10 x11} : Ok c bd I (k0_part413 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  cases H
  unfold k0_part413
  repeat first
    | with_reducible exact ok_ret trivial
    | refine ok_seq (ok_load (by with_reducible assumption)) fun _ => ?_

theorem ok_part414 {x1 x2 x3} : Ok c bd I (k0_part414 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part414
  repeat first
    | with_reducible exact ok_ret trivial
    | refine ok_seq (ok_load (by with_reducible assumption)) fun _ => ?_
    | refine ok_seq (ok_store (by with_reducible assumption)) fun _ => ?_

theorem ok_part415 {x1 x2 x3 x4 x5 x6 x7 x8 x9 x10 x11 x12 x13 x14 x15 x16 x17} : Ok c bd I (k0_part415 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17) (fun _ => True) := by
  cases H
  unfold k0_part415
  repeat first
    | with_reducible exact ok_ret trivial
    | refine ok_seq (ok_load (by with_reducible assumption)) fun _ => ?_
    | refine ok_seq (ok_store (by with_reducible assumption)) fun _ => ?_

theorem ok_part416 {x1 x2 x3 x4 x5 x6 x7 x8 x9 x10 x11 x12 x13 x14 x15 x16 x17 x18 x19 x20 x21 x22 x23 x24 x25 x26 x27 x28 x29 x30 x31} : Ok c bd I (k0_part416 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31) (fun _ => True) := by
  cases H
  unfold k0_part416
  repeat first
    | with_reducible exact ok_ret trivial
    | refine ok_seq (ok_load (by with_reducible assumption)) fun _ => ?_
    | refine ok_seq (ok_store (by with_reducible assumption)) fun _ => ?_

theorem ok_part417 {x1 x2 x3 x4 x5 x6 x7 x8 x9} : Ok c bd I (k0_part417 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9) (fun _ => True) := by
  unfold k0_part417
  exact ok_ret trivial

theorem ok_part418 {x1 x2 x3 x4 x5 x6 x7 x8 x9 x10 x11 x12 x13 x14 x15 x16} : Ok c bd I (k0_part418 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part418
  repeat first
    | with_reducible exact ok_ret trivial
    | refine ok_seq (ok_load (by with_reducible assumption)) fun _ => ?_

theorem ok_part419 {x1 x2 x3 x4 x5 x6 x7 x8 x9 x10 x11 x12 x13 x14 x15 x16 x17 x18 x19} : Ok c bd I (k0_part419 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  cases H
  unfold k0_part419
  repeat first
    | with_reducible exact ok_ret trivial
    | refine ok_seq (ok_load (by with_reducible assumption)) fun _ => ?_
    | refine ok_seq (ok_store (by with_reducible assumption)) fun _ => ?_

theorem ok_part420 {x1 x2 x3 x4 x5 x6 x7 x8 x9 x10 x11} : Ok c bd I (k0_part420 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  cases H
  unfold k0_part420
  repeat first
    | with_reducible exact ok_ret trivial
    | refine ok_seq (ok_load (by with_reducible assumption)) fun _ => ?_
    | refine ok_seq (ok_store (by with_reducible assumption)) fun _ => ?_

theorem ok_part421 {x1 x2 x3 x4 x5 x6 x7} : Ok c bd I (k0_part421 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  unfold k0_part421
  exact ok_ret trivial

theorem ok_part422 {x1 x2} : Ok c bd I (k0_part422 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part422
  repeat first
    | with_reducible exact ok_ret trivial
    | refine ok_seq (ok_load (by with_reducible assumption)) fun _ => ?_
    | refine ok_seq (ok_store (by with_reducible assumption)) fun _ => ?_

theorem ok_part423 {x1 x2 x3 x4 x5 x6 x7 x8 x9 x10 x11 x12 x13 x14 x15 x16 x17 x18 x19 x20 x21 x22 x23 x24 x25 x26 x27} : Ok c bd I (k0_part423 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27) (fun _ => True) := by
  cases H
  unfold k0_part423
  repeat first
    | with_reducible exact ok_ret trivial
    | refine ok_seq (ok_load (by with_reducible assumption)) fun _ => ?_
    | refine ok_seq (ok_store (by with_reducible assumption)) fun _ => ?_

theorem ok_part424 {x1 x2 x3 x4 x5 x6 x7 x8 x9 x10 x11 x12 x13} : Ok c bd I (k0_part424 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part424
  repeat first
    | with_reducible exact ok_ret trivial
    | refine ok_seq (ok_load (by with_reducible assumption)) fun _ => ?_

theorem ok_part425 {x1 x2 x3 x4} : Ok c bd I (k0_part425 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part425
  repeat first
    | with_reducible exact ok_ret trivial
    | refine ok_seq (ok_load (by with_reducible assumption)) fun _ => ?_
    | refine ok_seq (ok_store (by with_reducible assumption)) fun _ => ?_

theorem ok_part426 {x1 x2 x3 x4 x5 x6 x7 x8 x9 x10 x11 x12 x13 x14 x15 x16 x17 x18 x19 x20 x21 x22 x23 x24 x25 x26 x27 x28 x29 x30 x31 x32 x33 x34 x35} : Ok c bd I (k0_part426 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35) (fun _ => True) := by
  cases H
  unfold k0_part426
  repeat first
    | with_reducible exact ok_ret trivial
    | refine ok_seq (ok_load (by with_reducible assumption)) fun _ => ?_

theorem ok_part427 {x1 x2 x3 x4 x5 x6 x7 x8 x9 x10 x11 x12 x13 x14 x15 x16} : Ok c bd I (k0_part427 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part427
  repeat first
    | with_reducible exact ok_ret trivial
    | refine ok_seq (ok_load (by with_reducible assumption)) fun _ => ?_

theorem ok_part428 {x1 x2 x3 x4 x5 x6 x7 x8 x9 x10} : Ok c bd I (k0_part428 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part428
  repeat first
    | with_reducible exact ok_ret trivial
    | refine ok_seq (ok_load (by with_reducible assumption)) fun _ => ?_
    | refine ok_seq (ok_store (by with_reducible assumption)) fun _ => ?_

theorem ok_part429 {x1} : Ok c bd I (k0_part429 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part429
  repeat first
    | with_reducible exact ok_ret trivial
    | refine ok_seq (ok_load (by with_reducible assumption)) fun _ => ?_
    | refine ok_seq (ok_store (by with_reducible assumption)) fun _ => ?_

theorem ok_part430 {x1 x2 x3 x4 x5 x6 x7 x8 x9 x10 x11 x12 x13 x14 x15 x16} : Ok c bd I (k0_part430 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part430
  repeat first
    | with_reducible exact ok_ret trivial
    | refine ok_seq (ok_load (by with_reducible assumption)) fun _ => ?_
    | refine ok_seq (ok_store (by with_reducible assumption)) fun _ => ?_

theorem ok_part431 {x1 x2 x3 x4 x5 x6 x7 x8 x9 x10 x11 x12 x13 x14 x15 x16 x17 x18 x19 x20 x21 x22 x23 x24 x25 x26} : Ok c bd I (k0_part431 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26) (fun _ => True) := by
  cases H
  unfold k0_part431
  repeat first
    | with_reducible exact ok_ret trivial
    | refine ok_seq (ok_load (by with_reducible assumption)) fun _ => ?_

theorem ok_part432 {x1} : Ok c bd I (k0_part432 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part432
  repeat first
    | with_reducible exact ok_ret trivial
    | refine ok_seq (ok_load (by with_reducible assumption)) fun _ => ?_
    | refine ok_seq (ok_store (by with_reducible assumption)) fun _ => ?_

theorem ok_part433 {x1 x2 x3 x4 x5 x6 x7 x8 x9 x10} : Ok c bd I (k0_part433 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part433
  repeat first
    | with_reducible exact ok_ret trivial
    | refine ok_seq (ok_load (by with_reducible assumption)) fun _ => ?_
    | refine ok_seq (ok_store (by with_reducible assumption)) fun _ => ?_

theorem ok_part434 {x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44} : Ok c bd I (k0_part434 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44) (fun _ => True) := by
  cases H
  unfold k0_part434
  repeat first
    | with_reducible exact ok_ret trivial
    | refine ok_seq (ok_load (by with_reducible assumption)) fun _ => ?_

theorem ok_part435 {x1 x2 x3 x4 x5 x6 x7 x8 x9 x10 x11 x12 x13 x14 x15} : Ok c bd I (k0_part435 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part435
  repeat first
    | with_reducible exact ok_ret trivial
    | refine ok_seq (ok_load (by with_reducible assumption)) fun _ => ?_

theorem ok_part436 {x1 x2 x3 x4 x5 x6 x7 x8 x9 x10 x11 x12 x13 x14 x15 x16 x17 x18 x19 x20 x21 x22} : Ok c bd I (k0_part436 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22) (fun _ => True) := by
  cases H
  unfold k0_part436
  repeat first
    | with_reducible exact ok_ret trivial
    | refine ok_seq (ok_load (by with_reducible assumption)) fun _ => ?_
    | refine ok_seq (ok_store (by with_reducible assumption)) fun _ => ?_

theorem ok_part437 {x1 x2 x3 x4 x5 x6 x7 x8 x9 x10 x11 x12 x13 x14 x15} : Ok c bd I (k0_part437 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part437
  repeat first
    | with_reducible exact ok_ret trivial
    | refine ok_seq (ok_load (by with_reducible assumption)) fun _ => ?_

theorem ok_part438 {x1 x2 x3 x4 x5 x6 x7 x8} : Ok c bd I (k0_part438 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  cases H
  unfold k0_part438
  repeat first
    | with_reducible exact ok_ret trivial
    | refine ok_seq (ok_load (by with_reducible assumption)) fun _ => ?_

theorem ok_part439 {x1} : Ok c bd I (k0_part439 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part439
  repeat first
    | with_reducible exact ok_ret trivial
    | refine ok_seq (ok_load (by with_reducible assumption)) fun _ => ?_
    | refine ok_seq (ok_store (by with_reducible assumption)) fun _ => ?_

theorem ok_part440 {x1 x2 x3 x4 x5 x6 x7 x8 x9 x10} : Ok c bd I (k0_part440 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part440
  repeat first
    | with_reducible exact ok_ret trivial
    | refine ok_seq (ok_load (by with_reducible assumption)) fun _ => ?_
    | refine ok_seq (ok_store (by with_reducible assumption)) fun _ => ?_

theorem ok_part441 {x1 x2 x3 x4 x5 x6 x7 x8 x9 x10 x11 x12 x13 x14 x15 x16 x17 x18 x19 x20 x21 x22 x23 x24 x25 x26 x27 x28 x29 x30 x31} : Ok c bd I (k0_part441 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31) (fun _ => True) := by
  cases H
  unfold k0_part441
  repeat first
    | with_reducible exact ok_ret trivial
    | refine ok_seq (ok_load (by with_reducible assumption)) fun _ => ?_
    | refine ok_seq (ok_store (by with_reducible assumption)) fun _ => ?_

theorem ok_part442 {x1 x2 x3 x4 x5 x6 x7 x8 x9 x10 x11 x12 x13 x14 x15 x16 x17} : Ok c bd I (k0_part442 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17) (fun _ => True) := by
  cases H
  unfold k0_part442
  repeat first
    | with_reducible exact ok_ret trivial
    | refine ok_seq (ok_load (by with_reducible assumption)) fun _ => ?_

theorem ok_part443 {x1} : Ok c bd I (k0_part443 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part443
  repeat first
    | with_reducible exact ok_ret trivial
    | refine ok_seq (ok_load (by with_reducible assumption)) fun _ => ?_
    | refine ok_seq (ok_store (by with_reducible assumption)) fun _ => ?_

theorem ok_part444 {x1 x2 x3 x4 x5 x6 x7 x8 x9 x10 x11 x12 x13 x14 x15 x16 x17 x18 x19 x20 x21 x22 x23 x24 x25 x26 x27} : Ok c bd I (k0_part444 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27) (fun _ => True) := by
  cases H
  unfold k0_part444
  repeat first
    | with_reducible exact ok_ret trivial
    | refine ok_seq (ok_load (by with_reducible assumption)) fun _ => ?_

end Cert.Proof.Att

end
-- ==== Proof.Att.Leaf04.lean ====
/-
  Straight-line stretches of the attention kernel's body, part445 to part526: each loads and stores buffers that are held, and no more.
-/
module

public import proofs.«01_k».proof.Proof.Att.Ok

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

theorem ok_part445 {x1 x2 x3 x4 x5 x6 x7 x8 x9 x10 x11 x12 x13 x14 x15} : Ok c bd I (k0_part445 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part445
  repeat first
    | with_reducible exact ok_ret trivial
    | refine ok_seq (ok_load (by with_reducible assumption)) fun _ => ?_

theorem ok_part446 {x1 x2 x3 x4 x5 x6 x7 x8} : Ok c bd I (k0_part446 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  cases H
  unfold k0_part446
  repeat first
    | with_reducible exact ok_ret trivial
    | refine ok_seq (ok_load (by with_reducible assumption)) fun _ => ?_
    | refine ok_seq (ok_store (by with_reducible assumption)) fun _ => ?_

theorem ok_part447 {x1 x2 x3 x4 x5} : Ok c bd I (k0_part447 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  unfold k0_part447
  exact ok_ret trivial

theorem ok_part448 {x1 x2 x3} : Ok c bd I (k0_part448 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part448
  repeat first
    | with_reducible exact ok_ret trivial
    | refine ok_seq (ok_load (by with_reducible assumption)) fun _ => ?_
    | refine ok_seq (ok_store (by with_reducible assumption)) fun _ => ?_

theorem ok_part449 {x1 x2 x3 x4 x5 x6 x7 x8 x9 x10 x11 x12 x13 x14 x15 x16 x17 x18 x19 x20 x21 x22 x23} : Ok c bd I (k0_part449 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23) (fun _ => True) := by
  cases H
  unfold k0_part449
  repeat first
    | with_reducible exact ok_ret trivial
    | refine ok_seq (ok_load (by with_reducible assumption)) fun _ => ?_
    | refine ok_seq (ok_store (by with_reducible assumption)) fun _ => ?_

theorem ok_part450 {x1 x2 x3 x4 x5 x6 x7 x8 x9 x10 x11 x12 x13 x14 x15 x16 x17 x18 x19 x20 x21 x22 x23 x24 x25} : Ok c bd I (k0_part450 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25) (fun _ => True) := by
  cases H
  unfold k0_part450
  repeat first
    | with_reducible exact ok_ret trivial
    | refine ok_seq (ok_load (by with_reducible assumption)) fun _ => ?_
    | refine ok_seq (ok_store (by with_reducible assumption)) fun _ => ?_

theorem ok_part451 {x1 x2} : Ok c bd I (k0_part451 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  unfold k0_part451
  exact ok_ret trivial

theorem ok_part452 {x1 x2 x3 x4 x5 x6 x7 x8 x9 x10 x11 x12 x13 x14 x15 x16 x17 x18} : Ok c bd I (k0_part452 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  cases H
  unfold k0_part452
  repeat first
    | with_reducible exact ok_ret trivial
    | refine ok_seq (ok_load (by with_reducible assumption)) fun _ => ?_

theorem ok_part453 {x1 x2 x3 x4 x5 x6 x7 x8 x9 x10 x11 x12 x13 x14 x15 x16 x17 x18 x19 x20} : Ok c bd I (k0_part453 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20) (fun _ => True) := by
  cases H
  unfold k0_part453
  repeat first
    | with_reducible exact ok_ret trivial
    | refine ok_seq (ok_load (by with_reducible assumption)) fun _ => ?_
    | refine ok_seq (ok_store (by with_reducible assumption)) fun _ => ?_

theorem ok_part454 {x1 x2 x3 x4 x5 x6 x7 x8 x9 x10} : Ok c bd I (k0_part454 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part454
  repeat first
    | with_reducible exact ok_ret trivial
    | refine ok_seq (ok_load (by with_reducible assumption)) fun _ => ?_
    | refine ok_seq (ok_store (by with_reducible assumption)) fun _ => ?_

theorem ok_part455 {x1} : Ok c bd I (k0_part455 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  unfold k0_part455
  exact ok_ret trivial

theorem ok_part456 {x1 x2 x3 x4 x5 x6} : Ok c bd I (k0_part456 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  cases H
  unfold k0_part456
  repeat first
    | with_reducible exact ok_ret trivial
    | refine ok_seq (ok_load (by with_reducible assumption)) fun _ => ?_
    | refine ok_seq (ok_store (by with_reducible assumption)) fun _ => ?_

theorem ok_part457 {x1 x2 x3 x4 x5 x6 x7 x8 x9 x10 x11 x12 x13 x14 x15 x16 x17 x18 x19 x20 x21 x22 x23 x24 x25 x26 x27 x28 x29 x30 x31 x32 x33} : Ok c bd I (k0_part457 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33) (fun _ => True) := by
  cases H
  unfold k0_part457
  repeat first
    | with_reducible exact ok_ret trivial
    | refine ok_seq (ok_load (by with_reducible assumption)) fun _ => ?_
    | refine ok_seq (ok_store (by with_reducible assumption)) fun _ => ?_

theorem ok_part458 {x1 x2 x3 x4 x5 x6 x7} : Ok c bd I (k0_part458 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  unfold k0_part458
  exact ok_ret trivial

theorem ok_part459 {x1 x2} : Ok c bd I (k0_part459 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part459
  repeat first
    | with_reducible exact ok_ret trivial
    | refine ok_seq (ok_load (by with_reducible assumption)) fun _ => ?_
    | refine ok_seq (ok_store (by with_reducible assumption)) fun _ => ?_

theorem ok_part460 {x1 x2 x3 x4 x5 x6 x7 x8 x9 x10 x11 x12 x13 x14 x15 x16 x17 x18 x19 x20 x21 x22 x23 x24 x25 x26 x27 x28 x29 x30 x31 x32 x33 x34 x35 x36 x37 x38 x39 x40} : Ok c bd I (k0_part460 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37 x38 x39 x40) (fun _ => True) := by
  cases H
  unfold k0_part460
  repeat first
    | with_reducible exact ok_ret trivial
    | refine ok_seq (ok_load (by with_reducible assumption)) fun _ => ?_

theorem ok_part461 {x1 x2 x3 x4 x5 x6 x7 x8 x9 x10 x11 x12 x13 x14} : Ok c bd I (k0_part461 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14) (fun _ => True) := by
  cases H
  unfold k0_part461
  repeat first
    | with_reducible exact ok_ret trivial
    | refine ok_seq (ok_load (by with_reducible assumption)) fun _ => ?_

theorem ok_part462 {x1 x2 x3 x4 x5 x6 x7 x8 x9 x10 x11 x12} : Ok c bd I (k0_part462 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part462
  repeat first
    | with_reducible exact ok_ret trivial
    | refine ok_seq (ok_load (by with_reducible assumption)) fun _ => ?_
    | refine ok_seq (ok_store (by with_reducible assumption)) fun _ => ?_

theorem ok_part463 {x1 x2 x3} : Ok c bd I (k0_part463 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part463
  repeat first
    | with_reducible exact ok_ret trivial
    | refine ok_seq (ok_load (by with_reducible assumption)) fun _ => ?_
    | refine ok_seq (ok_store (by with_reducible assumption)) fun _ => ?_

theorem ok_part464 {x1 x2 x3 x4 x5 x6 x7 x8 x9 x10 x11 x12 x13 x14 x15 x16 x17 x18 x19 x20 x21 x22} : Ok c bd I (k0_part464 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22) (fun _ => True) := by
  cases H
  unfold k0_part464
  repeat first
    | with_reducible exact ok_ret trivial
    | refine ok_seq (ok_load (by with_reducible assumption)) fun _ => ?_
    | refine ok_seq (ok_store (by with_reducible assumption)) fun _ => ?_

theorem ok_part465 {x1 x2 x3 x4 x5 x6 x7 x8 x9 x10 x11 x12 x13 x14 x15 x16 x17 x18 x19 x20} : Ok c bd I (k0_part465 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20) (fun _ => True) := by
  cases H
  unfold k0_part465
  repeat first
    | with_reducible exact ok_ret trivial
    | refine ok_seq (ok_load (by with_reducible assumption)) fun _ => ?_

theorem ok_part466 {x1} : Ok c bd I (k0_part466 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part466
  repeat first
    | with_reducible exact ok_ret trivial
    | refine ok_seq (ok_load (by with_reducible assumption)) fun _ => ?_
    | refine ok_seq (ok_store (by with_reducible assumption)) fun _ => ?_

theorem ok_part467 {x1 x2 x3 x4 x5 x6 x7 x8 x9 x10 x11 x12 x13 x14 x15 x16} : Ok c bd I (k0_part467 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part467
  repeat first
    | with_reducible exact ok_ret trivial
    | refine ok_seq (ok_load (by with_reducible assumption)) fun _ => ?_
    | refine ok_seq (ok_store (by with_reducible assumption)) fun _ => ?_

theorem ok_part468 {x1 x2 x3 x4 x5 x6 x7 x8 x9 x10 x11 x12 x13 x14 x15 x16 x17 x18 x19 x20 x21 x22 x23 x24 x25 x26 x27 x28 x29 x30 x31 x32 x33 x34 x35 x36} : Ok c bd I (k0_part468 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36) (fun _ => True) := by
  cases H
  unfold k0_part468
  repeat first
    | with_reducible exact ok_ret trivial
    | refine ok_seq (ok_load (by with_reducible assumption)) fun _ => ?_

theorem ok_part469 {x1 x2 x3 x4 x5 x6 x7 x8 x9 x10 x11 x12 x13} : Ok c bd I (k0_part469 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part469
  repeat first
    | with_reducible exact ok_ret trivial
    | refine ok_seq (ok_load (by with_reducible assumption)) fun _ => ?_

theorem ok_part470 {x1 x2 x3 x4 x5 x6 x7 x8 x9 x10 x11 x12 x13 x14 x15 x16 x17 x18 x19 x20 x21 x22 x23} : Ok c bd I (k0_part470 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23) (fun _ => True) := by
  cases H
  unfold k0_part470
  repeat first
    | with_reducible exact ok_ret trivial
    | refine ok_seq (ok_load (by with_reducible assumption)) fun _ => ?_
    | refine ok_seq (ok_store (by with_reducible assumption)) fun _ => ?_

theorem ok_part471 {x1 x2 x3 x4 x5 x6 x7 x8 x9 x10 x11 x12 x13 x14 x15 x16} : Ok c bd I (k0_part471 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part471
  repeat first
    | with_reducible exact ok_ret trivial
    | refine ok_seq (ok_load (by with_reducible assumption)) fun _ => ?_

theorem ok_part472 {x1 x2 x3 x4 x5 x6 x7} : Ok c bd I (k0_part472 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  cases H
  unfold k0_part472
  repeat first
    | with_reducible exact ok_ret trivial
    | refine ok_seq (ok_load (by with_reducible assumption)) fun _ => ?_

theorem ok_part473 {x1} : Ok c bd I (k0_part473 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part473
  repeat first
    | with_reducible exact ok_ret trivial
    | refine ok_seq (ok_store (by with_reducible assumption)) fun _ => ?_

theorem ok_part474 {x1 x2 x3 x4 x5 x6 x7 x8} : Ok c bd I (k0_part474 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8) (fun _ => True) := by
  cases H
  unfold k0_part474
  repeat first
    | with_reducible exact ok_ret trivial
    | refine ok_seq (ok_load (by with_reducible assumption)) fun _ => ?_
    | refine ok_seq (ok_store (by with_reducible assumption)) fun _ => ?_

theorem ok_part475 {x1 x2 x3 x4 x5 x6 x7 x8 x9 x10 x11 x12 x13 x14 x15 x16 x17 x18 x19 x20 x21 x22 x23 x24 x25 x26 x27 x28 x29} : Ok c bd I (k0_part475 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29) (fun _ => True) := by
  cases H
  unfold k0_part475
  repeat first
    | with_reducible exact ok_ret trivial
    | refine ok_seq (ok_load (by with_reducible assumption)) fun _ => ?_
    | refine ok_seq (ok_store (by with_reducible assumption)) fun _ => ?_

theorem ok_part476 {x1 x2 x3 x4 x5 x6 x7 x8 x9 x10 x11 x12 x13 x14 x15 x16 x17 x18 x19} : Ok c bd I (k0_part476 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19) (fun _ => True) := by
  cases H
  unfold k0_part476
  repeat first
    | with_reducible exact ok_ret trivial
    | refine ok_seq (ok_load (by with_reducible assumption)) fun _ => ?_

theorem ok_part477 {x1} : Ok c bd I (k0_part477 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part477
  repeat first
    | with_reducible exact ok_ret trivial
    | refine ok_seq (ok_load (by with_reducible assumption)) fun _ => ?_
    | refine ok_seq (ok_store (by with_reducible assumption)) fun _ => ?_

theorem ok_part478 {x1 x2 x3 x4 x5 x6 x7 x8 x9 x10 x11 x12 x13 x14 x15 x16 x17 x18 x19 x20 x21 x22 x23 x24} : Ok c bd I (k0_part478 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24) (fun _ => True) := by
  cases H
  unfold k0_part478
  repeat first
    | with_reducible exact ok_ret trivial
    | refine ok_seq (ok_load (by with_reducible assumption)) fun _ => ?_

theorem ok_part479 {x1 x2 x3 x4 x5 x6 x7 x8 x9 x10 x11 x12 x13 x14 x15} : Ok c bd I (k0_part479 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15) (fun _ => True) := by
  cases H
  unfold k0_part479
  repeat first
    | with_reducible exact ok_ret trivial
    | refine ok_seq (ok_load (by with_reducible assumption)) fun _ => ?_
    | refine ok_seq (ok_store (by with_reducible assumption)) fun _ => ?_

theorem ok_part480 {x1 x2 x3 x4 x5 x6 x7} : Ok c bd I (k0_part480 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  cases H
  unfold k0_part480
  repeat first
    | with_reducible exact ok_ret trivial
    | refine ok_seq (ok_load (by with_reducible assumption)) fun _ => ?_

theorem ok_part481 {x1} : Ok c bd I (k0_part481 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part481
  repeat first
    | with_reducible exact ok_ret trivial
    | refine ok_seq (ok_load (by with_reducible assumption)) fun _ => ?_
    | refine ok_seq (ok_store (by with_reducible assumption)) fun _ => ?_

theorem ok_part482 {x1 x2 x3 x4 x5 x6 x7 x8 x9 x10 x11 x12} : Ok c bd I (k0_part482 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part482
  repeat first
    | with_reducible exact ok_ret trivial
    | refine ok_seq (ok_load (by with_reducible assumption)) fun _ => ?_
    | refine ok_seq (ok_store (by with_reducible assumption)) fun _ => ?_

theorem ok_part483 {x1 x2 x3 x4 x5 x6 x7 x8 x9 x10 x11 x12 x13 x14 x15 x16 x17 x18 x19 x20 x21 x22 x23 x24 x25 x26 x27 x28 x29 x30} : Ok c bd I (k0_part483 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30) (fun _ => True) := by
  cases H
  unfold k0_part483
  repeat first
    | with_reducible exact ok_ret trivial
    | refine ok_seq (ok_load (by with_reducible assumption)) fun _ => ?_
    | refine ok_seq (ok_store (by with_reducible assumption)) fun _ => ?_

theorem ok_part484 {x1} : Ok c bd I (k0_part484 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  unfold k0_part484
  exact ok_ret trivial

theorem ok_part485 {x1 x2 x3 x4 x5 x6} : Ok c bd I (k0_part485 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  cases H
  unfold k0_part485
  repeat first
    | with_reducible exact ok_ret trivial
    | refine ok_seq (ok_load (by with_reducible assumption)) fun _ => ?_
    | refine ok_seq (ok_store (by with_reducible assumption)) fun _ => ?_

theorem ok_part486 {x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45} : Ok c bd I (k0_part486 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45) (fun _ => True) := by
  cases H
  unfold k0_part486
  repeat first
    | with_reducible exact ok_ret trivial
    | refine ok_seq (ok_load (by with_reducible assumption)) fun _ => ?_

theorem ok_part487 {x1 x2 x3 x4 x5 x6 x7 x8 x9 x10 x11 x12 x13 x14 x15 x16} : Ok c bd I (k0_part487 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part487
  repeat first
    | with_reducible exact ok_ret trivial
    | refine ok_seq (ok_load (by with_reducible assumption)) fun _ => ?_

theorem ok_part488 {x1 x2 x3 x4 x5 x6 x7 x8 x9 x10 x11 x12 x13 x14} : Ok c bd I (k0_part488 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14) (fun _ => True) := by
  cases H
  unfold k0_part488
  repeat first
    | with_reducible exact ok_ret trivial
    | refine ok_seq (ok_load (by with_reducible assumption)) fun _ => ?_
    | refine ok_seq (ok_store (by with_reducible assumption)) fun _ => ?_

theorem ok_part489 {x1 x2} : Ok c bd I (k0_part489 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2) (fun _ => True) := by
  cases H
  unfold k0_part489
  repeat first
    | with_reducible exact ok_ret trivial
    | refine ok_seq (ok_load (by with_reducible assumption)) fun _ => ?_
    | refine ok_seq (ok_store (by with_reducible assumption)) fun _ => ?_

theorem ok_part490 {x1 x2 x3 x4 x5 x6 x7 x8 x9 x10 x11 x12 x13 x14 x15 x16 x17 x18 x19 x20 x21 x22 x23 x24 x25 x26 x27 x28} : Ok c bd I (k0_part490 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28) (fun _ => True) := by
  cases H
  unfold k0_part490
  repeat first
    | with_reducible exact ok_ret trivial
    | refine ok_seq (ok_load (by with_reducible assumption)) fun _ => ?_
    | refine ok_seq (ok_store (by with_reducible assumption)) fun _ => ?_

theorem ok_part491 {x1 x2 x3 x4 x5 x6 x7 x8 x9 x10 x11 x12} : Ok c bd I (k0_part491 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part491
  repeat first
    | with_reducible exact ok_ret trivial
    | refine ok_seq (ok_load (by with_reducible assumption)) fun _ => ?_

theorem ok_part492 {x1 x2 x3} : Ok c bd I (k0_part492 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part492
  repeat first
    | with_reducible exact ok_ret trivial
    | refine ok_seq (ok_load (by with_reducible assumption)) fun _ => ?_
    | refine ok_seq (ok_store (by with_reducible assumption)) fun _ => ?_

theorem ok_part493 {x1 x2 x3 x4 x5 x6 x7 x8 x9 x10 x11 x12 x13 x14 x15 x16 x17 x18 x19 x20 x21 x22} : Ok c bd I (k0_part493 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22) (fun _ => True) := by
  cases H
  unfold k0_part493
  repeat first
    | with_reducible exact ok_ret trivial
    | refine ok_seq (ok_load (by with_reducible assumption)) fun _ => ?_
    | refine ok_seq (ok_store (by with_reducible assumption)) fun _ => ?_

theorem ok_part494 {x1 x2 x3 x4 x5 x6 x7 x8 x9 x10 x11 x12 x13 x14 x15 x16 x17 x18 x19 x20 x21 x22 x23 x24 x25 x26 x27 x28 x29} : Ok c bd I (k0_part494 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29) (fun _ => True) := by
  cases H
  unfold k0_part494
  repeat first
    | with_reducible exact ok_ret trivial
    | refine ok_seq (ok_load (by with_reducible assumption)) fun _ => ?_

theorem ok_part495 {x1 x2 x3 x4 x5 x6 x7 x8 x9 x10 x11} : Ok c bd I (k0_part495 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11) (fun _ => True) := by
  cases H
  unfold k0_part495
  repeat first
    | with_reducible exact ok_ret trivial
    | refine ok_seq (ok_load (by with_reducible assumption)) fun _ => ?_

theorem ok_part496 {x1 x2 x3 x4 x5 x6 x7 x8 x9 x10 x11 x12 x13 x14 x15 x16 x17 x18 x19 x20 x21 x22 x23 x24} : Ok c bd I (k0_part496 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24) (fun _ => True) := by
  cases H
  unfold k0_part496
  repeat first
    | with_reducible exact ok_ret trivial
    | refine ok_seq (ok_load (by with_reducible assumption)) fun _ => ?_
    | refine ok_seq (ok_store (by with_reducible assumption)) fun _ => ?_

theorem ok_part497 {x1 x2 x3 x4 x5 x6 x7 x8 x9 x10 x11 x12 x13 x14 x15 x16} : Ok c bd I (k0_part497 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part497
  repeat first
    | with_reducible exact ok_ret trivial
    | refine ok_seq (ok_load (by with_reducible assumption)) fun _ => ?_

theorem ok_part498 {x1 x2 x3 x4 x5} : Ok c bd I (k0_part498 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part498
  repeat first
    | with_reducible exact ok_ret trivial
    | refine ok_seq (ok_load (by with_reducible assumption)) fun _ => ?_

theorem ok_part499 {x1} : Ok c bd I (k0_part499 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part499
  repeat first
    | with_reducible exact ok_ret trivial
    | refine ok_seq (ok_load (by with_reducible assumption)) fun _ => ?_
    | refine ok_seq (ok_store (by with_reducible assumption)) fun _ => ?_

theorem ok_part500 {x1 x2 x3 x4 x5 x6 x7 x8 x9 x10 x11 x12 x13 x14 x15 x16 x17 x18} : Ok c bd I (k0_part500 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18) (fun _ => True) := by
  cases H
  unfold k0_part500
  repeat first
    | with_reducible exact ok_ret trivial
    | refine ok_seq (ok_load (by with_reducible assumption)) fun _ => ?_
    | refine ok_seq (ok_store (by with_reducible assumption)) fun _ => ?_

theorem ok_part501 {x1 x2 x3 x4 x5 x6 x7 x8 x9 x10 x11 x12 x13 x14 x15 x16 x17 x18 x19 x20 x21 x22 x23 x24} : Ok c bd I (k0_part501 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24) (fun _ => True) := by
  cases H
  unfold k0_part501
  repeat first
    | with_reducible exact ok_ret trivial
    | refine ok_seq (ok_load (by with_reducible assumption)) fun _ => ?_

theorem ok_part502 {x1} : Ok c bd I (k0_part502 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part502
  repeat first
    | with_reducible exact ok_ret trivial
    | refine ok_seq (ok_load (by with_reducible assumption)) fun _ => ?_
    | refine ok_seq (ok_store (by with_reducible assumption)) fun _ => ?_

theorem ok_part503 {x1 x2 x3 x4 x5 x6 x7 x8 x9 x10 x11 x12} : Ok c bd I (k0_part503 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part503
  repeat first
    | with_reducible exact ok_ret trivial
    | refine ok_seq (ok_load (by with_reducible assumption)) fun _ => ?_
    | refine ok_seq (ok_store (by with_reducible assumption)) fun _ => ?_

theorem ok_part504 {x1 x2 x3 x4 x5 x6 x7 x8 x9 x10 x11 x12 x13 x14 x15 x16 x17 x18 x19 x20 x21 x22 x23 x24 x25 x26 x27 x28 x29 x30 x31 x32 x33 x34 x35 x36 x37 x38 x39 x40 x41} : Ok c bd I (k0_part504 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37 x38 x39 x40 x41) (fun _ => True) := by
  cases H
  unfold k0_part504
  repeat first
    | with_reducible exact ok_ret trivial
    | refine ok_seq (ok_load (by with_reducible assumption)) fun _ => ?_

theorem ok_part505 {x1 x2 x3 x4 x5 x6 x7 x8 x9 x10 x11 x12 x13} : Ok c bd I (k0_part505 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun _ => True) := by
  cases H
  unfold k0_part505
  repeat first
    | with_reducible exact ok_ret trivial
    | refine ok_seq (ok_load (by with_reducible assumption)) fun _ => ?_

theorem ok_part506 {x1 x2 x3 x4 x5 x6 x7 x8 x9 x10 x11 x12 x13 x14} : Ok c bd I (k0_part506 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14) (fun _ => True) := by
  cases H
  unfold k0_part506
  repeat first
    | with_reducible exact ok_ret trivial
    | refine ok_seq (ok_load (by with_reducible assumption)) fun _ => ?_
    | refine ok_seq (ok_store (by with_reducible assumption)) fun _ => ?_

theorem ok_part507 {x1 x2 x3 x4} : Ok c bd I (k0_part507 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part507
  repeat first
    | with_reducible exact ok_ret trivial
    | refine ok_seq (ok_load (by with_reducible assumption)) fun _ => ?_
    | refine ok_seq (ok_store (by with_reducible assumption)) fun _ => ?_

theorem ok_part508 {x1 x2 x3 x4 x5 x6 x7 x8 x9 x10 x11 x12 x13 x14 x15 x16 x17 x18 x19 x20 x21 x22 x23 x24 x25 x26 x27 x28 x29 x30 x31 x32 x33 x34} : Ok c bd I (k0_part508 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34) (fun _ => True) := by
  cases H
  unfold k0_part508
  repeat first
    | with_reducible exact ok_ret trivial
    | refine ok_seq (ok_load (by with_reducible assumption)) fun _ => ?_
    | refine ok_seq (ok_store (by with_reducible assumption)) fun _ => ?_

theorem ok_part509 {x1 x2 x3 x4 x5 x6} : Ok c bd I (k0_part509 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  unfold k0_part509
  exact ok_ret trivial

theorem ok_part510 {x1 x2 x3} : Ok c bd I (k0_part510 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3) (fun _ => True) := by
  cases H
  unfold k0_part510
  repeat first
    | with_reducible exact ok_ret trivial
    | refine ok_seq (ok_load (by with_reducible assumption)) fun _ => ?_
    | refine ok_seq (ok_store (by with_reducible assumption)) fun _ => ?_

theorem ok_part511 {x1 x2 x3 x4 x5 x6 x7 x8 x9 x10 x11 x12 x13 x14 x15 x16 x17 x18 x19 x20 x21 x22 x23 x24 x25 x26 x27 x28} : Ok c bd I (k0_part511 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28) (fun _ => True) := by
  cases H
  unfold k0_part511
  repeat first
    | with_reducible exact ok_ret trivial
    | refine ok_seq (ok_load (by with_reducible assumption)) fun _ => ?_
    | refine ok_seq (ok_store (by with_reducible assumption)) fun _ => ?_

theorem ok_part512 {x1 x2 x3 x4 x5 x6 x7 x8 x9 x10 x11 x12 x13 x14} : Ok c bd I (k0_part512 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14) (fun _ => True) := by
  cases H
  unfold k0_part512
  repeat first
    | with_reducible exact ok_ret trivial
    | refine ok_seq (ok_load (by with_reducible assumption)) fun _ => ?_

theorem ok_part513 {x1 x2 x3 x4 x5 x6 x7 x8 x9 x10} : Ok c bd I (k0_part513 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10) (fun _ => True) := by
  cases H
  unfold k0_part513
  repeat first
    | with_reducible exact ok_ret trivial
    | refine ok_seq (ok_load (by with_reducible assumption)) fun _ => ?_

theorem ok_part514 {x1 x2 x3 x4 x5 x6 x7 x8 x9 x10 x11 x12 x13 x14 x15 x16 x17 x18 x19 x20 x21 x22 x23 x24} : Ok c bd I (k0_part514 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24) (fun _ => True) := by
  cases H
  unfold k0_part514
  repeat first
    | with_reducible exact ok_ret trivial
    | refine ok_seq (ok_load (by with_reducible assumption)) fun _ => ?_
    | refine ok_seq (ok_store (by with_reducible assumption)) fun _ => ?_

theorem ok_part515 {x1 x2 x3 x4 x5 x6 x7 x8 x9 x10 x11 x12} : Ok c bd I (k0_part515 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  cases H
  unfold k0_part515
  repeat first
    | with_reducible exact ok_ret trivial
    | refine ok_seq (ok_load (by with_reducible assumption)) fun _ => ?_

theorem ok_part517 {x1 x2 x3 x4 x5} : Ok c bd I (k0_part517 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  cases H
  unfold k0_part517
  repeat first
    | with_reducible exact ok_ret trivial
    | refine ok_seq (ok_load (by with_reducible assumption)) fun _ => ?_
    | refine ok_seq (ok_store (by with_reducible assumption)) fun _ => ?_

theorem ok_part518 {x1 x2 x3 x4 x5 x6} : Ok c bd I (k0_part518 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  cases H
  unfold k0_part518
  repeat first
    | with_reducible exact ok_ret trivial
    | refine ok_seq (ok_load (by with_reducible assumption)) fun _ => ?_
    | refine ok_seq (ok_store (by with_reducible assumption)) fun _ => ?_

theorem ok_part519 {x1 x2 x3 x4} : Ok c bd I (k0_part519 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun _ => True) := by
  cases H
  unfold k0_part519
  repeat first
    | with_reducible exact ok_ret trivial
    | refine ok_seq (ok_load (by with_reducible assumption)) fun _ => ?_
    | refine ok_seq (ok_store (by with_reducible assumption)) fun _ => ?_

theorem ok_part521 {x1} : Ok c bd I (k0_part521 (F := F) i m2 w2 m3 w3 m4 w4 m5 w5 m6 w6 m7 w7 m8 w8 m9 w9 m10 w10 m11 w11 m12 w12 m13 w13 m14 w14 m15 w15 m16 w16 m17 w17 m18 w18 m19 w19 m20 w20 x1) (fun _ => True) := by
  cases H
  unfold k0_part521
  repeat first
    | with_reducible exact ok_ret trivial
    | refine ok_seq (ok_load (by with_reducible assumption)) fun _ => ?_

theorem ok_part522 {x1 x2 x3 x4 x5} : Ok c bd I (k0_part522 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  unfold k0_part522
  exact ok_ret trivial

theorem ok_part523 {x1 x2 x3 x4 x5 x6 x7 x8 x9 x10 x11 x12 x13 x14 x15 x16} : Ok c bd I (k0_part523 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  cases H
  unfold k0_part523
  repeat first
    | with_reducible exact ok_ret trivial
    | refine ok_seq (ok_load (by with_reducible assumption)) fun _ => ?_
    | refine ok_seq (ok_store (by with_reducible assumption)) fun _ => ?_

theorem ok_part524 {x1 x2 x3 x4 x5 x6 x7 x8 x9 x10 x11 x12 x13 x14 x15 x16} : Ok c bd I (k0_part524 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16) (fun _ => True) := by
  unfold k0_part524
  exact ok_ret trivial

theorem ok_part525 {x1 x2 x3 x4 x5 x6 x7 x8 x9 x10 x11 x12 x13 x14 x15 x16 x17 x18 x19 x20 x21} : Ok c bd I (k0_part525 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21) (fun _ => True) := by
  unfold k0_part525
  exact ok_ret trivial

theorem ok_part526 {x1 x2 x3 x4 x5 x6 x7 x8 x9 x10 x11 x12 x13 x14 x15 x16 x17 x18 x19 x20 x21 x22 x23 x24 x25 x26 x27 x28 x29 x30 x31 x32 x33 x34 x35 x36 x37} : Ok c bd I (k0_part526 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25 x26 x27 x28 x29 x30 x31 x32 x33 x34 x35 x36 x37) (fun _ => True) := by
  cases H
  unfold k0_part526
  repeat first
    | with_reducible exact ok_ret trivial
    | refine ok_seq (ok_load (by with_reducible assumption)) fun _ => ?_
    | refine ok_seq (ok_store (by with_reducible assumption)) fun _ => ?_

end Cert.Proof.Att

end
-- ==== Proof.Att.Comp.lean ====
/-
  Stretches of the body that put straight-line ones together. Of two of them a result is followed: the number of the last key
  block of the group they have scored, which the next group's first step looks values up by.
-/
module

public import proofs.«01_k».proof.Proof.Att.Leaf00
public import proofs.«01_k».proof.Proof.Att.Leaf01
public import proofs.«01_k».proof.Proof.Att.Leaf02
public import proofs.«01_k».proof.Proof.Att.Leaf03
public import proofs.«01_k».proof.Proof.Att.Leaf04

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

theorem ok_part146 : ∀ {x1 x2 x3 x4}, Ok c bd I (k0_part146 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4) (fun a => a.2.2.2.2.2.1 = 5#32) := by
  intros
  unfold k0_part146
  refine ok_seq (ok_load H.h10) fun _ => ?_
  refine ok_seq (ok_load H.h15) fun _ => ?_
  refine ok_seq (ok_load H.h6) fun _ => ?_
  exact ok_ret rfl

theorem ok_part192 : ∀ {x1 x2 x3 x4 x5 x6 x7}, k0_chk1 i x5 x7 → Ok c bd I (k0_part192 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun a => a.2.2.2.2.2.2.1 = Scalar.addi (Scalar.muli 6#32 (Scf.iv x3 x4 x5)) 5#32) := by
  intro _ _ _ _ _ _ _ h
  unfold k0_part192
  refine ok_seq (ok_assume h) fun _ => ?_
  refine ok_seq (ok_load H.h10) fun _ => ?_
  refine ok_seq (ok_load H.h15) fun _ => ?_
  refine ok_seq (ok_load H.h6) fun _ => ?_
  refine ok_seq (ok_load H.h16) fun _ => ?_
  exact ok_ret rfl

theorem ok_part62 : ∀ {x1 x2 x3 x4 x5 x6}, Ok c bd I (k0_part62 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6) (fun _ => True) := by
  intros
  unfold k0_part62
  refine ok_seq (ok_part34 H) fun x => ?_
  obtain ⟨_, _, _, _, _⟩ := x
  refine ok_seq (ok_part35 H) fun x => ?_
  obtain ⟨_, _, _, _, _, _, _, _, _, _, _, _, _, _, _, _, _, _, _, _, _, _, _, _, _, _, _, _, _, _, _, _⟩ := x
  refine ok_seq (ok_part36 H) fun x => ?_
  obtain ⟨_, _, _, _, _, _, _, _, _, _, _, _, _, _, _, _⟩ := x
  refine ok_seq (ok_part37 H) fun x => ?_
  obtain ⟨_, _, _, _, _, _, _, _, _, _, _, _, _, _, _, _, _, _, _, _, _, _⟩ := x
  refine ok_seq (ok_part38 H) fun x => ?_
  obtain ⟨_, _, _, _⟩ := x
  refine ok_seq (ok_part39 H) fun x => ?_
  refine ok_seq (ok_part40 H) fun x => ?_
  obtain ⟨_, _, _, _, _, _, _, _, _, _, _, _, _, _, _, _, _, _, _, _, _, _, _, _, _, _, _, _, _, _, _, _⟩ := x
  refine ok_seq (ok_part41 H) fun x => ?_
  obtain ⟨_, _, _, _, _, _, _, _, _, _, _, _, _, _, _, _, _, _, _⟩ := x
  refine ok_seq (ok_part42 H) fun x => ?_
  obtain ⟨_, _, _, _, _, _, _, _, _, _, _, _, _, _, _, _⟩ := x
  refine ok_seq (ok_part43 H) fun x => ?_
  obtain ⟨_, _, _, _, _, _, _⟩ := x
  refine ok_seq (ok_part44 H) fun x => ?_
  obtain ⟨_, _, _, _, _, _, _, _, _⟩ := x
  refine ok_seq (ok_part45 H) fun x => ?_
  obtain ⟨_, _, _, _, _, _, _, _, _, _, _, _, _, _, _, _, _, _, _, _, _, _, _, _, _, _, _, _, _, _, _, _⟩ := x
  refine ok_seq (ok_part46 H) fun x => ?_
  obtain ⟨_, _, _, _, _, _, _, _, _, _, _, _, _, _, _, _, _, _⟩ := x
  refine ok_seq (ok_part47 H) fun x => ?_
  obtain ⟨_, _, _, _, _, _, _, _, _, _, _, _, _, _, _, _, _⟩ := x
  refine ok_seq (ok_part48 H) fun x => ?_
  obtain ⟨_, _, _, _, _, _, _⟩ := x
  refine ok_seq (ok_part49 H) fun x => ?_
  obtain ⟨_, _, _, _, _, _, _, _, _, _, _, _, _, _, _, _, _, _, _, _, _, _, _⟩ := x
  refine ok_seq (ok_part50 H) fun x => ?_
  obtain ⟨_, _, _, _, _, _, _, _, _, _, _, _, _, _, _, _, _, _, _, _, _, _, _, _⟩ := x
  refine ok_seq (ok_part51 H) fun x => ?_
  obtain ⟨_, _, _, _, _, _, _, _, _, _, _, _, _, _, _, _⟩ := x
  refine ok_seq (ok_part52 H) fun x => ?_
  obtain ⟨_, _, _⟩ := x
  refine ok_seq (ok_part53 H) fun x => ?_
  obtain ⟨_, _, _, _, _, _, _⟩ := x
  refine ok_seq (ok_part54 H) fun x => ?_
  obtain ⟨_, _, _, _, _, _, _, _, _, _, _, _, _, _, _, _, _, _, _, _, _, _, _, _, _, _, _, _, _, _, _, _⟩ := x
  refine ok_seq (ok_part55 H) fun x => ?_
  obtain ⟨_, _, _, _, _, _, _, _, _, _, _, _, _, _, _, _⟩ := x
  refine ok_seq (ok_part56 H) fun x => ?_
  obtain ⟨_, _, _, _, _, _, _, _, _, _, _, _, _, _, _, _, _, _, _⟩ := x
  refine ok_seq (ok_part57 H) fun x => ?_
  obtain ⟨_, _, _, _⟩ := x
  refine ok_seq (ok_part58 H) fun x => ?_
  obtain ⟨_, _, _⟩ := x
  refine ok_seq (ok_part59 H) fun x => ?_
  obtain ⟨_, _, _, _, _, _, _, _, _, _, _, _, _, _, _, _, _, _, _, _, _, _, _, _, _, _, _, _, _, _, _, _⟩ := x
  refine ok_seq (ok_part60 H) fun x => ?_
  obtain ⟨_, _, _, _, _, _, _, _, _, _, _, _, _, _, _, _, _, _⟩ := x
  refine ok_seq (ok_part61 H) fun x => ?_
  obtain ⟨_, _, _, _, _, _, _, _, _, _, _, _, _, _, _, _⟩ := x
  refine ok_seq (ok_load H.h11) fun _ => ?_
  refine ok_seq (ok_store H.h11) fun _ => ?_
  refine ok_seq (ok_load H.h12) fun _ => ?_
  refine ok_seq (ok_store H.h12) fun _ => ?_
  exact ok_ret trivial

theorem ok_part115 : ∀ {x1 x2 x3 x4 x5}, Ok c bd I (k0_part115 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5) (fun _ => True) := by
  intros
  unfold k0_part115
  refine ok_seq (ok_part110 H) fun x => ?_
  obtain ⟨_, _, _, _⟩ := x
  refine ok_seq (ok_part111 H) fun x => ?_
  obtain ⟨_, _, _, _, _, _, _, _, _, _, _, _, _, _, _, _, _, _, _, _, _, _, _, _, _, _⟩ := x
  refine ok_seq (ok_part112 H) fun x => ?_
  obtain ⟨_, _, _, _, _, _, _, _, _, _, _, _, _, _, _, _, _, _, _, _, _, _, _, _, _, _, _, _, _⟩ := x
  refine ok_seq (ok_part113 H) fun x => ?_
  obtain ⟨_, _, _, _, _, _, _, _, _, _, _, _, _, _, _, _, _, _, _, _, _, _⟩ := x
  refine ok_seq (ok_part114 H) fun x => ?_
  obtain ⟨_, _, _, _, _, _, _, _, _, _, _, _, _, _, _, _, _⟩ := x
  refine ok_seq (ok_load H.h11) fun _ => ?_
  refine ok_seq (ok_store H.h11) fun _ => ?_
  refine ok_seq (ok_load H.h12) fun _ => ?_
  refine ok_seq (ok_store H.h12) fun _ => ?_
  exact ok_ret trivial

theorem ok_part345 : ∀ {x1 x2 x3 x4 x5 x6 x7 x8 x9 x10 x11 x12 x13 x14 x15 x16 x17 x18 x19 x20 x21 x22 x23 x24 x25}, Ok c bd I (k0_part345 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20 x21 x22 x23 x24 x25) (fun _ => True) := by
  intros
  unfold k0_part345
  refine ok_seq (ok_part288 H) fun x => ?_
  obtain ⟨_, _, _, _, _, _, _, _, _, _, _⟩ := x
  refine ok_seq (ok_part289 H) fun x => ?_
  obtain ⟨_, _, _, _, _, _, _, _, _, _, _, _, _, _⟩ := x
  refine ok_seq (ok_part290 H) fun x => ?_
  obtain ⟨_, _, _, _, _, _, _, _, _, _, _, _, _, _, _, _, _, _, _, _, _, _, _, _, _, _, _, _, _, _, _⟩ := x
  refine ok_seq (ok_part291 H) fun x => ?_
  obtain ⟨_, _, _, _, _, _, _, _, _, _⟩ := x
  refine ok_seq (ok_part292 H) fun x => ?_
  refine ok_seq (ok_part293 H) fun x => ?_
  obtain ⟨_, _, _, _, _, _, _, _, _, _, _, _, _, _, _, _, _⟩ := x
  refine ok_seq (ok_part294 H) fun x => ?_
  obtain ⟨_, _, _, _, _, _, _, _, _, _, _, _, _, _, _⟩ := x
  refine ok_seq (ok_part295 H) fun x => ?_
  obtain ⟨_, _, _, _, _, _, _⟩ := x
  refine ok_seq (ok_part296 H) fun x => ?_
  obtain ⟨_, _, _, _⟩ := x
  refine ok_seq (ok_part297 H) fun x => ?_
  obtain ⟨_, _, _, _, _, _⟩ := x
  refine ok_seq (ok_part298 H) fun x => ?_
  obtain ⟨_, _, _, _, _, _, _, _, _, _, _, _, _, _, _, _, _, _, _, _, _, _, _, _, _, _, _, _⟩ := x
  refine ok_seq (ok_part299 H) fun x => ?_
  obtain ⟨_, _, _, _, _, _, _, _, _, _, _, _, _, _, _, _, _, _⟩ := x
  refine ok_seq (ok_part300 H) fun x => ?_
  obtain ⟨_, _⟩ := x
  refine ok_seq (ok_part301 H) fun x => ?_
  obtain ⟨_, _, _, _, _, _, _, _, _⟩ := x
  refine ok_seq (ok_part302 H) fun x => ?_
  obtain ⟨_, _, _, _, _, _, _, _, _, _, _, _, _, _⟩ := x
  refine ok_seq (ok_part303 H) fun x => ?_
  obtain ⟨_, _, _, _⟩ := x
  refine ok_seq (ok_part304 H) fun x => ?_
  obtain ⟨_, _, _, _, _, _, _, _, _, _⟩ := x
  refine ok_seq (ok_part305 H) fun x => ?_
  refine ok_seq (ok_part306 H) fun x => ?_
  obtain ⟨_, _, _, _, _, _, _, _, _, _, _, _, _, _, _, _, _, _, _⟩ := x
  refine ok_seq (ok_part307 H) fun x => ?_
  obtain ⟨_, _, _, _, _, _, _, _, _, _, _, _, _, _, _, _, _, _, _, _, _, _, _, _, _, _⟩ := x
  refine ok_seq (ok_part308 H) fun x => ?_
  obtain ⟨_, _, _, _, _⟩ := x
  refine ok_seq (ok_part309 H) fun x => ?_
  refine ok_seq (ok_part310 H) fun x => ?_
  obtain ⟨_, _, _, _, _, _, _, _, _, _, _, _, _, _, _⟩ := x
  refine ok_seq (ok_part311 H) fun x => ?_
  obtain ⟨_, _, _, _, _, _, _⟩ := x
  refine ok_seq (ok_part312 H) fun x => ?_
  obtain ⟨_, _, _, _, _, _, _, _, _, _, _, _, _, _, _, _, _, _⟩ := x
  refine ok_seq (ok_part313 H) fun x => ?_
  obtain ⟨_, _⟩ := x
  refine ok_seq (ok_part314 H) fun x => ?_
  obtain ⟨_, _, _, _, _, _, _, _, _, _, _⟩ := x
  refine ok_seq (ok_part315 H) fun x => ?_
  obtain ⟨_, _, _, _, _, _, _, _, _, _, _, _, _, _, _, _, _, _, _, _, _, _, _, _, _, _, _, _, _, _, _, _, _⟩ := x
  refine ok_seq (ok_part316 H) fun x => ?_
  obtain ⟨_, _, _, _, _, _, _, _, _, _, _, _, _⟩ := x
  refine ok_seq (ok_part317 H) fun x => ?_
  obtain ⟨_, _⟩ := x
  refine ok_seq (ok_part318 H) fun x => ?_
  obtain ⟨_, _, _, _, _, _, _, _, _, _, _, _, _⟩ := x
  refine ok_seq (ok_part319 H) fun x => ?_
  obtain ⟨_, _, _, _, _, _, _⟩ := x
  refine ok_seq (ok_part320 H) fun x => ?_
  obtain ⟨_, _, _, _, _, _, _, _, _, _, _, _, _, _, _, _, _, _, _, _, _, _, _, _, _, _⟩ := x
  refine ok_seq (ok_part321 H) fun x => ?_
  obtain ⟨_, _, _⟩ := x
  refine ok_seq (ok_part322 H) fun x => ?_
  obtain ⟨_, _, _⟩ := x
  refine ok_seq (ok_part323 H) fun x => ?_
  obtain ⟨_, _, _, _, _, _, _, _, _, _, _, _, _, _, _, _, _, _, _, _, _, _, _, _, _⟩ := x
  refine ok_seq (ok_part324 H) fun x => ?_
  obtain ⟨_, _, _, _, _, _, _, _, _, _, _, _, _, _, _, _, _, _, _, _, _⟩ := x
  refine ok_seq (ok_part325 H) fun x => ?_
  obtain ⟨_, _, _, _, _, _, _, _⟩ := x
  refine ok_seq (ok_part326 H) fun x => ?_
  obtain ⟨_, _, _, _, _, _, _, _, _⟩ := x
  refine ok_seq (ok_part327 H) fun x => ?_
  obtain ⟨_, _, _, _, _, _, _, _⟩ := x
  refine ok_seq (ok_part328 H) fun x => ?_
  obtain ⟨_, _, _, _, _, _, _, _, _, _, _, _, _, _, _, _, _, _, _, _, _⟩ := x
  refine ok_seq (ok_part329 H) fun x => ?_
  obtain ⟨_, _, _⟩ := x
  refine ok_seq (ok_part330 H) fun x => ?_
  obtain ⟨_, _, _, _, _, _, _, _, _, _, _, _, _⟩ := x
  refine ok_seq (ok_part331 H) fun x => ?_
  obtain ⟨_, _, _, _, _, _, _, _, _, _, _, _, _, _, _, _, _, _, _, _, _, _, _, _, _, _⟩ := x
  refine ok_seq (ok_part332 H) fun x => ?_
  obtain ⟨_, _, _⟩ := x
  refine ok_seq (ok_part333 H) fun x => ?_
  obtain ⟨_, _, _, _, _, _, _⟩ := x
  refine ok_seq (ok_part334 H) fun x => ?_
  obtain ⟨_, _, _, _, _, _, _, _, _, _, _, _, _, _⟩ := x
  refine ok_seq (ok_part335 H) fun x => ?_
  obtain ⟨_, _, _, _⟩ := x
  refine ok_seq (ok_part336 H) fun x => ?_
  obtain ⟨_, _, _, _, _⟩ := x
  refine ok_seq (ok_part337 H) fun x => ?_
  obtain ⟨_, _⟩ := x
  refine ok_seq (ok_part338 H) fun x => ?_
  obtain ⟨_, _, _, _, _, _, _, _, _, _, _, _, _, _, _, _, _, _, _, _, _, _, _, _, _, _, _, _, _, _⟩ := x
  refine ok_seq (ok_part339 H) fun x => ?_
  obtain ⟨_, _, _, _, _, _, _, _, _, _⟩ := x
  refine ok_seq (ok_part340 H) fun x => ?_
  refine ok_seq (ok_part341 H) fun x => ?_
  obtain ⟨_, _, _, _, _, _, _, _, _, _, _, _, _, _, _, _, _, _, _, _, _, _, _⟩ := x
  refine ok_seq (ok_part342 H) fun x => ?_
  obtain ⟨_, _, _, _, _, _, _, _, _, _, _, _⟩ := x
  refine ok_seq (ok_part343 H) fun x => ?_
  obtain ⟨_, _, _, _, _, _, _, _, _⟩ := x
  refine ok_seq (ok_part344 H) fun x => ?_
  obtain ⟨_, _, _, _, _, _, _, _, _, _⟩ := x
  refine ok_seq (ok_load H.h19) fun _ => ?_
  exact ok_ret trivial

theorem ok_part191 : ∀ {x1 x2 x3 x4 x5 x6 x7 x8 x9 x10 x11 x12 x13}, Ok c bd I (k0_part191 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun a => a.1 = 5#32) := by
  intros
  unfold k0_part191
  refine ok_bind (ok_part146 H) fun x hx => ?_
  obtain ⟨_, _, _, _, _, _, _, _, _⟩ := x
  refine ok_seq (ok_part147 H) fun x => ?_
  obtain ⟨_, _, _, _, _, _, _, _, _, _, _, _, _, _, _, _⟩ := x
  refine ok_seq (ok_part148 H) fun x => ?_
  obtain ⟨_, _, _, _, _, _, _, _, _, _, _, _, _, _, _, _, _, _, _, _, _, _, _, _, _, _, _, _, _⟩ := x
  refine ok_seq (ok_part149 H) fun x => ?_
  obtain ⟨_, _, _, _, _, _, _, _⟩ := x
  refine ok_seq (ok_part150 H) fun x => ?_
  refine ok_seq (ok_part151 H) fun x => ?_
  obtain ⟨_, _, _, _, _, _, _, _, _, _, _, _, _, _, _, _, _, _, _⟩ := x
  refine ok_seq (ok_part152 H) fun x => ?_
  obtain ⟨_, _, _, _⟩ := x
  refine ok_seq (ok_part153 H) fun x => ?_
  obtain ⟨_, _, _, _, _, _, _, _, _, _, _, _, _, _, _, _, _, _, _, _, _, _⟩ := x
  refine ok_seq (ok_part154 H) fun x => ?_
  obtain ⟨_, _, _, _, _, _, _, _, _, _, _, _, _, _, _, _, _, _, _, _, _, _, _, _⟩ := x
  refine ok_seq (ok_part155 H) fun x => ?_
  obtain ⟨_, _, _⟩ := x
  refine ok_seq (ok_part156 H) fun x => ?_
  obtain ⟨_, _, _⟩ := x
  refine ok_seq (ok_part157 H) fun x => ?_
  obtain ⟨_, _, _, _, _, _, _, _, _, _, _, _, _, _, _, _, _, _, _, _, _, _, _, _, _⟩ := x
  refine ok_seq (ok_part158 H) fun x => ?_
  obtain ⟨_, _, _, _, _, _, _, _, _, _, _, _, _⟩ := x
  refine ok_seq (ok_part159 H) fun x => ?_
  obtain ⟨_, _, _, _, _, _, _, _⟩ := x
  refine ok_seq (ok_part160 H) fun x => ?_
  obtain ⟨_, _, _, _, _⟩ := x
  refine ok_seq (ok_part161 H) fun x => ?_
  obtain ⟨_, _, _, _, _, _, _, _, _, _, _, _, _⟩ := x
  refine ok_seq (ok_part162 H) fun x => ?_
  obtain ⟨_, _, _, _, _, _, _, _, _, _, _, _, _, _, _, _, _, _, _, _, _, _, _, _, _, _, _, _, _, _, _, _⟩ := x
  refine ok_seq (ok_part163 H) fun x => ?_
  obtain ⟨_, _, _, _, _, _, _, _, _, _, _⟩ := x
  refine ok_seq (ok_part164 H) fun x => ?_
  refine ok_seq (ok_part165 H) fun x => ?_
  obtain ⟨_, _, _, _, _, _, _, _, _, _, _, _, _, _, _, _⟩ := x
  refine ok_seq (ok_part166 H) fun x => ?_
  obtain ⟨_, _, _, _, _, _, _, _, _, _, _, _, _, _⟩ := x
  refine ok_seq (ok_part167 H) fun x => ?_
  obtain ⟨_, _, _, _, _, _⟩ := x
  refine ok_seq (ok_part168 H) fun x => ?_
  obtain ⟨_, _, _, _, _⟩ := x
  refine ok_seq (ok_part169 H) fun x => ?_
  obtain ⟨_, _, _, _, _⟩ := x
  refine ok_seq (ok_part170 H) fun x => ?_
  obtain ⟨_, _, _, _, _, _, _, _, _, _, _, _, _, _, _, _, _, _, _, _, _, _, _, _, _, _, _⟩ := x
  refine ok_seq (ok_part171 H) fun x => ?_
  obtain ⟨_, _, _, _, _, _, _, _, _, _, _, _, _, _, _, _, _, _, _⟩ := x
  refine ok_seq (ok_part172 H) fun x => ?_
  obtain ⟨_, _⟩ := x
  refine ok_seq (ok_part173 H) fun x => ?_
  obtain ⟨_, _, _, _, _, _, _, _⟩ := x
  refine ok_seq (ok_part174 H) fun x => ?_
  obtain ⟨_, _, _, _, _, _, _, _, _, _, _, _, _, _⟩ := x
  refine ok_seq (ok_part175 H) fun x => ?_
  obtain ⟨_, _, _, _⟩ := x
  refine ok_seq (ok_part176 H) fun x => ?_
  obtain ⟨_, _, _, _, _, _, _, _, _, _, _⟩ := x
  refine ok_seq (ok_part177 H) fun x => ?_
  refine ok_seq (ok_part178 H) fun x => ?_
  obtain ⟨_, _, _, _, _, _, _, _, _, _, _, _, _, _, _, _, _, _⟩ := x
  refine ok_seq (ok_part179 H) fun x => ?_
  obtain ⟨_, _, _, _, _, _, _, _, _, _, _, _, _, _, _, _, _, _, _, _, _, _, _, _, _, _, _⟩ := x
  refine ok_seq (ok_part180 H) fun x => ?_
  obtain ⟨_, _, _, _, _, _⟩ := x
  refine ok_seq (ok_part181 H) fun x => ?_
  refine ok_seq (ok_part182 H) fun x => ?_
  obtain ⟨_, _, _, _, _, _, _, _, _, _, _, _, _, _, _, _⟩ := x
  refine ok_seq (ok_part183 H) fun x => ?_
  obtain ⟨_, _, _, _, _, _, _, _⟩ := x
  refine ok_seq (ok_part184 H) fun x => ?_
  obtain ⟨_, _, _, _, _, _, _, _, _, _, _, _, _, _, _, _, _, _, _⟩ := x
  refine ok_seq (ok_part185 H) fun x => ?_
  obtain ⟨_, _⟩ := x
  refine ok_seq (ok_part186 H) fun x => ?_
  obtain ⟨_, _, _, _, _, _, _, _, _, _⟩ := x
  refine ok_seq (ok_part187 H) fun x => ?_
  obtain ⟨_, _, _, _, _, _, _, _, _, _, _, _, _, _, _, _, _, _, _, _, _, _, _, _, _, _, _, _, _, _, _, _⟩ := x
  refine ok_seq (ok_part188 H) fun x => ?_
  obtain ⟨_, _, _, _, _, _, _, _, _, _, _, _, _, _⟩ := x
  refine ok_seq (ok_part189 H) fun x => ?_
  obtain ⟨_, _⟩ := x
  refine ok_seq (ok_part190 H) fun x => ?_
  obtain ⟨_, _, _, _, _, _, _, _, _, _, _, _, _⟩ := x
  exact ok_ret hx

theorem ok_part239 : ∀ {x1 x2 x3 x4 x5 x6 x7 x8 x9 x10 x11 x12 x13 x14 x15 x16 x17 x18 x19 x20}, k0_chk1 i x6 x20 → Ok c bd I (k0_part239 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13 x14 x15 x16 x17 x18 x19 x20) (fun a => a.1 = Scalar.addi (Scalar.muli 6#32 (Scf.iv x4 x5 x6)) 5#32) := by
  intro _ _ _ _ _ _ _ _ _ _ _ _ _ _ _ _ _ _ _ _ h
  unfold k0_part239
  refine ok_bind (ok_part192 H h) fun x hx => ?_
  obtain ⟨_, _, _, _, _, _, _, _, _, _, _⟩ := x
  refine ok_seq (ok_part193 H) fun x => ?_
  obtain ⟨_, _, _, _, _, _, _, _, _, _, _, _, _, _⟩ := x
  refine ok_seq (ok_part194 H) fun x => ?_
  obtain ⟨_, _, _, _, _, _, _, _, _, _, _, _, _, _, _, _, _, _, _, _, _, _, _, _, _, _, _, _, _, _, _⟩ := x
  refine ok_seq (ok_part195 H) fun x => ?_
  obtain ⟨_, _, _, _, _, _, _, _, _, _⟩ := x
  refine ok_seq (ok_part196 H) fun x => ?_
  refine ok_seq (ok_part197 H) fun x => ?_
  obtain ⟨_, _, _, _, _, _, _, _, _, _, _, _, _, _, _, _, _⟩ := x
  refine ok_seq (ok_part198 H) fun x => ?_
  obtain ⟨_, _, _, _, _, _, _, _, _, _, _, _, _, _, _⟩ := x
  refine ok_seq (ok_part199 H) fun x => ?_
  obtain ⟨_, _, _, _, _, _, _⟩ := x
  refine ok_seq (ok_part200 H) fun x => ?_
  obtain ⟨_, _, _, _⟩ := x
  refine ok_seq (ok_part201 H) fun x => ?_
  obtain ⟨_, _, _, _, _, _⟩ := x
  refine ok_seq (ok_part202 H) fun x => ?_
  obtain ⟨_, _, _, _, _, _, _, _, _, _, _, _, _, _, _, _, _, _, _, _, _, _, _, _, _, _, _, _⟩ := x
  refine ok_seq (ok_part203 H) fun x => ?_
  obtain ⟨_, _, _, _, _, _, _, _, _, _, _, _, _, _, _, _, _, _⟩ := x
  refine ok_seq (ok_part204 H) fun x => ?_
  obtain ⟨_, _⟩ := x
  refine ok_seq (ok_part205 H) fun x => ?_
  obtain ⟨_, _, _, _, _, _, _, _, _⟩ := x
  refine ok_seq (ok_part206 H) fun x => ?_
  obtain ⟨_, _, _, _, _, _, _, _, _, _, _, _, _, _⟩ := x
  refine ok_seq (ok_part207 H) fun x => ?_
  obtain ⟨_, _, _, _⟩ := x
  refine ok_seq (ok_part208 H) fun x => ?_
  obtain ⟨_, _, _, _, _, _, _, _, _, _⟩ := x
  refine ok_seq (ok_part209 H) fun x => ?_
  refine ok_seq (ok_part210 H) fun x => ?_
  obtain ⟨_, _, _, _, _, _, _, _, _, _, _, _, _, _, _, _, _, _, _⟩ := x
  refine ok_seq (ok_part211 H) fun x => ?_
  obtain ⟨_, _, _, _, _, _, _, _, _, _, _, _, _, _, _, _, _, _, _, _, _, _, _, _, _, _⟩ := x
  refine ok_seq (ok_part212 H) fun x => ?_
  obtain ⟨_, _, _, _, _⟩ := x
  refine ok_seq (ok_part213 H) fun x => ?_
  refine ok_seq (ok_part214 H) fun x => ?_
  obtain ⟨_, _, _, _, _, _, _, _, _, _, _, _, _, _, _⟩ := x
  refine ok_seq (ok_part215 H) fun x => ?_
  obtain ⟨_, _, _, _, _, _, _⟩ := x
  refine ok_seq (ok_part216 H) fun x => ?_
  obtain ⟨_, _, _, _, _, _, _, _, _, _, _, _, _, _, _, _, _, _⟩ := x
  refine ok_seq (ok_part217 H) fun x => ?_
  obtain ⟨_, _⟩ := x
  refine ok_seq (ok_part218 H) fun x => ?_
  obtain ⟨_, _, _, _, _, _, _, _, _, _, _⟩ := x
  refine ok_seq (ok_part219 H) fun x => ?_
  obtain ⟨_, _, _, _, _, _, _, _, _, _, _, _, _, _, _, _, _, _, _, _, _, _, _, _, _, _, _, _, _, _, _, _, _⟩ := x
  refine ok_seq (ok_part220 H) fun x => ?_
  obtain ⟨_, _, _, _, _, _, _, _, _, _, _, _, _⟩ := x
  refine ok_seq (ok_part221 H) fun x => ?_
  obtain ⟨_, _⟩ := x
  refine ok_seq (ok_part222 H) fun x => ?_
  obtain ⟨_, _, _, _, _, _, _, _, _, _, _, _, _⟩ := x
  refine ok_seq (ok_part223 H) fun x => ?_
  obtain ⟨_, _, _, _, _, _, _⟩ := x
  refine ok_seq (ok_part224 H) fun x => ?_
  obtain ⟨_, _, _, _, _, _, _, _, _, _, _, _, _, _, _, _, _, _, _, _, _, _, _, _, _, _⟩ := x
  refine ok_seq (ok_part225 H) fun x => ?_
  obtain ⟨_, _, _⟩ := x
  refine ok_seq (ok_part226 H) fun x => ?_
  obtain ⟨_, _, _⟩ := x
  refine ok_seq (ok_part227 H) fun x => ?_
  obtain ⟨_, _, _, _, _, _, _, _, _, _, _, _, _, _, _, _, _, _, _, _, _, _, _, _, _⟩ := x
  refine ok_seq (ok_part228 H) fun x => ?_
  obtain ⟨_, _, _, _, _, _, _, _, _, _, _, _, _, _, _, _, _, _, _, _, _⟩ := x
  refine ok_seq (ok_part229 H) fun x => ?_
  obtain ⟨_, _, _, _, _, _, _, _⟩ := x
  refine ok_seq (ok_part230 H) fun x => ?_
  obtain ⟨_, _, _, _, _, _, _, _, _⟩ := x
  refine ok_seq (ok_part231 H) fun x => ?_
  obtain ⟨_, _, _, _, _, _, _, _, _⟩ := x
  refine ok_seq (ok_part232 H) fun x => ?_
  obtain ⟨_, _, _, _, _, _, _, _, _, _, _, _, _, _, _, _, _, _, _, _, _, _, _, _, _, _, _, _, _, _, _, _, _⟩ := x
  refine ok_seq (ok_part233 H) fun x => ?_
  obtain ⟨_, _, _, _, _, _, _, _, _, _, _⟩ := x
  refine ok_seq (ok_part234 H) fun x => ?_
  refine ok_seq (ok_part235 H) fun x => ?_
  obtain ⟨_, _, _, _, _, _, _, _, _, _, _, _, _, _, _, _⟩ := x
  refine ok_seq (ok_part236 H) fun x => ?_
  obtain ⟨_, _, _, _, _, _, _, _, _, _, _, _, _, _, _, _, _, _, _, _, _, _, _, _, _, _, _, _, _⟩ := x
  refine ok_seq (ok_part237 H) fun x => ?_
  obtain ⟨_, _, _, _, _, _, _, _, _, _, _, _⟩ := x
  refine ok_seq (ok_part238 H) fun x => ?_
  obtain ⟨_, _, _, _, _, _, _⟩ := x
  exact ok_ret hx

end Cert.Proof.Att

end
-- ==== Proof.Att.C516.lean ====
/-
  A stretch of the body with its branches and loops.
-/
module

public import proofs.«01_k».proof.Proof.Att.Comp

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

set_option maxHeartbeats 0 in
theorem ok_part516 : Ok c bd I (k0_part516 (F := F) i m2 w2 m3 w3 m4 w4 m5 w5 m6 w6 m7 w7 m8 w8 m9 w9 m10 w10 m11 w11 m12 w12 m13 w13 m14 w14 m15 w15 m16 w16 m17 w17 m18 w18 m19 w19 m20 w20) (fun _ => True) := by
  unfold k0_part516
  extract_lets -underBinder
  rename_i jp1
  have hjp1 : ∀ y, Ok c bd I (jp1 y) (fun _ => True) := by
    intro y
    subst jp1
    refine ok_seq (ok_load H.h3) fun _ => ?_
    refine ok_seq (ok_load H.h4) fun _ => ?_
    exact ok_ret trivial
  clear_value jp1
  refine ok_dite (F := F) (fun _ => ?_) fun _ => ?_
  · skip
    refine ok_seq (ok_part1 H) fun x => ?_
    obtain ⟨_, _, _, _⟩ := x
    refine ok_seq (ok_part2 H) fun x => ?_
    obtain ⟨_, _⟩ := x
    refine ok_seq (ok_part3 H) fun x => ?_
    refine ok_seq (ok_part4 H) fun x => ?_
    obtain ⟨_, _⟩ := x
    refine ok_seq (ok_part5 H) fun x => ?_
    obtain ⟨_, _, _⟩ := x
    refine ok_seq (ok_part6 H) fun x => ?_
    obtain ⟨_, _⟩ := x
    refine ok_seq (ok_part7 H) fun x => ?_
    refine ok_seq (ok_part8 H) fun x => ?_
    obtain ⟨_, _⟩ := x
    refine ok_seq (ok_part9 H) fun x => ?_
    obtain ⟨_, _, _⟩ := x
    refine ok_seq (ok_part10 H) fun x => ?_
    obtain ⟨_, _⟩ := x
    refine ok_seq (ok_part11 H) fun x => ?_
    refine ok_seq (ok_part12 H) fun x => ?_
    obtain ⟨_, _⟩ := x
    refine ok_seq (ok_part13 H) fun x => ?_
    obtain ⟨_, _, _⟩ := x
    refine ok_seq (ok_part14 H) fun x => ?_
    obtain ⟨_, _⟩ := x
    refine ok_seq (ok_part15 H) fun x => ?_
    refine ok_seq (ok_part16 H) fun x => ?_
    obtain ⟨_, _⟩ := x
    refine ok_seq (ok_part17 H) fun x => ?_
    obtain ⟨_, _⟩ := x
    refine ok_seq (ok_part18 H) fun x => ?_
    obtain ⟨_, _, _, _⟩ := x
    refine ok_seq (ok_part19 H) fun x => ?_
    obtain ⟨_, _⟩ := x
    refine ok_seq (ok_part20 H) fun x => ?_
    refine ok_seq (ok_part21 H) fun x => ?_
    obtain ⟨_, _⟩ := x
    refine ok_seq (ok_part22 H) fun x => ?_
    obtain ⟨_, _, _⟩ := x
    refine ok_seq (ok_part23 H) fun x => ?_
    obtain ⟨_, _⟩ := x
    refine ok_seq (ok_part24 H) fun x => ?_
    refine ok_seq (ok_part25 H) fun x => ?_
    obtain ⟨_, _⟩ := x
    refine ok_seq (ok_part26 H) fun x => ?_
    obtain ⟨_, _, _⟩ := x
    refine ok_seq (ok_part27 H) fun x => ?_
    obtain ⟨_, _⟩ := x
    refine ok_seq (ok_part28 H) fun x => ?_
    refine ok_seq (ok_part29 H) fun x => ?_
    obtain ⟨_, _⟩ := x
    refine ok_seq (ok_part30 H) fun x => ?_
    obtain ⟨_, _, _⟩ := x
    refine ok_seq (ok_part31 H) fun x => ?_
    obtain ⟨_, _⟩ := x
    refine ok_seq (ok_part32 H) fun x => ?_
    refine ok_seq (ok_part33 H) fun x => ?_
    obtain ⟨_, _⟩ := x
    refine ok_seq (ok_smem H.h2) fun _ => ?_
    refine ok_seq (ok_smem H.h2) fun _ => ?_
    refine ok_seq (ok_load H.h14) fun _ => ?_
    refine ok_seq (ok_store H.h14) fun _ => ?_
    exact ok_seq (ok_ret trivial) fun y => hjp1 y
  · skip
    exact ok_seq (ok_ret trivial) fun y => hjp1 y

end Cert.Proof.Att

end
-- ==== Proof.Att.C520.lean ====
/-
  A stretch of the body with its branches and loops.
-/
module

public import proofs.«01_k».proof.Proof.Att.Comp

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

set_option maxHeartbeats 0 in
theorem ok_part520 : ∀ {x1 x2 x3 x4 x5 x6 x7}, Ok c bd I (k0_part520 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  intros
  unfold k0_part520
  refine ok_seq (ok_for (fun _ _ => True) trivial fun k x _ => ?_) fun y => ?_
  · obtain ⟨_, _⟩ := x
    refine ok_seq (ok_part62 H) fun x => ?_
    obtain ⟨_, _, _, _, _, _, _, _, _⟩ := x
    exact ok_ret trivial
  obtain ⟨_, _⟩ := y
  refine ok_seq (ok_for (fun _ _ => True) trivial fun k x _ => absurd k.isLt (Nat.not_lt.2 ((k0_t2_abs i).2.1.trans (Nat.zero_le _)))) fun y => ?_
  obtain ⟨_, _⟩ := y
  refine ok_seq (ok_for (fun _ _ => True) trivial fun k x _ => ?_) fun y => ?_
  · obtain ⟨_, _⟩ := x
    refine ok_seq (ok_part92 H) fun x => ?_
    obtain ⟨_, _, _, _, _⟩ := x
    refine ok_seq (ok_part93 H) fun x => ?_
    obtain ⟨_, _, _, _, _, _, _, _, _, _, _, _, _, _, _, _, _, _, _, _, _, _, _, _, _, _, _, _, _, _, _, _⟩ := x
    refine ok_seq (ok_part94 H) fun x => ?_
    obtain ⟨_, _, _, _, _, _, _, _, _, _, _, _, _, _, _, _⟩ := x
    refine ok_seq (ok_part95 H) fun x => ?_
    obtain ⟨_, _, _, _, _, _, _, _, _, _, _, _, _, _, _, _, _, _, _, _, _, _⟩ := x
    refine ok_seq (ok_part96 H) fun x => ?_
    obtain ⟨_, _, _, _⟩ := x
    refine ok_seq (ok_part97 H) fun x => ?_
    refine ok_seq (ok_part98 H) fun x => ?_
    obtain ⟨_, _, _, _, _, _, _, _, _, _, _, _, _, _, _, _, _, _, _, _, _, _, _, _, _, _, _, _, _, _, _, _⟩ := x
    refine ok_seq (ok_part99 H) fun x => ?_
    obtain ⟨_, _, _, _, _, _, _, _, _, _, _, _, _, _, _, _, _, _, _⟩ := x
    refine ok_seq (ok_part100 H) fun x => ?_
    obtain ⟨_, _, _, _, _, _, _, _, _, _, _, _, _, _, _, _⟩ := x
    refine ok_seq (ok_load H.h11) fun _ => ?_
    refine ok_seq (ok_store H.h11) fun _ => ?_
    refine ok_seq (ok_load H.h12) fun _ => ?_
    refine ok_seq (ok_store H.h12) fun _ => ?_
    exact ok_ret trivial
  obtain ⟨_, _⟩ := y
  refine ok_seq (ok_for (fun _ _ => True) trivial fun k x _ => absurd k.isLt (Nat.not_lt.2 ((k0_t4_abs i).2.1.trans (Nat.zero_le _)))) fun y => ?_
  obtain ⟨_, _⟩ := y
  exact ok_ret trivial

end Cert.Proof.Att

end
-- ==== Proof.Att.C527.lean ====
/-
  The stretch of the body that scores the last key blocks, takes the number of keys wanted of each query, and starts the search for
  the threshold. Of its results the number of keys wanted is followed: it is at most 256.
-/
module

public import proofs.«01_k».proof.Proof.Att.Comp

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

set_option maxHeartbeats 0 in
theorem ok_part527 : ∀ {x1 x2 x3 x4 x5 x6 x7 x8 x9 x10 x11 x12 x13}, Ok c bd I (k0_part527 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12 x13) (fun a => ∃ y, a.2.1 = minimumf (broadcast S1x256 (Scalar.ofBits .f32 0x43800000#32)) y) := by
  intros
  unfold k0_part527
  extract_lets -underBinder
  rename_i jp1
  have hjp1 : ∀ y, Ok c bd I (jp1 y) (fun a => ∃ y, a.2.1 = minimumf (broadcast S1x256 (Scalar.ofBits .f32 0x43800000#32)) y) := by
    intro y
    obtain ⟨_, _⟩ := y
    subst jp1
    refine ok_seq (ok_for (fun _ _ => True) trivial fun k x _ => ?_) fun y => ?_
    · obtain ⟨_, _⟩ := x
      refine ok_seq (ok_for (fun _ _ => True) trivial fun k x _ => ?_) fun y => ?_
      · skip
        refine ok_seq (ok_part116 H) fun x => ?_
        obtain ⟨_, _, _, _, _, _, _, _, _, _, _⟩ := x
        refine ok_seq (ok_part117 H) fun x => ?_
        obtain ⟨_, _, _, _, _, _⟩ := x
        refine ok_seq (ok_part118 H) fun x => ?_
        obtain ⟨_, _, _, _, _⟩ := x
        exact ok_ret trivial
      refine ok_seq (ok_for (fun _ _ => True) trivial fun k x _ => absurd k.isLt (Nat.not_lt.2 ((k0_t7_abs i).2.1.trans (Nat.zero_le _)))) fun y => ?_
      exact ok_ret trivial
    obtain ⟨_, _⟩ := y
    refine ok_seq (ok_for (fun _ _ => True) trivial fun k x _ => ?_) fun y => ?_
    · skip
      refine ok_seq (ok_part122 H) fun x => ?_
      obtain ⟨_, _, _, _, _, _, _, _, _, _, _, _⟩ := x
      refine ok_seq (ok_part123 H) fun x => ?_
      obtain ⟨_, _, _, _, _, _, _⟩ := x
      refine ok_seq (ok_part124 H) fun x => ?_
      obtain ⟨_, _⟩ := x
      refine ok_seq (ok_part125 H) fun x => ?_
      obtain ⟨_, _, _, _, _, _, _, _⟩ := x
      refine ok_seq (ok_part126 H) fun x => ?_
      obtain ⟨_, _, _, _, _, _, _⟩ := x
      refine ok_seq (ok_part127 H) fun x => ?_
      obtain ⟨_, _, _, _, _, _, _⟩ := x
      exact ok_ret trivial
    refine ok_seq (ok_for (fun _ _ => True) trivial fun k x _ => absurd k.isLt (Nat.not_lt.2 ((k0_t9_abs i).2.1.trans (Nat.zero_le _)))) fun y => ?_
    exact ok_ret ⟨_, rfl⟩
  clear_value jp1
  refine ok_dite (F := F) (fun _ => ?_) fun _ => ?_
  · skip
    refine ok_seq (ok_part115 H) fun x => ?_
    obtain ⟨_, _, _, _⟩ := x
    exact ok_seq (ok_ret trivial) fun y => hjp1 y
  · skip
    refine ok_seq (ok_load H.h11) fun _ => ?_
    refine ok_seq (ok_store H.h11) fun _ => ?_
    refine ok_seq (ok_load H.h12) fun _ => ?_
    refine ok_seq (ok_store H.h12) fun _ => ?_
    exact ok_seq (ok_ret trivial) fun y => hjp1 y

end Cert.Proof.Att

end
-- ==== Proof.Att.Descent.lean ====
/-
  What decides how long the finishing loop of the threshold's search runs, as facts about values. An iteration goes over the sorted
  scores of the keys and finds in each query's column the largest below the threshold tried last: it is a score of the column below
  that threshold, or minus infinity (`Below`). It then counts the scores from there on. From minus infinity it counts them all, and
  they are at least as many as are wanted (`count_all`). So a column's threshold strictly falls through the finitely many
  scores until the column is done, and a measure of the work left falls with each iteration (`work_lt`).
-/
module

public import proofs.«01_k».proof.Proof.Att.Ok
public import Idealize.ShloMosaic.Lib.IdealHost
public import Idealize.ShloMosaic.Lib.ValueLayout
public import Idealize.ShloMosaic.Lib.Pointwise.Tactic

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

/-- A sublane tile of one value for each query, eight times over. -/
abbrev V8 : Type := FVec Ideal S8x256 .f32
/-- One value for each query. -/
abbrev V1 : Type := FVec Ideal S1x256 .f32

theorem ninf : (Scalar.ofBits (F := Ideal) .f32 0xFF800000#32 : EReal) = ⊥ := by
  show Ideal.ofBits .f32 0xFF800000#32 = ⊥
  simp [Ideal.ofBits, Ideal.ieee]

theorem four : (Scalar.ofBits (F := Ideal) .f32 0x40800000#32 : EReal) = ((4 : ℝ) : EReal) := by
  show Ideal.ofBits .f32 0x40800000#32 = _
  simp [Ideal.ofBits, Ideal.ieee, -EReal.coe_mul]; norm_num

theorem two : (Scalar.ofBits (F := Ideal) .f32 0x40000000#32 : EReal) = ((2 : ℝ) : EReal) := by
  show Ideal.ofBits .f32 0x40000000#32 = _
  simp [Ideal.ofBits, Ideal.ieee, -EReal.coe_mul]; norm_num

theorem one : (Scalar.ofBits (F := Ideal) .f32 0x3F800000#32 : EReal) = ((1 : ℝ) : EReal) := by
  show Ideal.ofBits .f32 0x3F800000#32 = _
  simp [Ideal.ofBits, Ideal.ieee, -EReal.coe_mul]; norm_num

theorem half : (Scalar.ofBits (F := Ideal) .f32 0x3F000000#32 : EReal) = ((1 / 2 : ℝ) : EReal) := by
  show Ideal.ofBits .f32 0x3F000000#32 = _
  simp [Ideal.ofBits, Ideal.ieee, -EReal.coe_mul]; norm_num

theorem zero : (Scalar.ofBits (F := Ideal) .f32 0x00000000#32 : EReal) = ((0 : ℝ) : EReal) := by
  show Ideal.ofBits .f32 0x00000000#32 = _
  simp [Ideal.ofBits, Ideal.ieee, -EReal.coe_mul]

theorem c256 : (Scalar.ofBits (F := Ideal) .f32 0x43800000#32 : EReal) = ((256 : ℝ) : EReal) := by
  show Ideal.ofBits .f32 0x43800000#32 = _
  simp [Ideal.ofBits, Ideal.ieee, -EReal.coe_mul]; norm_num

/-- Each value is minus infinity, or one of `S` below the threshold of its place. -/
def Below (S : Set EReal) (t x : V8) : Prop := ∀ j, (x j : EReal) = ⊥ ∨ (x j : EReal) < t j ∧ (x j : EReal) ∈ S

theorem below_bot {S : Set EReal} {t : V8} : Below S t (broadcast S8x256 (Scalar.ofBits (F := Ideal) .f32 0xFF800000#32)) :=
  fun _ => .inl ninf

theorem below_max {S : Set EReal} {t x y : V8} (hx : Below S t x) (hy : Below S t y) : Below S t (maximumf x y) := by
  intro j
  show (max (x j : EReal) (y j) : EReal) = ⊥ ∨ (max (x j : EReal) (y j) : EReal) < t j ∧ (max (x j : EReal) (y j) : EReal) ∈ S
  rcases le_total (x j : EReal) (y j) with h | h
  · rw [max_eq_right h]; exact hy j
  · rw [max_eq_left h]; exact hx j

theorem sel_ge (x t a b : V8) (j : S8x256.Idx) :
    (select (cmpf .oge x t) a b j : EReal) = if (t j : EReal) ≤ x j then (a j : EReal) else b j := by
  show (if BitVec.ofBool (decide ((t j : EReal) ≤ x j)) = 1#1 then (a j : EReal) else b j) = _
  by_cases h : (t j : EReal) ≤ x j <;> simp [h]

theorem sel_lt (x t a b : V8) (j : S8x256.Idx) :
    (select (cmpf .olt x t) a b j : EReal) = if (x j : EReal) < t j then (a j : EReal) else b j := by
  show (if BitVec.ofBool (decide ((x j : EReal) < t j)) = 1#1 then (a j : EReal) else b j) = _
  by_cases h : (x j : EReal) < t j <;> simp [h]

theorem bot_apply (j : S8x256.Idx) :
    (broadcast S8x256 (Scalar.ofBits (F := Ideal) .f32 0xFF800000#32) j : EReal) = ⊥ := ninf

/-- A group of eight sorted scores: three tests find the largest below the threshold. -/
theorem below_group {S : Set EReal} {t v0 v1 v2 v3 v4 v5 v6 v7 : V8}
    (h0 : ∀ j, (v0 j : EReal) ∈ S) (h1 : ∀ j, (v1 j : EReal) ∈ S) (h2 : ∀ j, (v2 j : EReal) ∈ S) (h3 : ∀ j, (v3 j : EReal) ∈ S)
    (h4 : ∀ j, (v4 j : EReal) ∈ S) (h5 : ∀ j, (v5 j : EReal) ∈ S) (h6 : ∀ j, (v6 j : EReal) ∈ S) (h7 : ∀ j, (v7 j : EReal) ∈ S) :
    Below S t (select
      (cmpf .oge (select (cmpf .oge v3 t) (select (cmpf .oge (select (cmpf .oge v3 t) v5 v1) t) v6 v4)
        (select (cmpf .oge (select (cmpf .oge v3 t) v5 v1) t) v2 v0)) t)
      (select (cmpf .oge v3 t)
        (select (cmpf .oge (select (cmpf .oge v3 t) v5 v1) t)
          (select (cmpf .olt v7 t) v7 (broadcast S8x256 (Scalar.ofBits (F := Ideal) .f32 0xFF800000#32))) v5)
        (select (cmpf .oge (select (cmpf .oge v3 t) v5 v1) t) v3 v1))
      (select (cmpf .oge v3 t) (select (cmpf .oge (select (cmpf .oge v3 t) v5 v1) t) v6 v4)
        (select (cmpf .oge (select (cmpf .oge v3 t) v5 v1) t) v2 v0))) := by
  intro j
  have e0 := h0 j; have e1 := h1 j; have e2 := h2 j; have e3 := h3 j
  have e4 := h4 j; have e5 := h5 j; have e6 := h6 j; have e7 := h7 j
  simp only [sel_ge, sel_lt, bot_apply]
  split_ifs <;> first | exact .inl rfl | exact .inr ⟨by first | assumption | (exact lt_of_not_ge ‹_›), by assumption⟩

/-- The same tests against a threshold of minus infinity count all eight. -/
theorem count_group {t v0 v1 v2 v3 v4 v5 v6 v7 : V8} {j : S8x256.Idx} (h : (t j : EReal) = ⊥) :
    (addf
      (addf (select (cmpf .oge v3 t) (broadcast S8x256 (Scalar.ofBits (F := Ideal) .f32 0x40800000#32)) (broadcast S8x256 (Scalar.ofBits (F := Ideal) .f32 0x00000000#32)))
        (select (cmpf .oge (select (cmpf .oge v3 t) v5 v1) t) (broadcast S8x256 (Scalar.ofBits (F := Ideal) .f32 0x40000000#32)) (broadcast S8x256 (Scalar.ofBits (F := Ideal) .f32 0x00000000#32))))
      (addf (select (cmpf .oge (select (cmpf .oge v3 t) (select (cmpf .oge (select (cmpf .oge v3 t) v5 v1) t) v6 v4)
          (select (cmpf .oge (select (cmpf .oge v3 t) v5 v1) t) v2 v0)) t)
          (broadcast S8x256 (Scalar.ofBits (F := Ideal) .f32 0x3F800000#32)) (broadcast S8x256 (Scalar.ofBits (F := Ideal) .f32 0x00000000#32)))
        (select (cmpf .oge v7 t) (broadcast S8x256 (Scalar.ofBits (F := Ideal) .f32 0x3F800000#32)) (broadcast S8x256 (Scalar.ofBits (F := Ideal) .f32 0x00000000#32)))) j : EReal)
      = ((8 : ℝ) : EReal) := by
  have hl : ∀ x : EReal, (t j : EReal) ≤ x := fun x => h ▸ bot_le
  show ((select _ _ _ j : EReal) + (select _ _ _ j : EReal)) + ((select _ _ _ j : EReal) + (select _ _ _ j : EReal)) = _
  simp only [sel_ge, if_pos (hl _)]
  show ((Scalar.ofBits (F := Ideal) .f32 0x40800000#32 : EReal) + (Scalar.ofBits (F := Ideal) .f32 0x40000000#32 : EReal))
    + ((Scalar.ofBits (F := Ideal) .f32 0x3F800000#32 : EReal) + (Scalar.ofBits (F := Ideal) .f32 0x3F800000#32 : EReal)) = _
  rw [four, two, one, ← EReal.coe_add, ← EReal.coe_add, ← EReal.coe_add]
  norm_num

/-- A trip's eight groups. -/
theorem count_trip {a g1 g2 g3 g4 g5 g6 g7 g8 : V8} {j : S8x256.Idx} {n : ℕ} (ha : (a j : EReal) = ((64 * n : ℝ) : EReal))
    (h1 : (g1 j : EReal) = ((8 : ℝ) : EReal)) (h2 : (g2 j : EReal) = ((8 : ℝ) : EReal)) (h3 : (g3 j : EReal) = ((8 : ℝ) : EReal))
    (h4 : (g4 j : EReal) = ((8 : ℝ) : EReal)) (h5 : (g5 j : EReal) = ((8 : ℝ) : EReal)) (h6 : (g6 j : EReal) = ((8 : ℝ) : EReal))
    (h7 : (g7 j : EReal) = ((8 : ℝ) : EReal)) (h8 : (g8 j : EReal) = ((8 : ℝ) : EReal)) :
    (addf a (addf (addf (addf (addf g1 g2) g3) g4) (addf (addf (addf g5 g6) g7) g8)) j : EReal)
      = ((64 * ((n + 1 : ℕ) : ℝ) : ℝ) : EReal) := by
  show (a j : EReal) + ((((g1 j : EReal) + (g2 j : EReal)) + (g3 j : EReal) + (g4 j : EReal))
    + (((g5 j : EReal) + (g6 j : EReal)) + (g7 j : EReal) + (g8 j : EReal))) = _
  rw [ha, h1, h2, h3, h4, h5, h6, h7, h8]
  simp only [← EReal.coe_add]
  congr 1
  push_cast
  ring

theorem slice_mem {S : Set EReal} {w : FVec Ideal S1x256x256 .f32} (hw : ∀ j, (w j : EReal) ∈ S)
    {hc : S1x256x256.ShapeCasts S256x256} {o : Fin 2 → ℕ} {hs : S256x256.Slices o S8x256} (j : S8x256.Idx) :
    (extractStridedSlice S8x256 o (shapeCast S256x256 w hc) hs j : EReal) ∈ S := hw _

/-- A maximum from minus infinity is minus infinity or one of the values. -/
theorem fold_max {ι : Type} (s : Finset ι) (f : ι → EReal) : s.fold max ⊥ f = ⊥ ∨ ∃ i ∈ s, s.fold max ⊥ f = f i := by
  classical
  induction s using Finset.induction_on with
  | empty => exact .inl rfl
  | insert a s ha ih =>
    rw [Finset.fold_insert ha]
    right
    rcases le_total (f a) (s.fold max ⊥ f) with h | h
    · rw [max_eq_right h]
      rcases ih with e | ⟨i, hi, e⟩
      · exact ⟨a, Finset.mem_insert_self _ _, by rw [e] at h ⊢; exact (le_bot_iff.1 h).symm⟩
      · exact ⟨i, Finset.mem_insert_of_mem hi, e⟩
    · rw [max_eq_left h]; exact ⟨a, Finset.mem_insert_self _ _, rfl⟩

theorem lift_eq (c : Fin 256) (k : Fin 8) : reduces_S8x256_S256.lift (ValueIdx.ix1 c) k = (ValueIdx.ix2 k c : S8x256.Idx) := by
  funext a
  match a with
  | ⟨0, _⟩ => rfl
  | ⟨1, _⟩ => rfl

/-- The value of the query `c`. -/
def at1 (v : V1) (c : Fin 256) : EReal := v (ValueIdx.ix2 (0 : Fin 1) c)

theorem eq_at1 (v : V1) (q : S1x256.Idx) : (v q : EReal) = at1 v (q 1) := by
  have : q = ValueIdx.ix2 (0 : Fin 1) (q 1) := by
    funext a
    match a with
    | ⟨0, _⟩ => exact Subsingleton.elim (α := Fin 1) _ _
    | ⟨1, _⟩ => rfl
  exact congrArg v this

theorem row_at {v : V1} {hb : S1x256.Broadcasts S8x256} (k : Fin 8) (c : Fin 256) :
    (broadcastTo S8x256 v hb (ValueIdx.ix2 k c) : EReal) = at1 v c := ValueIdx.broadcastTo_1b_ab_apply v hb k c

/-- The largest of a column below its threshold. -/
theorem max_col {S : Set EReal} {hi : V1} {x : V8} {hb} (h : Below S (broadcastTo S8x256 hi hb) x) (c : Fin 256) :
    let m : V1 := shapeCast S1x256 (multiReduction .maximumf [0] S256 x 0xFF800000#32 reduces_S8x256_S256 (.inl rfl) rfl) shapeCasts_S256_S1x256
    at1 m c = ⊥ ∨ at1 m c < at1 hi c ∧ at1 m c ∈ S := by
  intro m
  have e : at1 m c = (Finset.univ : Finset (Fin 8)).fold max ⊥ (fun k => (x (ValueIdx.ix2 k c) : EReal)) := by
    refine (ValueIdx.shapeCast_a_1a_apply _ _ _ _).trans ((Ideal.multiReduction_maximumf_single x _ _ _ _ _).trans ?_)
    rw [← ninf]
    exact congrArg (fun g : Fin 8 → EReal => Finset.univ.fold max (Scalar.ofBits (F := Ideal) .f32 0xFF800000#32 : EReal) g)
      (funext fun k => congrArg x (lift_eq c k))
  rcases fold_max Finset.univ (fun k : Fin 8 => (x (ValueIdx.ix2 k c) : EReal)) with hf | ⟨k, _, hf⟩
  · exact .inl (e.trans hf)
  · rw [e, hf, ← row_at (v := hi) (hb := hb) k c]; exact h _

/-- A column whose every row counts `n` trips. -/
theorem sum_col {x : V8} {c : Fin 256} {r : ℝ} (h : ∀ k : Fin 8, (x (ValueIdx.ix2 k c) : EReal) = (r : EReal)) :
    at1 (shapeCast S1x256 (multiReduction .add [0] S256 x 0x00000000#32 reduces_S8x256_S256 (.inl rfl) rfl) shapeCasts_S256_S1x256) c
      = ((8 * r : ℝ) : EReal) := by
  refine (ValueIdx.shapeCast_a_1a_apply _ _ _ _).trans ((Ideal.multiReduction_add_single x _ _ _ _ _).trans ?_)
  rw [show (∑ k : Fin (S8x256.size 0), x (reduces_S8x256_S256.lift (ValueIdx.ix1 c) k) : EReal) = ∑ k : Fin 8, (r : EReal) from
    Finset.sum_congr rfl fun k _ => (congrArg x (lift_eq c k)).trans (h k)]
  simp only [Fin.sum_univ_eight, ← EReal.coe_add]
  congr 1
  ring

/-- The flag an iteration leaves is minus infinity, or the value of some query. -/
theorem flag_col (v : V1) :
    let f : EReal := extractAt ![0, 0, 0] (shapeCast S1x1x1 (multiReduction .maximumf [1, 2] S1 (shapeCast S1x1x256 v shapeCasts_S1x256_S1x1x256)
      0xFF800000#32 reduces_S1x1x256_S1 (.inl rfl) rfl) shapeCasts_S1_S1x1x1) inpos_S1x1x1_p0_0_0
    f = ⊥ ∨ ∃ c, f = at1 v c := by
  intro f
  have e : ∃ j, f = multiReduction .maximumf [1, 2] S1 (shapeCast S1x1x256 v shapeCasts_S1x256_S1x1x256)
      0xFF800000#32 reduces_S1x1x256_S1 (.inl rfl) rfl j := ⟨_, rfl⟩
  obtain ⟨j, e⟩ := e
  replace e := e.trans (multiReduction_maximumf_eq_fold _ _ _ _ _ _)
  replace e : f = (Finset.univ.filter fun i => reduces_S1x1x256_S1.drop i = j).fold max ⊥
      (fun i => (shapeCast S1x1x256 v shapeCasts_S1x256_S1x1x256 i : EReal)) := by rw [← ninf]; exact e
  rcases fold_max (Finset.univ.filter fun i => reduces_S1x1x256_S1.drop i = j)
    (fun i => (shapeCast S1x1x256 v shapeCasts_S1x256_S1x1x256 i : EReal)) with hf | ⟨k, _, hf⟩
  · exact .inl (e.trans hf)
  · obtain ⟨q, hq⟩ : ∃ q, (shapeCast S1x1x256 v shapeCasts_S1x256_S1x1x256 k : EReal) = v q := ⟨_, rfl⟩
    exact .inr ⟨q 1, ((e.trans hf).trans hq).trans (eq_at1 v q)⟩

open Classical in
/-- The work left: a query still without its threshold may try each score below the last tried, and then end. -/
def work (S : Finset EReal) (hi done : V1) : ℕ :=
  ∑ c : Fin 256, if at1 done c < ((1 / 2 : ℝ) : EReal) then 1 + (S.filter (· < at1 hi c)).card else 0

/-- An iteration that finishes or lowers each open query leaves less work. -/
theorem work_lt {S : Finset EReal} {hi done hi' done' : V1}
    (ho : ∀ c, at1 done c < ((1 / 2 : ℝ) : EReal) → ¬ at1 done' c < ((1 / 2 : ℝ) : EReal) ∨ at1 hi' c < at1 hi c ∧ at1 hi' c ∈ S)
    (hd : ∀ c, ¬ at1 done c < ((1 / 2 : ℝ) : EReal) → ¬ at1 done' c < ((1 / 2 : ℝ) : EReal))
    (hex : ∃ c, at1 done c < ((1 / 2 : ℝ) : EReal)) : work S hi' done' < work S hi done := by
  classical
  have key : ∀ c, at1 done c < ((1 / 2 : ℝ) : EReal) →
      (if at1 done' c < ((1 / 2 : ℝ) : EReal) then 1 + (S.filter (· < at1 hi' c)).card else 0)
        < 1 + (S.filter (· < at1 hi c)).card := by
    intro c hc
    split_ifs with h'
    · rcases ho c hc with h | ⟨hlt, hm⟩
      · exact absurd h' h
      · refine Nat.add_lt_add_left (Finset.card_lt_card ⟨fun x hx => ?_, fun hsub => ?_⟩) 1
        · rw [Finset.mem_filter] at hx ⊢; exact ⟨hx.1, hx.2.trans hlt⟩
        · exact lt_irrefl _ (Finset.mem_filter.1 (hsub (Finset.mem_filter.2 ⟨hm, hlt⟩))).2
    · omega
  unfold work
  refine Finset.sum_lt_sum (fun c _ => ?_) ?_
  · by_cases hc : at1 done c < ((1 / 2 : ℝ) : EReal)
    · rw [if_pos hc]; convert (key c hc).le
    · rw [if_neg hc, if_neg (hd c hc)]
  · obtain ⟨c, hc⟩ := hex
    exact ⟨c, Finset.mem_univ _, by rw [if_pos hc]; convert key c hc⟩

end Cert.Proof.Att

end
-- ==== Proof.Att.While.lean ====
/-
  The loop that finishes the threshold's search ends. It only reads the sorted scores, so they are one array throughout; each of its
  iterations, run on them, leaves less of the work that Proof/Att/Descent.lean measures.
-/
module

public import proofs.«01_k».proof.Proof.Att.Descent

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

open Idealize.ShloMosaic.TcCoe Idealize.ShloMosaic.Tactic
open Idealize.SL.BI.BIBase Idealize.SL.BI.Laws Idealize.SL.ProofMode

variable {F : FTy → Type} [FloatOps F]

variable {c : Dev nD} {bd : Option ℕ} {I : sProp (MM F)}

/-- `I` with the buffer of `m` taken out of it, at the contents `f`. -/
def Open {sp : Space} {s : Shape} {e : EltTy} (c : Dev nD) (I : sProp (MM F)) (m : Memref sig .tc sp s e) (f : m.view.ty.Contents (Elt F)) :
    sProp (MM F) :=
  iprop((m.view.loc (c : Thread nD τ) ↦[m.view.set]{fullShare} f) ∗ (∀ f', (m.view.loc (c : Thread nD τ) ↦[m.view.set]{fullShare} f') -∗ I))

/-- A program that runs at any fixed contents of a held buffer, leaving them, runs. -/
theorem ok_open {sp : Space} {s : Shape} {e : EltTy} {m : Memref sig .tc sp s e} {α : Type} {p : KProg F α} {Q : α → Prop}
    (h : Held c I m) (hp : ∀ f, Ok c bd (Open c I m f) p Q) : Ok c bd I p Q := by
  intro Φ hΦ
  have key : ∀ f, iprop((m.view.loc (c : Thread nD τ) ↦[m.view.set]{fullShare} f)
      ∗ (∀ f', (m.view.loc (c : Thread nD τ) ↦[m.view.set]{fullShare} f') -∗ I))
      ⊢ wp frame (wpE (defs₀ (F := F)) 𝒱 (c : Thread nD τ) bd) Set.univ p Φ := fun f => hp f Φ fun a ha => by
    unfold Open
    iintro ⟨Hm, HI⟩
    iapply (hΦ a ha)
    iapply HI; iexact Hm
  refine BIBase.Entails.trans h ?_
  iintro ⟨%f, H⟩
  iapply (key f)
  iexact H

/-- A load from the opened buffer: each value is one of the contents'. -/
theorem ok_load_at {cs : CoreSpace} {s : Shape} {e : EltTy} {m : Memref sig .tc cs s e} {f : m.view.ty.Contents (Elt F)} {r : LoadRect s}
    {hl : m.view.LoadsAt r} :
    Ok c bd (Open c I m f) (Prog.lift (.load m r hl) : KProg F _) fun w => ∀ j, w j ∈ Set.range (m.view.read (Elt F) f) := by
  intro Φ hΦ
  rw [Prog.lift]
  unfold Open
  iintro ⟨Hm, HI⟩
  iapply (wp_load 𝒱 (c : Thread nD τ) bd Set.univ (m := m) (View.setOn_subset_set _ _)) $$ Hm
  iintro Hm
  rw [wp_ret]; imodintro
  iapply (hΦ (m.view.readAt (Elt F) r f) fun j => ⟨_, rfl⟩)
  unfold Open
  isplitl [Hm]
  · iexact Hm
  iexact HI

/-- A call of the finishing loop, entered at a smaller bound. -/
theorem ok_call {a : (Λ₀ F).Args 1} {v : ℕ} {Q : (Λ₀ F).Result 1 → Prop} (hv : ∀ u ∈ bd, v < u)
    (hp : Ok c (some v) I (defs₀ (F := F) .tc 1 a) Q) : Ok c bd I (Prog.lift (.call (1 : (Λ₀ F).Label) a) : KProg F _) Q := by
  intro Φ hΦ
  rw [Prog.lift]
  refine BIBase.Entails.trans ?_ (wp_call 𝒱 (c : Thread nD τ) bd Set.univ v hv)
  refine hp _ fun a ha => ?_
  rw [wp_ret]
  exact (hΦ a ha).trans BI.fupd_intro

theorem ok_assoc {α β γ : Type} {p : KProg F α} {k : α → KProg F β} {l : β → KProg F γ} {R : γ → Prop}
    (h : Ok c bd I (p >>= fun a => k a >>= l) R) : Ok c bd I (p >>= k >>= l) R := by
  rw [bind_assoc]; exact h

theorem ok_pure {α β : Type} {a : α} {k : α → KProg F β} {R : β → Prop} (h : Ok c bd I (k a) R) :
    Ok c bd I ((pure a : KProg F α) >>= k) R := by
  rw [pure_bind]; exact h

/-- The loops of an iteration run at least once. -/
theorem trips_pos (i : grid0.Coords) : 0 < (k0_t15_loop i).trips := by
  have h : (i 1).val < 32 := (i 1).isLt
  unfold k0_t15_loop
  generalize (i 1).val = n at h ⊢
  revert n
  decide +kernel

/-- Each query's largest value. -/
def colMax (x : V8) : V1 :=
  shapeCast S1x256 (multiReduction .maximumf [0] S256 x 0xFF800000#32 reduces_S8x256_S256 (.inl rfl) rfl) shapeCasts_S256_S1x256
/-- Each query's sum. -/
def colSum (x : V8) : V1 :=
  shapeCast S1x256 (multiReduction .add [0] S256 x 0x00000000#32 reduces_S8x256_S256 (.inl rfl) rfl) shapeCasts_S256_S1x256
/-- A threshold after an iteration: lowered where the query is open and too few scores were counted. -/
def nextHi (done s kp m hi : V1) : V1 :=
  select (andi (cmpf .olt done (broadcast S1x256 (Scalar.ofBits (F := Ideal) .f32 0x3F000000#32)))
    (xori (cmpf .oge s kp) (constantI S1x256 1 1#1))) m hi
/-- The ended queries after an iteration: an open one has ended where enough were counted. -/
def nextDone (done s kp : V1) : V1 :=
  select (andi (cmpf .olt done (broadcast S1x256 (Scalar.ofBits (F := Ideal) .f32 0x3F000000#32))) (cmpf .oge s kp))
    (broadcast S1x256 (Scalar.ofBits (F := Ideal) .f32 0x3F800000#32)) done
/-- The flag after an iteration: above zero only where a query is open. -/
def nextFlag (done : V1) : EReal :=
  extractAt ![0, 0, 0] (shapeCast S1x1x1 (multiReduction .maximumf [1, 2] S1
    (shapeCast S1x1x256 (subf (broadcast S1x256 (Scalar.ofBits (F := Ideal) .f32 0x3F800000#32)) done) shapeCasts_S1x256_S1x1x256)
      0xFF800000#32 reduces_S1x1x256_S1 (.inl rfl) rfl) shapeCasts_S1_S1x1x1) inpos_S1x1x1_p0_0_0

theorem ite_and {α : Type} (p q : Prop) [Decidable p] [Decidable q] (a b : α) :
    (if BitVec.ofBool (decide p) &&& BitVec.ofBool (decide q) = 1#1 then a else b) = if p ∧ q then a else b := by
  by_cases hp : p <;> by_cases hq : q <;> simp [hp, hq]

theorem ite_and_not {α : Type} (p q : Prop) [Decidable p] [Decidable q] (a b : α) :
    (if BitVec.ofBool (decide p) &&& (BitVec.ofBool (decide q) ^^^ 1#1) = 1#1 then a else b) = if p ∧ ¬ q then a else b := by
  by_cases hp : p <;> by_cases hq : q <;> simp [hp, hq]

theorem of_ofBool {p : Prop} [Decidable p] (h : BitVec.ofBool (decide p) = 1#1) : p := by
  by_contra hn
  simp [hn] at h

theorem nextDone_eq (done s kp : V1) (q : Fin 256) : at1 (nextDone done s kp) q
    = if at1 done q < ((1 / 2 : ℝ) : EReal) ∧ at1 kp q ≤ at1 s q then ((1 : ℝ) : EReal) else at1 done q := by
  show (if BitVec.ofBool (decide (at1 done q < (Scalar.ofBits (F := Ideal) .f32 0x3F000000#32 : EReal)))
      &&& BitVec.ofBool (decide (at1 kp q ≤ at1 s q)) = 1#1 then (Scalar.ofBits (F := Ideal) .f32 0x3F800000#32 : EReal) else at1 done q) = _
  rw [ite_and, half, one]

theorem nextHi_eq (done s kp m hi : V1) (q : Fin 256) : at1 (nextHi done s kp m hi) q
    = if at1 done q < ((1 / 2 : ℝ) : EReal) ∧ ¬ at1 kp q ≤ at1 s q then at1 m q else at1 hi q := by
  show (if BitVec.ofBool (decide (at1 done q < (Scalar.ofBits (F := Ideal) .f32 0x3F000000#32 : EReal)))
      &&& (BitVec.ofBool (decide (at1 kp q ≤ at1 s q)) ^^^ 1#1) = 1#1 then at1 m q else at1 hi q) = _
  rw [ite_and_not, half]

section
variable {J : sProp (MM Ideal)} {i : grid0.Coords} {m11 : Memref sig .tc .vmem S33x256x256 .f32} {w11 : m11.IsWhole} {S : Finset EReal}

/-- Each load of the sorted scores gives values of `S`. -/
def Reads (c : Dev nD) (J : sProp (MM Ideal)) (m11 : Memref sig .tc .vmem S33x256x256 .f32) (S : Finset EReal) : Prop :=
  ∀ {bd : Option ℕ} {r : LoadRect S33x256x256} {hl : m11.view.LoadsAt r},
    Ok c bd J (Prog.lift (.load m11 r hl) : KProg Ideal _) fun w => ∀ j, (w j : EReal) ∈ (S : Set EReal)

/-- The finishing loop, with the number of keys wanted at most 256. -/
theorem while_reads (hL : Reads c J m11 S) {kp : V1} (hk : ∀ q, at1 kp q ≤ ((256 : ℝ) : EReal)) :
    ∀ (n : ℕ) (hi chi tau done : V1) (flag : EReal), work S hi done ≤ n
      → (∀ q, at1 done q = ((0 : ℝ) : EReal) ∨ at1 done q = ((1 : ℝ) : EReal))
      → (((0 : ℝ) : EReal) < flag → ∃ q, at1 done q < ((1 / 2 : ℝ) : EReal))
      → Ok c (some n) J (cc0_while1 (F := Ideal) i m11 w11 kp hi chi tau done flag) fun _ => True := by
  intro n
  induction n using Nat.strong_induction_on with
  | _ n ih =>
  intro hi chi tau done flag hw h01 hflag
  unfold cc0_while1
  refine ok_ite (F := Ideal) (fun hpos => ?_) fun _ => ok_ret trivial
  refine ok_bind (ok_for (fun _ x => Below S (broadcastTo S8x256 hi broadcasts_S1x256_S8x256) x) below_bot fun k acc hacc => ?_) fun x hx => ?_
  · refine ok_assoc (ok_bind hL fun w hw1 => ok_pure ?_)
    refine ok_pure ?_
    refine ok_assoc (ok_bind hL fun w' hw2 => ok_pure ?_)
    refine ok_pure ?_
    refine ok_ret ?_
    have g := fun {o} {hs} => slice_mem (S := (S : Set EReal)) hw1 (hc := shapeCasts_S1x256x256_S256x256) (o := o) (hs := hs)
    have g' := fun {o} {hs} => slice_mem (S := (S : Set EReal)) hw2 (hc := shapeCasts_S1x256x256_S256x256) (o := o) (hs := hs)
    exact below_max (below_max (below_max (below_max (below_max (below_max (below_max (below_max hacc
      (below_group g g g g g g g g)) (below_group g g g g g g g g)) (below_group g g g g g g g g)) (below_group g g g g g g g g))
      (below_group g' g' g' g' g' g' g' g')) (below_group g' g' g' g' g' g' g' g')) (below_group g' g' g' g' g' g' g' g'))
      (below_group g' g' g' g' g' g' g' g')
  refine ok_bind (ok_for (fun _ x => Below S (broadcastTo S8x256 hi broadcasts_S1x256_S8x256) x) hx fun k _ _ =>
    absurd k.isLt (Nat.not_lt.2 ((k0_t14_abs i).2.1.trans (Nat.zero_le _)))) fun x hx => ?_
  have hm : ∀ q, at1 (colMax x) q = ⊥ ∨ at1 (colMax x) q < at1 hi q ∧ at1 (colMax x) q ∈ (S : Set EReal) := max_col hx
  refine ok_bind (ok_for (fun k y => ∀ j, (broadcastTo S8x256 (colMax x) broadcasts_S1x256_S8x256 j : EReal) = ⊥ →
    (y j : EReal) = ((64 * (k : ℝ) : ℝ) : EReal)) (fun j _ => zero.trans (by norm_num)) fun k acc hacc => ?_) fun y hy => ?_
  · refine ok_assoc (ok_bind hL fun w _ => ok_pure ?_)
    refine ok_pure ?_
    refine ok_pure ?_
    refine ok_assoc (ok_bind hL fun w' _ => ok_pure ?_)
    refine ok_pure ?_
    refine ok_pure ?_
    refine ok_ret fun j hj => ?_
    exact count_trip (hacc j hj) (count_group hj) (count_group hj) (count_group hj) (count_group hj) (count_group hj) (count_group hj)
      (count_group hj) (count_group hj)
  refine ok_bind (ok_for (fun _ z => z = y) rfl fun k _ _ =>
    absurd k.isLt (Nat.not_lt.2 ((k0_t16_abs i).2.1.trans (Nat.zero_le _)))) fun z hz => ?_
  subst hz
  have hcnt : ∀ q, at1 (colMax x) q = ⊥ → at1 kp q ≤ at1 (colSum z) q := by
    intro q hq
    have e := sum_col (x := z) (c := q) (r := 64 * ((k0_t15_loop i).trips : ℝ)) fun k => hy _ ((row_at k q).trans hq)
    refine (hk q).trans (le_of_le_of_eq ?_ e.symm)
    have : (1 : ℝ) ≤ ((k0_t15_loop i).trips : ℝ) := by exact_mod_cast trips_pos i
    exact EReal.coe_le_coe_iff.2 (by linarith)
  have hex := hflag (by
    have h : BitVec.ofBool (decide ((Scalar.ofBits (F := Ideal) .f32 0x00000000#32 : EReal) < flag)) = 1#1 := hpos
    exact zero ▸ of_ofBool h)
  have hlt : work S (nextHi done (colSum z) kp (colMax x) hi) (nextDone done (colSum z) kp) < work S hi done := by
    refine work_lt (fun q hq => ?_) (fun q hq => ?_) hex
    · rw [nextDone_eq, nextHi_eq]
      by_cases hf : at1 kp q ≤ at1 (colSum z) q
      · rw [if_pos ⟨hq, hf⟩]
        exact .inl (not_lt.2 (EReal.coe_le_coe_iff.2 (by norm_num)))
      · right
        rw [if_pos ⟨hq, hf⟩]
        rcases hm q with e | e
        · exact absurd (hcnt q e) hf
        · exact e
    · rw [nextDone_eq, if_neg fun h => hq h.1]; exact hq
  have h01' : ∀ q, at1 (nextDone done (colSum z) kp) q = ((0 : ℝ) : EReal) ∨ at1 (nextDone done (colSum z) kp) q = ((1 : ℝ) : EReal) := by
    intro q
    rw [nextDone_eq]
    split_ifs
    · exact .inr rfl
    · exact h01 q
  refine ok_call (F := Ideal) (v := work S (nextHi done (colSum z) kp (colMax x) hi) (nextDone done (colSum z) kp)) ?_
    (ih _ (hlt.trans_le hw) (nextHi done (colSum z) kp (colMax x) hi) _ _ (nextDone done (colSum z) kp)
      (nextFlag (nextDone done (colSum z) kp)) le_rfl h01' ?_)
  · intro u hu
    cases hu
    exact hlt.trans_le hw
  · intro hp
    rcases flag_col (subf (broadcast S1x256 (Scalar.ofBits (F := Ideal) .f32 0x3F800000#32)) (nextDone done (colSum z) kp)) with e | ⟨q, e⟩
    · exact absurd (hp.trans_eq e) not_lt_bot
    · refine ⟨q, ?_⟩
      have e' : nextFlag (nextDone done (colSum z) kp)
          = (Scalar.ofBits (F := Ideal) .f32 0x3F800000#32 : EReal) - at1 (nextDone done (colSum z) kp) q := e
      rw [one] at e'
      rcases h01' q with h | h
      · rw [h]; exact EReal.coe_lt_coe_iff.2 (by norm_num)
      · rw [h, ← EReal.coe_sub, sub_self] at e'
        exact absurd (hp.trans_eq e') (lt_irrefl _)

/-- The call that finishes the search: from no query ended, with at most 256 keys wanted. -/
theorem ok_while {I : sProp (MM Ideal)} (h11 : Held c I m11) {kp : V1}
    (hk : ∃ y, kp = minimumf (broadcast S1x256 (Scalar.ofBits (F := Ideal) .f32 0x43800000#32)) y) {hi chi tau : V1} :
    Ok c none I (Prog.lift (.call (1 : (Λ₀ Ideal).Label) ⟨i, m11, w11, kp, hi, chi, tau,
      broadcast S1x256 (Scalar.ofBits (F := Ideal) .f32 0x00000000#32), (Scalar.ofBits (F := Ideal) .f32 0x3F800000#32 : EReal)⟩) : KProg Ideal _)
      fun _ => True := by
  refine ok_open h11 fun f => ?_
  have hL : Reads c (Open c I m11 f) m11 ((Set.finite_range (m11.view.read (Elt Ideal) f)).toFinset) := by
    intro bd r hl
    exact ok_load_at.mono fun w hw j => by rw [Set.Finite.coe_toFinset]; exact hw j
  have hz : ∀ q, at1 (broadcast S1x256 (Scalar.ofBits (F := Ideal) .f32 0x00000000#32)) q = ((0 : ℝ) : EReal) := fun _ => zero
  refine ok_call (F := Ideal) (v := work _ hi _) (fun _ hu => nomatch hu)
    (while_reads hL (fun q => ?_) _ hi chi tau _ _ le_rfl (fun q => .inl (hz q)) fun _ => ⟨0, ?_⟩)
  · obtain ⟨y, rfl⟩ := hk
    refine (min_le_left (Scalar.ofBits (F := Ideal) .f32 0x43800000#32 : EReal) (at1 y q)).trans_eq c256
  · rw [hz]; exact EReal.coe_lt_coe_iff.2 (by norm_num)
end

end Cert.Proof.Att

end
-- ==== Proof.Att.C528.lean ====
/-
  The stretch of the body that narrows the threshold's bracket by bisection, and then calls the loop that finishes the search. From
  here on the float values are the extended reals: on machine words a comparison with a NaN would keep that loop from ending.
-/
module

public import proofs.«01_k».proof.Proof.Att.C527
public import proofs.«01_k».proof.Proof.Att.While

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM Ideal)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

set_option maxHeartbeats 0 in
theorem ok_part528 : ∀ {x1 x2 x3 x4 x5 x6 x7}, (∃ y, x4 = minimumf (F := Ideal) (broadcast S1x256 (Scalar.ofBits (F := Ideal) .f32 0x43800000#32)) y) → Ok c none I (k0_part528 (F := Ideal) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7) (fun _ => True) := by
  intro _ _ _ _ _ _ _ h
  unfold k0_part528
  refine ok_seq (ok_for (fun _ _ => True) trivial fun k x _ => ?_) fun y => ?_
  · obtain ⟨_, _, _⟩ := x
    refine ok_seq (ok_for (fun _ _ => True) trivial fun k x _ => ?_) fun y => ?_
    · skip
      refine ok_seq (ok_part134 H) fun x => ?_
      obtain ⟨_, _, _, _, _, _, _, _, _, _, _, _⟩ := x
      refine ok_seq (ok_part135 H) fun x => ?_
      obtain ⟨_, _, _, _, _, _, _⟩ := x
      refine ok_seq (ok_part136 H) fun x => ?_
      obtain ⟨_, _⟩ := x
      refine ok_seq (ok_part137 H) fun x => ?_
      obtain ⟨_, _, _, _, _, _, _, _⟩ := x
      refine ok_seq (ok_part138 H) fun x => ?_
      obtain ⟨_, _, _, _, _, _, _⟩ := x
      refine ok_seq (ok_part139 H) fun x => ?_
      obtain ⟨_, _, _, _, _, _, _⟩ := x
      exact ok_ret trivial
    refine ok_seq (ok_for (fun _ _ => True) trivial fun k x _ => absurd k.isLt (Nat.not_lt.2 ((k0_t12_abs i).2.1.trans (Nat.zero_le _)))) fun y => ?_
    exact ok_ret trivial
  obtain ⟨_, _, _⟩ := y
  refine ok_seq (ok_while H.h11 h) fun x => ?_
  obtain ⟨_, _, _, _, _⟩ := x
  refine ok_seq (ok_load H.h18) fun _ => ?_
  refine ok_seq (ok_store H.h18) fun _ => ?_
  exact ok_ret trivial

end Cert.Proof.Att

end
-- ==== Proof.Att.C529.lean ====
/-
  The stretch of the body that attends: the first group of key blocks, the loop over the others, and the last blocks' switch. Each
  group's value lookup trails by a block, and the number of the block still to be looked up is followed: it is below 32.
-/
module

public import proofs.«01_k».proof.Proof.Att.Comp

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

theorem chk1_of {i : grid0.Coords} {t : Fin (k0_t17_loop i).trips} {x : BitVec 32} (h : x.toNat < 32) : k0_chk1 i t x := by
  have hx : (Scalar.indexCast x : BitVec 32).toNat = x.toNat := rfl
  intro a
  fin_cases a <;> simp [k0_off39, S1x1x256x256, S1x32x256x256]
  all_goals omega

theorem chk3_of {i : grid0.Coords} {x : BitVec 32} (h : x.toNat < 32) : k0_chk3 i x := by
  have hx : (Scalar.indexCast x : BitVec 32).toNat = x.toNat := rfl
  refine ⟨fun _ _ _ _ _ a => ?_, fun _ _ _ _ _ a => ?_, fun _ _ _ _ a => ?_, fun _ _ _ a => ?_, fun _ _ a => ?_, fun _ a => ?_⟩
  all_goals fin_cases a <;> simp [k0_off51, k0_off63, k0_off73, k0_off83, k0_off93, k0_off103, S1x1x256x256, S1x32x256x256]
  all_goals omega

theorem num_lt (i : grid0.Coords) (k : Fin (k0_t17_loop i).trips) :
    (Scalar.addi (Scalar.muli 6#32 (Scf.iv 1#32 1#32 k)) 5#32).toNat < 32 := by
  have hk : k.val < 4 := k.isLt.trans_le (k0_t17_abs i).2.1
  generalize k.val = n at hk ⊢
  obtain rfl | rfl | rfl | rfl : n = 0 ∨ n = 1 ∨ n = 2 ∨ n = 3 := by omega
  all_goals decide

variable {F : FTy → Type} [FloatOps F] {c : Dev nD} {bd : Option ℕ} {I : sProp (MM F)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

set_option maxHeartbeats 0 in
theorem ok_part529 : ∀ {x1 x2 x3 x4 x5 x6 x7 x8 x9 x10 x11 x12}, Ok c bd I (k0_part529 (F := F) i m2 w2 m3 w3 m4 w4 m5 w5 m6 w6 m7 w7 m8 w8 m9 w9 m10 w10 m11 w11 m12 w12 m13 w13 m14 w14 m15 w15 m16 w16 m17 w17 m18 w18 m19 w19 m20 w20 x1 x2 x3 x4 x5 x6 x7 x8 x9 x10 x11 x12) (fun _ => True) := by
  intros
  unfold k0_part529
  extract_lets -underBinder
  rename_i jp1
  have hjp1 : ∀ y, y.2.2.2.2.2.2.2.2.2.2.2.2.2.toNat < 32 → Ok c bd I (jp1 y) (fun _ => True) := by
    intro y hy
    obtain ⟨_, _, _, _, _, _, _, _, _, _, _, _, _, _⟩ := y
    subst jp1
    refine ok_bind (ok_for (fun _ a => a.2.2.2.2.2.2.2.2.2.2.2.2.2.toNat < 32) hy fun k x hx => ?_) fun y hy => ?_
    · obtain ⟨_, _, _, _, _, _, _, _, _, _, _, _, _, _⟩ := x
      refine ok_bind (ok_part239 H (chk1_of hx)) fun x hz => ?_
      obtain ⟨_, _, _, _, _, _, _, _, _, _, _, _, _, _, _, _, _, _, _⟩ := x
      refine ok_seq (ok_load H.h18) fun _ => ?_
      refine ok_seq (ok_load H.h18) fun _ => ?_
      refine ok_seq (ok_store H.h18) fun _ => ?_
      exact ok_ret (lt_of_eq_of_lt (congrArg BitVec.toNat hz) (num_lt i k))
    obtain ⟨_, _, _, _, _, _, _, _, _, _, _, _, _, _⟩ := y
    refine ok_bind (ok_for (fun _ a => a.2.2.2.2.2.2.2.2.2.2.2.2.2.toNat < 32) hy fun k x _ =>
      absurd k.isLt (Nat.not_lt.2 ((k0_t18_abs i).2.1.trans (Nat.zero_le _)))) fun y hy => ?_
    obtain ⟨_, _, _, _, _, _, _, _, _, _, _, _, _, _⟩ := y
    refine ok_seq (ok_assume (chk3_of hy)) fun _ => ?_
    extract_lets -underBinder
    rename_i jp2
    have hjp2 : ∀ y, Ok c bd I (jp2 y) (fun _ => True) := by
      intro y
      obtain ⟨_, _, _, _⟩ := y
      subst jp2
      refine ok_seq (ok_load H.h18) fun _ => ?_
      refine ok_seq (ok_load H.h18) fun _ => ?_
      refine ok_seq (ok_store H.h18) fun _ => ?_
      refine ok_seq (ok_load H.h18) fun _ => ?_
      refine ok_seq (ok_load H.h18) fun _ => ?_
      refine ok_seq (ok_store H.h18) fun _ => ?_
      exact ok_ret trivial
    clear_value jp2
    refine ok_dite (F := F) (fun _ => ?_) fun _ => ?_
    · skip
      extract_lets -underBinder
      rename_i jp3
      have hjp3 : ∀ y, Ok c bd I (jp3 y) (fun _ => True) := by
        intro y
        obtain ⟨_, _, _, _⟩ := y
        subst jp3
        exact ok_seq (ok_ret trivial) fun y => hjp2 y
      clear_value jp3
      refine ok_dite (F := F) (fun _ => ?_) fun _ => ?_
      · skip
        extract_lets -underBinder
        rename_i jp4
        have hjp4 : ∀ y, Ok c bd I (jp4 y) (fun _ => True) := by
          intro y
          obtain ⟨_, _, _, _⟩ := y
          subst jp4
          exact ok_seq (ok_ret trivial) fun y => hjp3 y
        clear_value jp4
        refine ok_dite (F := F) (fun _ => ?_) fun _ => ?_
        · skip
          extract_lets -underBinder
          rename_i jp5
          have hjp5 : ∀ y, Ok c bd I (jp5 y) (fun _ => True) := by
            intro y
            obtain ⟨_, _, _, _⟩ := y
            subst jp5
            exact ok_seq (ok_ret trivial) fun y => hjp4 y
          clear_value jp5
          refine ok_dite (F := F) (fun _ => ?_) fun _ => ?_
          · skip
            extract_lets -underBinder
            rename_i jp6
            have hjp6 : ∀ y, Ok c bd I (jp6 y) (fun _ => True) := by
              intro y
              obtain ⟨_, _, _, _⟩ := y
              subst jp6
              exact ok_seq (ok_ret trivial) fun y => hjp5 y
            clear_value jp6
            refine ok_dite (F := F) (fun _ => ?_) fun _ => ?_
            · skip
              refine ok_seq (ok_part345 H) fun x => ?_
              obtain ⟨_, _, _, _, _, _, _, _, _, _, _, _, _, _, _⟩ := x
              refine ok_seq (ok_load H.h19) fun _ => ?_
              refine ok_seq (ok_load H.h18) fun _ => ?_
              refine ok_seq (ok_load H.h18) fun _ => ?_
              refine ok_seq (ok_store H.h18) fun _ => ?_
              exact ok_seq (ok_ret trivial) fun y => hjp6 y
            · skip
              refine ok_seq (ok_part346 H) fun x => ?_
              obtain ⟨_, _, _, _, _, _, _, _, _, _⟩ := x
              refine ok_seq (ok_part347 H) fun x => ?_
              obtain ⟨_, _, _, _, _, _, _, _, _, _, _, _⟩ := x
              refine ok_seq (ok_part348 H) fun x => ?_
              obtain ⟨_, _, _, _, _, _, _, _, _, _, _, _, _, _, _, _, _, _, _, _, _, _, _, _, _, _, _, _, _, _, _, _, _⟩ := x
              refine ok_seq (ok_part349 H) fun x => ?_
              obtain ⟨_, _, _, _, _, _, _, _, _, _, _, _⟩ := x
              refine ok_seq (ok_part350 H) fun x => ?_
              obtain ⟨_, _⟩ := x
              refine ok_seq (ok_part351 H) fun x => ?_
              obtain ⟨_, _, _, _, _, _, _, _, _, _, _, _, _, _, _⟩ := x
              refine ok_seq (ok_part352 H) fun x => ?_
              obtain ⟨_, _, _, _, _, _, _, _, _, _, _, _, _, _⟩ := x
              refine ok_seq (ok_part353 H) fun x => ?_
              obtain ⟨_, _, _, _, _⟩ := x
              refine ok_seq (ok_part354 H) fun x => ?_
              obtain ⟨_, _, _, _⟩ := x
              refine ok_seq (ok_part355 H) fun x => ?_
              obtain ⟨_, _, _, _⟩ := x
              refine ok_seq (ok_part356 H) fun x => ?_
              obtain ⟨_, _, _, _, _, _, _, _, _, _, _, _, _, _, _, _, _, _, _, _, _, _, _, _, _, _⟩ := x
              refine ok_seq (ok_part357 H) fun x => ?_
              obtain ⟨_, _, _, _, _, _, _, _, _, _, _, _, _, _, _, _, _, _, _, _⟩ := x
              refine ok_seq (ok_part358 H) fun x => ?_
              obtain ⟨_, _, _⟩ := x
              refine ok_seq (ok_part359 H) fun x => ?_
              obtain ⟨_, _, _, _, _, _, _⟩ := x
              refine ok_seq (ok_part360 H) fun x => ?_
              obtain ⟨_, _, _, _, _, _, _, _, _, _, _, _, _, _⟩ := x
              refine ok_seq (ok_part361 H) fun x => ?_
              obtain ⟨_, _, _, _⟩ := x
              refine ok_seq (ok_part362 H) fun x => ?_
              obtain ⟨_, _, _, _, _, _, _, _, _, _, _, _⟩ := x
              refine ok_seq (ok_part363 H) fun x => ?_
              refine ok_seq (ok_part364 H) fun x => ?_
              obtain ⟨_, _, _, _, _, _, _, _, _, _, _, _, _, _, _, _, _⟩ := x
              refine ok_seq (ok_part365 H) fun x => ?_
              obtain ⟨_, _, _, _, _, _, _, _, _, _, _, _, _, _, _, _, _, _, _, _, _, _, _, _, _, _, _, _⟩ := x
              refine ok_seq (ok_part366 H) fun x => ?_
              obtain ⟨_, _, _, _, _, _, _⟩ := x
              refine ok_seq (ok_part367 H) fun x => ?_
              refine ok_seq (ok_part368 H) fun x => ?_
              obtain ⟨_, _, _, _, _, _, _, _, _, _, _, _, _, _⟩ := x
              refine ok_seq (ok_part369 H) fun x => ?_
              obtain ⟨_, _, _, _, _, _, _, _⟩ := x
              refine ok_seq (ok_part370 H) fun x => ?_
              obtain ⟨_, _, _, _, _, _, _, _, _, _, _, _, _, _, _, _, _, _, _, _⟩ := x
              refine ok_seq (ok_part371 H) fun x => ?_
              obtain ⟨_, _⟩ := x
              refine ok_seq (ok_part372 H) fun x => ?_
              obtain ⟨_, _, _, _, _, _, _, _, _⟩ := x
              refine ok_seq (ok_part373 H) fun x => ?_
              obtain ⟨_, _, _, _, _, _, _, _, _, _, _, _, _, _, _, _, _, _, _, _, _, _, _, _, _, _, _, _, _, _, _⟩ := x
              refine ok_seq (ok_part374 H) fun x => ?_
              obtain ⟨_, _, _, _, _, _, _, _, _, _, _, _, _, _, _⟩ := x
              refine ok_seq (ok_part375 H) fun x => ?_
              obtain ⟨_, _, _⟩ := x
              refine ok_seq (ok_part376 H) fun x => ?_
              obtain ⟨_, _, _, _, _, _, _, _, _, _, _, _, _, _⟩ := x
              refine ok_seq (ok_part377 H) fun x => ?_
              obtain ⟨_, _, _, _, _, _, _⟩ := x
              refine ok_seq (ok_part378 H) fun x => ?_
              obtain ⟨_, _, _, _, _, _, _, _, _, _, _, _, _, _, _, _⟩ := x
              refine ok_seq (ok_part379 H) fun x => ?_
              obtain ⟨_, _, _⟩ := x
              refine ok_seq (ok_part380 H) fun x => ?_
              obtain ⟨_, _, _, _, _, _, _, _, _, _, _, _, _, _, _, _, _, _, _⟩ := x
              refine ok_seq (ok_part381 H) fun x => ?_
              obtain ⟨_, _, _, _, _, _, _, _, _, _, _, _, _, _, _, _, _, _, _, _⟩ := x
              refine ok_seq (ok_part382 H) fun x => ?_
              obtain ⟨_, _, _⟩ := x
              refine ok_seq (ok_part383 H) fun x => ?_
              obtain ⟨_, _, _, _, _, _, _, _, _, _, _, _, _⟩ := x
              refine ok_seq (ok_part384 H) fun x => ?_
              obtain ⟨_, _, _, _, _, _, _, _, _, _, _, _, _, _, _⟩ := x
              refine ok_seq (ok_part385 H) fun x => ?_
              obtain ⟨_, _, _, _, _⟩ := x
              refine ok_seq (ok_part386 H) fun x => ?_
              obtain ⟨_, _, _⟩ := x
              refine ok_seq (ok_part387 H) fun x => ?_
              obtain ⟨_, _, _, _, _, _, _, _⟩ := x
              refine ok_seq (ok_part388 H) fun x => ?_
              obtain ⟨_, _, _, _, _, _, _, _, _, _, _, _, _, _, _, _, _, _, _, _, _, _, _, _, _, _, _, _, _, _, _⟩ := x
              refine ok_seq (ok_part389 H) fun x => ?_
              obtain ⟨_, _, _, _⟩ := x
              refine ok_seq (ok_part390 H) fun x => ?_
              obtain ⟨_, _⟩ := x
              refine ok_seq (ok_part391 H) fun x => ?_
              obtain ⟨_, _, _, _, _, _, _, _, _, _, _, _, _, _, _, _, _, _, _, _, _, _, _, _, _, _, _, _, _, _⟩ := x
              refine ok_seq (ok_part392 H) fun x => ?_
              obtain ⟨_, _, _, _, _, _, _, _, _, _, _, _⟩ := x
              refine ok_seq (ok_part393 H) fun x => ?_
              obtain ⟨_, _, _, _, _, _⟩ := x
              refine ok_seq (ok_part394 H) fun x => ?_
              obtain ⟨_, _, _, _, _, _, _, _, _, _⟩ := x
              refine ok_seq (ok_part395 H) fun x => ?_
              obtain ⟨_, _, _, _, _⟩ := x
              refine ok_seq (ok_load H.h18) fun _ => ?_
              refine ok_seq (ok_store H.h18) fun _ => ?_
              exact ok_seq (ok_ret trivial) fun y => hjp6 y
          · skip
            refine ok_seq (ok_part396 H) fun x => ?_
            obtain ⟨_, _, _, _, _, _, _, _, _⟩ := x
            refine ok_seq (ok_part397 H) fun x => ?_
            obtain ⟨_, _, _, _, _, _, _, _, _, _⟩ := x
            refine ok_seq (ok_part398 H) fun x => ?_
            obtain ⟨_, _, _, _, _, _, _, _, _, _, _, _, _, _, _, _, _, _, _, _, _, _, _, _, _, _, _, _, _, _, _, _⟩ := x
            refine ok_seq (ok_part399 H) fun x => ?_
            obtain ⟨_, _, _, _, _, _, _, _, _, _, _, _, _, _⟩ := x
            refine ok_seq (ok_part400 H) fun x => ?_
            obtain ⟨_, _, _⟩ := x
            refine ok_seq (ok_part401 H) fun x => ?_
            obtain ⟨_, _, _, _, _, _, _, _, _, _, _, _, _⟩ := x
            refine ok_seq (ok_part402 H) fun x => ?_
            obtain ⟨_, _, _, _, _, _, _, _, _, _, _, _, _, _, _⟩ := x
            refine ok_seq (ok_part403 H) fun x => ?_
            obtain ⟨_, _, _, _, _⟩ := x
            refine ok_seq (ok_part404 H) fun x => ?_
            obtain ⟨_, _, _, _, _, _⟩ := x
            refine ok_seq (ok_part405 H) fun x => ?_
            obtain ⟨_, _⟩ := x
            refine ok_seq (ok_part406 H) fun x => ?_
            obtain ⟨_, _, _, _, _, _, _, _, _, _, _, _, _, _, _, _, _, _, _, _, _, _, _, _⟩ := x
            refine ok_seq (ok_part407 H) fun x => ?_
            obtain ⟨_, _, _, _, _, _, _, _, _, _, _, _, _, _, _, _, _, _, _, _, _, _⟩ := x
            refine ok_seq (ok_part408 H) fun x => ?_
            obtain ⟨_, _, _⟩ := x
            refine ok_seq (ok_part409 H) fun x => ?_
            obtain ⟨_, _, _, _, _⟩ := x
            refine ok_seq (ok_part410 H) fun x => ?_
            obtain ⟨_, _, _, _, _, _, _, _, _, _, _, _, _, _, _⟩ := x
            refine ok_seq (ok_part411 H) fun x => ?_
            obtain ⟨_, _, _, _, _⟩ := x
            refine ok_seq (ok_part412 H) fun x => ?_
            obtain ⟨_, _, _, _, _, _, _, _, _, _, _, _, _, _⟩ := x
            refine ok_seq (ok_part413 H) fun x => ?_
            obtain ⟨_, _⟩ := x
            refine ok_seq (ok_part414 H) fun x => ?_
            obtain ⟨_, _, _, _, _, _, _, _, _, _, _, _, _, _, _⟩ := x
            refine ok_seq (ok_part415 H) fun x => ?_
            obtain ⟨_, _, _, _, _, _, _, _, _, _, _, _, _, _, _, _, _, _, _, _, _, _, _, _, _, _, _, _, _, _⟩ := x
            refine ok_seq (ok_part416 H) fun x => ?_
            obtain ⟨_, _, _, _, _, _, _, _, _⟩ := x
            refine ok_seq (ok_part417 H) fun x => ?_
            obtain ⟨_, _⟩ := x
            refine ok_seq (ok_part418 H) fun x => ?_
            obtain ⟨_, _, _, _, _, _, _, _, _, _, _, _, _⟩ := x
            refine ok_seq (ok_part419 H) fun x => ?_
            obtain ⟨_, _, _, _, _, _⟩ := x
            refine ok_seq (ok_part420 H) fun x => ?_
            obtain ⟨_, _, _, _, _, _, _, _, _, _⟩ := x
            refine ok_seq (ok_part421 H) fun x => ?_
            refine ok_seq (ok_part422 H) fun x => ?_
            obtain ⟨_, _, _, _, _, _, _, _, _, _, _, _, _, _, _, _, _, _, _, _, _, _, _, _, _⟩ := x
            refine ok_seq (ok_part423 H) fun x => ?_
            obtain ⟨_, _, _, _, _, _, _, _, _, _, _, _, _, _⟩ := x
            refine ok_seq (ok_part424 H) fun x => ?_
            obtain ⟨_, _, _⟩ := x
            refine ok_seq (ok_part425 H) fun x => ?_
            obtain ⟨_, _, _, _, _, _, _, _, _, _, _, _, _, _, _, _, _, _, _⟩ := x
            refine ok_seq (ok_part426 H) fun x => ?_
            obtain ⟨_, _, _, _, _, _, _, _, _, _, _, _, _, _⟩ := x
            refine ok_seq (ok_part427 H) fun x => ?_
            obtain ⟨_, _, _, _, _, _⟩ := x
            refine ok_seq (ok_part428 H) fun x => ?_
            obtain ⟨_, _, _⟩ := x
            refine ok_seq (ok_part429 H) fun x => ?_
            obtain ⟨_, _, _, _, _, _, _, _, _, _, _, _, _, _⟩ := x
            refine ok_seq (ok_part430 H) fun x => ?_
            obtain ⟨_, _, _, _, _, _, _, _, _, _, _, _, _, _, _, _, _, _, _, _, _, _, _, _, _⟩ := x
            refine ok_seq (ok_part431 H) fun x => ?_
            obtain ⟨_, _⟩ := x
            refine ok_seq (ok_part432 H) fun x => ?_
            obtain ⟨_, _, _, _, _, _, _, _⟩ := x
            refine ok_seq (ok_part433 H) fun x => ?_
            obtain ⟨_, _, _, _, _, _, _, _, _, _, _, _, _, _, _, _, _, _, _, _, _, _, _, _, _, _, _, _, _, _, _⟩ := x
            refine ok_seq (ok_part434 H) fun x => ?_
            obtain ⟨_, _, _, _, _, _, _, _, _, _, _⟩ := x
            refine ok_seq (ok_part435 H) fun x => ?_
            obtain ⟨_, _, _, _, _, _, _, _⟩ := x
            refine ok_seq (ok_part436 H) fun x => ?_
            obtain ⟨_, _, _, _, _, _, _, _, _, _⟩ := x
            refine ok_seq (ok_part437 H) fun x => ?_
            obtain ⟨_, _, _, _, _, _⟩ := x
            refine ok_seq (ok_load H.h18) fun _ => ?_
            refine ok_seq (ok_load H.h18) fun _ => ?_
            refine ok_seq (ok_store H.h18) fun _ => ?_
            exact ok_seq (ok_ret trivial) fun y => hjp5 y
        · skip
          refine ok_seq (ok_part438 H) fun x => ?_
          obtain ⟨_, _, _, _, _, _, _, _⟩ := x
          refine ok_seq (ok_part439 H) fun x => ?_
          obtain ⟨_, _, _, _, _, _, _, _⟩ := x
          refine ok_seq (ok_part440 H) fun x => ?_
          obtain ⟨_, _, _, _, _, _, _, _, _, _, _, _, _, _, _, _, _, _, _, _, _, _, _, _, _, _, _, _, _, _⟩ := x
          refine ok_seq (ok_part441 H) fun x => ?_
          obtain ⟨_, _, _, _, _, _, _, _, _, _, _, _, _, _, _, _⟩ := x
          refine ok_seq (ok_part442 H) fun x => ?_
          obtain ⟨_, _⟩ := x
          refine ok_seq (ok_part443 H) fun x => ?_
          obtain ⟨_, _, _, _, _, _, _, _, _, _, _⟩ := x
          refine ok_seq (ok_part444 H) fun x => ?_
          obtain ⟨_, _, _, _, _, _, _, _, _, _, _, _, _, _⟩ := x
          refine ok_seq (ok_part445 H) fun x => ?_
          obtain ⟨_, _, _, _, _⟩ := x
          refine ok_seq (ok_part446 H) fun x => ?_
          obtain ⟨_, _, _, _, _, _, _, _⟩ := x
          refine ok_seq (ok_part447 H) fun x => ?_
          refine ok_seq (ok_part448 H) fun x => ?_
          obtain ⟨_, _, _, _, _, _, _, _, _, _, _, _, _, _, _, _, _, _, _, _, _, _⟩ := x
          refine ok_seq (ok_part449 H) fun x => ?_
          obtain ⟨_, _, _, _, _, _, _, _, _, _, _, _, _, _, _, _, _, _, _, _, _, _, _, _⟩ := x
          refine ok_seq (ok_part450 H) fun x => ?_
          obtain ⟨_, _, _⟩ := x
          refine ok_seq (ok_part451 H) fun x => ?_
          obtain ⟨_, _, _⟩ := x
          refine ok_seq (ok_part452 H) fun x => ?_
          obtain ⟨_, _, _, _, _, _, _, _, _, _, _, _, _, _, _⟩ := x
          refine ok_seq (ok_part453 H) fun x => ?_
          obtain ⟨_, _, _, _, _, _⟩ := x
          refine ok_seq (ok_part454 H) fun x => ?_
          obtain ⟨_, _, _, _⟩ := x
          refine ok_seq (ok_part455 H) fun x => ?_
          obtain ⟨_, _, _, _⟩ := x
          refine ok_seq (ok_part456 H) fun x => ?_
          obtain ⟨_, _, _, _, _, _, _, _, _, _, _, _, _, _, _, _, _, _, _, _, _, _, _, _, _, _, _, _, _, _, _, _⟩ := x
          refine ok_seq (ok_part457 H) fun x => ?_
          obtain ⟨_, _, _, _, _, _, _, _⟩ := x
          refine ok_seq (ok_part458 H) fun x => ?_
          refine ok_seq (ok_part459 H) fun x => ?_
          obtain ⟨_, _, _, _, _, _, _, _, _, _, _, _, _, _, _, _, _, _, _, _, _, _, _, _, _⟩ := x
          refine ok_seq (ok_part460 H) fun x => ?_
          obtain ⟨_, _, _, _, _, _, _, _, _, _, _, _⟩ := x
          refine ok_seq (ok_part461 H) fun x => ?_
          obtain ⟨_, _, _, _, _, _, _⟩ := x
          refine ok_seq (ok_part462 H) fun x => ?_
          obtain ⟨_, _, _⟩ := x
          refine ok_seq (ok_part463 H) fun x => ?_
          obtain ⟨_, _, _, _, _, _, _, _, _, _, _, _, _, _, _, _, _, _, _, _⟩ := x
          refine ok_seq (ok_part464 H) fun x => ?_
          obtain ⟨_, _, _, _, _, _, _, _, _, _, _, _, _, _, _, _, _, _, _⟩ := x
          refine ok_seq (ok_part465 H) fun x => ?_
          obtain ⟨_, _⟩ := x
          refine ok_seq (ok_part466 H) fun x => ?_
          obtain ⟨_, _, _, _, _, _, _, _, _, _, _, _, _, _⟩ := x
          refine ok_seq (ok_part467 H) fun x => ?_
          obtain ⟨_, _, _, _, _, _, _, _, _, _, _, _, _, _, _, _, _, _, _, _, _, _, _, _, _⟩ := x
          refine ok_seq (ok_part468 H) fun x => ?_
          obtain ⟨_, _, _, _, _, _, _, _, _, _⟩ := x
          refine ok_seq (ok_part469 H) fun x => ?_
          obtain ⟨_, _, _, _, _, _, _, _⟩ := x
          refine ok_seq (ok_part470 H) fun x => ?_
          obtain ⟨_, _, _, _, _, _, _, _, _, _, _, _, _⟩ := x
          refine ok_seq (ok_part471 H) fun x => ?_
          obtain ⟨_, _, _, _, _, _, _⟩ := x
          refine ok_seq (ok_load H.h18) fun _ => ?_
          refine ok_seq (ok_load H.h18) fun _ => ?_
          refine ok_seq (ok_store H.h18) fun _ => ?_
          exact ok_seq (ok_ret trivial) fun y => hjp4 y
      · skip
        refine ok_seq (ok_part472 H) fun x => ?_
        obtain ⟨_, _, _, _, _, _, _⟩ := x
        refine ok_seq (ok_part473 H) fun x => ?_
        obtain ⟨_, _, _, _, _, _⟩ := x
        refine ok_seq (ok_part474 H) fun x => ?_
        obtain ⟨_, _, _, _, _, _, _, _, _, _, _, _, _, _, _, _, _, _, _, _, _, _, _, _, _, _, _, _⟩ := x
        refine ok_seq (ok_part475 H) fun x => ?_
        obtain ⟨_, _, _, _, _, _, _, _, _, _, _, _, _, _, _, _, _, _⟩ := x
        refine ok_seq (ok_part476 H) fun x => ?_
        obtain ⟨_, _⟩ := x
        refine ok_seq (ok_part477 H) fun x => ?_
        obtain ⟨_, _, _, _, _, _, _, _, _⟩ := x
        refine ok_seq (ok_part478 H) fun x => ?_
        obtain ⟨_, _, _, _, _, _, _, _, _, _, _, _, _, _⟩ := x
        refine ok_seq (ok_part479 H) fun x => ?_
        obtain ⟨_, _, _, _⟩ := x
        refine ok_seq (ok_part480 H) fun x => ?_
        obtain ⟨_, _, _, _⟩ := x
        refine ok_seq (ok_part481 H) fun x => ?_
        obtain ⟨_, _, _, _, _, _, _, _, _, _⟩ := x
        refine ok_seq (ok_part482 H) fun x => ?_
        obtain ⟨_, _, _, _, _, _, _, _, _, _, _, _, _, _, _, _, _, _, _, _, _, _, _, _, _, _, _, _, _⟩ := x
        refine ok_seq (ok_part483 H) fun x => ?_
        obtain ⟨_, _⟩ := x
        refine ok_seq (ok_part484 H) fun x => ?_
        obtain ⟨_, _, _, _⟩ := x
        refine ok_seq (ok_part485 H) fun x => ?_
        obtain ⟨_, _, _, _, _, _, _, _, _, _, _, _, _, _, _, _, _, _, _, _, _, _, _, _, _, _, _, _, _, _, _, _⟩ := x
        refine ok_seq (ok_part486 H) fun x => ?_
        obtain ⟨_, _, _, _, _, _, _, _, _, _, _, _, _⟩ := x
        refine ok_seq (ok_part487 H) fun x => ?_
        obtain ⟨_, _, _, _, _, _, _, _⟩ := x
        refine ok_seq (ok_part488 H) fun x => ?_
        obtain ⟨_, _⟩ := x
        refine ok_seq (ok_part489 H) fun x => ?_
        obtain ⟨_, _, _, _, _, _, _, _, _, _, _, _, _, _, _, _, _, _, _, _, _, _, _, _, _, _, _⟩ := x
        refine ok_seq (ok_part490 H) fun x => ?_
        obtain ⟨_, _, _, _, _, _, _, _, _, _, _, _, _⟩ := x
        refine ok_seq (ok_part491 H) fun x => ?_
        obtain ⟨_, _⟩ := x
        refine ok_seq (ok_part492 H) fun x => ?_
        obtain ⟨_, _, _, _, _, _, _, _, _, _, _, _, _, _, _, _, _, _, _, _⟩ := x
        refine ok_seq (ok_part493 H) fun x => ?_
        obtain ⟨_, _, _, _, _, _, _, _, _, _, _, _, _, _, _, _, _, _, _⟩ := x
        refine ok_seq (ok_part494 H) fun x => ?_
        obtain ⟨_, _, _, _, _, _, _⟩ := x
        refine ok_seq (ok_part495 H) fun x => ?_
        obtain ⟨_, _, _, _, _, _, _, _, _⟩ := x
        refine ok_seq (ok_part496 H) fun x => ?_
        obtain ⟨_, _, _, _, _, _, _, _, _, _, _, _, _, _, _⟩ := x
        refine ok_seq (ok_part497 H) fun x => ?_
        obtain ⟨_, _, _, _, _, _, _, _⟩ := x
        refine ok_seq (ok_load H.h18) fun _ => ?_
        refine ok_seq (ok_load H.h18) fun _ => ?_
        refine ok_seq (ok_store H.h18) fun _ => ?_
        exact ok_seq (ok_ret trivial) fun y => hjp3 y
    · skip
      refine ok_seq (ok_part498 H) fun x => ?_
      obtain ⟨_, _, _, _, _⟩ := x
      refine ok_seq (ok_part499 H) fun x => ?_
      obtain ⟨_, _, _, _, _, _, _, _, _, _, _, _, _, _, _, _⟩ := x
      refine ok_seq (ok_part500 H) fun x => ?_
      obtain ⟨_, _, _, _, _, _, _, _, _, _, _, _, _, _, _, _, _, _, _, _, _, _, _⟩ := x
      refine ok_seq (ok_part501 H) fun x => ?_
      obtain ⟨_, _⟩ := x
      refine ok_seq (ok_part502 H) fun x => ?_
      obtain ⟨_, _, _, _, _, _, _, _, _, _⟩ := x
      refine ok_seq (ok_part503 H) fun x => ?_
      obtain ⟨_, _, _, _, _, _, _, _, _, _, _, _, _, _, _, _, _, _, _, _, _, _, _, _, _, _, _, _, _⟩ := x
      refine ok_seq (ok_part504 H) fun x => ?_
      obtain ⟨_, _, _, _, _, _, _, _, _, _, _, _⟩ := x
      refine ok_seq (ok_part505 H) fun x => ?_
      obtain ⟨_, _, _, _, _, _, _⟩ := x
      refine ok_seq (ok_part506 H) fun x => ?_
      obtain ⟨_, _, _⟩ := x
      refine ok_seq (ok_part507 H) fun x => ?_
      obtain ⟨_, _, _, _, _, _, _, _, _, _, _, _, _, _, _, _, _, _, _, _, _, _, _, _, _, _, _, _, _, _, _, _, _⟩ := x
      refine ok_seq (ok_part508 H) fun x => ?_
      obtain ⟨_, _, _, _, _, _, _⟩ := x
      refine ok_seq (ok_part509 H) fun x => ?_
      refine ok_seq (ok_part510 H) fun x => ?_
      obtain ⟨_, _, _, _, _, _, _, _, _, _, _, _, _, _, _, _, _, _, _, _, _, _, _, _, _, _, _⟩ := x
      refine ok_seq (ok_part511 H) fun x => ?_
      obtain ⟨_, _, _, _, _, _, _, _, _, _, _, _, _⟩ := x
      refine ok_seq (ok_part512 H) fun x => ?_
      obtain ⟨_, _⟩ := x
      refine ok_seq (ok_part513 H) fun x => ?_
      obtain ⟨_, _, _, _, _, _, _, _, _, _, _, _, _, _⟩ := x
      refine ok_seq (ok_part514 H) fun x => ?_
      obtain ⟨_, _, _, _, _, _, _, _, _, _, _, _, _⟩ := x
      refine ok_seq (ok_part515 H) fun x => ?_
      obtain ⟨_, _, _, _, _, _, _, _⟩ := x
      refine ok_seq (ok_load H.h18) fun _ => ?_
      refine ok_seq (ok_load H.h18) fun _ => ?_
      refine ok_seq (ok_store H.h18) fun _ => ?_
      exact ok_seq (ok_ret trivial) fun y => hjp2 y
  clear_value jp1
  refine ok_dite (F := F) (fun _ => ?_) fun _ => ?_
  · skip
    refine ok_bind (ok_part191 H) fun x hz => ?_
    obtain ⟨_, _, _, _, _, _, _, _, _, _, _, _, _, _, _, _, _, _, _, _, _, _⟩ := x
    refine ok_seq (ok_load H.h18) fun _ => ?_
    refine ok_seq (ok_load H.h18) fun _ => ?_
    refine ok_seq (ok_store H.h18) fun _ => ?_
    exact ok_bind (Q := fun a => a.2.2.2.2.2.2.2.2.2.2.2.2.2.toNat < 32) (ok_ret (by first | exact lt_of_eq_of_lt (congrArg BitVec.toNat hz) (by decide) | exact (by decide : (0#32 : BitVec 32).toNat < 32))) hjp1
  · skip
    refine ok_seq (ok_load H.h20) fun _ => ?_
    refine ok_seq (ok_store H.h20) fun _ => ?_
    exact ok_bind (Q := fun a => a.2.2.2.2.2.2.2.2.2.2.2.2.2.toNat < 32) (ok_ret (by first | exact lt_of_eq_of_lt (congrArg BitVec.toNat hz) (by decide) | exact (by decide : (0#32 : BitVec 32).toNat < 32))) hjp1

end Cert.Proof.Att

end
-- ==== Proof.Att.Whole.lean ====
/-
  The whole body of the attention kernel runs.
-/
module

public import proofs.«01_k».proof.Proof.Att.C516
public import proofs.«01_k».proof.Proof.Att.C520
public import proofs.«01_k».proof.Proof.Att.C527
public import proofs.«01_k».proof.Proof.Att.C528
public import proofs.«01_k».proof.Proof.Att.C529

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

variable {F : FTy → Type} [FloatOps F] {c : Dev nD} {bd : Option ℕ} {I : sProp (MM Ideal)} {i : grid0.Coords}
  {m2 : Memref sig .tc .smem S128 .f32} {w2 : m2.IsWhole}
  {m3 : Memref sig .tc .vmem S1x1x256x256 .bf16} {w3 : m3.IsWhole}
  {m4 : Memref sig .tc .vmem S1x1x128x256 .bf16} {w4 : m4.IsWhole}
  {m5 : Memref sig .tc .vmem S1x1x8x256 .f32} {w5 : m5.IsWhole}
  {m6 : Memref sig .tc .vmem S1x8192x256 .bf16} {w6 : m6.IsWhole}
  {m7 : Memref sig .tc .vmem S1x8192x128 .bf16} {w7 : m7.IsWhole}
  {m8 : Memref sig .tc .vmem S1x32x256x256 .bf16} {w8 : m8.IsWhole}
  {m9 : Memref sig .tc .vmem S1x256x256 .bf16} {w9 : m9.IsWhole}
  {m10 : Memref sig .tc .vmem S33x256x256 .f32} {w10 : m10.IsWhole}
  {m11 : Memref sig .tc .vmem S33x256x256 .f32} {w11 : m11.IsWhole}
  {m12 : Memref sig .tc .vmem S33x256x256 .bf16} {w12 : m12.IsWhole}
  {m13 : Memref sig .tc .vmem S4x256x256 .f32} {w13 : m13.IsWhole}
  {m14 : Memref sig .tc .vmem S4x256x256 .f32} {w14 : m14.IsWhole}
  {m15 : Memref sig .tc .vmem S256x256 .bf16} {w15 : m15.IsWhole}
  {m16 : Memref sig .tc .vmem S4x256x256 .bf16} {w16 : m16.IsWhole}
  {m17 : Memref sig .tc .vmem S4x128x256 .bf16} {w17 : m17.IsWhole}
  {m18 : Memref sig .tc .vmem S256x256 .f32} {w18 : m18.IsWhole}
  {m19 : Memref sig .tc .vmem S4x256x256 .f32} {w19 : m19.IsWhole}
  {m20 : Memref sig .tc .vmem S4x256x256 .f32} {w20 : m20.IsWhole}
  (H : Bufs c I m2 m3 m4 m5 m6 m7 m8 m9 m10 m11 m12 m13 m14 m15 m16 m17 m18 m19 m20)

include H

set_option maxHeartbeats 0 in
theorem ok_body : Ok c none I (cc0_sparse_attention (F := Ideal) i m2 w2 m3 w3 m4 w4 m5 w5 m6 w6 m7 w7 m8 w8 m9 w9 m10 w10 m11 w11 m12 w12 m13 w13 m14 w14 m15 w15 m16 w16 m17 w17 m18 w18 m19 w19 m20 w20) (fun _ => True) := by
  unfold cc0_sparse_attention
  refine ok_seq (ok_part516 H) fun x => ?_
  obtain ⟨_, _, _, _, _, _, _, _, _⟩ := x
  refine ok_seq (ok_part517 H) fun x => ?_
  obtain ⟨_, _, _⟩ := x
  refine ok_seq (ok_part518 H) fun x => ?_
  refine ok_seq (ok_part519 H) fun x => ?_
  obtain ⟨_, _, _, _, _, _, _, _⟩ := x
  refine ok_seq (ok_part520 H) fun x => ?_
  obtain ⟨_, _, _, _⟩ := x
  refine ok_seq (ok_part521 H) fun x => ?_
  obtain ⟨_, _⟩ := x
  refine ok_seq (ok_part522 H) fun x => ?_
  obtain ⟨_, _, _, _, _, _, _, _, _, _, _, _, _, _, _⟩ := x
  refine ok_seq (ok_part523 H) fun x => ?_
  obtain ⟨_, _, _, _, _, _, _, _, _, _, _, _, _, _, _, _, _, _, _, _, _, _, _, _, _, _, _, _, _, _, _, _, _⟩ := x
  refine ok_seq (ok_part524 H) fun x => ?_
  obtain ⟨_, _, _, _, _, _, _, _, _, _, _, _, _, _, _, _⟩ := x
  refine ok_seq (ok_part525 H) fun x => ?_
  obtain ⟨_, _, _, _, _, _, _, _, _, _, _, _, _, _, _, _, _, _, _, _, _⟩ := x
  refine ok_seq (ok_part526 H) fun x => ?_
  obtain ⟨_, _, _, _, _, _, _⟩ := x
  refine ok_bind (ok_part527 H) fun x hk => ?_
  obtain ⟨_, _, _, _, _⟩ := x
  refine ok_seq (ok_part528 H hk) fun x => ?_
  obtain ⟨_, _, _, _, _, _, _, _, _, _, _⟩ := x
  refine ok_seq (ok_part529 H) fun x => ?_
  obtain ⟨_, _⟩ := x
  refine ok_seq (ok_load H.h18) fun _ => ?_
  refine ok_seq (ok_load H.h18) fun _ => ?_
  refine ok_seq (ok_store H.h18) fun _ => ?_
  refine ok_seq (ok_load H.h18) fun _ => ?_
  refine ok_seq (ok_load H.h18) fun _ => ?_
  refine ok_seq (ok_store H.h18) fun _ => ?_
  refine ok_seq (ok_load H.h18) fun _ => ?_
  refine ok_seq (ok_load H.h9) fun _ => ?_
  refine ok_seq (ok_store H.h9) fun _ => ?_
  exact ok_ret trivial

end Cert.Proof.Att

end
-- ==== Proof.Att.Run.lean ====
/-
  The launch. Between two grid points the pipeline keeps the scratch buffers at some contents; at a point it hands the body its
  windows' blocks. The body, given these, runs and hands them back (Proof/Att/Whole.lean), and nothing is said of what it
  leaves in them: every window is forgotten. From this the pipeline's launch theorem gives the run of the program.
-/
module

public import proofs.«01_k».proof.Proof.Att.Whole
public import proofs.«01_k».proof.Proof.Gen.KernelIdeal.Points
public import Idealize.ShloMosaic.Lib.Pipeline.Frame
public import Idealize.ShloMosaic.Lib.Tactic

@[expose] public section

noncomputable section

namespace Cert.Proof.Att

open Cert.KernelIdeal Cert.KernelIdeal.Gen

open Idealize.ShloMosaic
open Idealize.SL Idealize.SL.RA Idealize.SL.BI
open Idealize.SL.BI.BIBase Idealize.SL.BI.Laws Idealize.SL.ProofMode Idealize.SL.Sem

open Idealize.ShloMosaic.TcCoe Idealize.ShloMosaic.Tactic
open Idealize.ShloMosaic.Pipeline (Dat BodyObligation)

variable {c : Dev nD}

section
variable {sp : Space} {s : Shape} {e : EltTy} {m : Memref sig .tc sp s e} {I I' : sProp (MM Ideal)}

theorem held_owns : Held c (iprop(∃ d, owns (c : Thread nD τ) m fullShare d) : sProp (MM Ideal)) m := by
  unfold Held owns
  iintro ⟨%d, %f, -, Hm⟩
  iexists f
  isplitl [Hm]
  · iexact Hm
  iintro %f' Hm
  iexists (m.view.read (Elt Ideal) f'), f'
  isplitr
  · ipureintro; rfl
  iexact Hm

theorem Held.left (h : Held c I m) : Held c iprop(I ∗ I') m := by
  unfold Held at h ⊢
  refine BIBase.Entails.trans (sep_mono h .rfl) ?_
  iintro ⟨⟨%f, Hm, HI⟩, HI'⟩
  iexists f
  isplitl [Hm]
  · iexact Hm
  iintro %f' Hm
  isplitl [Hm HI]
  · iapply HI; iexact Hm
  iexact HI'

theorem Held.right (h : Held c I' m) : Held c iprop(I ∗ I') m := by
  unfold Held at h ⊢
  refine BIBase.Entails.trans (sep_mono .rfl h) ?_
  iintro ⟨HI', ⟨%f, Hm, HI⟩⟩
  iexists f
  isplitl [Hm]
  · iexact Hm
  iintro %f' Hm
  isplitl [HI']
  · iexact HI'
  iapply HI; iexact Hm
end

variable (m : (ℓ : Loc nD τ sig) → Buf (Elt Ideal) ℓ) (ρ : Dev nD → PrngReg)

/-- The memory of a core's buffer at the launch. -/
abbrev Vm (c : Dev nD) (b : Ref sig .tc) : Buf (Elt Ideal) ((c : Thread nD τ).loc b) := m ((c : Thread nD τ).loc b)

/-- Every window is forgotten. -/
def forgets : Fin 8 → Bool := fun _ => true

/-- The proof data: arrays as at the launch, contents left unnamed, the scratch at something. -/
def dats (_ : Fin 1) (c : Dev nD) : Dat τ (Elt Ideal) Unit ℕ (UR sig nD τ) ℕ (cfg0 (F := Ideal)) c where
  A w := Vm m c (Pipeline.arrRef spec0 w)
  after w t := Pipeline.Dat.unnamed (cfg := cfg0 (F := Ideal)) w t
  Φ _ := Pipeline.ΦA spec0 c
  q _ := fullShare
  owed _ := 0

/-- The scratch buffers and the generator's register. -/
theorem PhiA_eq (c : Dev nD) : (Pipeline.ΦA spec0 c : sProp (MM Ideal)) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d))
    ∗ (∃ r, prngReg c r)) := by
  rw [Pipeline.ΦA, scopedRest0_eq]; simp only [owns_whole]; try rfl

/-- What the body is called with at point `t`, and what it returns. -/
def bodyRes (c : Dev nD) (t t' : Fin ((cfg0 (F := Ideal)).N + 1)) (u : Fin (cfg0 (F := Ideal)).N) : sProp (MM Ideal) :=
  iprop((dats m 0 c).Φ t ∗ (dats m 0 c).owesAt () t'
    ∗ (∃ d, owns (c : Thread nD τ) (st0_0 u) fullShare d) ∗ (∃ d, owns (c : Thread nD τ) (st0_1 u) fullShare d) ∗ (∃ d, owns (c : Thread nD τ) (st0_2 u) fullShare d) ∗ (∃ d, owns (c : Thread nD τ) (st0_3 u) fullShare d) ∗ (∃ d, owns (c : Thread nD τ) (st0_4 u) fullShare d) ∗ (∃ d, owns (c : Thread nD τ) (st0_5 u) fullShare d) ∗ (∃ d, owns (c : Thread nD τ) (st0_6 u) fullShare d) ∗ (∃ d, owns (c : Thread nD τ) (st0_7 u) fullShare d))

theorem sound_body (c : Dev nD) (t : Fin (cfg0 (F := Ideal)).N) :
    bodyRes m c t.castSucc t.castSucc t
      ⊢ wp frame (wpE (defs₀ (F := Ideal)) 𝒱 c none) Set.univ (bodyAt0 t) (fun _ => bodyRes m c t.succ t.succ t) := by
  refine (ok_body (c := c) (I := bodyRes m c t.castSucc t.castSucc t) ⟨?_, ?_, ?_, ?_, ?_, ?_, ?_, ?_, ?_, ?_, ?_, ?_, ?_, ?_, ?_, ?_, ?_, ?_, ?_⟩) _ fun _ _ => ?_
  · exact Held.right (Held.right (held_owns.left))
  · exact Held.right (Held.right (Held.right (held_owns.left)))
  · exact Held.right (Held.right (Held.right (Held.right (held_owns.left))))
  · exact Held.right (Held.right (Held.right (Held.right (Held.right (held_owns.left)))))
  · exact Held.right (Held.right (Held.right (Held.right (Held.right (Held.right (held_owns.left))))))
  · exact Held.right (Held.right (Held.right (Held.right (Held.right (Held.right (Held.right (held_owns.left)))))))
  · exact Held.right (Held.right (Held.right (Held.right (Held.right (Held.right (Held.right (Held.right (held_owns.left))))))))
  · exact Held.right (Held.right (Held.right (Held.right (Held.right (Held.right (Held.right (Held.right (Held.right (held_owns)))))))))
  · refine Held.left ?_
    rw [show (dats m 0 c).Φ t.castSucc = Pipeline.ΦA spec0 c from rfl, PhiA_eq]
    exact Held.left (held_owns.left)
  · refine Held.left ?_
    rw [show (dats m 0 c).Φ t.castSucc = Pipeline.ΦA spec0 c from rfl, PhiA_eq]
    exact Held.left (Held.right (held_owns.left))
  · refine Held.left ?_
    rw [show (dats m 0 c).Φ t.castSucc = Pipeline.ΦA spec0 c from rfl, PhiA_eq]
    exact Held.left (Held.right (Held.right (held_owns.left)))
  · refine Held.left ?_
    rw [show (dats m 0 c).Φ t.castSucc = Pipeline.ΦA spec0 c from rfl, PhiA_eq]
    exact Held.left (Held.right (Held.right (Held.right (held_owns.left))))
  · refine Held.left ?_
    rw [show (dats m 0 c).Φ t.castSucc = Pipeline.ΦA spec0 c from rfl, PhiA_eq]
    exact Held.left (Held.right (Held.right (Held.right (Held.right (held_owns.left)))))
  · refine Held.left ?_
    rw [show (dats m 0 c).Φ t.castSucc = Pipeline.ΦA spec0 c from rfl, PhiA_eq]
    exact Held.left (Held.right (Held.right (Held.right (Held.right (Held.right (held_owns.left))))))
  · refine Held.left ?_
    rw [show (dats m 0 c).Φ t.castSucc = Pipeline.ΦA spec0 c from rfl, PhiA_eq]
    exact Held.left (Held.right (Held.right (Held.right (Held.right (Held.right (Held.right (held_owns.left)))))))
  · refine Held.left ?_
    rw [show (dats m 0 c).Φ t.castSucc = Pipeline.ΦA spec0 c from rfl, PhiA_eq]
    exact Held.left (Held.right (Held.right (Held.right (Held.right (Held.right (Held.right (Held.right (held_owns.left))))))))
  · refine Held.left ?_
    rw [show (dats m 0 c).Φ t.castSucc = Pipeline.ΦA spec0 c from rfl, PhiA_eq]
    exact Held.left (Held.right (Held.right (Held.right (Held.right (Held.right (Held.right (Held.right (Held.right (held_owns.left)))))))))
  · refine Held.left ?_
    rw [show (dats m 0 c).Φ t.castSucc = Pipeline.ΦA spec0 c from rfl, PhiA_eq]
    exact Held.left (Held.right (Held.right (Held.right (Held.right (Held.right (Held.right (Held.right (Held.right (Held.right (held_owns.left))))))))))
  · refine Held.left ?_
    rw [show (dats m 0 c).Φ t.castSucc = Pipeline.ΦA spec0 c from rfl, PhiA_eq]
    exact Held.left (Held.right (Held.right (Held.right (Held.right (Held.right (Held.right (Held.right (Held.right (Held.right (Held.right (held_owns)))))))))))
  exact .rfl

theorem defs₀_row (t : Fin (cfg0 (F := Ideal)).N) : defs₀ (F := Ideal) .tc (cfg0 (F := Ideal)).body ((cfg0 (F := Ideal)).bodyArgs t ((cfg0 (F := Ideal)).slots t)) = bodyAt0 t := by
  unfold defs₀; rw [Defs.onTc_tc]

theorem body_obligation (c : Dev nD) : BodyObligation (dats m 0 c) (defs₀ (F := Ideal)) 𝒱 () Set.univ forgets := fun t => by
  rw [bigSep_W0, bigSep_W0, defs₀_row]
  exact triple_restated (sound_body m c t) rfl .rfl fun _ => .rfl

theorem hmain : Pipeline.HMain (Ix := Unit) (Name := ℕ) (U := UR sig nD τ) (Lvl := ℕ) cfgs 0 defs₀ 𝒱 m (main (F := Ideal)) (Vm m) :=
  Pipeline.hmain_region cfgs 0 defs₀ 𝒱 m main fun c => (main_chain c).trans rfl

set_option backward.isDefEq.respectTransparency.types false in
/-- Every run of the program ends, without a fault, in a state whose argument arrays are as they were and whose counters are
at zero; so whatever follows from that holds of the run. -/
theorem run_main (Q : PUnit × MemSt nD τ sig (Elt Ideal) → Prop)
    (hQ : ∀ r, Pipeline.RDat.FramePost (cfgs 0) (fun c => (dats m 0 c).toRForget forgets) (Vm m) r ∧ r.2.sem = (fun _ => 0) → Q r) :
    θ_run (defs (F := Ideal)) (onTc (τ := τ) (main (F := Ideal))) ⟨m, fun _ => 0, ρ⟩ Q :=
  Pipeline.θ_run_frame_forget (Q' := Q) (hQ' := hQ) cfgs (dats m) (0 : Fin 1) launch0 defs₀ 𝒱 forgets m ρ main
    (hbody := fun c => (body_obligation m c).loose) (hshare := fun c => (dats m 0 c).share_full fun _ => rfl)
    (howed := fun _ _ => rfl) (V := Vm m) (hmain := hmain m) (hA := fun _ _ => rfl) (hΦ := fun _ _ => rfl)

end Cert.Proof.Att

end
-- ==== Proof.Ffn.Body.lean ====
module

public import proofs.«01_k».proof.Proof.Gen.Kernel2Ideal.Value
public import Idealize.ShloMosaic.Lib.Tactic
public import Idealize.ShloMosaic.Lib.Pointwise
public import Idealize.ShloMosaic.Lib.Pipeline.ValueKit.Tiles

@[expose] public section

noncomputable section

namespace Cert.Proof.Ffn

open Cert.Kernel2Ideal Cert.Kernel2Ideal.Gen
open Idealize.ShloMosaic Idealize.ShloMosaic.TcCoe Idealize.ShloMosaic.Tactic Idealize.SL.Sem

variable {F : FTy → Type} [FloatOps F]

/-- The RMS norm of 512 rows, scaled column by column. -/
def nrm (v : FVec F S512x1024 .f32) (g : FVec F S1x1024 .f32) : FVec F S512x1024 .f32 :=
  mulf (mulf v (broadcastTo S512x1024 (rsqrt (addf (divf (shapeCast S512x1 (multiReduction .add [1] S512 (mulf v v) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- One of the two products of 256 hidden columns. -/
def hid (xn : FVec F S512x1024 .bf16) (w : FVec F S1x1024x256 .bf16) : FVec F S512x256 .f32 :=
  matmul dot_S512x1024_S1024x256_S512x256_1_0_0_1_n_n none xn (shapeCast S1024x256 w shapeCasts_S1x1024x256_S1024x256) (constant S512x256 .f32 0x00000000#32)

/-- The gated hidden columns, from the two products. -/
def gate (a b : FVec F S512x256 .f32) : FVec F S512x256 .bf16 :=
  truncf .bf16 (mulf (mulf a (divf (broadcast S512x256 (Scalar.ofBits .f32 0x3F800000#32))
    (addf (broadcast S512x256 (Scalar.ofBits .f32 0x3F800000#32)) (exp (subf (broadcast S512x256 (Scalar.ofBits .f32 0x00000000#32)) a))))) b) bitsLt_bf16_f32

/-- What 256 hidden columns add to the second product. -/
def down (xn : FVec F S512x1024 .bf16) (wa wb : FVec F S1x1024x256 .bf16) (wd : FVec F S1x256x1024 .bf16) : FVec F S512x1024 .f32 :=
  matmul dot_S512x256_S256x1024_S512x1024_1_0_0_1_n_n none (gate (hid xn wa) (hid xn wb)) (shapeCast S256x1024 wd shapeCasts_S1x256x1024_S256x1024) (constant S512x1024 .f32 0x00000000#32)

/-- The normed rows, rounded as the kernel keeps them. -/
def xnorm (v : FVec F S512x1024 .f32) (g : FVec F S1x1024 .f32) : FVec F S512x1024 .bf16 :=
  shapeCast S512x1024 (truncf .bf16 (nrm (shapeCast S512x1024 v shapeCasts_S512x1024_S512x1024) g) bitsLt_bf16_f32) shapeCasts_S512x1024_S512x1024

/-- A step of the accumulation. -/
def step (acc t : FVec F S512x1024 .f32) : FVec F S512x1024 .f32 :=
  shapeCast S512x1024 (addf acc t) shapeCasts_S512x1024_S512x1024

/-- The eleven steps. -/
def accum (t : Fin 11 → FVec F S512x1024 .f32) : FVec F S512x1024 .f32 :=
  step (step (step (step (step (step (step (step (step (step (shapeCast S512x1024 (t 0) shapeCasts_S512x1024_S512x1024) (t 1)) (t 2)) (t 3)) (t 4)) (t 5)) (t 6)) (t 7)) (t 8)) (t 9)) (t 10)

/-- What is stored of 512 rows. -/
def half (v : FVec F S512x1024 .f32) (g1 g2 : FVec F S1x1024 .f32) (wa wb : Fin 11 → FVec F S1x1024x256 .bf16) (wd : Fin 11 → FVec F S1x256x1024 .bf16) : FVec F S512x1024 .f32 :=
  addf (shapeCast S512x1024 v shapeCasts_S512x1024_S512x1024) (mulf (broadcast S512x1024 (Scalar.ofBits .f32 0x3F000000#32)) (nrm (accum fun k => down (xnorm v g1) (wa k) (wb k) (wd k)) g2))

/-- The columns `256 k …` of a matrix of the first product, `o` columns further on. -/
def cols (x3 : Vec F S1x1024x5632 .bf16) (o : ℕ) (ho : o ≤ 2816) (k : Fin 11) : FVec F S1x1024x256 .bf16 :=
  View.ld x3 (Rect.unit (s := S1x1024x5632) ![0, 0, o + 256 * k.val] ![1, 1024, 256] (fun a => by
    have := k.isLt
    match a with
    | ⟨0, _⟩ => show 0 + 1 ≤ 1; omega
    | ⟨1, _⟩ => show 0 + 1024 ≤ 1024; omega
    | ⟨2, _⟩ => show o + 256 * k.val + 256 ≤ 5632; omega))

/-- The rows `256 k …` of the second product's matrix. -/
def rows (x4 : Vec F S1x2816x1024 .bf16) (k : Fin 11) : FVec F S1x256x1024 .bf16 :=
  View.ld x4 (Rect.unit (s := S1x2816x1024) ![0, 256 * k.val, 0] ![1, 256, 1024] (fun a => by
    have := k.isLt
    match a with
    | ⟨0, _⟩ => show 0 + 1 ≤ 1; omega
    | ⟨1, _⟩ => show 256 * k.val + 256 ≤ 2816; omega
    | ⟨2, _⟩ => show 0 + 1024 ≤ 1024; omega))

set_option pp.maxSteps 200000
set_option maxHeartbeats 4000000

theorem disj {a b : ℕ} (ha) (hb) (h : a + 512 ≤ b ∨ b + 512 ≤ a) :
    Disjoint (Rect.unit (s := S1024x1024) ![a, 0] ![512, 1024] ha).set (Rect.unit (s := S1024x1024) ![b, 0] ![512, 1024] hb).toLoadRect.set := by
  rw [Finset.disjoint_left]
  intro y h1 h2
  have h1 := (Rect.mem_set_unit ..).mp h1 0
  have h2 := (Rect.mem_set_unit ..).mp h2 0
  simp at h1 h2
  omega

theorem cov01 {sig : RefSig} {κ : Kind} {sp : Space} {e : EltTy} (v : View sig κ sp S1024x1024 e) (w) (L : List (View.Piece (Elt F) S1024x1024 e)) :
    v.readCov (⟨Rect.unit ![512, 0] ![512, 1024] inb_S1024x1024_S512x1024_512_0, w⟩ :: L) (Rect.unit ![0, 0] ![512, 1024] inb_S1024x1024_S512x1024_0_0).toLoadRect
      = v.readCov L (Rect.unit ![0, 0] ![512, 1024] inb_S1024x1024_S512x1024_0_0).toLoadRect := by
  refine View.readCov_cons_of_disjoint v _ _ _ (disj inb_S1024x1024_S512x1024_512_0 inb_S1024x1024_S512x1024_0_0 (by decide))

theorem cov10 {sig : RefSig} {κ : Kind} {sp : Space} {e : EltTy} (v : View sig κ sp S1024x1024 e) (w) (L : List (View.Piece (Elt F) S1024x1024 e)) :
    v.readCov (⟨Rect.unit ![0, 0] ![512, 1024] inb_S1024x1024_S512x1024_0_0, w⟩ :: L) (Rect.unit ![512, 0] ![512, 1024] inb_S1024x1024_S512x1024_512_0).toLoadRect
      = v.readCov L (Rect.unit ![512, 0] ![512, 1024] inb_S1024x1024_S512x1024_512_0).toLoadRect := by
  refine View.readCov_cons_of_disjoint v _ _ _ (disj inb_S1024x1024_S512x1024_0_0 inb_S1024x1024_S512x1024_512_0 (by decide))

theorem out_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (x0 : Vec F S1024x1024 .f32) (x1 : Vec F S1x1024 .f32) (x2 : Vec F S1x1024 .f32) (x3 : Vec F S1x1024x5632 .bf16) (x4 : Vec F S1x2816x1024 .bf16) :
    out0_A_5 c i arg1 harg1 arg2 harg2 arg3 harg3 arg4 harg4 arg5 harg5 arg6 harg6 arg7 harg7 arg8 harg8 x0 x1 x2 x3 x4
      = View.canon [⟨Rect.unit ![512, 0] ![512, 1024] inb_S1024x1024_S512x1024_512_0, half (View.ld x0 (Rect.unit ![512, 0] ![512, 1024] inb_S1024x1024_S512x1024_512_0)) (View.ld x1 (Rect.unit ![0, 0] ![1, 1024] inb_S1x1024_S1x1024_0_0))
            (View.ld x2 (Rect.unit ![0, 0] ![1, 1024] inb_S1x1024_S1x1024_0_0)) (cols x3 0 (by decide)) (cols x3 2816 (by decide)) (rows x4)⟩,
          ⟨Rect.unit ![0, 0] ![512, 1024] inb_S1024x1024_S512x1024_0_0, half (View.ld x0 (Rect.unit ![0, 0] ![512, 1024] inb_S1024x1024_S512x1024_0_0)) (View.ld x1 (Rect.unit ![0, 0] ![1, 1024] inb_S1x1024_S1x1024_0_0))
            (View.ld x2 (Rect.unit ![0, 0] ![1, 1024] inb_S1x1024_S1x1024_0_0)) (cols x3 0 (by decide)) (cols x3 2816 (by decide)) (rows x4)⟩] := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  simp only [View.readCov_cons_toLoadRect, cov01, cov10, View.readAt_eq_ld, harg1.read_unread, harg2.read_unread, harg3.read_unread, harg4.read_unread, harg5.read_unread]
  rfl

/-! ## The mathematics, over the extended reals -/

/-- The RMS norm of one row of 1024 numbers, scaled. -/
def rn (u g : Fin 1024 → EReal) (n : Fin 1024) : EReal :=
  u n * Ideal.rsqrt (Ideal.div (∑ x, u x * u x) (Ideal.ofBits .f32 0x44800000#32) + Ideal.ofBits .f32 0x358637BD#32) * g n

/-- The gated product. -/
def act (a b : EReal) : EReal := a * Ideal.div 1 (1 + Ideal.exp (0 - a)) * b

/-- A hidden column of a row. -/
def hcol (u g : Fin 1024 → EReal) (W : Fin 1024 → Fin 5632 → EReal) (j : Fin 2816) : EReal :=
  act (∑ x, rn u g x * W x ⟨j.val, by omega⟩) (∑ x, rn u g x * W x ⟨2816 + j.val, by omega⟩)

/-- The half-step feed-forward block of one row. -/
def ffn (u g1 g2 : Fin 1024 → EReal) (W : Fin 1024 → Fin 5632 → EReal) (D : Fin 2816 → Fin 1024 → EReal) (n : Fin 1024) : EReal :=
  u n + Ideal.ofBits .f32 0x3F000000#32 * rn (fun n => ∑ j, hcol u g1 W j * D j n) g2 n

theorem sum_split (f : Fin 2816 → EReal) :
    ∑ k : Fin 11, ∑ j : Fin 256, f ⟨256 * k.val + j.val, by omega⟩ = ∑ i, f i := by
  rw [← Fintype.sum_prod_type', ← Equiv.sum_comp (finProdFinEquiv.trans (finCongr (by decide : 11 * 256 = 2816))) f]
  refine Finset.sum_congr rfl fun p _ => congrArg f (Fin.ext ?_)
  show 256 * p.1.val + p.2.val = p.2.val + 256 * p.1.val
  omega

theorem nrm_apply (v : FVec Ideal S512x1024 .f32) (g : FVec Ideal S1x1024 .f32) (r : Fin 512) (n : Fin 1024) :
    nrm v g (ix2 r n) = rn (fun k => v (ix2 r k)) (fun k => g (ix2 0 k)) n := by
  unfold rn nrm
  rw [shapeCast_self]
  pointwise []

theorem xnorm_apply (v : FVec Ideal S512x1024 .f32) (g : FVec Ideal S1x1024 .f32) (r : Fin 512) (n : Fin 1024) :
    xnorm v g (ix2 r n) = rn (fun k => v (ix2 r k)) (fun k => g (ix2 0 k)) n := by
  rw [← nrm_apply]
  unfold xnorm
  rw [shapeCast_self, shapeCast_self]
  rfl

theorem down_apply (xn : FVec Ideal S512x1024 .bf16) (wa wb : FVec Ideal S1x1024x256 .bf16) (wd : FVec Ideal S1x256x1024 .bf16) (r : Fin 512) (n : Fin 1024) :
    down xn wa wb wd (ix2 r n)
      = ∑ j : Fin 256, act (∑ x, xn (ix2 r x) * wa (ix3 0 x j)) (∑ x, xn (ix2 r x) * wb (ix3 0 x j)) * wd (ix3 0 j n) := by
  unfold act
  pointwise [down, gate, hid]

theorem accum_apply (t : Fin 11 → FVec Ideal S512x1024 .f32) (i : S512x1024.Idx) : accum t i = ∑ k, t k i := by
  unfold accum step
  simp only [shapeCast_self, Fin.sum_univ_castSucc, Fin.sum_univ_zero, zero_add]
  rfl

theorem half_apply (v : FVec Ideal S512x1024 .f32) (g1 g2 : FVec Ideal S1x1024 .f32) (x3 : Vec Ideal S1x1024x5632 .bf16) (x4 : Vec Ideal S1x2816x1024 .bf16) (h0) (h1) (r : Fin 512) (n : Fin 1024) :
    half v g1 g2 (cols x3 0 h0) (cols x3 2816 h1) (rows x4) (ix2 r n)
      = ffn (fun k => v (ix2 r k)) (fun k => g1 (ix2 0 k)) (fun k => g2 (ix2 0 k)) (fun k j => x3 (ix3 0 k j)) (fun j k => x4 (ix3 0 j k)) n := by
  have e : half v g1 g2 (cols x3 0 h0) (cols x3 2816 h1) (rows x4) (ix2 r n)
      = v (ix2 r n) + Ideal.ofBits .f32 0x3F000000#32 * nrm (accum fun k => down (xnorm v g1) (cols x3 0 h0 k) (cols x3 2816 h1 k) (rows x4 k)) g2 (ix2 r n) := by
    unfold half
    rw [shapeCast_self]
    rfl
  rw [e, nrm_apply]
  unfold ffn
  congr 2
  congr 1
  funext n
  rw [accum_apply, ← sum_split]
  refine Finset.sum_congr rfl fun k _ => ?_
  rw [down_apply]
  refine Finset.sum_congr rfl fun j _ => ?_
  unfold hcol
  have ea (x : Fin 1024) : cols x3 0 h0 k (ix3 0 x j) = x3 (ix3 0 x ⟨256 * k.val + j.val, by omega⟩) := by
    refine congrArg x3 (funext fun a => Fin.ext ((Rect.idx_unit_val ..).trans ?_))
    match a with
    | ⟨0, _⟩ => rfl
    | ⟨1, _⟩ => show 0 + x.val = x.val; omega
    | ⟨2, _⟩ => show 0 + 256 * k.val + j.val = 256 * k.val + j.val; omega
  have eb (x : Fin 1024) : cols x3 2816 h1 k (ix3 0 x j) = x3 (ix3 0 x ⟨2816 + (256 * k.val + j.val), by omega⟩) := by
    refine congrArg x3 (funext fun a => Fin.ext ((Rect.idx_unit_val ..).trans ?_))
    match a with
    | ⟨0, _⟩ => rfl
    | ⟨1, _⟩ => show 0 + x.val = x.val; omega
    | ⟨2, _⟩ => show 2816 + 256 * k.val + j.val = 2816 + (256 * k.val + j.val); omega
  have ed : rows x4 k (ix3 0 j n) = x4 (ix3 0 ⟨256 * k.val + j.val, by omega⟩ n) := by
    refine congrArg x4 (funext fun a => Fin.ext ((Rect.idx_unit_val ..).trans ?_))
    match a with
    | ⟨0, _⟩ => rfl
    | ⟨1, _⟩ => show 256 * k.val + j.val = 256 * k.val + j.val; omega
    | ⟨2, _⟩ => show 0 + n.val = n.val; omega
  rw [ed]
  simp only [xnorm_apply, ea, eb]

end Cert.Proof.Ffn
-- ==== Proof.Ffn.Block.lean ====
module

public import proofs.«01_k».proof.Proof.Ffn.Body
public import Idealize.ShloMosaic.Lib.Tactic
public import Idealize.ShloMosaic.Lib.Pointwise
public import Idealize.ShloMosaic.Lib.Pipeline.ValueKit.Tiles

@[expose] public section

noncomputable section

namespace Cert.Proof.Ffn

open Cert.Kernel2Ideal Cert.Kernel2Ideal.Gen
open Idealize.ShloMosaic Idealize.ShloMosaic.TcCoe Idealize.ShloMosaic.Tactic Idealize.SL.Sem

set_option maxRecDepth 16384

/-- The block's rows through the feed-forward block. -/
def blockVal (x0 : Vec Ideal S1024x1024 .f32) (x1 : Vec Ideal S1x1024 .f32) (x2 : Vec Ideal S1x1024 .f32) (x3 : Vec Ideal S1x1024x5632 .bf16) (x4 : Vec Ideal S1x2816x1024 .bf16) : Vec Ideal S1024x1024 .f32 :=
  fun y => ffn (fun k => x0 (ix2 (y 0) k)) (fun k => x1 (ix2 0 k)) (fun k => x2 (ix2 0 k)) (fun k j => x3 (ix3 0 k j)) (fun j k => x4 (ix3 0 j k)) (y 1)

theorem ffn_congr {u u' g1 g1' g2 g2' : Fin 1024 → EReal} (W : Fin 1024 → Fin 5632 → EReal) (D : Fin 2816 → Fin 1024 → EReal) {n n' : Fin 1024}
    (hu : u = u') (h1 : g1 = g1') (h2 : g2 = g2') (hn : n = n') : ffn u g1 g2 W D n = ffn u' g1' g2' W D n' := by
  rw [hu, h1, h2, hn]

theorem ffn_congr' {u u' g1 g1' g2 g2' : Fin 1024 → EReal} {W W' : Fin 1024 → Fin 5632 → EReal} {D D' : Fin 2816 → Fin 1024 → EReal} {n n' : Fin 1024}
    (hu : u = u') (h1 : g1 = g1') (h2 : g2 = g2') (hW : W = W') (hD : D = D') (hn : n = n') : ffn u g1 g2 W D n = ffn u' g1' g2' W' D' n' := by
  rw [hu, h1, h2, hW, hD, hn]

/-- A half of the block. -/
theorem piece_apply (o : ℕ) (x0 : Vec Ideal S1024x1024 .f32) (x1 : Vec Ideal S1x1024 .f32) (x2 : Vec Ideal S1x1024 .f32) (x3 : Vec Ideal S1x1024x5632 .bf16) (x4 : Vec Ideal S1x2816x1024 .bf16) (ho) (hg) (h0) (h1) (x : S512x1024.Idx) :
    half (View.ld x0 (Rect.unit (s := S1024x1024) ![o, 0] ![512, 1024] ho)) (View.ld x1 (Rect.unit (s := S1x1024) ![0, 0] ![1, 1024] hg)) (View.ld x2 (Rect.unit (s := S1x1024) ![0, 0] ![1, 1024] hg)) (cols x3 0 h0) (cols x3 2816 h1) (rows x4) x
      = blockVal x0 x1 x2 x3 x4 ((Rect.unit (s := S1024x1024) ![o, 0] ![512, 1024] ho).emb x) := by
  obtain ⟨r, n, rfl⟩ : ∃ (r : Fin 512) (n : Fin 1024), x = ix2 r n := ⟨x 0, x 1, eq_ix2 x⟩
  refine (half_apply _ _ _ _ _ h0 h1 r n).trans ?_
  have ev (k : Fin 1024) : View.ld x0 (Rect.unit (s := S1024x1024) ![o, 0] ![512, 1024] ho) (ix2 r k)
      = x0 (ix2 (((Rect.unit (s := S1024x1024) ![o, 0] ![512, 1024] ho).idx (ix2 r n)) 0) k) := by
    refine congrArg x0 (funext fun a => Fin.ext ((Rect.idx_unit_val ..).trans ?_))
    match a with
    | ⟨0, _⟩ => exact (Rect.idx_unit_val ..).symm
    | ⟨1, _⟩ => show 0 + k.val = k.val; omega
  have eg (g : Vec Ideal S1x1024 .f32) (k : Fin 1024) : View.ld g (Rect.unit (s := S1x1024) ![0, 0] ![1, 1024] hg) (ix2 0 k) = g (ix2 0 k) := by
    refine congrArg g (funext fun a => Fin.ext ((Rect.idx_unit_val ..).trans ?_))
    match a with
    | ⟨0, _⟩ => rfl
    | ⟨1, _⟩ => show 0 + k.val = k.val; omega
  have e1 : (Rect.unit (s := S1024x1024) ![o, 0] ![512, 1024] ho).idx (ix2 r n) 1 = n := Fin.ext ((Rect.idx_unit_val ..).trans (by show 0 + n.val = n.val; omega))
  exact ffn_congr _ _ (funext ev) (funext (eg x1)) (funext (eg x2)) e1.symm

/-- Every row is in one of the halves. -/
theorem mem_half (o : ℕ) (ho) (y : S1024x1024.Idx) (h : o ≤ (y 0 : Nat)) (h' : (y 0 : Nat) < o + 512) : y ∈ (Rect.unit (s := S1024x1024) ![o, 0] ![512, 1024] ho).set := by
  have h1 : (y 1 : Nat) < 1024 := (y 1).isLt
  refine (Rect.mem_set_unit ..).mpr fun a => ?_
  match a with
  | ⟨0, _⟩ => exact ⟨h, h'⟩
  | ⟨1, _⟩ => exact ⟨Nat.zero_le _, by show (y 1 : Nat) < 0 + 1024; omega⟩

/-- Two halves that agree with one function are that function. -/
theorem two_halves (w0 w1 : S512x1024.Idx → Elt Ideal .f32) (G : Vec Ideal S1024x1024 .f32) (ha) (hb)
    (e0 : ∀ x, w0 x = G ((Rect.unit (s := S1024x1024) ![512, 0] ![512, 1024] ha).emb x)) (e1 : ∀ x, w1 x = G ((Rect.unit (s := S1024x1024) ![0, 0] ![512, 1024] hb).emb x)) (y : S1024x1024.Idx) :
    View.canon [(⟨Rect.unit (s := S1024x1024) ![512, 0] ![512, 1024] ha, w0⟩ : View.Piece (Elt Ideal) S1024x1024 .f32), ⟨Rect.unit (s := S1024x1024) ![0, 0] ![512, 1024] hb, w1⟩] y = G y := by
  have h0 : (y 0 : Nat) < 1024 := (y 0).isLt
  refine View.canon_apply_of_pieces (Val := Elt Ideal) (e := .f32) G _ ?_ y ?_
  · intro p hp
    rcases List.mem_cons.mp hp with rfl | hp
    · exact e0
    · obtain rfl := List.mem_singleton.mp hp
      exact e1
  · by_cases h : (y 0 : Nat) < 512
    · exact ⟨_, List.mem_cons_of_mem _ List.mem_cons_self, mem_half 0 hb y (Nat.zero_le _) (by omega)⟩
    · exact ⟨_, List.mem_cons_self, mem_half 512 ha y (by omega) (by omega)⟩

/-- What a grid point leaves in its block of the result. -/
theorem out_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (x0 : Vec Ideal S1024x1024 .f32) (x1 : Vec Ideal S1x1024 .f32) (x2 : Vec Ideal S1x1024 .f32) (x3 : Vec Ideal S1x1024x5632 .bf16) (x4 : Vec Ideal S1x2816x1024 .bf16) (y : S1024x1024.Idx) :
    out0_A_5 c i arg1 harg1 arg2 harg2 arg3 harg3 arg4 harg4 arg5 harg5 arg6 harg6 arg7 harg7 arg8 harg8 x0 x1 x2 x3 x4 y
      = blockVal x0 x1 x2 x3 x4 y := by
  rw [out_eq]
  exact two_halves _ _ _ _ _ (fun x => piece_apply 512 x0 x1 x2 x3 x4 _ _ _ _ x) (fun x => piece_apply 0 x0 x1 x2 x3 x4 _ _ _ _ x) y

end Cert.Proof.Ffn
-- ==== Proof.Ffn.Array.lean ====
module

public import proofs.«01_k».proof.Proof.Ffn.Block
public import Idealize.ShloMosaic.Lib.Pipeline.Value
public import Idealize.ShloMosaic.Lib.Tactic
public import Idealize.ShloMosaic.Lib.Pointwise
public import Idealize.ShloMosaic.Lib.StableHlo.ReadAt

@[expose] public section

noncomputable section

namespace Cert.Proof.Ffn

open Cert.Kernel2Ideal Cert.Kernel2Ideal.Gen
open Idealize.ShloMosaic Idealize.ShloMosaic.TcCoe Idealize.SL.Sem
open Idealize.ShloMosaic.Pipeline (Dat)

/-- A row of the flat array, in the batch. -/
abbrev rowIx (r : Fin 32768) (k : Fin 1024) : S4x8192x1024.Idx := ix3 ⟨r.val / 8192, by omega⟩ ⟨r.val % 8192, by omega⟩ k

/-- The feed-forward block of every row: the result, as a function of the arguments. -/
def result (x0 : FVec Ideal S4x8192x1024 .f32) (x1 x2 : FVec Ideal S4x1024 .f32) (x3 : FVec Ideal S4x1024x5632 .bf16) (x4 : FVec Ideal S4x2816x1024 .bf16) : FVec Ideal S32768x1024 .f32 :=
  fun y => ffn (fun k => x0 (rowIx (y 0) k)) (fun k => x1 (ix2 0 k)) (fun k => x2 (ix2 0 k)) (fun k j => x3 (ix3 0 k j)) (fun j k => x4 (ix3 0 j k)) (y 1)

variable (m : (ℓ : Loc nD τ sig) → Buf (Elt Ideal) ℓ)

/-- The flat rows, as the kernel finds them. -/
theorem flat (c : Dev nD) (r : Fin 32768) (k : Fin 1024) :
    V m c main_v0 (ix2 r k) = m ((c : Thread nD τ).loc main_arg0) (rowIx r k) := by
  unfold V
  after_reads_at

/-- The first gain, as the kernel finds it. -/
theorem gain1 (c : Dev nD) (k : Fin 1024) :
    V m c main_v3 (ix2 0 k) = m ((c : Thread nD τ).loc main_arg1) (ix2 0 k) := by
  unfold V
  after_reads_at

/-- The second gain, as the kernel finds it. -/
theorem gain2 (c : Dev nD) (k : Fin 1024) :
    V m c main_v6 (ix2 0 k) = m ((c : Thread nD τ).loc main_arg2) (ix2 0 k) := by
  unfold V
  after_reads_at

theorem index0 : ∀ t : Fin grid0.N, win0_0.index t 0 = t.val ∧ win0_0.index t 1 = 0 := by decide +kernel
theorem index5 : ∀ t : Fin grid0.N, win0_5.index t 0 = t.val ∧ win0_5.index t 1 = 0 := by decide +kernel

theorem block0 (c : Dev nD) (t : Fin cfg0.N) (y : S1024x1024.Idx) (h : 1024 * t.val + (y 0).val < 32768) :
    (iblk m c 0 t : Vec Ideal S1024x1024 .f32) y = m ((c : Thread nD τ).loc main_arg0) (rowIx ⟨1024 * t.val + (y 0).val, h⟩ (y 1)) := by
  unfold iblk
  rw [View.read_apply]
  refine Eq.trans (congrArg (V m c main_v0) (a₂ := (ix2 ⟨1024 * t.val + (y 0).val, h⟩ (y 1))) ?_) (flat m c _ _)
  funext a
  apply Fin.ext
  match a with
  | ⟨0, _⟩ => show win0_0.index t 0 * 1024 + 1 * (y 0).val = 1024 * t.val + (y 0).val; rw [(index0 t).1]; omega
  | ⟨1, _⟩ => show win0_0.index t 1 * 1024 + 1 * (y 1).val = (y 1).val; rw [(index0 t).2]; omega

theorem block1 (c : Dev nD) (t : Fin cfg0.N) (k : Fin 1024) :
    (iblk m c 1 t : Vec Ideal S1x1024 .f32) (ix2 0 k) = m ((c : Thread nD τ).loc main_arg1) (ix2 0 k) := by
  unfold iblk
  rw [View.read_apply]
  refine Eq.trans (congrArg (V m c main_v3) (a₂ := (ix2 0 k)) ?_) (gain1 m c k)
  funext a
  apply Fin.ext
  match a with
  | ⟨0, _⟩ => show 0 * 1 + 1 * 0 = 0; rfl
  | ⟨1, _⟩ => show 0 * 1024 + 1 * k.val = k.val; omega

theorem block2 (c : Dev nD) (t : Fin cfg0.N) (k : Fin 1024) :
    (iblk m c 2 t : Vec Ideal S1x1024 .f32) (ix2 0 k) = m ((c : Thread nD τ).loc main_arg2) (ix2 0 k) := by
  unfold iblk
  rw [View.read_apply]
  refine Eq.trans (congrArg (V m c main_v6) (a₂ := (ix2 0 k)) ?_) (gain2 m c k)
  funext a
  apply Fin.ext
  match a with
  | ⟨0, _⟩ => show 0 * 1 + 1 * 0 = 0; rfl
  | ⟨1, _⟩ => show 0 * 1024 + 1 * k.val = k.val; omega

theorem block3 (c : Dev nD) (t : Fin cfg0.N) (k : Fin 1024) (j : Fin 5632) :
    (iblk m c 3 t : Vec Ideal S1x1024x5632 .bf16) (ix3 0 k j) = m ((c : Thread nD τ).loc main_arg3) (ix3 0 k j) := by
  unfold iblk
  rw [View.read_apply]
  show V m c main_arg3 _ = m (c.tc.loc main_arg3) _
  rw [V_main_arg3]
  congr 1
  funext a
  apply Fin.ext
  match a with
  | ⟨0, _⟩ => show 0 * 1 + 1 * 0 = 0; rfl
  | ⟨1, _⟩ => show 0 * 1024 + 1 * k.val = k.val; omega
  | ⟨2, _⟩ => show 0 * 5632 + 1 * j.val = j.val; omega

theorem block4 (c : Dev nD) (t : Fin cfg0.N) (j : Fin 2816) (k : Fin 1024) :
    (iblk m c 4 t : Vec Ideal S1x2816x1024 .bf16) (ix3 0 j k) = m ((c : Thread nD τ).loc main_arg4) (ix3 0 j k) := by
  unfold iblk
  rw [View.read_apply]
  show V m c main_arg4 _ = m (c.tc.loc main_arg4) _
  rw [V_main_arg4]
  congr 1
  funext a
  apply Fin.ext
  match a with
  | ⟨0, _⟩ => show 0 * 1 + 1 * 0 = 0; rfl
  | ⟨1, _⟩ => show 0 * 2816 + 1 * j.val = j.val; omega
  | ⟨2, _⟩ => show 0 * 1024 + 1 * k.val = k.val; omega

/-- The result of a start memory. -/
abbrev G (c : Dev nD) : Buf (Elt Ideal) ((c : Thread nD τ).loc main_v7) :=
  result (m ((c : Thread nD τ).loc main_arg0)) (m ((c : Thread nD τ).loc main_arg1)) (m ((c : Thread nD τ).loc main_arg2)) (m ((c : Thread nD τ).loc main_arg3)) (m ((c : Thread nD τ).loc main_arg4))

/-- What a grid point writes is its block of the result. -/
theorem outs_apply (c : Dev nD) (t : Fin cfg0.N) (y : S1024x1024.Idx) (h : 1024 * t.val + (y 0).val < 32768) :
    outsAt0 m c t y = G m c (ix2 ⟨1024 * t.val + (y 0).val, h⟩ (y 1)) := by
  unfold outsAt0
  rw [out_apply]
  exact ffn_congr' (funext fun k => block0 m c t (ix2 (y 0) k) h) (funext (block1 m c t)) (funext (block2 m c t))
    (funext fun k => funext (block3 m c t k)) (funext fun j => funext (block4 m c t j)) rfl

theorem flushed_eq (c : Dev nD) (t : Fin cfg0.N) : (dats m 0 c).flushed 5 t = ((cfg0.win 5).blk t).view.read (Elt Ideal) (G m c) := by
  rw [Cert.Kernel2Ideal.Value.flushed5]
  funext y
  rw [View.read_apply]
  have ht : t.val < 32 := t.isLt
  have hy : (y 0).val < 1024 := (y 0).isLt
  refine (outs_apply m c t y (by omega)).trans (congrArg (G m c) (funext fun a => Fin.ext ?_))
  match a with
  | ⟨0, _⟩ => show 1024 * t.val + (y 0).val = win0_5.index t 0 * 1024 + 1 * (y 0).val; rw [(index5 t).1]; omega
  | ⟨1, _⟩ => show (y 1).val = win0_5.index t 1 * 1024 + 1 * (y 1).val; rw [(index5 t).2]; omega

/-- The result array after the run. -/
theorem final (c : Dev nD) : (dats m 0 c).arrAt 5 cfg0.N = G m c :=
  (dats m 0 c).arrAt_eq_of_cover 5 (G m c) (fun t _ => flushed_eq m c t) fun i => by
    have h0 : (i 0 : Nat) < 32768 := (i 0).isLt
    have h1 : (i 1 : Nat) < 1024 := (i 1).isLt
    let t : Fin grid0.N := ⟨(i 0).val / 1024, by show (i 0).val / 1024 < 32; omega⟩
    refine ⟨t, flush0_5 t, ?_⟩
    show i ∈ ((View.whole main_v7).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024
                rw [(index5 t).1]; show (i 0).val / 1024 * 1024 ≤ (i 0 : Nat) ∧ (i 0 : Nat) < (i 0).val / 1024 * 1024 + 1024; omega
    | ⟨1, _⟩ => show win0_5.index t 1 * 1024 ≤ (i 1 : Nat) ∧ (i 1 : Nat) < win0_5.index t 1 * 1024 + 1024
                rw [(index5 t).2]; omega

end Cert.Proof.Ffn
-- ==== Proof.Ffn.Ref.lean ====
module

public import proofs.«01_k».proof.Proof.Ffn.Array
public import proofs.«01_k».proof.Proof.Gen.Reference2Ideal.Read

@[expose] public section

noncomputable section

namespace Cert.Proof.Ffn.Ref

open Cert.Reference2Ideal Cert.Reference2Ideal.Gen Cert.Reference2Ideal.Read
open Idealize.ShloMosaic Idealize.ShloMosaic.TcCoe Idealize.SL.Sem

variable (x0 : (⟨S4x8192x1024, .f32⟩ : BufTy).Contents (Elt Ideal)) (x1 x2 : (⟨S4x1024, .f32⟩ : BufTy).Contents (Elt Ideal))
  (x3 : (⟨S4x1024x5632, .bf16⟩ : BufTy).Contents (Elt Ideal)) (x4 : (⟨S4x2816x1024, .bf16⟩ : BufTy).Contents (Elt Ideal))

/-- The first norm. -/
theorem norm1 (b : Fin 4) (r : Fin 8192) (n : Fin 1024) :
    val_main_v14 (F := Ideal) x0 x1 (ix3 b r n) = rn (fun k => x0 (ix3 b r k)) (fun k => x1 (ix2 0 k)) n := by
  have e0 (k : Fin 1024) : idx_main_v3 (idx_main_v4 (idx_main_v10 (ix3 b r n))) k = ix3 b r k := by
    funext a; match a with | ⟨0, _⟩ => rfl | ⟨1, _⟩ => rfl | ⟨2, _⟩ => rfl
  have e1 : idx_main_v0 (idx_main_v1 (idx_main_v12 (idx_main_v13 (ix3 b r n)))) = ix2 0 n := by
    funext a
    match a with
    | ⟨0, _⟩ => rfl
    | ⟨1, _⟩ => exact Fin.ext (Nat.mod_eq_of_lt n.isLt)
  unfold rn
  simp only [val_main_v14_apply, val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_v12_apply, val_main_v13_apply, val_main_cst_apply, val_main_cst_0_apply, val_main_cst_1_apply, e0, e1]
  show x0 (ix3 b r n) * Ideal.rsqrt (Ideal.div (Ideal.ofBits .f32 0x00000000#32 + ∑ k, x0 (ix3 b r k) * x0 (ix3 b r k)) _ + _) * _ = _
  rw [Ideal.ofBits_zero_f32, zero_add]
  rfl

/-- A product column. -/
theorem prod (b : Fin 4) (r : Fin 8192) (j : Fin 5632) :
    val_main_v21 (F := Ideal) x0 x1 x3 (ix3 b r j) = ∑ x, rn (fun k => x0 (ix3 b r k)) (fun k => x1 (ix2 0 k)) x * x3 (ix3 0 x j) := by
  rw [val_main_v21_apply]
  refine Finset.sum_congr rfl fun k _ => ?_
  have el : lidx_main_v21 (ix3 b r j) k = ix3 b r k := by
    funext a; match a with | ⟨0, _⟩ => rfl | ⟨1, _⟩ => rfl | ⟨2, _⟩ => rfl
  have er : idx_main_v15 (idx_main_v16 (ridx_main_v21 (ix3 b r j) k)) = ix3 0 k j := by
    have hk := k.isLt
    have hj := j.isLt
    funext a
    match a with
    | ⟨0, _⟩ => rfl
    | ⟨1, _⟩ => exact Fin.ext (show (k.val * 5632 + j.val) / 5632 % 1024 = k.val by omega)
    | ⟨2, _⟩ => exact Fin.ext (show (k.val * 5632 + j.val) % 5632 = j.val by omega)
  rw [el, norm1, val_main_v17_apply, val_main_v16_apply, val_main_v15_apply, er]
  rfl

/-- A hidden column. -/
theorem hidden (b : Fin 4) (r : Fin 8192) (j : Fin 2816) :
    val_main_v25 (F := Ideal) x0 x1 x3 (ix3 b r j) = hcol (fun k => x0 (ix3 b r k)) (fun k => x1 (ix2 0 k)) (fun k j => x3 (ix3 0 k j)) j := by
  have ea : idx_main_v22 (ix3 b r j) = ix3 b r ⟨j.val, by omega⟩ := by
    funext a; match a with | ⟨0, _⟩ => rfl | ⟨1, _⟩ => rfl | ⟨2, _⟩ => rfl
  have eb : idx_main_v23 (ix3 b r j) = ix3 b r ⟨2816 + j.val, by omega⟩ := by
    funext a; match a with | ⟨0, _⟩ => rfl | ⟨1, _⟩ => rfl | ⟨2, _⟩ => rfl
  unfold hcol act
  simp only [val_main_v25_apply, val_main_v24_apply, val_main_call0_v5_apply, val_main_call0_v4_apply, val_main_call0_v3_apply, val_main_call0_v2_apply,
    val_main_call0_v1_apply, val_main_call0_v0_apply, val_main_call0_cst_apply, val_main_call0_cst_0_apply, val_main_v22_apply, val_main_v23_apply, ea, eb, prod]
  show _ * Ideal.div (Ideal.ofBits .f32 0x3F800000#32) (Ideal.ofBits .f32 0x3F800000#32 + Ideal.exp (-_)) * _ = _
  rw [Ideal.ofBits_one_f32, zero_sub]

/-- The second product. -/
theorem second (b : Fin 4) (r : Fin 8192) (n : Fin 1024) :
    val_main_v26 (F := Ideal) x0 x1 x3 x4 (ix3 b r n)
      = ∑ j, hcol (fun k => x0 (ix3 b r k)) (fun k => x1 (ix2 0 k)) (fun k j => x3 (ix3 0 k j)) j * x4 (ix3 0 j n) := by
  rw [val_main_v26_apply]
  refine Finset.sum_congr rfl fun j _ => ?_
  have el : lidx_main_v26 (ix3 b r n) j = ix3 b r j := by
    funext a; match a with | ⟨0, _⟩ => rfl | ⟨1, _⟩ => rfl | ⟨2, _⟩ => rfl
  have er : idx_main_v18 (idx_main_v19 (ridx_main_v26 (ix3 b r n) j)) = ix3 0 j n := by
    have hj := j.isLt
    have hn := n.isLt
    funext a
    match a with
    | ⟨0, _⟩ => rfl
    | ⟨1, _⟩ => exact Fin.ext (show (j.val * 1024 + n.val) / 1024 % 2816 = j.val by omega)
    | ⟨2, _⟩ => exact Fin.ext (show (j.val * 1024 + n.val) % 1024 = n.val by omega)
  rw [el, hidden, val_main_v20_apply, val_main_v19_apply, val_main_v18_apply, er]
  rfl

/-- The second norm. -/
theorem norm2 (b : Fin 4) (r : Fin 8192) (n : Fin 1024) :
    val_main_v41 (F := Ideal) x0 x1 x2 x3 x4 (ix3 b r n)
      = rn (fun n => ∑ j, hcol (fun k => x0 (ix3 b r k)) (fun k => x1 (ix2 0 k)) (fun k j => x3 (ix3 0 k j)) j * x4 (ix3 0 j n)) (fun k => x2 (ix2 0 k)) n := by
  have e0 (k : Fin 1024) : idx_main_v30 (idx_main_v31 (idx_main_v37 (ix3 b r n))) k = ix3 b r k := by
    funext a; match a with | ⟨0, _⟩ => rfl | ⟨1, _⟩ => rfl | ⟨2, _⟩ => rfl
  have e1 : idx_main_v27 (idx_main_v28 (idx_main_v39 (idx_main_v40 (ix3 b r n)))) = ix2 0 n := by
    funext a
    match a with
    | ⟨0, _⟩ => rfl
    | ⟨1, _⟩ => exact Fin.ext (Nat.mod_eq_of_lt n.isLt)
  unfold rn
  simp only [val_main_v41_apply, val_main_v38_apply, val_main_v37_apply, val_main_v36_apply, val_main_v35_apply, val_main_v34_apply, val_main_v33_apply, val_main_v32_apply,
    val_main_v31_apply, val_main_v30_apply, val_main_v29_apply, val_main_v28_apply, val_main_v27_apply, val_main_v39_apply, val_main_v40_apply, val_main_cst_2_apply, val_main_cst_3_apply, val_main_cst_4_apply, e0, e1, second]
  generalize (fun n : Fin 1024 => ∑ j, hcol (fun k => x0 (ix3 b r k)) (fun k => x1 (ix2 0 k)) (fun k j => x3 (ix3 0 k j)) j * x4 (ix3 0 j n)) = h
  show _ * Ideal.rsqrt (Ideal.div (Ideal.ofBits .f32 0x00000000#32 + ∑ k, _ * _) _ + _) * _ = _
  rw [Ideal.ofBits_zero_f32, zero_add]
  rfl

/-- The reference is the feed-forward block of every row. -/
theorem ref_eq : val_main_v45 (F := Ideal) x0 x1 x2 x3 x4 = result x0 x1 x2 x3 x4 := by
  funext y
  obtain ⟨r, n, rfl⟩ : ∃ (r : Fin 32768) (n : Fin 1024), y = ix2 r n := ⟨y 0, y 1, eq_ix2 y⟩
  have hr := r.isLt
  have hn := n.isLt
  have e : idx_main_v45 (ix2 r n) = rowIx r n := by
    funext a
    match a with
    | ⟨0, _⟩ => exact Fin.ext (show (r.val * 1024 + n.val) / 8388608 = r.val / 8192 by omega)
    | ⟨1, _⟩ => exact Fin.ext (show (r.val * 1024 + n.val) / 1024 % 8192 = r.val % 8192 by omega)
    | ⟨2, _⟩ => exact Fin.ext (show (r.val * 1024 + n.val) % 1024 = n.val by omega)
  rw [val_main_v45_apply, e, val_main_v44_apply, val_main_v43_apply, val_main_v42_apply, val_main_cst_5_apply, norm2]
  rfl

end Cert.Proof.Ffn.Ref
-- ==== Proof.Back.Body.lean ====
module

public import proofs.«01_k».proof.Proof.Gen.Kernel3Ideal.Value
public import Idealize.ShloMosaic.Lib.Tactic
public import Idealize.ShloMosaic.Lib.Pointwise
public import Idealize.ShloMosaic.Lib.Pipeline.ValueKit.Tiles

@[expose] public section

noncomputable section

namespace Cert.Proof.Back

open Cert.Kernel3Ideal Cert.Kernel3Ideal.Gen
open Idealize.ShloMosaic Idealize.ShloMosaic.TcCoe Idealize.ShloMosaic.Tactic Idealize.SL.Sem

variable {F : FTy → Type} [FloatOps F]

/-- The RMS norm of 512 rows, scaled column by column. -/
def nrm (v : FVec F S512x1024 .f32) (g : FVec F S1x1024 .f32) : FVec F S512x1024 .f32 :=
  mulf (mulf v (broadcastTo S512x1024 (rsqrt (addf (divf (shapeCast S512x1 (multiReduction .add [1] S512 (mulf v v) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- The normed rows, rounded as the kernel keeps them. -/
def xnorm (v : FVec F S512x1024 .f32) (g : FVec F S1x1024 .f32) : FVec F S512x1024 .bf16 :=
  truncf .bf16 (nrm v g) bitsLt_bf16_f32

/-- The gate of 256 columns: the logistic function of a product. -/
def gate (xn : FVec F S512x1024 .bf16) (w : FVec F S1x1024x256 .bf16) : FVec F S512x256 .f32 :=
  divf (broadcast S512x256 (Scalar.ofBits .f32 0x3F800000#32)) (addf (broadcast S512x256 (Scalar.ofBits .f32 0x3F800000#32)) (exp (subf (broadcast S512x256 (Scalar.ofBits .f32 0x00000000#32))
    (matmul dot_S512x1024_S1024x256_S512x256_1_0_0_1_n_n none xn (shapeCast S1024x256 w shapeCasts_S1x1024x256_S1024x256) (constant S512x256 .f32 0x00000000#32)))))

/-- What one branch gives to 256 columns, gated. -/
def term (xn : FVec F S512x1024 .bf16) (w : FVec F S1x1024x256 .bf16) (b : FVec F S512x256 .bf16) (wb : FVec F S1x256x256 .bf16) : FVec F S512x256 .f32 :=
  mulf (gate xn w) (matmul dot_S512x256_S256x256_S512x256_1_0_0_1_n_n none b (shapeCast S256x256 wb shapeCasts_S1x256x256_S256x256) (constant S512x256 .f32 0x00000000#32))

/-- The four branches' sum, rounded as the kernel keeps it. -/
def mixed (xn : FVec F S512x1024 .bf16) (w : Fin 4 → FVec F S1x1024x256 .bf16) (b : Fin 4 → FVec F S512x256 .bf16) (wb : Fin 4 → FVec F S1x256x256 .bf16) : FVec F S512x256 .bf16 :=
  truncf .bf16 (addf (addf (addf (term xn (w 0) (b 0) (wb 0)) (term xn (w 1) (b 1) (wb 1))) (term xn (w 2) (shapeCast S512x256 (b 2) shapeCasts_S512x256_S512x256) (wb 2))) (term xn (w 3) (b 3) (wb 3))) bitsLt_bf16_f32

/-- What 256 mixed columns add to the output product. -/
def part (xn : FVec F S512x1024 .bf16) (w : Fin 4 → FVec F S1x1024x256 .bf16) (b : Fin 4 → FVec F S512x256 .bf16) (wb : Fin 4 → FVec F S1x256x256 .bf16) (wo : FVec F S256x1024 .bf16) : FVec F S512x1024 .f32 :=
  matmul dot_S512x256_S256x1024_S512x1024_1_0_0_1_n_n none (mixed xn w b wb) (shapeCast S256x1024 wo shapeCasts_S256x1024_S256x1024) (constant S512x1024 .f32 0x00000000#32)

/-- The sum of the four parts. -/
def accum (t : Fin 4 → FVec F S512x1024 .f32) : FVec F S512x1024 .f32 :=
  addf (addf (addf (t 0) (t 1)) (t 2)) (t 3)

/-- What is stored of 512 rows. -/
def half (v : FVec F S512x1024 .f32) (g1 g2 : FVec F S1x1024 .f32) (w : Fin 4 → Fin 4 → FVec F S1x1024x256 .bf16) (b : Fin 4 → FVec F S512x256 .bf16)
    (wb : Fin 4 → Fin 4 → FVec F S1x256x256 .bf16) (wo : Fin 4 → FVec F S256x1024 .bf16) : FVec F S512x1024 .f32 :=
  addf v (nrm (accum fun k => part (xnorm v g1) (w k) b (wb k) (wo k)) g2)

/-- The columns `256 k …` of the gate matrix of branch `n`. -/
def gcols (x7 : Vec F S4x1024x1024 .bf16) (k n : Fin 4) : FVec F S1x1024x256 .bf16 :=
  View.ld x7 (Rect.unit (s := S4x1024x1024) ![n.val, 0, 256 * k.val] ![1, 1024, 256] (fun a => by
    have := k.isLt
    have := n.isLt
    match a with
    | ⟨0, _⟩ => show n.val + 1 ≤ 4; omega
    | ⟨1, _⟩ => show 0 + 1024 ≤ 1024; omega
    | ⟨2, _⟩ => show 256 * k.val + 256 ≤ 1024; omega))

/-- The columns `256 k …` of the matrix of branch `n`. -/
def bcols (x8 : Vec F S4x256x1024 .bf16) (k n : Fin 4) : FVec F S1x256x256 .bf16 :=
  View.ld x8 (Rect.unit (s := S4x256x1024) ![n.val, 0, 256 * k.val] ![1, 256, 256] (fun a => by
    have := k.isLt
    have := n.isLt
    match a with
    | ⟨0, _⟩ => show n.val + 1 ≤ 4; omega
    | ⟨1, _⟩ => show 0 + 256 ≤ 256; omega
    | ⟨2, _⟩ => show 256 * k.val + 256 ≤ 1024; omega))

/-- The rows `256 k …` of the output matrix. -/
def orows (x9 : Vec F S1024x1024 .bf16) (k : Fin 4) : FVec F S256x1024 .bf16 :=
  View.ld x9 (Rect.unit (s := S1024x1024) ![256 * k.val, 0] ![256, 1024] (fun a => by
    have := k.isLt
    match a with
    | ⟨0, _⟩ => show 256 * k.val + 256 ≤ 1024; omega
    | ⟨1, _⟩ => show 0 + 1024 ≤ 1024; omega))

/-- 512 rows of each branch. -/
def brows (o : ℕ) (ho : ∀ a, (![o, 0] : Fin 2 → ℕ) a + S512x256.size a ≤ S1024x256.size a) (b : Fin 4 → Vec F S1024x256 .bf16) (n : Fin 4) : FVec F S512x256 .bf16 :=
  View.ld (b n) (Rect.unit (s := S1024x256) ![o, 0] S512x256.size ho)

set_option maxHeartbeats 4000000

theorem out_eq (x0 : Vec F S1024x1024 .f32) (x1 x2 x3 x4 : Vec F S1024x256 .bf16) (x5 x6 : Vec F S1x1024 .f32) (x7 : Vec F S4x1024x1024 .bf16) (x8 : Vec F S4x256x1024 .bf16) (x9 : Vec F S1024x1024 .bf16) :
    out0_10 x0 x1 x2 x3 x4 x5 x6 x7 x8 x9
      = View.canon [⟨Rect.unit ![512, 0] ![512, 1024] inb_S1024x1024_S512x1024_512_0, half (View.ld x0 (Rect.unit ![512, 0] ![512, 1024] inb_S1024x1024_S512x1024_512_0)) (View.ld x5 (Rect.unit ![0, 0] ![1, 1024] inb_S1x1024_S1x1024_0_0))
            (View.ld x6 (Rect.unit ![0, 0] ![1, 1024] inb_S1x1024_S1x1024_0_0)) (gcols x7) (brows 512 inb_S1024x256_S512x256_512_0 ![x1, x2, x3, x4]) (bcols x8) (orows x9)⟩,
          ⟨Rect.unit ![0, 0] ![512, 1024] inb_S1024x1024_S512x1024_0_0, half (View.ld x0 (Rect.unit ![0, 0] ![512, 1024] inb_S1024x1024_S512x1024_0_0)) (View.ld x5 (Rect.unit ![0, 0] ![1, 1024] inb_S1x1024_S1x1024_0_0))
            (View.ld x6 (Rect.unit ![0, 0] ![1, 1024] inb_S1x1024_S1x1024_0_0)) (gcols x7) (brows 0 inb_S1024x256_S512x256_0_0 ![x1, x2, x3, x4]) (bcols x8) (orows x9)⟩] := by
  rfl

/-! ## The mathematics, over the extended reals -/

/-- The RMS norm of one row of 1024 numbers, scaled. -/
def rn (u g : Fin 1024 → EReal) (n : Fin 1024) : EReal :=
  u n * Ideal.rsqrt (Ideal.div (∑ x, u x * u x) (Ideal.ofBits .f32 0x44800000#32) + Ideal.ofBits .f32 0x358637BD#32) * g n

/-- The logistic function. -/
def sgm (a : EReal) : EReal := Ideal.div 1 (1 + Ideal.exp (0 - a))

/-- What branch `n` gives to a mixed column. -/
def tm (u g : Fin 1024 → EReal) (W : Fin 4 → Fin 1024 → Fin 1024 → EReal) (b : Fin 4 → Fin 256 → EReal) (B : Fin 4 → Fin 256 → Fin 1024 → EReal) (n : Fin 4) (j : Fin 1024) : EReal :=
  sgm (∑ x, rn u g x * W n x j) * ∑ i, b n i * B n i j

/-- A mixed column of a row. -/
def mcol (u g : Fin 1024 → EReal) (W : Fin 4 → Fin 1024 → Fin 1024 → EReal) (b : Fin 4 → Fin 256 → EReal) (B : Fin 4 → Fin 256 → Fin 1024 → EReal) (j : Fin 1024) : EReal :=
  tm u g W b B 0 j + tm u g W b B 1 j + tm u g W b B 2 j + tm u g W b B 3 j

/-- The end of the mixer of one row: gates, branches, the output product, the norm, and the row added. -/
def mix (u g1 g2 : Fin 1024 → EReal) (W : Fin 4 → Fin 1024 → Fin 1024 → EReal) (b : Fin 4 → Fin 256 → EReal) (B : Fin 4 → Fin 256 → Fin 1024 → EReal) (O : Fin 1024 → Fin 1024 → EReal) (n : Fin 1024) : EReal :=
  u n + rn (fun n => ∑ j, mcol u g1 W b B j * O j n) g2 n

theorem sum_split (f : Fin 1024 → EReal) :
    ∑ k : Fin 4, ∑ j : Fin 256, f ⟨256 * k.val + j.val, by omega⟩ = ∑ i, f i := by
  rw [← Fintype.sum_prod_type', ← Equiv.sum_comp (finProdFinEquiv.trans (finCongr (by decide : 4 * 256 = 1024))) f]
  refine Finset.sum_congr rfl fun p _ => congrArg f (Fin.ext ?_)
  show 256 * p.1.val + p.2.val = p.2.val + 256 * p.1.val
  omega

theorem nrm_apply (v : FVec Ideal S512x1024 .f32) (g : FVec Ideal S1x1024 .f32) (r : Fin 512) (n : Fin 1024) :
    nrm v g (ix2 r n) = rn (fun k => v (ix2 r k)) (fun k => g (ix2 0 k)) n := by
  unfold rn nrm
  rw [shapeCast_self]
  pointwise []

theorem xnorm_apply (v : FVec Ideal S512x1024 .f32) (g : FVec Ideal S1x1024 .f32) (r : Fin 512) (n : Fin 1024) :
    xnorm v g (ix2 r n) = rn (fun k => v (ix2 r k)) (fun k => g (ix2 0 k)) n :=
  nrm_apply v g r n

theorem term_apply (xn : FVec Ideal S512x1024 .bf16) (w : FVec Ideal S1x1024x256 .bf16) (b : FVec Ideal S512x256 .bf16) (wb : FVec Ideal S1x256x256 .bf16) (r : Fin 512) (j : Fin 256) :
    term xn w b wb (ix2 r j) = sgm (∑ x, xn (ix2 r x) * w (ix3 0 x j)) * ∑ i, b (ix2 r i) * wb (ix3 0 i j) := by
  unfold sgm
  pointwise [term, gate]

theorem part_apply (xn : FVec Ideal S512x1024 .bf16) (w : Fin 4 → FVec Ideal S1x1024x256 .bf16) (b : Fin 4 → FVec Ideal S512x256 .bf16) (wb : Fin 4 → FVec Ideal S1x256x256 .bf16) (wo : FVec Ideal S256x1024 .bf16) (r : Fin 512) (n : Fin 1024) :
    part xn w b wb wo (ix2 r n) = ∑ j : Fin 256, mixed xn w b wb (ix2 r j) * wo (ix2 j n) := by
  unfold part
  rw [shapeCast_self]
  generalize mixed xn w b wb = y
  pointwise []

theorem mixed_apply (xn : FVec Ideal S512x1024 .bf16) (w : Fin 4 → FVec Ideal S1x1024x256 .bf16) (b : Fin 4 → FVec Ideal S512x256 .bf16) (wb : Fin 4 → FVec Ideal S1x256x256 .bf16) (i : S512x256.Idx) :
    mixed xn w b wb i = term xn (w 0) (b 0) (wb 0) i + term xn (w 1) (b 1) (wb 1) i + term xn (w 2) (b 2) (wb 2) i + term xn (w 3) (b 3) (wb 3) i := by
  unfold mixed
  rw [shapeCast_self]
  rfl

theorem accum_apply (t : Fin 4 → FVec Ideal S512x1024 .f32) (i : S512x1024.Idx) : accum t i = ∑ k, t k i := by
  unfold accum
  simp only [Fin.sum_univ_castSucc, Fin.sum_univ_zero, zero_add]
  rfl

theorem gcols_apply (x7 : Vec Ideal S4x1024x1024 .bf16) (k n : Fin 4) (x : Fin 1024) (j : Fin 256) :
    gcols x7 k n (ix3 0 x j) = x7 (ix3 n x ⟨256 * k.val + j.val, by omega⟩) := by
  refine congrArg x7 (funext fun a => Fin.ext ((Rect.idx_unit_val ..).trans ?_))
  match a with
  | ⟨0, _⟩ => rfl
  | ⟨1, _⟩ => show 0 + x.val = x.val; omega
  | ⟨2, _⟩ => rfl

theorem bcols_apply (x8 : Vec Ideal S4x256x1024 .bf16) (k n : Fin 4) (x : Fin 256) (j : Fin 256) :
    bcols x8 k n (ix3 0 x j) = x8 (ix3 n x ⟨256 * k.val + j.val, by omega⟩) := by
  refine congrArg x8 (funext fun a => Fin.ext ((Rect.idx_unit_val ..).trans ?_))
  match a with
  | ⟨0, _⟩ => rfl
  | ⟨1, _⟩ => show 0 + x.val = x.val; omega
  | ⟨2, _⟩ => rfl

theorem orows_apply (x9 : Vec Ideal S1024x1024 .bf16) (k : Fin 4) (j : Fin 256) (n : Fin 1024) :
    orows x9 k (ix2 j n) = x9 (ix2 ⟨256 * k.val + j.val, by omega⟩ n) := by
  refine congrArg x9 (funext fun a => Fin.ext ((Rect.idx_unit_val ..).trans ?_))
  match a with
  | ⟨0, _⟩ => rfl
  | ⟨1, _⟩ => show 0 + n.val = n.val; omega

theorem half_apply (v : FVec Ideal S512x1024 .f32) (g1 g2 : FVec Ideal S1x1024 .f32) (x7 : Vec Ideal S4x1024x1024 .bf16) (b : Fin 4 → FVec Ideal S512x256 .bf16) (x8 : Vec Ideal S4x256x1024 .bf16) (x9 : Vec Ideal S1024x1024 .bf16) (r : Fin 512) (n : Fin 1024) :
    half v g1 g2 (gcols x7) b (bcols x8) (orows x9) (ix2 r n)
      = mix (fun k => v (ix2 r k)) (fun k => g1 (ix2 0 k)) (fun k => g2 (ix2 0 k)) (fun n x j => x7 (ix3 n x j)) (fun n i => b n (ix2 r i)) (fun n i j => x8 (ix3 n i j)) (fun j k => x9 (ix2 j k)) n := by
  have e : half v g1 g2 (gcols x7) b (bcols x8) (orows x9) (ix2 r n)
      = v (ix2 r n) + nrm (accum fun k => part (xnorm v g1) (gcols x7 k) b (bcols x8 k) (orows x9 k)) g2 (ix2 r n) := rfl
  rw [e, nrm_apply]
  unfold mix
  congr 2
  funext n
  rw [accum_apply, ← sum_split]
  refine Finset.sum_congr rfl fun k _ => ?_
  rw [part_apply]
  refine Finset.sum_congr rfl fun j _ => ?_
  unfold mcol tm
  rw [mixed_apply]
  simp only [term_apply, xnorm_apply, gcols_apply, bcols_apply, orows_apply]

end Cert.Proof.Back
-- ==== Proof.Back.Block.lean ====
module

public import proofs.«01_k».proof.Proof.Back.Body
public import Idealize.ShloMosaic.Lib.Tactic
public import Idealize.ShloMosaic.Lib.Pointwise
public import Idealize.ShloMosaic.Lib.Pipeline.ValueKit.Tiles

@[expose] public section

noncomputable section

namespace Cert.Proof.Back

open Cert.Kernel3Ideal Cert.Kernel3Ideal.Gen
open Idealize.ShloMosaic Idealize.ShloMosaic.TcCoe Idealize.ShloMosaic.Tactic Idealize.SL.Sem

set_option maxRecDepth 16384

/-- The block's rows through the end of the mixer. -/
def blockVal (x0 : Vec Ideal S1024x1024 .f32) (b : Fin 4 → Vec Ideal S1024x256 .bf16) (x5 x6 : Vec Ideal S1x1024 .f32) (x7 : Vec Ideal S4x1024x1024 .bf16) (x8 : Vec Ideal S4x256x1024 .bf16) (x9 : Vec Ideal S1024x1024 .bf16) : Vec Ideal S1024x1024 .f32 :=
  fun y => mix (fun k => x0 (ix2 (y 0) k)) (fun k => x5 (ix2 0 k)) (fun k => x6 (ix2 0 k)) (fun n x j => x7 (ix3 n x j)) (fun n i => b n (ix2 (y 0) i)) (fun n i j => x8 (ix3 n i j)) (fun j k => x9 (ix2 j k)) (y 1)

theorem mix_congr {u u' g1 g1' g2 g2' : Fin 1024 → EReal} {W W' : Fin 4 → Fin 1024 → Fin 1024 → EReal} {b b' : Fin 4 → Fin 256 → EReal} {B B' : Fin 4 → Fin 256 → Fin 1024 → EReal} {O O' : Fin 1024 → Fin 1024 → EReal} {n n' : Fin 1024}
    (hu : u = u') (h1 : g1 = g1') (h2 : g2 = g2') (hW : W = W') (hb : b = b') (hB : B = B') (hO : O = O') (hn : n = n') : mix u g1 g2 W b B O n = mix u' g1' g2' W' b' B' O' n' := by
  rw [hu, h1, h2, hW, hb, hB, hO, hn]

/-- A half of the block. -/
theorem piece_apply (o : ℕ) (x0 : Vec Ideal S1024x1024 .f32) (b : Fin 4 → Vec Ideal S1024x256 .bf16) (x5 x6 : Vec Ideal S1x1024 .f32) (x7 : Vec Ideal S4x1024x1024 .bf16) (x8 : Vec Ideal S4x256x1024 .bf16) (x9 : Vec Ideal S1024x1024 .bf16) (ho) (hg) (hb) (x : S512x1024.Idx) :
    half (View.ld x0 (Rect.unit (s := S1024x1024) ![o, 0] ![512, 1024] ho)) (View.ld x5 (Rect.unit (s := S1x1024) ![0, 0] ![1, 1024] hg)) (View.ld x6 (Rect.unit (s := S1x1024) ![0, 0] ![1, 1024] hg)) (gcols x7) (brows o hb b) (bcols x8) (orows x9) x
      = blockVal x0 b x5 x6 x7 x8 x9 ((Rect.unit (s := S1024x1024) ![o, 0] ![512, 1024] ho).emb x) := by
  obtain ⟨r, n, rfl⟩ : ∃ (r : Fin 512) (n : Fin 1024), x = ix2 r n := ⟨x 0, x 1, eq_ix2 x⟩
  refine (half_apply _ _ _ _ _ _ _ r n).trans ?_
  have ev (k : Fin 1024) : View.ld x0 (Rect.unit (s := S1024x1024) ![o, 0] ![512, 1024] ho) (ix2 r k)
      = x0 (ix2 (((Rect.unit (s := S1024x1024) ![o, 0] ![512, 1024] ho).idx (ix2 r n)) 0) k) := by
    refine congrArg x0 (funext fun a => Fin.ext ((Rect.idx_unit_val ..).trans ?_))
    match a with
    | ⟨0, _⟩ => exact (Rect.idx_unit_val ..).symm
    | ⟨1, _⟩ => show 0 + k.val = k.val; omega
  have eb (i : Fin 4) (k : Fin 256) : brows o hb b i (ix2 r k)
      = b i (ix2 (((Rect.unit (s := S1024x1024) ![o, 0] ![512, 1024] ho).idx (ix2 r n)) 0) k) := by
    refine congrArg (b i) (funext fun a => Fin.ext ((Rect.idx_unit_val ..).trans ?_))
    match a with
    | ⟨0, _⟩ => exact (Rect.idx_unit_val ..).symm
    | ⟨1, _⟩ => show 0 + k.val = k.val; omega
  have eg (g : Vec Ideal S1x1024 .f32) (k : Fin 1024) : View.ld g (Rect.unit (s := S1x1024) ![0, 0] ![1, 1024] hg) (ix2 0 k) = g (ix2 0 k) := by
    refine congrArg g (funext fun a => Fin.ext ((Rect.idx_unit_val ..).trans ?_))
    match a with
    | ⟨0, _⟩ => rfl
    | ⟨1, _⟩ => show 0 + k.val = k.val; omega
  have e1 : (Rect.unit (s := S1024x1024) ![o, 0] ![512, 1024] ho).idx (ix2 r n) 1 = n := Fin.ext ((Rect.idx_unit_val ..).trans (by show 0 + n.val = n.val; omega))
  exact mix_congr (funext ev) (funext (eg x5)) (funext (eg x6)) rfl (funext fun i => funext (eb i)) rfl rfl e1.symm

/-- Every row is in one of the halves. -/
theorem mem_half (o : ℕ) (ho) (y : S1024x1024.Idx) (h : o ≤ (y 0 : Nat)) (h' : (y 0 : Nat) < o + 512) : y ∈ (Rect.unit (s := S1024x1024) ![o, 0] ![512, 1024] ho).set := by
  have h1 : (y 1 : Nat) < 1024 := (y 1).isLt
  refine (Rect.mem_set_unit ..).mpr fun a => ?_
  match a with
  | ⟨0, _⟩ => exact ⟨h, h'⟩
  | ⟨1, _⟩ => exact ⟨Nat.zero_le _, by show (y 1 : Nat) < 0 + 1024; omega⟩

/-- Two halves that agree with one function are that function. -/
theorem two_halves (w0 w1 : S512x1024.Idx → Elt Ideal .f32) (G : Vec Ideal S1024x1024 .f32) (ha) (hb)
    (e0 : ∀ x, w0 x = G ((Rect.unit (s := S1024x1024) ![512, 0] ![512, 1024] ha).emb x)) (e1 : ∀ x, w1 x = G ((Rect.unit (s := S1024x1024) ![0, 0] ![512, 1024] hb).emb x)) (y : S1024x1024.Idx) :
    View.canon [(⟨Rect.unit (s := S1024x1024) ![512, 0] ![512, 1024] ha, w0⟩ : View.Piece (Elt Ideal) S1024x1024 .f32), ⟨Rect.unit (s := S1024x1024) ![0, 0] ![512, 1024] hb, w1⟩] y = G y := by
  have h0 : (y 0 : Nat) < 1024 := (y 0).isLt
  refine View.canon_apply_of_pieces (Val := Elt Ideal) (e := .f32) G _ ?_ y ?_
  · intro p hp
    rcases List.mem_cons.mp hp with rfl | hp
    · exact e0
    · obtain rfl := List.mem_singleton.mp hp
      exact e1
  · by_cases h : (y 0 : Nat) < 512
    · exact ⟨_, List.mem_cons_of_mem _ List.mem_cons_self, mem_half 0 hb y (Nat.zero_le _) (by omega)⟩
    · exact ⟨_, List.mem_cons_self, mem_half 512 ha y (by omega) (by omega)⟩

/-- What a grid point leaves in its block of the result. -/
theorem out_apply (x0 : Vec Ideal S1024x1024 .f32) (x1 x2 x3 x4 : Vec Ideal S1024x256 .bf16) (x5 x6 : Vec Ideal S1x1024 .f32) (x7 : Vec Ideal S4x1024x1024 .bf16) (x8 : Vec Ideal S4x256x1024 .bf16) (x9 : Vec Ideal S1024x1024 .bf16) (y : S1024x1024.Idx) :
    out0_10 x0 x1 x2 x3 x4 x5 x6 x7 x8 x9 y = blockVal x0 ![x1, x2, x3, x4] x5 x6 x7 x8 x9 y := by
  rw [out_eq]
  exact two_halves _ _ _ _ _ (fun x => piece_apply 512 x0 ![x1, x2, x3, x4] x5 x6 x7 x8 x9 _ _ _ x) (fun x => piece_apply 0 x0 ![x1, x2, x3, x4] x5 x6 x7 x8 x9 _ _ _ x) y

end Cert.Proof.Back
-- ==== Proof.Back.Prep.lean ====
module

public import proofs.«01_k».proof.Proof.Gen.Kernel3Ideal.Value
public import Idealize.ShloMosaic.Lib.Tactic
public import Idealize.ShloMosaic.Lib.Pointwise
public import Idealize.ShloMosaic.Lib.StableHlo.ReadAt

@[expose] public section

noncomputable section

namespace Cert.Proof.Back

open Cert.Kernel3Ideal Cert.Kernel3Ideal.Gen
open Idealize.ShloMosaic Idealize.ShloMosaic.TcCoe Idealize.SL.Sem

variable (m : (ℓ : Loc nD τ sig) → Buf (Elt Ideal) ℓ)

/-- The first gain, as the kernel finds it. -/
theorem gain1 (c : Dev nD) (k : Fin 1024) :
    V m c main_v9 (ix2 0 k) = m ((c : Thread nD τ).loc main_arg5) (ix2 0 k) := by
  unfold V
  after_reads_at

/-- The second gain, as the kernel finds it. -/
theorem gain2 (c : Dev nD) (k : Fin 1024) :
    V m c main_v12 (ix2 0 k) = m ((c : Thread nD τ).loc main_arg6) (ix2 0 k) := by
  unfold V
  after_reads_at

/-- A row of the flat array of the attention's results, in the batch. -/
abbrev rowIx (r : Fin 32768) (k : Fin 256) : S4x8192x256.Idx := ix3 ⟨r.val / 8192, by omega⟩ ⟨r.val % 8192, by omega⟩ k

/-- The attention's results, as the kernel finds them. -/
theorem att (c : Dev nD) (r : Fin 32768) (k : Fin 256) :
    V m c main_v6 (ix2 r k) = m ((c : Thread nD τ).loc main_arg3) (rowIx r k) := by
  unfold V
  after_reads_at

/-- The gate matrices, as the kernel finds them. -/
theorem gates (c : Dev nD) (n : Fin 4) (x j : Fin 1024) :
    V m c main_v5 (ix3 n x j) = m ((c : Thread nD τ).loc main_arg7) (ix3 0 x ⟨2212 + (n.val * 1024 + j.val), by omega⟩) := by
  unfold V
  after_reads_at

/-- The branches' matrices, as the kernel finds them. -/
theorem branch (c : Dev nD) (n : Fin 4) (x : Fin 256) (j : Fin 1024) :
    V m c main_v15 (ix3 n x j) = m ((c : Thread nD τ).loc main_arg8) (ix4 0 n x j) := by
  unfold V
  after_reads_at

/-- The output matrix, as the kernel finds it. -/
theorem outm (c : Dev nD) (x j : Fin 1024) :
    V m c main_v18 (ix2 x j) = m ((c : Thread nD τ).loc main_arg9) (ix3 0 x j) := by
  unfold V
  after_reads_at

end Cert.Proof.Back
-- ==== Proof.Back.Array.lean ====
module

public import proofs.«01_k».proof.Proof.Back.Block
public import proofs.«01_k».proof.Proof.Back.Prep
public import Idealize.ShloMosaic.Lib.Pipeline.Value

@[expose] public section

noncomputable section

namespace Cert.Proof.Back

open Cert.Kernel3Ideal Cert.Kernel3Ideal.Gen
open Idealize.ShloMosaic Idealize.ShloMosaic.TcCoe Idealize.SL.Sem
open Idealize.ShloMosaic.Pipeline (Dat)

/-- The attention's results with one row for each row of the batch. -/
abbrev flat (x : FVec Ideal S4x8192x256 .bf16) : FVec Ideal S32768x256 .bf16 := fun y => x (rowIx (y 0) (y 1))

/-- The end of the mixer for every row: the result, as a function of the arguments. -/
def result (x0 : FVec Ideal S32768x1024 .f32) (x1 x2 : FVec Ideal S32768x256 .bf16) (x3 : FVec Ideal S4x8192x256 .bf16) (x4 : FVec Ideal S32768x256 .bf16) (x5 x6 : FVec Ideal S4x1024 .f32) (x7 : FVec Ideal S4x1024x6308 .f32) (x8 : FVec Ideal S4x4x256x1024 .f32) (x9 : FVec Ideal S4x1024x1024 .f32) : FVec Ideal S32768x1024 .f32 :=
  fun y => mix (fun k => x0 (ix2 (y 0) k)) (fun k => x5 (ix2 0 k)) (fun k => x6 (ix2 0 k)) (fun n x j => x7 (ix3 0 x ⟨2212 + (n.val * 1024 + j.val), by omega⟩))
    (fun n i => (![x1, x2, flat x3, x4] : Fin 4 → FVec Ideal S32768x256 .bf16) n (ix2 (y 0) i)) (fun n i j => x8 (ix4 0 n i j)) (fun j k => x9 (ix3 0 j k)) (y 1)

variable (m : (ℓ : Loc nD τ sig) → Buf (Elt Ideal) ℓ)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index10 : ∀ t : Fin grid0.N, win0_10.index t 0 = t.val ∧ win0_10.index t 1 = 0 := by decide +kernel

theorem block0 (c : Dev nD) (t : Fin cfg0.N) (r : Fin 1024) (k : Fin 1024) (h : 1024 * t.val + r.val < 32768) :
    (iblk m c 0 t : Vec Ideal S1024x1024 .f32) (ix2 r k) = m ((c : Thread nD τ).loc main_arg0) (ix2 ⟨1024 * t.val + r.val, h⟩ k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * t.val + r.val; rw [(index0 t).1]; omega
  | ⟨1, _⟩ => show win0_0.index t 1 * 1024 + 1 * k.val = k.val; rw [(index0 t).2]; omega

theorem block1 (c : Dev nD) (t : Fin cfg0.N) (r : Fin 1024) (k : Fin 256) (h : 1024 * t.val + r.val < 32768) :
    (iblk m c 1 t : Vec Ideal S1024x256 .bf16) (ix2 r k) = m ((c : Thread nD τ).loc main_arg1) (ix2 ⟨1024 * t.val + r.val, h⟩ k) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * r.val = 1024 * t.val + r.val; rw [(index1 t).1]; omega
  | ⟨1, _⟩ => show win0_1.index t 1 * 256 + 1 * k.val = k.val; rw [(index1 t).2]; omega

theorem block2 (c : Dev nD) (t : Fin cfg0.N) (r : Fin 1024) (k : Fin 256) (h : 1024 * t.val + r.val < 32768) :
    (iblk m c 2 t : Vec Ideal S1024x256 .bf16) (ix2 r k) = m ((c : Thread nD τ).loc main_arg2) (ix2 ⟨1024 * t.val + r.val, h⟩ k) := by
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * r.val = 1024 * t.val + r.val; rw [(index2 t).1]; omega
  | ⟨1, _⟩ => show win0_2.index t 1 * 256 + 1 * k.val = k.val; rw [(index2 t).2]; omega

theorem block3 (c : Dev nD) (t : Fin cfg0.N) (r : Fin 1024) (k : Fin 256) (h : 1024 * t.val + r.val < 32768) :
    (iblk m c 3 t : Vec Ideal S1024x256 .bf16) (ix2 r k) = m ((c : Thread nD τ).loc main_arg3) (rowIx ⟨1024 * t.val + r.val, h⟩ k) := by
  unfold iblk
  rw [View.read_apply]
  refine Eq.trans (congrArg (V m c main_v6) (a₂ := (ix2 ⟨1024 * t.val + r.val, h⟩ k)) ?_) (att m c _ _)
  funext a
  apply Fin.ext
  match a with
  | ⟨0, _⟩ => show win0_3.index t 0 * 1024 + 1 * r.val = 1024 * t.val + r.val; rw [(index3 t).1]; omega
  | ⟨1, _⟩ => show win0_3.index t 1 * 256 + 1 * k.val = k.val; rw [(index3 t).2]; omega

theorem block4 (c : Dev nD) (t : Fin cfg0.N) (r : Fin 1024) (k : Fin 256) (h : 1024 * t.val + r.val < 32768) :
    (iblk m c 4 t : Vec Ideal S1024x256 .bf16) (ix2 r k) = m ((c : Thread nD τ).loc main_arg4) (ix2 ⟨1024 * t.val + r.val, h⟩ k) := by
  unfold iblk
  rw [View.read_apply]
  show V m c main_arg4 _ = m (c.tc.loc main_arg4) _
  rw [V_main_arg4]
  congr 1
  funext a
  apply Fin.ext
  match a with
  | ⟨0, _⟩ => show win0_4.index t 0 * 1024 + 1 * r.val = 1024 * t.val + r.val; rw [(index4 t).1]; omega
  | ⟨1, _⟩ => show win0_4.index t 1 * 256 + 1 * k.val = k.val; rw [(index4 t).2]; omega

theorem block5 (c : Dev nD) (t : Fin cfg0.N) (k : Fin 1024) :
    (iblk m c 5 t : Vec Ideal S1x1024 .f32) (ix2 0 k) = V m c main_v9 (ix2 0 k) := by
  unfold iblk
  rw [View.read_apply]
  show V m c main_v9 _ = V m c main_v9 _
  congr 1
  funext a
  apply Fin.ext
  match a with
  | ⟨0, _⟩ => show 0 * 1 + 1 * 0 = 0; rfl
  | ⟨1, _⟩ => show 0 * 1024 + 1 * k.val = k.val; omega

theorem block6 (c : Dev nD) (t : Fin cfg0.N) (k : Fin 1024) :
    (iblk m c 6 t : Vec Ideal S1x1024 .f32) (ix2 0 k) = V m c main_v12 (ix2 0 k) := by
  unfold iblk
  rw [View.read_apply]
  show V m c main_v12 _ = V m c main_v12 _
  congr 1
  funext a
  apply Fin.ext
  match a with
  | ⟨0, _⟩ => show 0 * 1 + 1 * 0 = 0; rfl
  | ⟨1, _⟩ => show 0 * 1024 + 1 * k.val = k.val; omega

theorem block7 (c : Dev nD) (t : Fin cfg0.N) (n : Fin 4) (x j : Fin 1024) :
    (iblk m c 7 t : Vec Ideal S4x1024x1024 .bf16) (ix3 n x j) = V m c main_v5 (ix3 n x j) := by
  unfold iblk
  rw [View.read_apply]
  show V m c main_v5 _ = V m c main_v5 _
  congr 1
  funext a
  apply Fin.ext
  match a with
  | ⟨0, _⟩ => show 0 * 4 + 1 * n.val = n.val; omega
  | ⟨1, _⟩ => show 0 * 1024 + 1 * x.val = x.val; omega
  | ⟨2, _⟩ => show 0 * 1024 + 1 * j.val = j.val; omega

theorem block8 (c : Dev nD) (t : Fin cfg0.N) (n : Fin 4) (x : Fin 256) (j : Fin 1024) :
    (iblk m c 8 t : Vec Ideal S4x256x1024 .bf16) (ix3 n x j) = V m c main_v15 (ix3 n x j) := by
  unfold iblk
  rw [View.read_apply]
  show V m c main_v15 _ = V m c main_v15 _
  congr 1
  funext a
  apply Fin.ext
  match a with
  | ⟨0, _⟩ => show 0 * 4 + 1 * n.val = n.val; omega
  | ⟨1, _⟩ => show 0 * 256 + 1 * x.val = x.val; omega
  | ⟨2, _⟩ => show 0 * 1024 + 1 * j.val = j.val; omega

theorem block9 (c : Dev nD) (t : Fin cfg0.N) (x j : Fin 1024) :
    (iblk m c 9 t : Vec Ideal S1024x1024 .bf16) (ix2 x j) = V m c main_v18 (ix2 x j) := by
  unfold iblk
  rw [View.read_apply]
  show V m c main_v18 _ = V m c main_v18 _
  congr 1
  funext a
  apply Fin.ext
  match a with
  | ⟨0, _⟩ => show 0 * 1024 + 1 * x.val = x.val; omega
  | ⟨1, _⟩ => show 0 * 1024 + 1 * j.val = j.val; omega

/-- The result of a start memory. -/
abbrev G (c : Dev nD) : Buf (Elt Ideal) ((c : Thread nD τ).loc main_v19) :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What a grid point writes is its block of the result. -/
theorem outs_apply (c : Dev nD) (t : Fin cfg0.N) (y : S1024x1024.Idx) (h : 1024 * t.val + (y 0).val < 32768) :
    out0_10 (iblk m c 0 t) (iblk m c 1 t) (iblk m c 2 t) (iblk m c 3 t) (iblk m c 4 t) (iblk m c 5 t) (iblk m c 6 t) (iblk m c 7 t) (iblk m c 8 t) (iblk m c 9 t) y
      = G m c (ix2 ⟨1024 * t.val + (y 0).val, h⟩ (y 1)) := by
  rw [out_apply]
  refine mix_congr (funext fun k => block0 m c t (y 0) k h) (funext fun k => (block5 m c t k).trans (gain1 m c k)) (funext fun k => (block6 m c t k).trans (gain2 m c k))
    (funext fun n => funext fun x => funext fun j => (block7 m c t n x j).trans (gates m c n x j)) (funext fun n => funext fun i => ?_)
    (funext fun n => funext fun x => funext fun j => (block8 m c t n x j).trans (branch m c n x j)) (funext fun x => funext fun j => (block9 m c t x j).trans (outm m c x j)) rfl
  match n with
  | ⟨0, _⟩ => exact block1 m c t (y 0) i h
  | ⟨1, _⟩ => exact block2 m c t (y 0) i h
  | ⟨2, _⟩ => exact block3 m c t (y 0) i h
  | ⟨3, _⟩ => exact block4 m c t (y 0) i h

theorem flushed_eq (c : Dev nD) (t : Fin cfg0.N) : (dats m 0 c).flushed 10 t = ((cfg0.win 10).blk t).view.read (Elt Ideal) (G m c) := by
  rw [Cert.Kernel3Ideal.Value.flushed10]
  funext y
  rw [View.read_apply]
  have ht : t.val < 32 := t.isLt
  have hy : (y 0).val < 1024 := (y 0).isLt
  refine (outs_apply m c t y (by omega)).trans (congrArg (G m c) (funext fun a => Fin.ext ?_))
  match a with
  | ⟨0, _⟩ => show 1024 * t.val + (y 0).val = win0_10.index t 0 * 1024 + 1 * (y 0).val; rw [(index10 t).1]; omega
  | ⟨1, _⟩ => show (y 1).val = win0_10.index t 1 * 1024 + 1 * (y 1).val; rw [(index10 t).2]; omega

/-- The result array after the run. -/
theorem final (c : Dev nD) : (dats m 0 c).arrAt 10 cfg0.N = G m c :=
  (dats m 0 c).arrAt_eq_of_cover 10 (G m c) (fun t _ => flushed_eq m c t) fun i => by
    have h0 : (i 0 : Nat) < 32768 := (i 0).isLt
    have h1 : (i 1 : Nat) < 1024 := (i 1).isLt
    let t : Fin grid0.N := ⟨(i 0).val / 1024, by show (i 0).val / 1024 < 32; omega⟩
    refine ⟨t, flush0_10 t, ?_⟩
    show i ∈ ((View.whole main_v19).slice (win0_10.rect t)).set
    rw [View.set_slice_whole, Rect.mem_set_unit]
    intro a
    match a with
    | ⟨0, _⟩ => show win0_10.index t 0 * 1024 ≤ (i 0 : Nat) ∧ (i 0 : Nat) < win0_10.index t 0 * 1024 + 1024
                rw [(index10 t).1]; show (i 0).val / 1024 * 1024 ≤ (i 0 : Nat) ∧ (i 0 : Nat) < (i 0).val / 1024 * 1024 + 1024; omega
    | ⟨1, _⟩ => show win0_10.index t 1 * 1024 ≤ (i 1 : Nat) ∧ (i 1 : Nat) < win0_10.index t 1 * 1024 + 1024
                rw [(index10 t).2]; omega

end Cert.Proof.Back
-- ==== Proof.Back.Ref.lean ====
module

public import proofs.«01_k».proof.Proof.Back.Array
public import proofs.«01_k».proof.Proof.Gen.Reference3Ideal.Read

@[expose] public section

noncomputable section

namespace Cert.Proof.Back.Ref

open Cert.Reference3Ideal Cert.Reference3Ideal.Gen Cert.Reference3Ideal.Read
open Idealize.ShloMosaic Idealize.ShloMosaic.TcCoe Idealize.SL.Sem

variable (x0 : (⟨S32768x1024, .f32⟩ : BufTy).Contents (Elt Ideal)) (x1 x2 x4 : (⟨S32768x256, .bf16⟩ : BufTy).Contents (Elt Ideal)) (x3 : (⟨S4x8192x256, .bf16⟩ : BufTy).Contents (Elt Ideal)) (x5 x6 : (⟨S4x1024, .f32⟩ : BufTy).Contents (Elt Ideal))
  (x7 : (⟨S4x1024x6308, .f32⟩ : BufTy).Contents (Elt Ideal)) (x8 : (⟨S4x4x256x1024, .f32⟩ : BufTy).Contents (Elt Ideal)) (x9 : (⟨S4x1024x1024, .f32⟩ : BufTy).Contents (Elt Ideal))

/-- The gate matrices in the input matrix. -/
abbrev gm : Fin 4 → Fin 1024 → Fin 1024 → EReal := fun n x j => x7 (ix3 0 x ⟨2212 + (n.val * 1024 + j.val), by omega⟩)

/-- A row of each branch. -/
abbrev br (r : Fin 32768) : Fin 4 → Fin 256 → EReal := fun n i => (![x1, x2, flat x3, x4] : Fin 4 → FVec Ideal S32768x256 .bf16) n (ix2 r i)

/-- The first norm. -/
theorem norm1 (r : Fin 32768) (n : Fin 1024) :
    val_main_v14 (F := Ideal) x0 x5 (ix2 r n) = rn (fun k => x0 (ix2 r k)) (fun k => x5 (ix2 0 k)) n := by
  have e0 (k : Fin 1024) : idx_main_v3 (idx_main_v4 (idx_main_v10 (ix2 r n))) k = ix2 r k := by
    funext a; match a with | ⟨0, _⟩ => rfl | ⟨1, _⟩ => rfl
  have e1 : idx_main_v0 (idx_main_v1 (idx_main_v12 (idx_main_v13 (ix2 r n)))) = ix2 0 n := by
    funext a
    match a with
    | ⟨0, _⟩ => rfl
    | ⟨1, _⟩ => exact Fin.ext (Nat.mod_eq_of_lt n.isLt)
  unfold rn
  simp only [val_main_v14_apply, val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_v12_apply, val_main_v13_apply, val_main_cst_apply, val_main_cst_0_apply, val_main_cst_1_apply, e0, e1]
  show x0 (ix2 r n) * Ideal.rsqrt (Ideal.div (Ideal.ofBits .f32 0x00000000#32 + ∑ k, x0 (ix2 r k) * x0 (ix2 r k)) _ + _) * _ = _
  rw [Ideal.ofBits_zero_f32, zero_add]
  rfl

/-- A column of the input product. -/
theorem prod (r : Fin 32768) (j : Fin 6308) :
    val_main_v17 (F := Ideal) x0 x5 x7 (ix2 r j) = ∑ x, rn (fun k => x0 (ix2 r k)) (fun k => x5 (ix2 0 k)) x * x7 (ix3 0 x j) := by
  rw [val_main_v17_apply]
  refine Finset.sum_congr rfl fun k _ => ?_
  have el : lidx_main_v17 (ix2 r j) k = ix2 r k := by
    funext a; match a with | ⟨0, _⟩ => rfl | ⟨1, _⟩ => rfl
  have er : idx_main_v15 (idx_main_v16 (ridx_main_v17 (ix2 r j) k)) = ix3 0 k j := by
    have hk := k.isLt
    have hj := j.isLt
    funext a
    match a with
    | ⟨0, _⟩ => rfl
    | ⟨1, _⟩ => exact Fin.ext (show (k.val * 6308 + j.val) / 6308 % 1024 = k.val by omega)
    | ⟨2, _⟩ => exact Fin.ext (show (k.val * 6308 + j.val) % 6308 = j.val by omega)
  rw [el, norm1, val_main_v16_apply, val_main_v15_apply, er]

/-- A gate. -/
theorem gateval (r : Fin 32768) (n : Fin 4) (j : Fin 1024) :
    val_main_v30 (F := Ideal) x0 x5 x7 (ix3 r n j) = sgm (∑ x, rn (fun k => x0 (ix2 r k)) (fun k => x5 (ix2 0 k)) x * gm x7 n x j) := by
  have hr := r.isLt
  have hn := n.isLt
  have hj := j.isLt
  have e : idx_main_v18 (idx_main_v24 (ix3 r n j)) = ix2 r ⟨2212 + (n.val * 1024 + j.val), by omega⟩ := by
    funext a
    match a with
    | ⟨0, _⟩ => exact Fin.ext (show ((r.val * 4 + n.val) * 1024 + j.val) / 4096 = r.val by omega)
    | ⟨1, _⟩ => exact Fin.ext (show 2212 + ((r.val * 4 + n.val) * 1024 + j.val) % 4096 = 2212 + (n.val * 1024 + j.val) by omega)
  unfold sgm
  simp only [val_main_v30_apply, val_main_v29_apply, val_main_v28_apply, val_main_v27_apply, val_main_v26_apply, val_main_v25_apply, val_main_v24_apply, val_main_v18_apply, val_main_cst_2_apply, val_main_cst_3_apply, e, prod]
  show Ideal.div (Ideal.ofBits .f32 0x3F800000#32) (Ideal.ofBits .f32 0x3F800000#32 + Ideal.exp (-_)) = _
  rw [Ideal.ofBits_one_f32, zero_sub]

/-- Branch 0's part of a mixed column. -/
theorem term0 (r : Fin 32768) (j : Fin 1024) :
    val_main_v36 (F := Ideal) x0 x1 x5 x7 x8 (ix2 r j)
      = tm (fun k => x0 (ix2 r k)) (fun k => x5 (ix2 0 k)) (gm x7) (br x1 x2 x4 x3 r) (fun n i j => x8 (ix4 0 n i j)) 0 j := by
  have hr := r.isLt
  have hj := j.isLt
  have eg : idx_main_v31 (idx_main_v32 (ix2 r j)) = ix3 r 0 j := by
    funext a
    match a with
    | ⟨0, _⟩ => exact Fin.ext (show (r.val * 1024 + j.val) / 1024 = r.val by omega)
    | ⟨1, _⟩ => rfl
    | ⟨2, _⟩ => exact Fin.ext (show (r.val * 1024 + j.val) % 1024 = j.val by omega)
  have el (i : Fin 256) : lidx_main_v35 (ix2 r j) i = ix2 r i := by
    funext a; match a with | ⟨0, _⟩ => rfl | ⟨1, _⟩ => rfl
  have er (i : Fin 256) : idx_main_v33 (idx_main_v34 (ridx_main_v35 (ix2 r j) i)) = ix4 0 0 i j := by
    have hi := i.isLt
    funext a
    match a with
    | ⟨0, _⟩ => rfl
    | ⟨1, _⟩ => rfl
    | ⟨2, _⟩ => exact Fin.ext (show (i.val * 1024 + j.val) / 1024 % 256 = i.val by omega)
    | ⟨3, _⟩ => exact Fin.ext (show (i.val * 1024 + j.val) % 1024 = j.val by omega)
  unfold tm
  simp only [val_main_v36_apply, val_main_v32_apply, val_main_v31_apply, eg, gateval, val_main_v35_apply, val_main_v19_apply, val_main_v34_apply, val_main_v33_apply, el, er]
  rfl

/-- Branch 1's part of a mixed column. -/
theorem term1 (r : Fin 32768) (j : Fin 1024) :
    val_main_v42 (F := Ideal) x0 x2 x5 x7 x8 (ix2 r j)
      = tm (fun k => x0 (ix2 r k)) (fun k => x5 (ix2 0 k)) (gm x7) (br x1 x2 x4 x3 r) (fun n i j => x8 (ix4 0 n i j)) 1 j := by
  have hr := r.isLt
  have hj := j.isLt
  have eg : idx_main_v37 (idx_main_v38 (ix2 r j)) = ix3 r 1 j := by
    funext a
    match a with
    | ⟨0, _⟩ => exact Fin.ext (show (r.val * 1024 + j.val) / 1024 = r.val by omega)
    | ⟨1, _⟩ => rfl
    | ⟨2, _⟩ => exact Fin.ext (show (r.val * 1024 + j.val) % 1024 = j.val by omega)
  have el (i : Fin 256) : lidx_main_v41 (ix2 r j) i = ix2 r i := by
    funext a; match a with | ⟨0, _⟩ => rfl | ⟨1, _⟩ => rfl
  have er (i : Fin 256) : idx_main_v39 (idx_main_v40 (ridx_main_v41 (ix2 r j) i)) = ix4 0 1 i j := by
    have hi := i.isLt
    funext a
    match a with
    | ⟨0, _⟩ => rfl
    | ⟨1, _⟩ => rfl
    | ⟨2, _⟩ => exact Fin.ext (show (i.val * 1024 + j.val) / 1024 % 256 = i.val by omega)
    | ⟨3, _⟩ => exact Fin.ext (show (i.val * 1024 + j.val) % 1024 = j.val by omega)
  unfold tm
  simp only [val_main_v42_apply, val_main_v38_apply, val_main_v37_apply, eg, gateval, val_main_v41_apply, val_main_v20_apply, val_main_v40_apply, val_main_v39_apply, el, er]
  rfl

/-- Branch 2's part of a mixed column. -/
theorem term2 (r : Fin 32768) (j : Fin 1024) :
    val_main_v49 (F := Ideal) x0 x3 x5 x7 x8 (ix2 r j)
      = tm (fun k => x0 (ix2 r k)) (fun k => x5 (ix2 0 k)) (gm x7) (br x1 x2 x4 x3 r) (fun n i j => x8 (ix4 0 n i j)) 2 j := by
  have hr := r.isLt
  have hj := j.isLt
  have eg : idx_main_v44 (idx_main_v45 (ix2 r j)) = ix3 r 2 j := by
    funext a
    match a with
    | ⟨0, _⟩ => exact Fin.ext (show (r.val * 1024 + j.val) / 1024 = r.val by omega)
    | ⟨1, _⟩ => rfl
    | ⟨2, _⟩ => exact Fin.ext (show (r.val * 1024 + j.val) % 1024 = j.val by omega)
  have el (i : Fin 256) : lidx_main_v48 (ix2 r j) i = ix2 r i := by
    funext a; match a with | ⟨0, _⟩ => rfl | ⟨1, _⟩ => rfl
  have er (i : Fin 256) : idx_main_v46 (idx_main_v47 (ridx_main_v48 (ix2 r j) i)) = ix4 0 2 i j := by
    have hi := i.isLt
    funext a
    match a with
    | ⟨0, _⟩ => rfl
    | ⟨1, _⟩ => rfl
    | ⟨2, _⟩ => exact Fin.ext (show (i.val * 1024 + j.val) / 1024 % 256 = i.val by omega)
    | ⟨3, _⟩ => exact Fin.ext (show (i.val * 1024 + j.val) % 1024 = j.val by omega)
  have ef (i : Fin 256) : idx_main_v22 (ix2 r i) = rowIx r i := by
    have hi := i.isLt
    funext a
    match a with
    | ⟨0, _⟩ => exact Fin.ext (show (r.val * 256 + i.val) / 2097152 = r.val / 8192 by omega)
    | ⟨1, _⟩ => exact Fin.ext (show (r.val * 256 + i.val) / 256 % 8192 = r.val % 8192 by omega)
    | ⟨2, _⟩ => exact Fin.ext (show (r.val * 256 + i.val) % 256 = i.val by omega)
  unfold tm
  simp only [val_main_v49_apply, val_main_v45_apply, val_main_v44_apply, eg, gateval, val_main_v48_apply, val_main_v22_apply, val_main_v21_apply, val_main_v47_apply, val_main_v46_apply, el, er, ef]
  rfl

/-- Branch 3's part of a mixed column. -/
theorem term3 (r : Fin 32768) (j : Fin 1024) :
    val_main_v56 (F := Ideal) x0 x4 x5 x7 x8 (ix2 r j)
      = tm (fun k => x0 (ix2 r k)) (fun k => x5 (ix2 0 k)) (gm x7) (br x1 x2 x4 x3 r) (fun n i j => x8 (ix4 0 n i j)) 3 j := by
  have hr := r.isLt
  have hj := j.isLt
  have eg : idx_main_v51 (idx_main_v52 (ix2 r j)) = ix3 r 3 j := by
    funext a
    match a with
    | ⟨0, _⟩ => exact Fin.ext (show (r.val * 1024 + j.val) / 1024 = r.val by omega)
    | ⟨1, _⟩ => rfl
    | ⟨2, _⟩ => exact Fin.ext (show (r.val * 1024 + j.val) % 1024 = j.val by omega)
  have el (i : Fin 256) : lidx_main_v55 (ix2 r j) i = ix2 r i := by
    funext a; match a with | ⟨0, _⟩ => rfl | ⟨1, _⟩ => rfl
  have er (i : Fin 256) : idx_main_v53 (idx_main_v54 (ridx_main_v55 (ix2 r j) i)) = ix4 0 3 i j := by
    have hi := i.isLt
    funext a
    match a with
    | ⟨0, _⟩ => rfl
    | ⟨1, _⟩ => rfl
    | ⟨2, _⟩ => exact Fin.ext (show (i.val * 1024 + j.val) / 1024 % 256 = i.val by omega)
    | ⟨3, _⟩ => exact Fin.ext (show (i.val * 1024 + j.val) % 1024 = j.val by omega)
  unfold tm
  simp only [val_main_v56_apply, val_main_v52_apply, val_main_v51_apply, eg, gateval, val_main_v55_apply, val_main_v23_apply, val_main_v54_apply, val_main_v53_apply, el, er]
  rfl

/-- A mixed column. -/
theorem mixed_eq (r : Fin 32768) (j : Fin 1024) :
    val_main_v57 (F := Ideal) x0 x1 x2 x3 x4 x5 x7 x8 (ix2 r j)
      = mcol (fun k => x0 (ix2 r k)) (fun k => x5 (ix2 0 k)) (gm x7) (br x1 x2 x4 x3 r) (fun n i j => x8 (ix4 0 n i j)) j := by
  unfold mcol
  rw [val_main_v57_apply, val_main_v50_apply, val_main_v43_apply, term0 x0 x1 x2 x4 x3, term1 x0 x1 x2 x4 x3, term2 x0 x1 x2 x4 x3, term3 x0 x1 x2 x4 x3]
  rfl

/-- The output product. -/
theorem second (r : Fin 32768) (n : Fin 1024) :
    val_main_v60 (F := Ideal) x0 x1 x2 x3 x4 x5 x7 x8 x9 (ix2 r n)
      = ∑ j, mcol (fun k => x0 (ix2 r k)) (fun k => x5 (ix2 0 k)) (gm x7) (br x1 x2 x4 x3 r) (fun n i j => x8 (ix4 0 n i j)) j * x9 (ix3 0 j n) := by
  rw [val_main_v60_apply]
  refine Finset.sum_congr rfl fun j _ => ?_
  have el : lidx_main_v60 (ix2 r n) j = ix2 r j := by
    funext a; match a with | ⟨0, _⟩ => rfl | ⟨1, _⟩ => rfl
  have er : idx_main_v58 (idx_main_v59 (ridx_main_v60 (ix2 r n) j)) = ix3 0 j n := by
    have hj := j.isLt
    have hn := n.isLt
    funext a
    match a with
    | ⟨0, _⟩ => rfl
    | ⟨1, _⟩ => exact Fin.ext (show (j.val * 1024 + n.val) / 1024 % 1024 = j.val by omega)
    | ⟨2, _⟩ => exact Fin.ext (show (j.val * 1024 + n.val) % 1024 = n.val by omega)
  rw [el, mixed_eq, val_main_v59_apply, val_main_v58_apply, er]

/-- The second norm. -/
theorem norm2 (r : Fin 32768) (n : Fin 1024) :
    val_main_v75 (F := Ideal) x0 x1 x2 x3 x4 x5 x6 x7 x8 x9 (ix2 r n)
      = rn (fun n => ∑ j, mcol (fun k => x0 (ix2 r k)) (fun k => x5 (ix2 0 k)) (gm x7) (br x1 x2 x4 x3 r) (fun n i j => x8 (ix4 0 n i j)) j * x9 (ix3 0 j n)) (fun k => x6 (ix2 0 k)) n := by
  have e0 (k : Fin 1024) : idx_main_v64 (idx_main_v65 (idx_main_v71 (ix2 r n))) k = ix2 r k := by
    funext a; match a with | ⟨0, _⟩ => rfl | ⟨1, _⟩ => rfl
  have e1 : idx_main_v61 (idx_main_v62 (idx_main_v73 (idx_main_v74 (ix2 r n)))) = ix2 0 n := by
    funext a
    match a with
    | ⟨0, _⟩ => rfl
    | ⟨1, _⟩ => exact Fin.ext (Nat.mod_eq_of_lt n.isLt)
  unfold rn
  simp only [val_main_v75_apply, val_main_v72_apply, val_main_v71_apply, val_main_v70_apply, val_main_v69_apply, val_main_v68_apply, val_main_v67_apply, val_main_v66_apply,
    val_main_v65_apply, val_main_v64_apply, val_main_v63_apply, val_main_v62_apply, val_main_v61_apply, val_main_v73_apply, val_main_v74_apply, val_main_cst_4_apply, val_main_cst_5_apply, val_main_cst_6_apply, e0, e1, second]
  generalize (fun n : Fin 1024 => ∑ j, mcol (fun k => x0 (ix2 r k)) (fun k => x5 (ix2 0 k)) (gm x7) (br x1 x2 x4 x3 r) (fun n i j => x8 (ix4 0 n i j)) j * x9 (ix3 0 j n)) = h
  show _ * Ideal.rsqrt (Ideal.div (Ideal.ofBits .f32 0x00000000#32 + ∑ k, _ * _) _ + _) * _ = _
  rw [Ideal.ofBits_zero_f32, zero_add]
  rfl

/-- The reference is the end of the mixer of every row. -/
theorem ref_eq : val_main_v76 (F := Ideal) x0 x1 x2 x3 x4 x5 x6 x7 x8 x9 = result x0 x1 x2 x3 x4 x5 x6 x7 x8 x9 := by
  funext y
  obtain ⟨r, n, rfl⟩ : ∃ (r : Fin 32768) (n : Fin 1024), y = ix2 r n := ⟨y 0, y 1, eq_ix2 y⟩
  rw [val_main_v76_apply, norm2]
  rfl

end Cert.Proof.Back.Ref
-- ==== Proof.Front.Outs.lean ====
module

public import proofs.«01_k».proof.Proof.Gen.Kernel4Ideal.Frame.RunB
public import Idealize.ShloMosaic.Lib.Claim

@[expose] public section

set_option maxRecDepth 16384

noncomputable section

namespace Cert.Proof.Front

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a point that begins a batch: what it stores, buffer by buffer. -/
abbrev runA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at any other point, over what the point before left in the two scratch buffers. -/
abbrev runB (c : Dev nD) (t : Fin cfg0.N) (h0 : ¬t.val % 8 = 0) (xs0 : Vec F S1064x256 .f32) (xs1 : Vec F S1040x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs0 xs1

/-! ## The stores cover every buffer -/

theorem coverA13 (c : Dev nD) (t : Fin cfg0.N) (h0 : t.val % 8 = 0) (y : S1024x256.Idx) : ∃ pc ∈ (runA m c t h0).1, y ∈ pc.1.set :=
  View.cover_of_tiledL (runA m c t h0).1 S128x256.size (by sl_kernel_rfl) y

theorem coverA14 (c : Dev nD) (t : Fin cfg0.N) (h0 : t.val % 8 = 0) (y : S1024x256.Idx) : ∃ pc ∈ (runA m c t h0).2.1, y ∈ pc.1.set :=
  View.cover_of_tiledL (runA m c t h0).2.1 S512x256.size (by sl_kernel_rfl) y

theorem coverA15 (c : Dev nD) (t : Fin cfg0.N) (h0 : t.val % 8 = 0) (y : S1024x256.Idx) : ∃ pc ∈ (runA m c t h0).2.2.1, y ∈ pc.1.set :=
  View.cover_of_tiledL (runA m c t h0).2.2.1 S128x256.size (by sl_kernel_rfl) y

theorem coverA16 (c : Dev nD) (t : Fin cfg0.N) (h0 : t.val % 8 = 0) (y : S1024x256.Idx) : ∃ pc ∈ (runA m c t h0).2.2.2.1, y ∈ pc.1.set :=
  View.cover_of_tiledL (runA m c t h0).2.2.2.1 S512x256.size (by sl_kernel_rfl) y

theorem coverA17 (c : Dev nD) (t : Fin cfg0.N) (h0 : t.val % 8 = 0) (y : S1024x128.Idx) : ∃ pc ∈ (runA m c t h0).2.2.2.2.1, y ∈ pc.1.set :=
  View.cover_of_tiledL (runA m c t h0).2.2.2.2.1 S512x128.size (by sl_kernel_rfl) y

theorem coverA18 (c : Dev nD) (t : Fin cfg0.N) (h0 : t.val % 8 = 0) (y : S1x4x256x256.Idx) : ∃ pc ∈ (runA m c t h0).2.2.2.2.2.1, y ∈ pc.1.set :=
  View.cover_of_tiledL (runA m c t h0).2.2.2.2.2.1 S1x1x256x256.size (by sl_kernel_rfl) y

theorem coverA19 (c : Dev nD) (t : Fin cfg0.N) (h0 : t.val % 8 = 0) (y : S1x4x256x256.Idx) : ∃ pc ∈ (runA m c t h0).2.2.2.2.2.2.1, y ∈ pc.1.set :=
  View.cover_of_tiledL (runA m c t h0).2.2.2.2.2.2.1 S1x1x256x256.size (by sl_kernel_rfl) y

theorem coverA20 (c : Dev nD) (t : Fin cfg0.N) (h0 : t.val % 8 = 0) (y : S1x4x128x256.Idx) : ∃ pc ∈ (runA m c t h0).2.2.2.2.2.2.2.1, y ∈ pc.1.set :=
  View.cover_of_tiledL (runA m c t h0).2.2.2.2.2.2.2.1 S1x1x128x256.size (by sl_kernel_rfl) y

theorem coverA21 (c : Dev nD) (t : Fin cfg0.N) (h0 : t.val % 8 = 0) (y : S1x4x8x256.Idx) : ∃ pc ∈ (runA m c t h0).2.2.2.2.2.2.2.2.1, y ∈ pc.1.set :=
  View.cover_of_tiledL (runA m c t h0).2.2.2.2.2.2.2.2.1 S1x1x8x256.size (by sl_kernel_rfl) y

theorem scoverA0 (c : Dev nD) (t : Fin cfg0.N) (h0 : t.val % 8 = 0) (y : S1064x256.Idx) : ∃ pc ∈ (runA m c t h0).2.2.2.2.2.2.2.2.2.1, y ∈ pc.1.set :=
  View.cover_of_wholeMem (runA m c t h0).2.2.2.2.2.2.2.2.2.1 (by sl_whole_mem) y

theorem scoverA1 (c : Dev nD) (t : Fin cfg0.N) (h0 : t.val % 8 = 0) (y : S1040x256.Idx) : ∃ pc ∈ (runA m c t h0).2.2.2.2.2.2.2.2.2.2.1, y ∈ pc.1.set :=
  View.cover_of_tiledBy (runA m c t h0).2.2.2.2.2.2.2.2.2.2.1 ![16, 256] (by sl_kernel_rfl) y

theorem coverB13 (c : Dev nD) (t : Fin cfg0.N) (h0 : ¬t.val % 8 = 0) (xs0 : Vec F S1064x256 .f32) (xs1 : Vec F S1040x256 .f32) (y : S1024x256.Idx) : ∃ pc ∈ (runB m c t h0 xs0 xs1).1, y ∈ pc.1.set :=
  View.cover_of_tiledL (runB m c t h0 xs0 xs1).1 S128x256.size (by sl_kernel_rfl) y

theorem coverB14 (c : Dev nD) (t : Fin cfg0.N) (h0 : ¬t.val % 8 = 0) (xs0 : Vec F S1064x256 .f32) (xs1 : Vec F S1040x256 .f32) (y : S1024x256.Idx) : ∃ pc ∈ (runB m c t h0 xs0 xs1).2.1, y ∈ pc.1.set :=
  View.cover_of_tiledL (runB m c t h0 xs0 xs1).2.1 S512x256.size (by sl_kernel_rfl) y

theorem coverB15 (c : Dev nD) (t : Fin cfg0.N) (h0 : ¬t.val % 8 = 0) (xs0 : Vec F S1064x256 .f32) (xs1 : Vec F S1040x256 .f32) (y : S1024x256.Idx) : ∃ pc ∈ (runB m c t h0 xs0 xs1).2.2.1, y ∈ pc.1.set :=
  View.cover_of_tiledL (runB m c t h0 xs0 xs1).2.2.1 S128x256.size (by sl_kernel_rfl) y

theorem coverB16 (c : Dev nD) (t : Fin cfg0.N) (h0 : ¬t.val % 8 = 0) (xs0 : Vec F S1064x256 .f32) (xs1 : Vec F S1040x256 .f32) (y : S1024x256.Idx) : ∃ pc ∈ (runB m c t h0 xs0 xs1).2.2.2.1, y ∈ pc.1.set :=
  View.cover_of_tiledL (runB m c t h0 xs0 xs1).2.2.2.1 S512x256.size (by sl_kernel_rfl) y

theorem coverB17 (c : Dev nD) (t : Fin cfg0.N) (h0 : ¬t.val % 8 = 0) (xs0 : Vec F S1064x256 .f32) (xs1 : Vec F S1040x256 .f32) (y : S1024x128.Idx) : ∃ pc ∈ (runB m c t h0 xs0 xs1).2.2.2.2.1, y ∈ pc.1.set :=
  View.cover_of_tiledL (runB m c t h0 xs0 xs1).2.2.2.2.1 S512x128.size (by sl_kernel_rfl) y

theorem coverB18 (c : Dev nD) (t : Fin cfg0.N) (h0 : ¬t.val % 8 = 0) (xs0 : Vec F S1064x256 .f32) (xs1 : Vec F S1040x256 .f32) (y : S1x4x256x256.Idx) : ∃ pc ∈ (runB m c t h0 xs0 xs1).2.2.2.2.2.1, y ∈ pc.1.set :=
  View.cover_of_tiledL (runB m c t h0 xs0 xs1).2.2.2.2.2.1 S1x1x256x256.size (by sl_kernel_rfl) y

theorem coverB19 (c : Dev nD) (t : Fin cfg0.N) (h0 : ¬t.val % 8 = 0) (xs0 : Vec F S1064x256 .f32) (xs1 : Vec F S1040x256 .f32) (y : S1x4x256x256.Idx) : ∃ pc ∈ (runB m c t h0 xs0 xs1).2.2.2.2.2.2.1, y ∈ pc.1.set :=
  View.cover_of_tiledL (runB m c t h0 xs0 xs1).2.2.2.2.2.2.1 S1x1x256x256.size (by sl_kernel_rfl) y

theorem coverB20 (c : Dev nD) (t : Fin cfg0.N) (h0 : ¬t.val % 8 = 0) (xs0 : Vec F S1064x256 .f32) (xs1 : Vec F S1040x256 .f32) (y : S1x4x128x256.Idx) : ∃ pc ∈ (runB m c t h0 xs0 xs1).2.2.2.2.2.2.2.1, y ∈ pc.1.set :=
  View.cover_of_tiledL (runB m c t h0 xs0 xs1).2.2.2.2.2.2.2.1 S1x1x128x256.size (by sl_kernel_rfl) y

theorem coverB21 (c : Dev nD) (t : Fin cfg0.N) (h0 : ¬t.val % 8 = 0) (xs0 : Vec F S1064x256 .f32) (xs1 : Vec F S1040x256 .f32) (y : S1x4x8x256.Idx) : ∃ pc ∈ (runB m c t h0 xs0 xs1).2.2.2.2.2.2.2.2.1, y ∈ pc.1.set :=
  View.cover_of_tiledL (runB m c t h0 xs0 xs1).2.2.2.2.2.2.2.2.1 S1x1x8x256.size (by sl_kernel_rfl) y

theorem scoverB1 (c : Dev nD) (t : Fin cfg0.N) (h0 : ¬t.val % 8 = 0) (xs0 : Vec F S1064x256 .f32) (xs1 : Vec F S1040x256 .f32) (y : S1040x256.Idx) : ∃ pc ∈ (runB m c t h0 xs0 xs1).2.2.2.2.2.2.2.2.2.2.1, y ∈ pc.1.set :=
  View.cover_of_tiledBy (runB m c t h0 xs0 xs1).2.2.2.2.2.2.2.2.2.2.1 ![16, 256] (by sl_kernel_rfl) y

/-- What a point leaves in the nine results' buffers and the two scratch buffers. -/
abbrev Left (F : FTy → Type) := Vec F S1024x256 .bf16 × Vec F S1024x256 .bf16 × Vec F S1024x256 .bf16 × Vec F S1024x256 .bf16 × Vec F S1024x128 .bf16 × Vec F S1x4x256x256 .bf16 × Vec F S1x4x256x256 .bf16 × Vec F S1x4x128x256 .bf16 × Vec F S1x4x8x256 .f32 × Vec F S1064x256 .f32 × Vec F S1040x256 .f32

/-- What is left by a point that begins a batch. -/
def leftA (c : Dev nD) (t : Fin cfg0.N) (h0 : t.val % 8 = 0) : Left F :=
  (VO0_13.read (Elt F) (VO0_13.writes (Elt F) VO0_13.junk (runA m c t h0).1),
    VO0_14.read (Elt F) (VO0_14.writes (Elt F) VO0_14.junk (runA m c t h0).2.1),
    VO0_15.read (Elt F) (VO0_15.writes (Elt F) VO0_15.junk (runA m c t h0).2.2.1),
    VO0_16.read (Elt F) (VO0_16.writes (Elt F) VO0_16.junk (runA m c t h0).2.2.2.1),
    VO0_17.read (Elt F) (VO0_17.writes (Elt F) VO0_17.junk (runA m c t h0).2.2.2.2.1),
    VO0_18.read (Elt F) (VO0_18.writes (Elt F) VO0_18.junk (runA m c t h0).2.2.2.2.2.1),
    VO0_19.read (Elt F) (VO0_19.writes (Elt F) VO0_19.junk (runA m c t h0).2.2.2.2.2.2.1),
    VO0_20.read (Elt F) (VO0_20.writes (Elt F) VO0_20.junk (runA m c t h0).2.2.2.2.2.2.2.1),
    VO0_21.read (Elt F) (VO0_21.writes (Elt F) VO0_21.junk (runA m c t h0).2.2.2.2.2.2.2.2.1),
    VS0_0.read (Elt F) (VS0_0.writes (Elt F) VS0_0.junk (runA m c t h0).2.2.2.2.2.2.2.2.2.1),
    VS0_1.read (Elt F) (VS0_1.writes (Elt F) VS0_1.junk (runA m c t h0).2.2.2.2.2.2.2.2.2.2.1))

/-- What is left by a point that does not begin a batch. -/
def leftB (c : Dev nD) (t : Fin cfg0.N) (h0 : ¬t.val % 8 = 0) (xs0 : Vec F S1064x256 .f32) (xs1 : Vec F S1040x256 .f32) : Left F :=
  (VO0_13.read (Elt F) (VO0_13.writes (Elt F) VO0_13.junk (runB m c t h0 xs0 xs1).1),
    VO0_14.read (Elt F) (VO0_14.writes (Elt F) VO0_14.junk (runB m c t h0 xs0 xs1).2.1),
    VO0_15.read (Elt F) (VO0_15.writes (Elt F) VO0_15.junk (runB m c t h0 xs0 xs1).2.2.1),
    VO0_16.read (Elt F) (VO0_16.writes (Elt F) VO0_16.junk (runB m c t h0 xs0 xs1).2.2.2.1),
    VO0_17.read (Elt F) (VO0_17.writes (Elt F) VO0_17.junk (runB m c t h0 xs0 xs1).2.2.2.2.1),
    VO0_18.read (Elt F) (VO0_18.writes (Elt F) VO0_18.junk (runB m c t h0 xs0 xs1).2.2.2.2.2.1),
    VO0_19.read (Elt F) (VO0_19.writes (Elt F) VO0_19.junk (runB m c t h0 xs0 xs1).2.2.2.2.2.2.1),
    VO0_20.read (Elt F) (VO0_20.writes (Elt F) VO0_20.junk (runB m c t h0 xs0 xs1).2.2.2.2.2.2.2.1),
    VO0_21.read (Elt F) (VO0_21.writes (Elt F) VO0_21.junk (runB m c t h0 xs0 xs1).2.2.2.2.2.2.2.2.1),
    scM0_0.view.read (Elt F) (scM0_0.view.writes (Elt F) ((Memref.isWhole_whole _ : scM0_0.IsWhole).unread xs0) (runB m c t h0 xs0 xs1).2.2.2.2.2.2.2.2.2.1),
    VS0_1.read (Elt F) (VS0_1.writes (Elt F) VS0_1.junk (runB m c t h0 xs0 xs1).2.2.2.2.2.2.2.2.2.2.1))

end Cert.Proof.Front
-- ==== Proof.Front.Frame.lean ====
module

public import proofs.«01_k».proof.Proof.Front.Outs

@[expose] public section

set_option maxRecDepth 16384

noncomputable section

namespace Cert.Proof.Front

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each point leaves, from the first on. -/
def outsAt (c : Dev nD) : (n : ℕ) → n < cfg0.N → Left F
  | 0, hn => leftA m c ⟨0, hn⟩ (Nat.zero_mod 8)
  | n + 1, hn =>
    if h0 : (n + 1) % 8 = 0 then leftA m c ⟨n + 1, hn⟩ h0
    else leftB m c ⟨n + 1, hn⟩ h0 (outsAt c n (Nat.lt_of_succ_lt hn)).2.2.2.2.2.2.2.2.2.1 (outsAt c n (Nat.lt_of_succ_lt hn)).2.2.2.2.2.2.2.2.2.2

theorem outsAt_A (c : Dev nD) (t : Fin cfg0.N) (h0 : t.val % 8 = 0) : outsAt m c t.val t.isLt = leftA m c t h0 := by
  obtain ⟨n, hn⟩ := t
  cases n with
  | zero => exact rfl
  | succ n => exact (dif_pos h0).trans rfl

theorem outsAt_B (c : Dev nD) (t : Fin cfg0.N) (h0 : ¬t.val % 8 = 0) :
    outsAt m c t.val t.isLt = leftB m c t h0 (outsAt m c (t.val - 1) (Nat.lt_of_le_of_lt (Nat.sub_le _ _) t.isLt)).2.2.2.2.2.2.2.2.2.1 (outsAt m c (t.val - 1) (Nat.lt_of_le_of_lt (Nat.sub_le _ _) t.isLt)).2.2.2.2.2.2.2.2.2.2 := by
  obtain ⟨n, hn⟩ := t
  cases n with
  | zero => exact absurd (Nat.zero_mod 8) h0
  | succ n => exact (dif_neg h0).trans rfl

/-! The invariant between points, the pipeline's data, and the body at every point. -/

def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.2.2.2.2.2.2.1) ∗ owns (c : Thread nD τ) scM0_1 fullShare ((outsAt m c n hn).2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.2.2.2.2.2.2.2.2.1) ∗ owns (c : Thread nD τ) scM0_1 fullShare ((outsAt m c n hn).2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2.2.2.2.2.2.2.2.1) ∗ owns (c : Thread nD τ) scM0_1 fullShare ((outsAt m c (n - 1) (by omega)).2.2.2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt m c t.val t.isLt).1
    | ⟨14, _⟩ => (outsAt m c t.val t.isLt).2.1
    | ⟨15, _⟩ => (outsAt m c t.val t.isLt).2.2.1
    | ⟨16, _⟩ => (outsAt m c t.val t.isLt).2.2.2.1
    | ⟨17, _⟩ => (outsAt m c t.val t.isLt).2.2.2.2.1
    | ⟨18, _⟩ => (outsAt m c t.val t.isLt).2.2.2.2.2.1
    | ⟨19, _⟩ => (outsAt m c t.val t.isLt).2.2.2.2.2.2.1
    | ⟨20, _⟩ => (outsAt m c t.val t.isLt).2.2.2.2.2.2.2.1
    | ⟨21, _⟩ => (outsAt m c t.val t.isLt).2.2.2.2.2.2.2.2.1
    | ⟨_ + 22, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt m c t.val t.isLt).1 := by dsimp only [dats]
theorem after0_14 (c : Dev nD) (t : Fin cfg0.N) : (dats m 0 c).after 14 t = (outsAt m c t.val t.isLt).2.1 := by dsimp only [dats]
theorem after0_15 (c : Dev nD) (t : Fin cfg0.N) : (dats m 0 c).after 15 t = (outsAt m c t.val t.isLt).2.2.1 := by dsimp only [dats]
theorem after0_16 (c : Dev nD) (t : Fin cfg0.N) : (dats m 0 c).after 16 t = (outsAt m c t.val t.isLt).2.2.2.1 := by dsimp only [dats]
theorem after0_17 (c : Dev nD) (t : Fin cfg0.N) : (dats m 0 c).after 17 t = (outsAt m c t.val t.isLt).2.2.2.2.1 := by dsimp only [dats]
theorem after0_18 (c : Dev nD) (t : Fin cfg0.N) : (dats m 0 c).after 18 t = (outsAt m c t.val t.isLt).2.2.2.2.2.1 := by dsimp only [dats]
theorem after0_19 (c : Dev nD) (t : Fin cfg0.N) : (dats m 0 c).after 19 t = (outsAt m c t.val t.isLt).2.2.2.2.2.2.1 := by dsimp only [dats]
theorem after0_20 (c : Dev nD) (t : Fin cfg0.N) : (dats m 0 c).after 20 t = (outsAt m c t.val t.isLt).2.2.2.2.2.2.2.1 := by dsimp only [dats]
theorem after0_21 (c : Dev nD) (t : Fin cfg0.N) : (dats m 0 c).after 21 t = (outsAt m c t.val t.isLt).2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases hz : t.val = 0
    · rw [PhiS_castSucc m c t, PhiS_zero m c _ _ hz, PhiA0_eq]
      rw [outsAt_A m c t h0]
      unfold leftA; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t h0).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 m c t h0)
          unfold owns; iexists _; isplitr
          swap; · iexact HS1
          ipureintro; exact View.read_writes_of_cover _ _ _ _ _ (scoverA1 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA13 m c t h0)
      isplitl [H14]
      · unfold owns; iexists _; isplitr
        swap; · iexact H14
        ipureintro; exact View.read_writes_of_cover _ _ _ _ _ (coverA14 m c t h0)
      isplitl [H15]
      · unfold owns; iexists _; isplitr
        swap; · iexact H15
        ipureintro; exact View.read_writes_of_cover _ _ _ _ _ (coverA15 m c t h0)
      isplitl [H16]
      · unfold owns; iexists _; isplitr
        swap; · iexact H16
        ipureintro; exact View.read_writes_of_cover _ _ _ _ _ (coverA16 m c t h0)
      isplitl [H17]
      · unfold owns; iexists _; isplitr
        swap; · iexact H17
        ipureintro; exact View.read_writes_of_cover _ _ _ _ _ (coverA17 m c t h0)
      isplitl [H18]
      · unfold owns; iexists _; isplitr
        swap; · iexact H18
        ipureintro; exact View.read_writes_of_cover _ _ _ _ _ (coverA18 m c t h0)
      isplitl [H19]
      · unfold owns; iexists _; isplitr
        swap; · iexact H19
        ipureintro; exact View.read_writes_of_cover _ _ _ _ _ (coverA19 m c t h0)
      isplitl [H20]
      · unfold owns; iexists _; isplitr
        swap; · iexact H20
        ipureintro; exact View.read_writes_of_cover _ _ _ _ _ (coverA20 m c t h0)
      unfold owns; iexists _; isplitr
      swap; · iexact H21
      ipureintro; exact View.read_writes_of_cover _ _ _ _ _ (coverA21 m c t h0)
    · rw [PhiS_castSucc m c t, PhiS_pos m c _ _ hz]
      rw [outsAt_A m c t h0]
      unfold leftA; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t h0).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexists _; iexact HS0
      isplitl [HS1]; · iexists _; iexact HS1
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 m c t h0)
          unfold owns; iexists _; isplitr
          swap; · iexact HS1
          ipureintro; exact View.read_writes_of_cover _ _ _ _ _ (scoverA1 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA13 m c t h0)
      isplitl [H14]
      · unfold owns; iexists _; isplitr
        swap; · iexact H14
        ipureintro; exact View.read_writes_of_cover _ _ _ _ _ (coverA14 m c t h0)
      isplitl [H15]
      · unfold owns; iexists _; isplitr
        swap; · iexact H15
        ipureintro; exact View.read_writes_of_cover _ _ _ _ _ (coverA15 m c t h0)
      isplitl [H16]
      · unfold owns; iexists _; isplitr
        swap; · iexact H16
        ipureintro; exact View.read_writes_of_cover _ _ _ _ _ (coverA16 m c t h0)
      isplitl [H17]
      · unfold owns; iexists _; isplitr
        swap; · iexact H17
        ipureintro; exact View.read_writes_of_cover _ _ _ _ _ (coverA17 m c t h0)
      isplitl [H18]
      · unfold owns; iexists _; isplitr
        swap; · iexact H18
        ipureintro; exact View.read_writes_of_cover _ _ _ _ _ (coverA18 m c t h0)
      isplitl [H19]
      · unfold owns; iexists _; isplitr
        swap; · iexact H19
        ipureintro; exact View.read_writes_of_cover _ _ _ _ _ (coverA19 m c t h0)
      isplitl [H20]
      · unfold owns; iexists _; isplitr
        swap; · iexact H20
        ipureintro; exact View.read_writes_of_cover _ _ _ _ _ (coverA20 m c t h0)
      unfold owns; iexists _; isplitr
      swap; · iexact H21
      ipureintro; exact View.read_writes_of_cover _ _ _ _ _ (coverA21 m c t h0)
  · by_cases hz : t.val = 0
    · exfalso; have hN : t.val < 32 := lt_of_lt_of_eq t.isLt (show cfg0.N = 32 from N_0); omega
    · rw [PhiS_castSucc m c t, PhiS_pos m c _ _ hz]
      rw [outsAt_B m c t h0]
      unfold leftB; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runB m c t h0 _ _).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, HS0, ⟨%es1, HS1⟩⟩
      isplitl [HS0 HS1 Hg]
      · isplitl [HS0 HS1]
        · isplitl [HS0]
          · unfold owns; iexists _; isplitr
            swap; · iexact HS0
            ipureintro; rfl
          unfold owns; iexists _; isplitr
          swap; · iexact HS1
          ipureintro; exact View.read_writes_of_cover _ _ _ _ _ (scoverB1 m c t h0 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverB13 m c t h0 _ _)
      isplitl [H14]
      · unfold owns; iexists _; isplitr
        swap; · iexact H14
        ipureintro; exact View.read_writes_of_cover _ _ _ _ _ (coverB14 m c t h0 _ _)
      isplitl [H15]
      · unfold owns; iexists _; isplitr
        swap; · iexact H15
        ipureintro; exact View.read_writes_of_cover _ _ _ _ _ (coverB15 m c t h0 _ _)
      isplitl [H16]
      · unfold owns; iexists _; isplitr
        swap; · iexact H16
        ipureintro; exact View.read_writes_of_cover _ _ _ _ _ (coverB16 m c t h0 _ _)
      isplitl [H17]
      · unfold owns; iexists _; isplitr
        swap; · iexact H17
        ipureintro; exact View.read_writes_of_cover _ _ _ _ _ (coverB17 m c t h0 _ _)
      isplitl [H18]
      · unfold owns; iexists _; isplitr
        swap; · iexact H18
        ipureintro; exact View.read_writes_of_cover _ _ _ _ _ (coverB18 m c t h0 _ _)
      isplitl [H19]
      · unfold owns; iexists _; isplitr
        swap; · iexact H19
        ipureintro; exact View.read_writes_of_cover _ _ _ _ _ (coverB19 m c t h0 _ _)
      isplitl [H20]
      · unfold owns; iexists _; isplitr
        swap; · iexact H20
        ipureintro; exact View.read_writes_of_cover _ _ _ _ _ (coverB20 m c t h0 _ _)
      unfold owns; iexists _; isplitr
      swap; · iexact H21
      ipureintro; exact View.read_writes_of_cover _ _ _ _ _ (coverB21 m c t h0 _ _)

end Cert.Proof.Front
-- ==== Proof.Front.Run.lean ====
module

public import proofs.«01_k».proof.Proof.Front.Frame

@[expose] public section

set_option maxRecDepth 16384

noncomputable section

namespace Cert.Proof.Front

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

theorem post13 (r : PUnit × MemSt nD τ sig (Elt F)) (h : Pipeline.FramePost cfgs (dats m) 0 (V m) r) (c : Dev nD) :
    r.2.mem ((c : Thread nD τ).loc main_v79_0) = (dats m 0 c).arrAt 13 cfg0.N :=
  (h c).1 13

theorem post16 (r : PUnit × MemSt nD τ sig (Elt F)) (h : Pipeline.FramePost cfgs (dats m) 0 (V m) r) (c : Dev nD) :
    r.2.mem ((c : Thread nD τ).loc main_v79_3) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v79_4) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v79_5) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v79_6) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v79_7) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v79_8) = (dats m 0 c).arrAt 21 cfg0.N :=
  (h c).1 21

end Cert.Proof.Front
-- ==== Proof.Front.Math.lean ====
module

public import proofs.«01_k».proof.Proof.Gen.Kernel4Ideal.Skeleton
public import Idealize.ShloMosaic.Lib.Tactic
public import Idealize.ShloMosaic.Lib.Pointwise

@[expose] public section

noncomputable section

namespace Cert.Proof.Front

open Cert.Kernel4Ideal Cert.Kernel4Ideal.Gen
open Idealize.ShloMosaic Idealize.ShloMosaic.TcCoe Idealize.ShloMosaic.Tactic Idealize.SL.Sem

variable {F : FTy → Type} [FloatOps F]

/-- The RMS norm of 512 rows, scaled column by column. -/
def nx (v : FVec F S512x1024 .f32) (g : FVec F S1x1024 .f32) : FVec F S512x1024 .bf16 :=
  truncf .bf16 (mulf (mulf v (broadcastTo S512x1024 (rsqrt (addf (divf (shapeCast S512x1 (multiReduction .add [1] S512 (mulf v v) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)) bitsLt_bf16_f32

/-- A product with 256 columns of the first matrix. -/
def zk (xn : FVec F S512x1024 .bf16) (w : FVec F S1024x256 .bf16) : FVec F S512x256 .f32 :=
  matmul dot_S512x1024_S1024x256_S512x256_1_0_0_1_n_n none xn (shapeCast S1024x256 w shapeCasts_S1024x256_S1024x256) (constant S512x256 .f32 0x00000000#32)

/-- The transposed product with the second matrix. -/
def zt (xn : FVec F S512x1024 .bf16) (w : FVec F S656x1024 .bf16) : FVec F S656x512 .f32 :=
  matmul dot_S656x1024_S512x1024_S656x512_1_1_0_0_n_n none (shapeCast S656x1024 w shapeCasts_S656x1024_S656x1024) xn (constant S656x512 .f32 0x00000000#32)

/-- 256 rows of the transposed product at 256 positions, as stored. -/
def tv (z : FVec F S656x512 .f32) (o : Fin 2 → ℕ) (h : S656x512.Slices o S256x256) : FVec F S1x1x256x256 .bf16 :=
  shapeCast S1x1x256x256 (truncf .bf16 (extractStridedSlice S256x256 o z h) bitsLt_bf16_f32) shapeCasts_S256x256_S1x1x256x256

/-- 128 rows of the transposed product at 256 positions, as stored. -/
def tq (z : FVec F S656x512 .f32) (o : Fin 2 → ℕ) (h : S656x512.Slices o S128x256) : FVec F S1x1x128x256 .bf16 :=
  shapeCast S1x1x128x256 (truncf .bf16 (extractStridedSlice S128x256 o z h) bitsLt_bf16_f32) shapeCasts_S128x256_S1x1x128x256

/-- 256 rows of the transposed product at 256 positions, scaled, as stored. -/
def ts (z : FVec F S656x512 .f32) (o : Fin 2 → ℕ) (h : S656x512.Slices o S256x256) : FVec F S1x1x256x256 .bf16 :=
  shapeCast S1x1x256x256 (truncf .bf16 (mulf (extractStridedSlice S256x256 o z h) (broadcast S256x256 (Scalar.ofBits .f32 0x3E38AA3B#32))) bitsLt_bf16_f32) shapeCasts_S256x256_S1x1x256x256

/-- Eight rows of the transposed product at 256 positions, as stored. -/
def tw (z : FVec F S656x512 .f32) (o : Fin 2 → ℕ) (h : S656x512.Slices o S8x256) : FVec F S1x1x8x256 .f32 :=
  shapeCast S1x1x8x256 (extractStridedSlice S8x256 o z h) shapeCasts_S8x256_S1x1x8x256

/-- A product with 128 columns of the first matrix. -/
def zi (xn : FVec F S512x1024 .bf16) (w : FVec F S1024x128 .bf16) : FVec F S512x128 .f32 :=
  matmul dot_S512x1024_S1024x128_S512x128_1_0_0_1_n_n none xn (shapeCast S1024x128 w shapeCasts_S1024x128_S1024x128) (constant S512x128 .f32 0x00000000#32)

/-- The gelu in its hyperbolic tangent form. -/
def gel (z : FVec F S512x256 .f32) : FVec F S512x256 .f32 :=
  mulf z (mulf (broadcast S512x256 (Scalar.ofBits .f32 0x3F000000#32)) (addf (broadcast S512x256 (Scalar.ofBits .f32 0x3F800000#32))
    (tanh (mulf (broadcast S512x256 (Scalar.ofBits .f32 0x3F4C422A#32)) (addf z (mulf (broadcast S512x256 (Scalar.ofBits .f32 0x3D372713#32)) (mulf z (mulf z z))))))))

/-- The RMS norm of 256 columns, scaled. -/
def nv (v : FVec F S512x256 .f32) (g : FVec F S1x256 .f32) : FVec F S512x256 .f32 :=
  mulf (mulf v (broadcastTo S512x256 (rsqrt (addf (divf (shapeCast S512x1 (multiReduction .add [1] S512 (mulf v v) 0x00000000#32 reduces_S512x256_S512 (.inl rfl) rfl) shapeCasts_S512_S512x1)
    (broadcast S512x1 (Scalar.ofBits .f32 0x43800000#32))) (broadcast S512x1 (Scalar.ofBits .f32 0x358637BD#32)))) broadcasts_S512x1_S512x256))
    (broadcastTo S512x256 (shapeCast S1x256 g shapeCasts_S1x256_S1x256) broadcasts_S1x256_S512x256)

/-- The group of 64 columns a column lies in. -/
def lane : IVec S128x256 32 := k0_pay7 (iota .tc S128x256 32 [1] iota_S128x256_d1_w32) 64#32 k0_pay6

/-- 128 rows with every column outside group `g` set to zero. -/
def grp (v : FVec F S128x256 .f32) (g : BitVec 32) : FVec F S128x256 .f32 :=
  select (cmpi .eq lane (broadcast S128x256 g)) v (broadcast S128x256 (Scalar.ofBits .f32 0x00000000#32))

/-- The four groups below one another. -/
def stack (v : FVec F S128x256 .f32) : FVec F S512x256 .f32 :=
  concatenate S512x256 0 [⟨S128x256, grp v 0#32⟩, ⟨S128x256, grp v 1#32⟩, ⟨S128x256, grp v 2#32⟩, ⟨S128x256, grp v 3#32⟩] concatenates_S128x256_S128x256_S128x256_S128x256_S512x256_d0

/-- One chunk of 128 rows of the gated mixer. -/
def gchunk (M : FVec F S128x512 .f32) (U V : FVec F S512x256 .f32) (b : FVec F S128x256 .f32) (o : Fin 2 → ℕ) (h : S512x256.Slices o S128x256) : FVec F S128x256 .bf16 :=
  truncf .bf16 (mulf (extractStridedSlice S128x256 o U h)
    (addf (matmul dot_S128x512_S512x256_S128x256_1_0_0_1_n_n none (k0_pay5 M) (truncf .bf16 (stack (extractStridedSlice S128x256 o V h)) bitsLt_bf16_f32) (constant S128x256 .f32 0x00000000#32))
      (shapeCast S128x256 b shapeCasts_S128x256_S128x256))) bitsLt_bf16_f32

/-! ## The mathematics, over the extended reals -/

/-- The RMS norm of one row, scaled; `c` is the row's length. -/
def rn {N : ℕ} (c : EReal) (u g : Fin N → EReal) (n : Fin N) : EReal :=
  u n * Ideal.rsqrt (Ideal.div (∑ x, u x * u x) c + Ideal.ofBits .f32 0x358637BD#32) * g n

/-- The gelu of one number. -/
def gelu (z : EReal) : EReal :=
  z * (Ideal.ofBits .f32 0x3F000000#32 * (Ideal.ofBits .f32 0x3F800000#32 + Ideal.tanh (Ideal.ofBits .f32 0x3F4C422A#32 * (z + Ideal.ofBits .f32 0x3D372713#32 * (z * (z * z))))))

theorem nx_apply (v : FVec Ideal S512x1024 .f32) (g : FVec Ideal S1x1024 .f32) (r : Fin 512) (n : Fin 1024) :
    nx v g (ix2 r n) = rn (Ideal.ofBits .f32 0x44800000#32) (fun k => v (ix2 r k)) (fun k => g (ix2 0 k)) n := by
  unfold rn nx
  rw [shapeCast_self]
  pointwise []

theorem nv_apply (v : FVec Ideal S512x256 .f32) (g : FVec Ideal S1x256 .f32) (r : Fin 512) (n : Fin 256) :
    nv v g (ix2 r n) = rn (Ideal.ofBits .f32 0x43800000#32) (fun k => v (ix2 r k)) (fun k => g (ix2 0 k)) n := by
  unfold rn nv
  rw [shapeCast_self]
  pointwise []

theorem zk_apply (xn : FVec Ideal S512x1024 .bf16) (w : FVec Ideal S1024x256 .bf16) (r : Fin 512) (n : Fin 256) :
    zk xn w (ix2 r n) = ∑ x, xn (ix2 r x) * w (ix2 x n) := by
  unfold zk
  rw [shapeCast_self]
  pointwise []

theorem zt_apply (xn : FVec Ideal S512x1024 .bf16) (w : FVec Ideal S656x1024 .bf16) (a : Fin 656) (r : Fin 512) :
    zt xn w (ix2 a r) = ∑ x, w (ix2 a x) * xn (ix2 r x) := by
  unfold zt
  rw [shapeCast_self]
  pointwise []

theorem gel_apply (z : FVec Ideal S512x256 .f32) (r : Fin 512) (n : Fin 256) : gel z (ix2 r n) = gelu (z (ix2 r n)) := by
  unfold gel gelu
  rfl

theorem tv_apply (z : FVec Ideal S656x512 .f32) (o p : ℕ) (h : S656x512.Slices ![o, p] S256x256) (ho : o + 256 ≤ 656) (hp : p + 256 ≤ 512) (a s : Fin 256) :
    tv z ![o, p] h (ix4 0 0 a s) = z (ix2 ⟨o + a.val, by omega⟩ ⟨p + s.val, by omega⟩) := by
  unfold tv
  pointwise []

theorem tq_apply (z : FVec Ideal S656x512 .f32) (o p : ℕ) (h : S656x512.Slices ![o, p] S128x256) (ho : o + 128 ≤ 656) (hp : p + 256 ≤ 512) (a : Fin 128) (s : Fin 256) :
    tq z ![o, p] h (ix4 0 0 a s) = z (ix2 ⟨o + a.val, by omega⟩ ⟨p + s.val, by omega⟩) := by
  unfold tq
  pointwise []

theorem ts_apply (z : FVec Ideal S656x512 .f32) (o p : ℕ) (h : S656x512.Slices ![o, p] S256x256) (ho : o + 256 ≤ 656) (hp : p + 256 ≤ 512) (a s : Fin 256) :
    ts z ![o, p] h (ix4 0 0 a s) = z (ix2 ⟨o + a.val, by omega⟩ ⟨p + s.val, by omega⟩) * Ideal.ofBits .f32 0x3E38AA3B#32 := by
  unfold ts
  pointwise []

theorem tw_apply (z : FVec Ideal S656x512 .f32) (o p : ℕ) (h : S656x512.Slices ![o, p] S8x256) (ho : o + 8 ≤ 656) (hp : p + 256 ≤ 512) (a : Fin 8) (s : Fin 256) :
    tw z ![o, p] h (ix4 0 0 a s) = z (ix2 ⟨o + a.val, by omega⟩ ⟨p + s.val, by omega⟩) := by
  unfold tw
  pointwise []

theorem zi_apply (xn : FVec Ideal S512x1024 .bf16) (w : FVec Ideal S1024x128 .bf16) (r : Fin 512) (n : Fin 128) :
    zi xn w (ix2 r n) = ∑ x, xn (ix2 r x) * w (ix2 x n) := by
  unfold zi
  rw [shapeCast_self]
  pointwise []

theorem lane_apply (t : Fin 128) (n : Fin 256) : lane (ix2 t n) = BitVec.ofNat 32 (n.val / 64) := by
  have h : ∀ n : Fin 256, lane (ix2 0 n) = BitVec.ofNat 32 (n.val / 64) := by decide +kernel
  rw [← h]
  rfl

theorem grp_apply (v : FVec Ideal S128x256 .f32) (g : Fin 4) (t : Fin 128) (n : Fin 256) :
    grp v (BitVec.ofNat 32 g.val) (ix2 t n) = if n.val / 64 = g.val then v (ix2 t n) else 0 := by
  have h : ∀ (g : Fin 4) (k : Fin 4), (Scalar.cmpi .eq (BitVec.ofNat 32 k.val) (BitVec.ofNat 32 g.val)) = if k.val = g.val then 1#1 else 0#1 := by decide +kernel
  show Scalar.select (Scalar.cmpi .eq (lane (ix2 t n)) (BitVec.ofNat 32 g.val)) (v (ix2 t n)) (Ideal.ofBits .f32 0x00000000#32) = _
  rw [lane_apply, h g ⟨n.val / 64, by omega⟩]
  simp only [Fin.val_mk]
  by_cases e : n.val / 64 = g.val
  · rw [if_pos e, if_pos e]; rfl
  · rw [if_neg e, if_neg e]
    show Ideal.ofBits .f32 0#32 = 0
    pointwise []

theorem stack_apply (v : FVec Ideal S128x256 .f32) (g : Fin 4) (s : Fin 128) (n : Fin 256) :
    stack v (ix2 ⟨128 * g.val + s.val, by omega⟩ n) = if n.val / 64 = g.val then v (ix2 s n) else 0 := by
  rw [← grp_apply]
  unfold stack
  generalize grp v = f
  have hs := s.isLt
  pointwise []
  fin_cases g
  · simp
  · simp
  · simp only [Fin.reduceFinMk]
    rw [dif_neg (by simp <;> omega), dif_neg (by simp <;> omega), dif_pos (by simp <;> omega)]
    exact congrArg (f 2#32) (congrArg (ix2 · n) (Fin.ext (by simp <;> omega)))
  · simp only [Fin.reduceFinMk]
    rw [dif_neg (by simp <;> omega), dif_neg (by simp <;> omega), dif_neg (by simp <;> omega)]
    exact congrArg (f 3#32) (congrArg (ix2 · n) (Fin.ext (by simp <;> omega)))

/-- The column of a lane in its group, as the kernel computes it. -/
def colWord (z : BitVec 32) : BitVec 32 :=
  let w : BitVec 32 := Scalar.select (Scalar.cmpi .eq 128#32 0#32) 1#32 128#32
  let q : BitVec 32 := IntOp.remsi .vector z w
  Scalar.select (IntOp.andi (IntOp.xori (IntOp.cmpi .slt q 0#32) (Scalar.cmpi .slt w 0#32)) (IntOp.cmpi .ne q 0#32)) (IntOp.addi q w) q

theorem colWord_eq : ∀ (g : Fin 4) (s : Fin 128), colWord (BitVec.ofNat 32 (128 * g.val + s.val)) = BitVec.ofNat 32 s.val := by decide +kernel

theorem sle_eq : ∀ s t : Fin 128, IntOp.cmpi .sle (BitVec.ofNat 32 s.val) (BitVec.ofNat 32 t.val) = if s.val ≤ t.val then 1#1 else 0#1 := by decide +kernel

theorem mask_apply (M : FVec Ideal S128x512 .f32) (t : Fin 128) (g : Fin 4) (s : Fin 128) :
    (k0_pay5 M : FVec Ideal S128x512 .bf16) (ix2 t ⟨128 * g.val + s.val, by omega⟩) = if s.val ≤ t.val then M (ix2 t ⟨128 * g.val + s.val, by omega⟩) else 0 := by
  have e : (k0_pay5 M : FVec Ideal S128x512 .bf16) (ix2 t ⟨128 * g.val + s.val, by omega⟩)
      = Scalar.select (IntOp.cmpi .sle (colWord (BitVec.ofNat 32 (128 * g.val + s.val))) (BitVec.ofNat 32 t.val)) (M (ix2 t ⟨128 * g.val + s.val, by omega⟩)) (0 : EReal) := by
    unfold k0_pay5 colWord
    rw [shapeCast_self]
    pointwise []
  rw [e, colWord_eq, sle_eq]
  by_cases e : s.val ≤ t.val
  · rw [if_pos e, if_pos e]; rfl
  · rw [if_neg e, if_neg e]; rfl

theorem sum512 (f : Fin 512 → EReal) : ∑ k, f k = ∑ g : Fin 4, ∑ s : Fin 128, f ⟨128 * g.val + s.val, by omega⟩ := by
  rw [← Fintype.sum_prod_type', ← Equiv.sum_comp (finProdFinEquiv.trans (finCongr (by decide : 4 * 128 = 512))) f]
  refine Finset.sum_congr rfl fun p _ => congrArg f (Fin.ext ?_)
  show p.2.val + 128 * p.1.val = 128 * p.1.val + p.2.val
  omega

/-- The gated mixer in one chunk of 128 rows, at row `t` and column `n`: `U`, `V` are the chunk's two halves, `W` the four groups' matrices side by side, `b` the bias. -/
def gmix (U : Fin 128 → Fin 256 → EReal) (V : Fin 128 → Fin 256 → EReal) (W : Fin 4 → Fin 128 → Fin 128 → EReal) (b : Fin 128 → Fin 256 → EReal) (t : Fin 128) (n : Fin 256) : EReal :=
  U t n * ((∑ s : Fin 128, (if s.val ≤ t.val then W ⟨n.val / 64, by omega⟩ t s else 0) * V s n) + b t n)

theorem gchunk_apply (M : FVec Ideal S128x512 .f32) (U V : FVec Ideal S512x256 .f32) (b : FVec Ideal S128x256 .f32) (o : ℕ) (h : S512x256.Slices ![o, 0] S128x256) (ho : o + 128 ≤ 512) (t : Fin 128) (n : Fin 256) :
    gchunk M U V b ![o, 0] h (ix2 t n)
      = gmix (fun t n => U (ix2 ⟨o + t.val, by omega⟩ n)) (fun t n => V (ix2 ⟨o + t.val, by omega⟩ n)) (fun g t s => M (ix2 t ⟨128 * g.val + s.val, by omega⟩)) (fun t n => b (ix2 t n)) t n := by
  have e : gchunk M U V b ![o, 0] h (ix2 t n) = U (ix2 ⟨o + t.val, by omega⟩ n) * ((∑ k : Fin 512, (k0_pay5 M : FVec Ideal S128x512 .bf16) (ix2 t k) * stack (extractStridedSlice S128x256 ![o, 0] V h) (ix2 k n)) + b (ix2 t n)) := by
    unfold gchunk
    rw [shapeCast_self]
    generalize stack (extractStridedSlice S128x256 ![o, 0] V h) = S
    generalize (k0_pay5 M : FVec Ideal S128x512 .bf16) = P
    pointwise []
  rw [e]
  unfold gmix
  congr 2
  rw [sum512, Finset.sum_eq_single (⟨n.val / 64, by omega⟩ : Fin 4)]
  · refine Finset.sum_congr rfl fun s _ => ?_
    rw [mask_apply, stack_apply, if_pos rfl]
    congr 1
    pointwise []
  · intro g _ hg
    refine Finset.sum_eq_zero fun s _ => ?_
    rw [stack_apply, if_neg (fun h => hg (Fin.ext h.symm)), mul_zero]
  · intro h
    exact absurd (Finset.mem_univ _) h

end Cert.Proof.Front
-- ==== Proof.Front.Pieces.lean ====
module

public import proofs.«01_k».proof.Proof.Front.Math
public import Idealize.ShloMosaic.Lib.Tactic
public import Idealize.ShloMosaic.Lib.Pointwise
public import Idealize.ShloMosaic.Lib.Pipeline.ValueKit.Tiles

@[expose] public section

noncomputable section

namespace Cert.Proof.Front

open Cert.Kernel4Ideal Cert.Kernel4Ideal.Gen
open Idealize.ShloMosaic Idealize.ShloMosaic.TcCoe Idealize.ShloMosaic.Tactic Idealize.SL.Sem

set_option maxRecDepth 16384

section Pieces

variable {F : FTy → Type} [FloatOps F]
variable (x0 : Vec F S1024x1024 .f32) (x1 : Vec F S1x1024 .f32) (x2 : Vec F S1024x1664 .bf16) (x3 : Vec F S656x1024 .bf16) (x4 : Vec F S1x256 .f32) (x5 : Vec F S128x512 .f32) (x6 : Vec F S128x256 .f32)

/-- The normed rows of a half of the block. -/
def xn (o : ℕ) (h : ∀ a, (![o, 0] : Fin 2 → ℕ) a + S512x1024.size a ≤ S1024x1024.size a) : FVec F S512x1024 .bf16 :=
  nx (View.ld x0 (Rect.unit (s := S1024x1024) ![o, 0] ![512, 1024] h)) (View.ld x1 (Rect.unit (s := S1x1024) ![0, 0] ![1, 1024] inb_S1x1024_S1x1024_0_0))

/-- The first half of the gated mixer's columns. -/
def hu (o : ℕ) (h : ∀ a, (![o, 0] : Fin 2 → ℕ) a + S512x1024.size a ≤ S1024x1024.size a) : FVec F S512x256 .f32 :=
  gel (zk (xn x0 x1 o h) (View.ld x2 (Rect.unit (s := S1024x1664) ![0, 0] ![1024, 256] inb_S1024x1664_S1024x256_0_0)))

/-- The second half of the gated mixer's columns, normed. -/
def hv (o : ℕ) (h : ∀ a, (![o, 0] : Fin 2 → ℕ) a + S512x1024.size a ≤ S1024x1024.size a) : FVec F S512x256 .f32 :=
  nv (gel (zk (xn x0 x1 o h) (View.ld x2 (Rect.unit (s := S1024x1664) ![0, 256] ![1024, 256] inb_S1024x1664_S1024x256_0_256)))) (View.ld x4 (Rect.unit (s := S1x256) ![0, 0] ![1, 256] inb_S1x256_S1x256_0_0))

/-- 128 rows of the gated mixer. -/
def pbg (o : ℕ) (h : ∀ a, (![o, 0] : Fin 2 → ℕ) a + S512x1024.size a ≤ S1024x1024.size a) (q : ℕ) (hq : S512x256.Slices ![q, 0] S128x256) : FVec F S128x256 .bf16 :=
  gchunk (View.ld x5 (Rect.unit (s := S128x512) ![0, 0] ![128, 512] inb_S128x512_S128x512_0_0)) (hu x0 x1 x2 o h) (hv x0 x1 x2 x4 o h) (View.ld x6 (Rect.unit (s := S128x256) ![0, 0] ![128, 256] inb_S128x256_S128x256_0_0)) ![q, 0] hq

/-- 512 rows of the keys. -/
def pk (o : ℕ) (h : ∀ a, (![o, 0] : Fin 2 → ℕ) a + S512x1024.size a ≤ S1024x1024.size a) : FVec F S512x256 .bf16 :=
  truncf .bf16 (zk (xn x0 x1 o h) (View.ld x2 (Rect.unit (s := S1024x1664) ![0, 768] ![1024, 256] inb_S1024x1664_S1024x256_0_768))) bitsLt_bf16_f32

/-- 512 rows of the indexer's keys. -/
def pki (o : ℕ) (h : ∀ a, (![o, 0] : Fin 2 → ℕ) a + S512x1024.size a ≤ S1024x1024.size a) : FVec F S512x128 .bf16 :=
  truncf .bf16 (zi (xn x0 x1 o h) (View.ld x2 (Rect.unit (s := S1024x1664) ![0, 1536] ![1024, 128] inb_S1024x1664_S1024x128_0_1536))) bitsLt_bf16_f32

/-- The transposed product of a half of the block. -/
def pz (o : ℕ) (h : ∀ a, (![o, 0] : Fin 2 → ℕ) a + S512x1024.size a ≤ S1024x1024.size a) : FVec F S656x512 .f32 :=
  zt (xn x0 x1 o h) (View.ld x3 (Rect.unit (s := S656x1024) ![0, 0] ![656, 1024] inb_S656x1024_S656x1024_0_0))

/-- What is stored of the gated mixer. -/
def blk13 : Vec F S1024x256 .bf16 :=
  View.canon [⟨Rect.unit ![896, 0] ![128, 256] inb_S1024x256_S128x256_896_0, pbg x0 x1 x2 x4 x5 x6 512 inb_S1024x1024_S512x1024_512_0 384 slices_S512x256_o384_0_S128x256⟩,
    ⟨Rect.unit ![768, 0] ![128, 256] inb_S1024x256_S128x256_768_0, pbg x0 x1 x2 x4 x5 x6 512 inb_S1024x1024_S512x1024_512_0 256 slices_S512x256_o256_0_S128x256⟩,
    ⟨Rect.unit ![640, 0] ![128, 256] inb_S1024x256_S128x256_640_0, pbg x0 x1 x2 x4 x5 x6 512 inb_S1024x1024_S512x1024_512_0 128 slices_S512x256_o128_0_S128x256⟩,
    ⟨Rect.unit ![512, 0] ![128, 256] inb_S1024x256_S128x256_512_0, pbg x0 x1 x2 x4 x5 x6 512 inb_S1024x1024_S512x1024_512_0 0 slices_S512x256_o0_0_S128x256⟩,
    ⟨Rect.unit ![384, 0] ![128, 256] inb_S1024x256_S128x256_384_0, pbg x0 x1 x2 x4 x5 x6 0 inb_S1024x1024_S512x1024_0_0 384 slices_S512x256_o384_0_S128x256⟩,
    ⟨Rect.unit ![256, 0] ![128, 256] inb_S1024x256_S128x256_256_0, pbg x0 x1 x2 x4 x5 x6 0 inb_S1024x1024_S512x1024_0_0 256 slices_S512x256_o256_0_S128x256⟩,
    ⟨Rect.unit ![128, 0] ![128, 256] inb_S1024x256_S128x256_128_0, pbg x0 x1 x2 x4 x5 x6 0 inb_S1024x1024_S512x1024_0_0 128 slices_S512x256_o128_0_S128x256⟩,
    ⟨Rect.unit ![0, 0] ![128, 256] inb_S1024x256_S128x256_0_0, pbg x0 x1 x2 x4 x5 x6 0 inb_S1024x1024_S512x1024_0_0 0 slices_S512x256_o0_0_S128x256⟩]

/-- What is stored of the keys. -/
def blk16 : Vec F S1024x256 .bf16 :=
  View.canon [⟨Rect.unit ![512, 0] ![512, 256] inb_S1024x256_S512x256_512_0, pk x0 x1 x2 512 inb_S1024x1024_S512x1024_512_0⟩,
    ⟨Rect.unit ![0, 0] ![512, 256] inb_S1024x256_S512x256_0_0, pk x0 x1 x2 0 inb_S1024x1024_S512x1024_0_0⟩]

/-- What is stored of the indexer's keys. -/
def blk17 : Vec F S1024x128 .bf16 :=
  View.canon [⟨Rect.unit ![512, 0] ![512, 128] inb_S1024x128_S512x128_512_0, pki x0 x1 x2 512 inb_S1024x1024_S512x1024_512_0⟩,
    ⟨Rect.unit ![0, 0] ![512, 128] inb_S1024x128_S512x128_0_0, pki x0 x1 x2 0 inb_S1024x1024_S512x1024_0_0⟩]

/-- What is stored of the queries. -/
def blk18 : Vec F S1x4x256x256 .bf16 :=
  View.canon [⟨Rect.unit ![0, 3, 0, 0] ![1, 1, 256, 256] inb_S1x4x256x256_S1x1x256x256_0_3_0_0, ts (pz x0 x1 x3 512 inb_S1024x1024_S512x1024_512_0) ![0, 256] slices_S656x512_o0_256_S256x256⟩,
    ⟨Rect.unit ![0, 2, 0, 0] ![1, 1, 256, 256] inb_S1x4x256x256_S1x1x256x256_0_2_0_0, ts (pz x0 x1 x3 512 inb_S1024x1024_S512x1024_512_0) ![0, 0] slices_S656x512_o0_0_S256x256⟩,
    ⟨Rect.unit ![0, 1, 0, 0] ![1, 1, 256, 256] inb_S1x4x256x256_S1x1x256x256_0_1_0_0, ts (pz x0 x1 x3 0 inb_S1024x1024_S512x1024_0_0) ![0, 256] slices_S656x512_o0_256_S256x256⟩,
    ⟨Rect.unit ![0, 0, 0, 0] ![1, 1, 256, 256] inb_S1x4x256x256_S1x1x256x256_0_0_0_0, ts (pz x0 x1 x3 0 inb_S1024x1024_S512x1024_0_0) ![0, 0] slices_S656x512_o0_0_S256x256⟩]

/-- What is stored of the values. -/
def blk19 : Vec F S1x4x256x256 .bf16 :=
  View.canon [⟨Rect.unit ![0, 3, 0, 0] ![1, 1, 256, 256] inb_S1x4x256x256_S1x1x256x256_0_3_0_0, tv (pz x0 x1 x3 512 inb_S1024x1024_S512x1024_512_0) ![256, 256] slices_S656x512_o256_256_S256x256⟩,
    ⟨Rect.unit ![0, 2, 0, 0] ![1, 1, 256, 256] inb_S1x4x256x256_S1x1x256x256_0_2_0_0, tv (pz x0 x1 x3 512 inb_S1024x1024_S512x1024_512_0) ![256, 0] slices_S656x512_o256_0_S256x256⟩,
    ⟨Rect.unit ![0, 1, 0, 0] ![1, 1, 256, 256] inb_S1x4x256x256_S1x1x256x256_0_1_0_0, tv (pz x0 x1 x3 0 inb_S1024x1024_S512x1024_0_0) ![256, 256] slices_S656x512_o256_256_S256x256⟩,
    ⟨Rect.unit ![0, 0, 0, 0] ![1, 1, 256, 256] inb_S1x4x256x256_S1x1x256x256_0_0_0_0, tv (pz x0 x1 x3 0 inb_S1024x1024_S512x1024_0_0) ![256, 0] slices_S656x512_o256_0_S256x256⟩]

/-- What is stored of the indexer's queries. -/
def blk20 : Vec F S1x4x128x256 .bf16 :=
  View.canon [⟨Rect.unit ![0, 3, 0, 0] ![1, 1, 128, 256] inb_S1x4x128x256_S1x1x128x256_0_3_0_0, tq (pz x0 x1 x3 512 inb_S1024x1024_S512x1024_512_0) ![512, 256] slices_S656x512_o512_256_S128x256⟩,
    ⟨Rect.unit ![0, 2, 0, 0] ![1, 1, 128, 256] inb_S1x4x128x256_S1x1x128x256_0_2_0_0, tq (pz x0 x1 x3 512 inb_S1024x1024_S512x1024_512_0) ![512, 0] slices_S656x512_o512_0_S128x256⟩,
    ⟨Rect.unit ![0, 1, 0, 0] ![1, 1, 128, 256] inb_S1x4x128x256_S1x1x128x256_0_1_0_0, tq (pz x0 x1 x3 0 inb_S1024x1024_S512x1024_0_0) ![512, 256] slices_S656x512_o512_256_S128x256⟩,
    ⟨Rect.unit ![0, 0, 0, 0] ![1, 1, 128, 256] inb_S1x4x128x256_S1x1x128x256_0_0_0_0, tq (pz x0 x1 x3 0 inb_S1024x1024_S512x1024_0_0) ![512, 0] slices_S656x512_o512_0_S128x256⟩]

/-- What is stored of the indexer's weights. -/
def blk21 : Vec F S1x4x8x256 .f32 :=
  View.canon [⟨Rect.unit ![0, 3, 0, 0] ![1, 1, 8, 256] inb_S1x4x8x256_S1x1x8x256_0_3_0_0, tw (pz x0 x1 x3 512 inb_S1024x1024_S512x1024_512_0) ![640, 256] slices_S656x512_o640_256_S8x256⟩,
    ⟨Rect.unit ![0, 2, 0, 0] ![1, 1, 8, 256] inb_S1x4x8x256_S1x1x8x256_0_2_0_0, tw (pz x0 x1 x3 512 inb_S1024x1024_S512x1024_512_0) ![640, 0] slices_S656x512_o640_0_S8x256⟩,
    ⟨Rect.unit ![0, 1, 0, 0] ![1, 1, 8, 256] inb_S1x4x8x256_S1x1x8x256_0_1_0_0, tw (pz x0 x1 x3 0 inb_S1024x1024_S512x1024_0_0) ![640, 256] slices_S656x512_o640_256_S8x256⟩,
    ⟨Rect.unit ![0, 0, 0, 0] ![1, 1, 8, 256] inb_S1x4x8x256_S1x1x8x256_0_0_0_0, tw (pz x0 x1 x3 0 inb_S1024x1024_S512x1024_0_0) ![640, 0] slices_S656x512_o640_0_S8x256⟩]

end Pieces

end Cert.Proof.Front
-- ==== Proof.Front.Body.lean ====
module

public import proofs.«01_k».proof.Proof.Front.Outs
public import proofs.«01_k».proof.Proof.Front.Pieces
public import Idealize.ShloMosaic.Lib.Tactic
public import Idealize.ShloMosaic.Lib.Pipeline.ValueKit.Tiles

@[expose] public section

set_option maxRecDepth 16384
set_option maxHeartbeats 4000000

noncomputable section

namespace Cert.Proof.Front

open Cert.Kernel4Ideal Cert.Kernel4Ideal.Gen
open Idealize.ShloMosaic Idealize.ShloMosaic.TcCoe Idealize.ShloMosaic.Tactic
open Idealize.SL Idealize.SL.RA Idealize.SL.BI Idealize.SL.Sem

variable {F : FTy → Type} [FloatOps F]
variable (m : (ℓ : Loc nD τ sig) → Buf (Elt F) ℓ)

/-! ## A point that begins a batch -/

theorem leftA_13 (c : Dev nD) (t : Fin cfg0.N) (h0 : t.val % 8 = 0) :
    (leftA m c t h0).1 = blk13 (iblk m c 0 t) (iblk m c 1 t) (iblk m c 2 t) (iblk m c 4 t) (iblk m c 5 t) (iblk m c 6 t) := by
  unfold leftA
  dsimp only
  rw [View.read_writes_eq_canon _ _ _ (coverA13 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftA_16 (c : Dev nD) (t : Fin cfg0.N) (h0 : t.val % 8 = 0) :
    (leftA m c t h0).2.2.2.1 = blk16 (iblk m c 0 t) (iblk m c 1 t) (iblk m c 2 t) := by
  unfold leftA
  dsimp only
  rw [View.read_writes_eq_canon _ _ _ (coverA16 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftA_17 (c : Dev nD) (t : Fin cfg0.N) (h0 : t.val % 8 = 0) :
    (leftA m c t h0).2.2.2.2.1 = blk17 (iblk m c 0 t) (iblk m c 1 t) (iblk m c 2 t) := by
  unfold leftA
  dsimp only
  rw [View.read_writes_eq_canon _ _ _ (coverA17 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftA_18 (c : Dev nD) (t : Fin cfg0.N) (h0 : t.val % 8 = 0) :
    (leftA m c t h0).2.2.2.2.2.1 = blk18 (iblk m c 0 t) (iblk m c 1 t) (iblk m c 3 t) := by
  unfold leftA
  dsimp only
  rw [View.read_writes_eq_canon _ _ _ (coverA18 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftA_19 (c : Dev nD) (t : Fin cfg0.N) (h0 : t.val % 8 = 0) :
    (leftA m c t h0).2.2.2.2.2.2.1 = blk19 (iblk m c 0 t) (iblk m c 1 t) (iblk m c 3 t) := by
  unfold leftA
  dsimp only
  rw [View.read_writes_eq_canon _ _ _ (coverA19 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftA_20 (c : Dev nD) (t : Fin cfg0.N) (h0 : t.val % 8 = 0) :
    (leftA m c t h0).2.2.2.2.2.2.2.1 = blk20 (iblk m c 0 t) (iblk m c 1 t) (iblk m c 3 t) := by
  unfold leftA
  dsimp only
  rw [View.read_writes_eq_canon _ _ _ (coverA20 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftA_21 (c : Dev nD) (t : Fin cfg0.N) (h0 : t.val % 8 = 0) :
    (leftA m c t h0).2.2.2.2.2.2.2.2.1 = blk21 (iblk m c 0 t) (iblk m c 1 t) (iblk m c 3 t) := by
  unfold leftA
  dsimp only
  rw [View.read_writes_eq_canon _ _ _ (coverA21 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

/-! ## A point that does not begin a batch -/

theorem leftB_13 (c : Dev nD) (t : Fin cfg0.N) (h0 : ¬t.val % 8 = 0) (xs0 : Vec F S1064x256 .f32) (xs1 : Vec F S1040x256 .f32) :
    (leftB m c t h0 xs0 xs1).1 = blk13 (iblk m c 0 t) (iblk m c 1 t) (iblk m c 2 t) (iblk m c 4 t) (iblk m c 5 t) (iblk m c 6 t) := by
  unfold leftB
  dsimp only
  rw [View.read_writes_eq_canon _ _ _ (coverB13 m c t h0 xs0 xs1)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftB_16 (c : Dev nD) (t : Fin cfg0.N) (h0 : ¬t.val % 8 = 0) (xs0 : Vec F S1064x256 .f32) (xs1 : Vec F S1040x256 .f32) :
    (leftB m c t h0 xs0 xs1).2.2.2.1 = blk16 (iblk m c 0 t) (iblk m c 1 t) (iblk m c 2 t) := by
  unfold leftB
  dsimp only
  rw [View.read_writes_eq_canon _ _ _ (coverB16 m c t h0 xs0 xs1)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftB_17 (c : Dev nD) (t : Fin cfg0.N) (h0 : ¬t.val % 8 = 0) (xs0 : Vec F S1064x256 .f32) (xs1 : Vec F S1040x256 .f32) :
    (leftB m c t h0 xs0 xs1).2.2.2.2.1 = blk17 (iblk m c 0 t) (iblk m c 1 t) (iblk m c 2 t) := by
  unfold leftB
  dsimp only
  rw [View.read_writes_eq_canon _ _ _ (coverB17 m c t h0 xs0 xs1)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftB_18 (c : Dev nD) (t : Fin cfg0.N) (h0 : ¬t.val % 8 = 0) (xs0 : Vec F S1064x256 .f32) (xs1 : Vec F S1040x256 .f32) :
    (leftB m c t h0 xs0 xs1).2.2.2.2.2.1 = blk18 (iblk m c 0 t) (iblk m c 1 t) (iblk m c 3 t) := by
  unfold leftB
  dsimp only
  rw [View.read_writes_eq_canon _ _ _ (coverB18 m c t h0 xs0 xs1)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftB_19 (c : Dev nD) (t : Fin cfg0.N) (h0 : ¬t.val % 8 = 0) (xs0 : Vec F S1064x256 .f32) (xs1 : Vec F S1040x256 .f32) :
    (leftB m c t h0 xs0 xs1).2.2.2.2.2.2.1 = blk19 (iblk m c 0 t) (iblk m c 1 t) (iblk m c 3 t) := by
  unfold leftB
  dsimp only
  rw [View.read_writes_eq_canon _ _ _ (coverB19 m c t h0 xs0 xs1)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftB_20 (c : Dev nD) (t : Fin cfg0.N) (h0 : ¬t.val % 8 = 0) (xs0 : Vec F S1064x256 .f32) (xs1 : Vec F S1040x256 .f32) :
    (leftB m c t h0 xs0 xs1).2.2.2.2.2.2.2.1 = blk20 (iblk m c 0 t) (iblk m c 1 t) (iblk m c 3 t) := by
  unfold leftB
  dsimp only
  rw [View.read_writes_eq_canon _ _ _ (coverB20 m c t h0 xs0 xs1)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem leftB_21 (c : Dev nD) (t : Fin cfg0.N) (h0 : ¬t.val % 8 = 0) (xs0 : Vec F S1064x256 .f32) (xs1 : Vec F S1040x256 .f32) :
    (leftB m c t h0 xs0 xs1).2.2.2.2.2.2.2.2.1 = blk21 (iblk m c 0 t) (iblk m c 1 t) (iblk m c 3 t) := by
  unfold leftB
  dsimp only
  rw [View.read_writes_eq_canon _ _ _ (coverB21 m c t h0 xs0 xs1)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

end Cert.Proof.Front
-- ==== Proof.Front.Block.lean ====
module

public import proofs.«01_k».proof.Proof.Front.Pieces
public import Idealize.ShloMosaic.Lib.Tactic
public import Idealize.ShloMosaic.Lib.Pointwise
public import Idealize.ShloMosaic.Lib.Pipeline.ValueKit.Tiles

@[expose] public section

noncomputable section

namespace Cert.Proof.Front

open Cert.Kernel4Ideal Cert.Kernel4Ideal.Gen
open Idealize.ShloMosaic Idealize.ShloMosaic.TcCoe Idealize.ShloMosaic.Tactic Idealize.SL.Sem

set_option maxRecDepth 16384

variable (x0 : Vec Ideal S1024x1024 .f32) (x1 : Vec Ideal S1x1024 .f32) (x2 : Vec Ideal S1024x1664 .bf16) (x3 : Vec Ideal S656x1024 .bf16) (x4 : Vec Ideal S1x256 .f32) (x5 : Vec Ideal S128x512 .f32) (x6 : Vec Ideal S128x256 .f32)

/-- A normed row of the block. -/
def nr (r : Fin 1024) (x : Fin 1024) : EReal := rn (Ideal.ofBits .f32 0x44800000#32) (fun k => x0 (ix2 r k)) (fun k => x1 (ix2 0 k)) x

/-- A column of the first product. -/
def pa (r : Fin 1024) (n : Fin 1664) : EReal := ∑ x, nr x0 x1 r x * x2 (ix2 x n)

/-- A row of the second product. -/
def pb (r : Fin 1024) (a : Fin 656) : EReal := ∑ x, x3 (ix2 a x) * nr x0 x1 r x

theorem xn_apply (o : ℕ) (h) (ho : o + 512 ≤ 1024) (r : Fin 512) (x : Fin 1024) :
    xn x0 x1 o h (ix2 r x) = nr x0 x1 ⟨o + r.val, by omega⟩ x := by
  unfold xn nr
  rw [nx_apply]
  have e0 (k : Fin 1024) : View.ld x0 (Rect.unit (s := S1024x1024) ![o, 0] ![512, 1024] h) (ix2 r k) = x0 (ix2 ⟨o + r.val, by omega⟩ k) := by
    refine congrArg x0 (funext fun a => Fin.ext ((Rect.idx_unit_val ..).trans ?_))
    match a with
    | ⟨0, _⟩ => rfl
    | ⟨1, _⟩ => show 0 + k.val = k.val; omega
  have e1 (k : Fin 1024) : View.ld x1 (Rect.unit (s := S1x1024) ![0, 0] ![1, 1024] inb_S1x1024_S1x1024_0_0) (ix2 0 k) = x1 (ix2 0 k) := by
    refine congrArg x1 (funext fun a => Fin.ext ((Rect.idx_unit_val ..).trans ?_))
    match a with
    | ⟨0, _⟩ => rfl
    | ⟨1, _⟩ => show 0 + k.val = k.val; omega
  simp only [e0, e1]

theorem zk_xn (o : ℕ) (h) (ho : o + 512 ≤ 1024) (p : ℕ) (hp) (hp' : p + 256 ≤ 1664) (r : Fin 512) (n : Fin 256) :
    zk (xn x0 x1 o h) (View.ld x2 (Rect.unit (s := S1024x1664) ![0, p] ![1024, 256] hp)) (ix2 r n) = pa x0 x1 x2 ⟨o + r.val, by omega⟩ ⟨p + n.val, by omega⟩ := by
  rw [zk_apply]
  refine Finset.sum_congr rfl fun x _ => ?_
  rw [xn_apply x0 x1 o h ho]
  refine congrArg (nr x0 x1 _ x * ·) ?_
  refine congrArg x2 (funext fun a => Fin.ext ((Rect.idx_unit_val ..).trans ?_))
  match a with
  | ⟨0, _⟩ => show 0 + x.val = x.val; omega
  | ⟨1, _⟩ => rfl

theorem pk_apply (o : ℕ) (h) (ho : o + 512 ≤ 1024) (r : Fin 512) (n : Fin 256) :
    pk x0 x1 x2 o h (ix2 r n) = pa x0 x1 x2 ⟨o + r.val, by omega⟩ ⟨768 + n.val, by omega⟩ :=
  zk_xn x0 x1 x2 o h ho 768 _ (by omega) r n

theorem pki_apply (o : ℕ) (h) (ho : o + 512 ≤ 1024) (r : Fin 512) (n : Fin 128) :
    pki x0 x1 x2 o h (ix2 r n) = pa x0 x1 x2 ⟨o + r.val, by omega⟩ ⟨1536 + n.val, by omega⟩ := by
  refine (zi_apply _ _ r n).trans ?_
  refine Finset.sum_congr rfl fun x _ => ?_
  rw [xn_apply x0 x1 o h ho]
  refine congrArg (nr x0 x1 _ x * ·) ?_
  refine congrArg x2 (funext fun a => Fin.ext ((Rect.idx_unit_val ..).trans ?_))
  match a with
  | ⟨0, _⟩ => show 0 + x.val = x.val; omega
  | ⟨1, _⟩ => rfl

theorem pz_apply (o : ℕ) (h) (ho : o + 512 ≤ 1024) (a : Fin 656) (r : Fin 512) :
    pz x0 x1 x3 o h (ix2 a r) = pb x0 x1 x3 ⟨o + r.val, by omega⟩ a := by
  refine (zt_apply _ _ a r).trans ?_
  refine Finset.sum_congr rfl fun x _ => ?_
  rw [xn_apply x0 x1 o h ho]
  refine congrArg (· * nr x0 x1 _ x) ?_
  refine congrArg x3 (funext fun i => Fin.ext ((Rect.idx_unit_val ..).trans ?_))
  match i with
  | ⟨0, _⟩ => show 0 + a.val = a.val; omega
  | ⟨1, _⟩ => show 0 + x.val = x.val; omega

theorem hu_apply (o : ℕ) (h) (ho : o + 512 ≤ 1024) (r : Fin 512) (n : Fin 256) :
    hu x0 x1 x2 o h (ix2 r n) = gelu (pa x0 x1 x2 ⟨o + r.val, by omega⟩ ⟨n.val, by omega⟩) := by
  unfold hu
  rw [gel_apply, zk_xn x0 x1 x2 o h ho 0 _ (by omega)]
  congr 3
  omega

theorem hv_apply (o : ℕ) (h) (ho : o + 512 ≤ 1024) (r : Fin 512) (n : Fin 256) :
    hv x0 x1 x2 x4 o h (ix2 r n) = rn (Ideal.ofBits .f32 0x43800000#32) (fun k => gelu (pa x0 x1 x2 ⟨o + r.val, by omega⟩ ⟨256 + k.val, by omega⟩)) (fun k => x4 (ix2 0 k)) n := by
  unfold hv
  rw [nv_apply]
  have e1 (k : Fin 256) : View.ld x4 (Rect.unit (s := S1x256) ![0, 0] ![1, 256] inb_S1x256_S1x256_0_0) (ix2 0 k) = x4 (ix2 0 k) := by
    refine congrArg x4 (funext fun a => Fin.ext ((Rect.idx_unit_val ..).trans ?_))
    match a with
    | ⟨0, _⟩ => rfl
    | ⟨1, _⟩ => show 0 + k.val = k.val; omega
  simp only [gel_apply, zk_xn x0 x1 x2 o h ho 256 _ (by omega), e1]

/-- The gated mixer at row `t` of the block's chunk `j`. -/
def cmix (j : Fin 8) (t : Fin 128) (n : Fin 256) : EReal :=
  gmix (fun t n => gelu (pa x0 x1 x2 ⟨128 * j.val + t.val, by omega⟩ ⟨n.val, by omega⟩))
    (fun t n => rn (Ideal.ofBits .f32 0x43800000#32) (fun k => gelu (pa x0 x1 x2 ⟨128 * j.val + t.val, by omega⟩ ⟨256 + k.val, by omega⟩)) (fun k => x4 (ix2 0 k)) n)
    (fun g t s => x5 (ix2 t ⟨128 * g.val + s.val, by omega⟩)) (fun t n => x6 (ix2 t n)) t n

theorem pbg_apply (o : ℕ) (h) (ho : o + 512 ≤ 1024) (q : ℕ) (hq) (hq' : q + 128 ≤ 512) (j : Fin 8) (hj : 128 * j.val = o + q) (t : Fin 128) (n : Fin 256) :
    pbg x0 x1 x2 x4 x5 x6 o h q hq (ix2 t n) = cmix x0 x1 x2 x4 x5 x6 j t n := by
  have e5 (t : Fin 128) (k : Fin 512) : View.ld x5 (Rect.unit (s := S128x512) ![0, 0] ![128, 512] inb_S128x512_S128x512_0_0) (ix2 t k) = x5 (ix2 t k) := by
    refine congrArg x5 (funext fun a => Fin.ext ((Rect.idx_unit_val ..).trans ?_))
    match a with
    | ⟨0, _⟩ => show 0 + t.val = t.val; omega
    | ⟨1, _⟩ => show 0 + k.val = k.val; omega
  have e6 (t : Fin 128) (k : Fin 256) : View.ld x6 (Rect.unit (s := S128x256) ![0, 0] ![128, 256] inb_S128x256_S128x256_0_0) (ix2 t k) = x6 (ix2 t k) := by
    refine congrArg x6 (funext fun a => Fin.ext ((Rect.idx_unit_val ..).trans ?_))
    match a with
    | ⟨0, _⟩ => show 0 + t.val = t.val; omega
    | ⟨1, _⟩ => show 0 + k.val = k.val; omega
  unfold pbg cmix
  rw [gchunk_apply _ _ _ _ q hq hq']
  have er (t : Fin 128) : (⟨o + (q + t.val), by omega⟩ : Fin 1024) = ⟨128 * j.val + t.val, by omega⟩ := Fin.ext (by show o + (q + t.val) = 128 * j.val + t.val; omega)
  simp only [hu_apply x0 x1 x2 o h ho, hv_apply x0 x1 x2 x4 o h ho, e5, e6, er]

theorem emb_S128x256 (e : ℕ) (h) (he : e + 128 ≤ 1024) (r : Fin 128) (n : Fin 256) :
    (Rect.unit (s := S1024x256) ![e, 0] ![128, 256] h).emb (ix2 (n0 := 128) (n1 := 256) r n) = ix2 ⟨e + r.val, by omega⟩ n := by
  refine funext fun a => Fin.ext ((Rect.idx_unit_val ..).trans ?_)
  match a with
  | ⟨0, _⟩ => rfl
  | ⟨1, _⟩ => show 0 + n.val = n.val; omega

theorem mem_S128x256 (e : ℕ) (h) (y : S1024x256.Idx) (h0 : e ≤ (y 0 : Nat)) (h1 : (y 0 : Nat) < e + 128) : y ∈ (Rect.unit (s := S1024x256) ![e, 0] ![128, 256] h).set := by
  have h2 : (y 1 : Nat) < 256 := (y 1).isLt
  refine (Rect.mem_set_unit ..).mpr fun a => ?_
  match a with
  | ⟨0, _⟩ => exact ⟨h0, h1⟩
  | ⟨1, _⟩ => exact ⟨Nat.zero_le _, by show (y 1 : Nat) < 0 + 256; omega⟩

theorem emb_S512x256 (e : ℕ) (h) (he : e + 512 ≤ 1024) (r : Fin 512) (n : Fin 256) :
    (Rect.unit (s := S1024x256) ![e, 0] ![512, 256] h).emb (ix2 (n0 := 512) (n1 := 256) r n) = ix2 ⟨e + r.val, by omega⟩ n := by
  refine funext fun a => Fin.ext ((Rect.idx_unit_val ..).trans ?_)
  match a with
  | ⟨0, _⟩ => rfl
  | ⟨1, _⟩ => show 0 + n.val = n.val; omega

theorem mem_S512x256 (e : ℕ) (h) (y : S1024x256.Idx) (h0 : e ≤ (y 0 : Nat)) (h1 : (y 0 : Nat) < e + 512) : y ∈ (Rect.unit (s := S1024x256) ![e, 0] ![512, 256] h).set := by
  have h2 : (y 1 : Nat) < 256 := (y 1).isLt
  refine (Rect.mem_set_unit ..).mpr fun a => ?_
  match a with
  | ⟨0, _⟩ => exact ⟨h0, h1⟩
  | ⟨1, _⟩ => exact ⟨Nat.zero_le _, by show (y 1 : Nat) < 0 + 256; omega⟩

theorem emb_S512x128 (e : ℕ) (h) (he : e + 512 ≤ 1024) (r : Fin 512) (n : Fin 128) :
    (Rect.unit (s := S1024x128) ![e, 0] ![512, 128] h).emb (ix2 (n0 := 512) (n1 := 128) r n) = ix2 ⟨e + r.val, by omega⟩ n := by
  refine funext fun a => Fin.ext ((Rect.idx_unit_val ..).trans ?_)
  match a with
  | ⟨0, _⟩ => rfl
  | ⟨1, _⟩ => show 0 + n.val = n.val; omega

theorem mem_S512x128 (e : ℕ) (h) (y : S1024x128.Idx) (h0 : e ≤ (y 0 : Nat)) (h1 : (y 0 : Nat) < e + 512) : y ∈ (Rect.unit (s := S1024x128) ![e, 0] ![512, 128] h).set := by
  have h2 : (y 1 : Nat) < 128 := (y 1).isLt
  refine (Rect.mem_set_unit ..).mpr fun a => ?_
  match a with
  | ⟨0, _⟩ => exact ⟨h0, h1⟩
  | ⟨1, _⟩ => exact ⟨Nat.zero_le _, by show (y 1 : Nat) < 0 + 128; omega⟩

theorem emb4_256 (j : ℕ) (h) (hj : j < 4) (a : Fin 256) (s : Fin 256) :
    (Rect.unit (s := S1x4x256x256) ![0, j, 0, 0] ![1, 1, 256, 256] h).emb (ix4 (n0 := 1) (n1 := 1) (n2 := 256) (n3 := 256) 0 0 a s) = ix4 0 ⟨j, hj⟩ a s := by
  refine funext fun i => Fin.ext ((Rect.idx_unit_val ..).trans ?_)
  match i with
  | ⟨0, _⟩ => rfl
  | ⟨1, _⟩ => rfl
  | ⟨2, _⟩ => show 0 + a.val = a.val; omega
  | ⟨3, _⟩ => show 0 + s.val = s.val; omega

theorem mem4_256 (j : ℕ) (h) (y : S1x4x256x256.Idx) (hy : (y 1 : Nat) = j) : y ∈ (Rect.unit (s := S1x4x256x256) ![0, j, 0, 0] ![1, 1, 256, 256] h).set := by
  have h0 : (y 0 : Nat) < 1 := (y 0).isLt
  have h2 : (y 2 : Nat) < 256 := (y 2).isLt
  have h3 : (y 3 : Nat) < 256 := (y 3).isLt
  refine (Rect.mem_set_unit ..).mpr fun a => ?_
  match a with
  | ⟨0, _⟩ => exact ⟨Nat.zero_le _, by show (y 0 : Nat) < 0 + 1; omega⟩
  | ⟨1, _⟩ => exact ⟨by show j ≤ (y 1 : Nat); omega, by show (y 1 : Nat) < j + 1; omega⟩
  | ⟨2, _⟩ => exact ⟨Nat.zero_le _, by show (y 2 : Nat) < 0 + 256; omega⟩
  | ⟨3, _⟩ => exact ⟨Nat.zero_le _, by show (y 3 : Nat) < 0 + 256; omega⟩

theorem emb4_128 (j : ℕ) (h) (hj : j < 4) (a : Fin 128) (s : Fin 256) :
    (Rect.unit (s := S1x4x128x256) ![0, j, 0, 0] ![1, 1, 128, 256] h).emb (ix4 (n0 := 1) (n1 := 1) (n2 := 128) (n3 := 256) 0 0 a s) = ix4 0 ⟨j, hj⟩ a s := by
  refine funext fun i => Fin.ext ((Rect.idx_unit_val ..).trans ?_)
  match i with
  | ⟨0, _⟩ => rfl
  | ⟨1, _⟩ => rfl
  | ⟨2, _⟩ => show 0 + a.val = a.val; omega
  | ⟨3, _⟩ => show 0 + s.val = s.val; omega

theorem mem4_128 (j : ℕ) (h) (y : S1x4x128x256.Idx) (hy : (y 1 : Nat) = j) : y ∈ (Rect.unit (s := S1x4x128x256) ![0, j, 0, 0] ![1, 1, 128, 256] h).set := by
  have h0 : (y 0 : Nat) < 1 := (y 0).isLt
  have h2 : (y 2 : Nat) < 128 := (y 2).isLt
  have h3 : (y 3 : Nat) < 256 := (y 3).isLt
  refine (Rect.mem_set_unit ..).mpr fun a => ?_
  match a with
  | ⟨0, _⟩ => exact ⟨Nat.zero_le _, by show (y 0 : Nat) < 0 + 1; omega⟩
  | ⟨1, _⟩ => exact ⟨by show j ≤ (y 1 : Nat); omega, by show (y 1 : Nat) < j + 1; omega⟩
  | ⟨2, _⟩ => exact ⟨Nat.zero_le _, by show (y 2 : Nat) < 0 + 128; omega⟩
  | ⟨3, _⟩ => exact ⟨Nat.zero_le _, by show (y 3 : Nat) < 0 + 256; omega⟩

theorem emb4_8 (j : ℕ) (h) (hj : j < 4) (a : Fin 8) (s : Fin 256) :
    (Rect.unit (s := S1x4x8x256) ![0, j, 0, 0] ![1, 1, 8, 256] h).emb (ix4 (n0 := 1) (n1 := 1) (n2 := 8) (n3 := 256) 0 0 a s) = ix4 0 ⟨j, hj⟩ a s := by
  refine funext fun i => Fin.ext ((Rect.idx_unit_val ..).trans ?_)
  match i with
  | ⟨0, _⟩ => rfl
  | ⟨1, _⟩ => rfl
  | ⟨2, _⟩ => show 0 + a.val = a.val; omega
  | ⟨3, _⟩ => show 0 + s.val = s.val; omega

theorem mem4_8 (j : ℕ) (h) (y : S1x4x8x256.Idx) (hy : (y 1 : Nat) = j) : y ∈ (Rect.unit (s := S1x4x8x256) ![0, j, 0, 0] ![1, 1, 8, 256] h).set := by
  have h0 : (y 0 : Nat) < 1 := (y 0).isLt
  have h2 : (y 2 : Nat) < 8 := (y 2).isLt
  have h3 : (y 3 : Nat) < 256 := (y 3).isLt
  refine (Rect.mem_set_unit ..).mpr fun a => ?_
  match a with
  | ⟨0, _⟩ => exact ⟨Nat.zero_le _, by show (y 0 : Nat) < 0 + 1; omega⟩
  | ⟨1, _⟩ => exact ⟨by show j ≤ (y 1 : Nat); omega, by show (y 1 : Nat) < j + 1; omega⟩
  | ⟨2, _⟩ => exact ⟨Nat.zero_le _, by show (y 2 : Nat) < 0 + 8; omega⟩
  | ⟨3, _⟩ => exact ⟨Nat.zero_le _, by show (y 3 : Nat) < 0 + 256; omega⟩

/-- The block of the gated mixer. -/
def g13 : Vec Ideal S1024x256 .bf16 := fun y => cmix x0 x1 x2 x4 x5 x6 ⟨(y 0).val / 128, by have : (y 0).val < 1024 := (y 0).isLt; omega⟩ ⟨(y 0).val % 128, by omega⟩ (y 1)

theorem piece13 (o : ℕ) (h) (ho : o + 512 ≤ 1024) (q : ℕ) (hq) (hq' : q + 128 ≤ 512) (e j : ℕ) (he : e = o + q) (hj : 128 * j = e) (hr) (x : S128x256.Idx) :
    pbg x0 x1 x2 x4 x5 x6 o h q hq x = g13 x0 x1 x2 x4 x5 x6 ((Rect.unit (s := S1024x256) ![e, 0] ![128, 256] hr).emb x) := by
  obtain ⟨r, n, rfl⟩ : ∃ (r : Fin 128) (n : Fin 256), x = ix2 r n := ⟨x 0, x 1, eq_ix2 x⟩
  refine (pbg_apply x0 x1 x2 x4 x5 x6 o h ho q hq hq' ⟨j, by omega⟩ (by show 128 * j = o + q; omega) r n).trans ?_
  have hr' := r.isLt
  refine Eq.trans ?_ (congrArg (g13 x0 x1 x2 x4 x5 x6) (emb_S128x256 e hr (by omega) r n)).symm
  exact congrArg₂ (fun a b => cmix x0 x1 x2 x4 x5 x6 a b n) (Fin.ext (by show j = (e + r.val) / 128; omega)) (Fin.ext (by show r.val = (e + r.val) % 128; omega))

/-- What is stored of the gated mixer, at an index. -/
theorem blk13_apply (y : S1024x256.Idx) : blk13 x0 x1 x2 x4 x5 x6 y = g13 x0 x1 x2 x4 x5 x6 y := by
  refine View.canon_apply_of_pieces (Val := Elt Ideal) (e := .bf16) (g13 x0 x1 x2 x4 x5 x6) _ ?_ y ?_
  · intro p hp
    rcases List.mem_cons.mp hp with rfl | hp
    · exact fun x => piece13 x0 x1 x2 x4 x5 x6 512 inb_S1024x1024_S512x1024_512_0 (by omega) 384 slices_S512x256_o384_0_S128x256 (by omega) 896 7 rfl rfl inb_S1024x256_S128x256_896_0 x
    rcases List.mem_cons.mp hp with rfl | hp
    · exact fun x => piece13 x0 x1 x2 x4 x5 x6 512 inb_S1024x1024_S512x1024_512_0 (by omega) 256 slices_S512x256_o256_0_S128x256 (by omega) 768 6 rfl rfl inb_S1024x256_S128x256_768_0 x
    rcases List.mem_cons.mp hp with rfl | hp
    · exact fun x => piece13 x0 x1 x2 x4 x5 x6 512 inb_S1024x1024_S512x1024_512_0 (by omega) 128 slices_S512x256_o128_0_S128x256 (by omega) 640 5 rfl rfl inb_S1024x256_S128x256_640_0 x
    rcases List.mem_cons.mp hp with rfl | hp
    · exact fun x => piece13 x0 x1 x2 x4 x5 x6 512 inb_S1024x1024_S512x1024_512_0 (by omega) 0 slices_S512x256_o0_0_S128x256 (by omega) 512 4 rfl rfl inb_S1024x256_S128x256_512_0 x
    rcases List.mem_cons.mp hp with rfl | hp
    · exact fun x => piece13 x0 x1 x2 x4 x5 x6 0 inb_S1024x1024_S512x1024_0_0 (by omega) 384 slices_S512x256_o384_0_S128x256 (by omega) 384 3 rfl rfl inb_S1024x256_S128x256_384_0 x
    rcases List.mem_cons.mp hp with rfl | hp
    · exact fun x => piece13 x0 x1 x2 x4 x5 x6 0 inb_S1024x1024_S512x1024_0_0 (by omega) 256 slices_S512x256_o256_0_S128x256 (by omega) 256 2 rfl rfl inb_S1024x256_S128x256_256_0 x
    rcases List.mem_cons.mp hp with rfl | hp
    · exact fun x => piece13 x0 x1 x2 x4 x5 x6 0 inb_S1024x1024_S512x1024_0_0 (by omega) 128 slices_S512x256_o128_0_S128x256 (by omega) 128 1 rfl rfl inb_S1024x256_S128x256_128_0 x
    obtain rfl := List.mem_singleton.mp hp
    exact fun x => piece13 x0 x1 x2 x4 x5 x6 0 inb_S1024x1024_S512x1024_0_0 (by omega) 0 slices_S512x256_o0_0_S128x256 (by omega) 0 0 rfl rfl inb_S1024x256_S128x256_0_0 x
  · have h0 : (y 0 : Nat) < 1024 := (y 0).isLt
    by_cases c0 : 896 ≤ (y 0 : Nat)
    · exact ⟨_, List.mem_cons_self, mem_S128x256 896 inb_S1024x256_S128x256_896_0 y (by omega) (by omega)⟩
    by_cases c1 : 768 ≤ (y 0 : Nat)
    · exact ⟨_, (List.mem_cons_of_mem _ List.mem_cons_self), mem_S128x256 768 inb_S1024x256_S128x256_768_0 y (by omega) (by omega)⟩
    by_cases c2 : 640 ≤ (y 0 : Nat)
    · exact ⟨_, (List.mem_cons_of_mem _ (List.mem_cons_of_mem _ List.mem_cons_self)), mem_S128x256 640 inb_S1024x256_S128x256_640_0 y (by omega) (by omega)⟩
    by_cases c3 : 512 ≤ (y 0 : Nat)
    · exact ⟨_, (List.mem_cons_of_mem _ (List.mem_cons_of_mem _ (List.mem_cons_of_mem _ List.mem_cons_self))), mem_S128x256 512 inb_S1024x256_S128x256_512_0 y (by omega) (by omega)⟩
    by_cases c4 : 384 ≤ (y 0 : Nat)
    · exact ⟨_, (List.mem_cons_of_mem _ (List.mem_cons_of_mem _ (List.mem_cons_of_mem _ (List.mem_cons_of_mem _ List.mem_cons_self)))), mem_S128x256 384 inb_S1024x256_S128x256_384_0 y (by omega) (by omega)⟩
    by_cases c5 : 256 ≤ (y 0 : Nat)
    · exact ⟨_, (List.mem_cons_of_mem _ (List.mem_cons_of_mem _ (List.mem_cons_of_mem _ (List.mem_cons_of_mem _ (List.mem_cons_of_mem _ List.mem_cons_self))))), mem_S128x256 256 inb_S1024x256_S128x256_256_0 y (by omega) (by omega)⟩
    by_cases c6 : 128 ≤ (y 0 : Nat)
    · exact ⟨_, (List.mem_cons_of_mem _ (List.mem_cons_of_mem _ (List.mem_cons_of_mem _ (List.mem_cons_of_mem _ (List.mem_cons_of_mem _ (List.mem_cons_of_mem _ List.mem_cons_self)))))), mem_S128x256 128 inb_S1024x256_S128x256_128_0 y (by omega) (by omega)⟩
    exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_S128x256 0 inb_S1024x256_S128x256_0_0 y (by omega) (by omega)⟩

/-- The block of the keys. -/
def g16 : Vec Ideal S1024x256 .bf16 := fun y => pa x0 x1 x2 (y 0) ⟨768 + (y 1).val, by have : (y 1).val < 256 := (y 1).isLt; omega⟩

theorem piece16 (o : ℕ) (h) (ho : o + 512 ≤ 1024) (hr) (x : S512x256.Idx) :
    pk x0 x1 x2 o h x = g16 x0 x1 x2 ((Rect.unit (s := S1024x256) ![o, 0] ![512, 256] hr).emb x) := by
  obtain ⟨r, n, rfl⟩ : ∃ (r : Fin 512) (n : Fin 256), x = ix2 r n := ⟨x 0, x 1, eq_ix2 x⟩
  exact (pk_apply x0 x1 x2 o h ho r n).trans (congrArg (g16 x0 x1 x2) (emb_S512x256 o hr ho r n)).symm

/-- What is stored of the keys, at an index. -/
theorem blk16_apply (y : S1024x256.Idx) : blk16 x0 x1 x2 y = g16 x0 x1 x2 y := by
  refine View.canon_apply_of_pieces (Val := Elt Ideal) (e := .bf16) (g16 x0 x1 x2) _ ?_ y ?_
  · intro p hp
    rcases List.mem_cons.mp hp with rfl | hp
    · exact fun x => piece16 x0 x1 x2 512 inb_S1024x1024_S512x1024_512_0 (by omega) inb_S1024x256_S512x256_512_0 x
    obtain rfl := List.mem_singleton.mp hp
    exact fun x => piece16 x0 x1 x2 0 inb_S1024x1024_S512x1024_0_0 (by omega) inb_S1024x256_S512x256_0_0 x
  · have h0 : (y 0 : Nat) < 1024 := (y 0).isLt
    by_cases c0 : 512 ≤ (y 0 : Nat)
    · exact ⟨_, List.mem_cons_self, mem_S512x256 512 inb_S1024x256_S512x256_512_0 y (by omega) (by omega)⟩
    exact ⟨_, (List.mem_cons_of_mem _ List.mem_cons_self), mem_S512x256 0 inb_S1024x256_S512x256_0_0 y (by omega) (by omega)⟩

/-- The block of the indexer's keys. -/
def g17 : Vec Ideal S1024x128 .bf16 := fun y => pa x0 x1 x2 (y 0) ⟨1536 + (y 1).val, by have : (y 1).val < 128 := (y 1).isLt; omega⟩

theorem piece17 (o : ℕ) (h) (ho : o + 512 ≤ 1024) (hr) (x : S512x128.Idx) :
    pki x0 x1 x2 o h x = g17 x0 x1 x2 ((Rect.unit (s := S1024x128) ![o, 0] ![512, 128] hr).emb x) := by
  obtain ⟨r, n, rfl⟩ : ∃ (r : Fin 512) (n : Fin 128), x = ix2 r n := ⟨x 0, x 1, eq_ix2 x⟩
  exact (pki_apply x0 x1 x2 o h ho r n).trans (congrArg (g17 x0 x1 x2) (emb_S512x128 o hr ho r n)).symm

/-- What is stored of the indexer's keys, at an index. -/
theorem blk17_apply (y : S1024x128.Idx) : blk17 x0 x1 x2 y = g17 x0 x1 x2 y := by
  refine View.canon_apply_of_pieces (Val := Elt Ideal) (e := .bf16) (g17 x0 x1 x2) _ ?_ y ?_
  · intro p hp
    rcases List.mem_cons.mp hp with rfl | hp
    · exact fun x => piece17 x0 x1 x2 512 inb_S1024x1024_S512x1024_512_0 (by omega) inb_S1024x128_S512x128_512_0 x
    obtain rfl := List.mem_singleton.mp hp
    exact fun x => piece17 x0 x1 x2 0 inb_S1024x1024_S512x1024_0_0 (by omega) inb_S1024x128_S512x128_0_0 x
  · have h0 : (y 0 : Nat) < 1024 := (y 0).isLt
    by_cases c0 : 512 ≤ (y 0 : Nat)
    · exact ⟨_, List.mem_cons_self, mem_S512x128 512 inb_S1024x128_S512x128_512_0 y (by omega) (by omega)⟩
    exact ⟨_, (List.mem_cons_of_mem _ List.mem_cons_self), mem_S512x128 0 inb_S1024x128_S512x128_0_0 y (by omega) (by omega)⟩

/-- The block of the queries. -/
def g18 : Vec Ideal S1x4x256x256 .bf16 := fun y => pb x0 x1 x3 ⟨256 * (y 1).val + (y 3).val, by have : (y 1).val < 4 := (y 1).isLt; have : (y 3).val < 256 := (y 3).isLt; omega⟩ ⟨0 + (y 2).val, by have : (y 2).val < 256 := (y 2).isLt; omega⟩ * Ideal.ofBits .f32 0x3E38AA3B#32

theorem piece18 (o : ℕ) (h) (ho : o + 512 ≤ 1024) (p : ℕ) (hs : S656x512.Slices ![0, p] S256x256) (hp : p + 256 ≤ 512) (j : ℕ) (hj : 256 * j = o + p) (hr) (x : S1x1x256x256.Idx) :
    ts (pz x0 x1 x3 o h) ![0, p] hs x = g18 x0 x1 x3 ((Rect.unit (s := S1x4x256x256) ![0, j, 0, 0] ![1, 1, 256, 256] hr).emb x) := by
  obtain ⟨a, s, rfl⟩ : ∃ (a : Fin 256) (s : Fin 256), x = ix4 0 0 a s :=
    ⟨x 2, x 3, funext fun i => match i with
      | ⟨0, _⟩ => Fin.ext (Nat.lt_one_iff.mp (x 0).isLt)
      | ⟨1, _⟩ => Fin.ext (Nat.lt_one_iff.mp (x 1).isLt)
      | ⟨2, _⟩ => rfl
      | ⟨3, _⟩ => rfl⟩
  refine (ts_apply _ 0 p hs (by omega) hp a s).trans ?_
  refine Eq.trans ?_ (congrArg (g18 x0 x1 x3) (emb4_256 j hr (by omega) a s)).symm
  rw [pz_apply x0 x1 x3 o h ho]
  refine congrArg (fun r => pb x0 x1 x3 r ⟨0 + a.val, by omega⟩ * Ideal.ofBits .f32 0x3E38AA3B#32) (Fin.ext ?_)
  show o + (p + s.val) = 256 * j + s.val
  omega

/-- What is stored of the queries, at an index. -/
theorem blk18_apply (y : S1x4x256x256.Idx) : blk18 x0 x1 x3 y = g18 x0 x1 x3 y := by
  refine View.canon_apply_of_pieces (Val := Elt Ideal) (e := .bf16) (g18 x0 x1 x3) _ ?_ y ?_
  · intro p hp
    rcases List.mem_cons.mp hp with rfl | hp
    · exact fun x => piece18 x0 x1 x3 512 inb_S1024x1024_S512x1024_512_0 (by omega) 256 slices_S656x512_o0_256_S256x256 (by omega) 3 rfl inb_S1x4x256x256_S1x1x256x256_0_3_0_0 x
    rcases List.mem_cons.mp hp with rfl | hp
    · exact fun x => piece18 x0 x1 x3 512 inb_S1024x1024_S512x1024_512_0 (by omega) 0 slices_S656x512_o0_0_S256x256 (by omega) 2 rfl inb_S1x4x256x256_S1x1x256x256_0_2_0_0 x
    rcases List.mem_cons.mp hp with rfl | hp
    · exact fun x => piece18 x0 x1 x3 0 inb_S1024x1024_S512x1024_0_0 (by omega) 256 slices_S656x512_o0_256_S256x256 (by omega) 1 rfl inb_S1x4x256x256_S1x1x256x256_0_1_0_0 x
    obtain rfl := List.mem_singleton.mp hp
    exact fun x => piece18 x0 x1 x3 0 inb_S1024x1024_S512x1024_0_0 (by omega) 0 slices_S656x512_o0_0_S256x256 (by omega) 0 rfl inb_S1x4x256x256_S1x1x256x256_0_0_0_0 x
  · have h0 : (y 1 : Nat) < 4 := (y 1).isLt
    by_cases c0 : (y 1 : Nat) = 3
    · exact ⟨_, List.mem_cons_self, mem4_256 3 inb_S1x4x256x256_S1x1x256x256_0_3_0_0 y (by omega)⟩
    by_cases c1 : (y 1 : Nat) = 2
    · exact ⟨_, (List.mem_cons_of_mem _ List.mem_cons_self), mem4_256 2 inb_S1x4x256x256_S1x1x256x256_0_2_0_0 y (by omega)⟩
    by_cases c2 : (y 1 : Nat) = 1
    · exact ⟨_, (List.mem_cons_of_mem _ (List.mem_cons_of_mem _ List.mem_cons_self)), mem4_256 1 inb_S1x4x256x256_S1x1x256x256_0_1_0_0 y (by omega)⟩
    exact ⟨_, (List.mem_cons_of_mem _ (List.mem_cons_of_mem _ (List.mem_cons_of_mem _ List.mem_cons_self))), mem4_256 0 inb_S1x4x256x256_S1x1x256x256_0_0_0_0 y (by omega)⟩

/-- The block of the values. -/
def g19 : Vec Ideal S1x4x256x256 .bf16 := fun y => pb x0 x1 x3 ⟨256 * (y 1).val + (y 3).val, by have : (y 1).val < 4 := (y 1).isLt; have : (y 3).val < 256 := (y 3).isLt; omega⟩ ⟨256 + (y 2).val, by have : (y 2).val < 256 := (y 2).isLt; omega⟩

theorem piece19 (o : ℕ) (h) (ho : o + 512 ≤ 1024) (p : ℕ) (hs : S656x512.Slices ![256, p] S256x256) (hp : p + 256 ≤ 512) (j : ℕ) (hj : 256 * j = o + p) (hr) (x : S1x1x256x256.Idx) :
    tv (pz x0 x1 x3 o h) ![256, p] hs x = g19 x0 x1 x3 ((Rect.unit (s := S1x4x256x256) ![0, j, 0, 0] ![1, 1, 256, 256] hr).emb x) := by
  obtain ⟨a, s, rfl⟩ : ∃ (a : Fin 256) (s : Fin 256), x = ix4 0 0 a s :=
    ⟨x 2, x 3, funext fun i => match i with
      | ⟨0, _⟩ => Fin.ext (Nat.lt_one_iff.mp (x 0).isLt)
      | ⟨1, _⟩ => Fin.ext (Nat.lt_one_iff.mp (x 1).isLt)
      | ⟨2, _⟩ => rfl
      | ⟨3, _⟩ => rfl⟩
  refine (tv_apply _ 256 p hs (by omega) hp a s).trans ?_
  refine Eq.trans ?_ (congrArg (g19 x0 x1 x3) (emb4_256 j hr (by omega) a s)).symm
  rw [pz_apply x0 x1 x3 o h ho]
  refine congrArg (fun r => pb x0 x1 x3 r ⟨256 + a.val, by omega⟩) (Fin.ext ?_)
  show o + (p + s.val) = 256 * j + s.val
  omega

/-- What is stored of the values, at an index. -/
theorem blk19_apply (y : S1x4x256x256.Idx) : blk19 x0 x1 x3 y = g19 x0 x1 x3 y := by
  refine View.canon_apply_of_pieces (Val := Elt Ideal) (e := .bf16) (g19 x0 x1 x3) _ ?_ y ?_
  · intro p hp
    rcases List.mem_cons.mp hp with rfl | hp
    · exact fun x => piece19 x0 x1 x3 512 inb_S1024x1024_S512x1024_512_0 (by omega) 256 slices_S656x512_o256_256_S256x256 (by omega) 3 rfl inb_S1x4x256x256_S1x1x256x256_0_3_0_0 x
    rcases List.mem_cons.mp hp with rfl | hp
    · exact fun x => piece19 x0 x1 x3 512 inb_S1024x1024_S512x1024_512_0 (by omega) 0 slices_S656x512_o256_0_S256x256 (by omega) 2 rfl inb_S1x4x256x256_S1x1x256x256_0_2_0_0 x
    rcases List.mem_cons.mp hp with rfl | hp
    · exact fun x => piece19 x0 x1 x3 0 inb_S1024x1024_S512x1024_0_0 (by omega) 256 slices_S656x512_o256_256_S256x256 (by omega) 1 rfl inb_S1x4x256x256_S1x1x256x256_0_1_0_0 x
    obtain rfl := List.mem_singleton.mp hp
    exact fun x => piece19 x0 x1 x3 0 inb_S1024x1024_S512x1024_0_0 (by omega) 0 slices_S656x512_o256_0_S256x256 (by omega) 0 rfl inb_S1x4x256x256_S1x1x256x256_0_0_0_0 x
  · have h0 : (y 1 : Nat) < 4 := (y 1).isLt
    by_cases c0 : (y 1 : Nat) = 3
    · exact ⟨_, List.mem_cons_self, mem4_256 3 inb_S1x4x256x256_S1x1x256x256_0_3_0_0 y (by omega)⟩
    by_cases c1 : (y 1 : Nat) = 2
    · exact ⟨_, (List.mem_cons_of_mem _ List.mem_cons_self), mem4_256 2 inb_S1x4x256x256_S1x1x256x256_0_2_0_0 y (by omega)⟩
    by_cases c2 : (y 1 : Nat) = 1
    · exact ⟨_, (List.mem_cons_of_mem _ (List.mem_cons_of_mem _ List.mem_cons_self)), mem4_256 1 inb_S1x4x256x256_S1x1x256x256_0_1_0_0 y (by omega)⟩
    exact ⟨_, (List.mem_cons_of_mem _ (List.mem_cons_of_mem _ (List.mem_cons_of_mem _ List.mem_cons_self))), mem4_256 0 inb_S1x4x256x256_S1x1x256x256_0_0_0_0 y (by omega)⟩

/-- The block of the indexer's queries. -/
def g20 : Vec Ideal S1x4x128x256 .bf16 := fun y => pb x0 x1 x3 ⟨256 * (y 1).val + (y 3).val, by have : (y 1).val < 4 := (y 1).isLt; have : (y 3).val < 256 := (y 3).isLt; omega⟩ ⟨512 + (y 2).val, by have : (y 2).val < 128 := (y 2).isLt; omega⟩

theorem piece20 (o : ℕ) (h) (ho : o + 512 ≤ 1024) (p : ℕ) (hs : S656x512.Slices ![512, p] S128x256) (hp : p + 256 ≤ 512) (j : ℕ) (hj : 256 * j = o + p) (hr) (x : S1x1x128x256.Idx) :
    tq (pz x0 x1 x3 o h) ![512, p] hs x = g20 x0 x1 x3 ((Rect.unit (s := S1x4x128x256) ![0, j, 0, 0] ![1, 1, 128, 256] hr).emb x) := by
  obtain ⟨a, s, rfl⟩ : ∃ (a : Fin 128) (s : Fin 256), x = ix4 0 0 a s :=
    ⟨x 2, x 3, funext fun i => match i with
      | ⟨0, _⟩ => Fin.ext (Nat.lt_one_iff.mp (x 0).isLt)
      | ⟨1, _⟩ => Fin.ext (Nat.lt_one_iff.mp (x 1).isLt)
      | ⟨2, _⟩ => rfl
      | ⟨3, _⟩ => rfl⟩
  refine (tq_apply _ 512 p hs (by omega) hp a s).trans ?_
  refine Eq.trans ?_ (congrArg (g20 x0 x1 x3) (emb4_128 j hr (by omega) a s)).symm
  rw [pz_apply x0 x1 x3 o h ho]
  refine congrArg (fun r => pb x0 x1 x3 r ⟨512 + a.val, by omega⟩) (Fin.ext ?_)
  show o + (p + s.val) = 256 * j + s.val
  omega

/-- What is stored of the indexer's queries, at an index. -/
theorem blk20_apply (y : S1x4x128x256.Idx) : blk20 x0 x1 x3 y = g20 x0 x1 x3 y := by
  refine View.canon_apply_of_pieces (Val := Elt Ideal) (e := .bf16) (g20 x0 x1 x3) _ ?_ y ?_
  · intro p hp
    rcases List.mem_cons.mp hp with rfl | hp
    · exact fun x => piece20 x0 x1 x3 512 inb_S1024x1024_S512x1024_512_0 (by omega) 256 slices_S656x512_o512_256_S128x256 (by omega) 3 rfl inb_S1x4x128x256_S1x1x128x256_0_3_0_0 x
    rcases List.mem_cons.mp hp with rfl | hp
    · exact fun x => piece20 x0 x1 x3 512 inb_S1024x1024_S512x1024_512_0 (by omega) 0 slices_S656x512_o512_0_S128x256 (by omega) 2 rfl inb_S1x4x128x256_S1x1x128x256_0_2_0_0 x
    rcases List.mem_cons.mp hp with rfl | hp
    · exact fun x => piece20 x0 x1 x3 0 inb_S1024x1024_S512x1024_0_0 (by omega) 256 slices_S656x512_o512_256_S128x256 (by omega) 1 rfl inb_S1x4x128x256_S1x1x128x256_0_1_0_0 x
    obtain rfl := List.mem_singleton.mp hp
    exact fun x => piece20 x0 x1 x3 0 inb_S1024x1024_S512x1024_0_0 (by omega) 0 slices_S656x512_o512_0_S128x256 (by omega) 0 rfl inb_S1x4x128x256_S1x1x128x256_0_0_0_0 x
  · have h0 : (y 1 : Nat) < 4 := (y 1).isLt
    by_cases c0 : (y 1 : Nat) = 3
    · exact ⟨_, List.mem_cons_self, mem4_128 3 inb_S1x4x128x256_S1x1x128x256_0_3_0_0 y (by omega)⟩
    by_cases c1 : (y 1 : Nat) = 2
    · exact ⟨_, (List.mem_cons_of_mem _ List.mem_cons_self), mem4_128 2 inb_S1x4x128x256_S1x1x128x256_0_2_0_0 y (by omega)⟩
    by_cases c2 : (y 1 : Nat) = 1
    · exact ⟨_, (List.mem_cons_of_mem _ (List.mem_cons_of_mem _ List.mem_cons_self)), mem4_128 1 inb_S1x4x128x256_S1x1x128x256_0_1_0_0 y (by omega)⟩
    exact ⟨_, (List.mem_cons_of_mem _ (List.mem_cons_of_mem _ (List.mem_cons_of_mem _ List.mem_cons_self))), mem4_128 0 inb_S1x4x128x256_S1x1x128x256_0_0_0_0 y (by omega)⟩

/-- The block of the indexer's weights. -/
def g21 : Vec Ideal S1x4x8x256 .f32 := fun y => pb x0 x1 x3 ⟨256 * (y 1).val + (y 3).val, by have : (y 1).val < 4 := (y 1).isLt; have : (y 3).val < 256 := (y 3).isLt; omega⟩ ⟨640 + (y 2).val, by have : (y 2).val < 8 := (y 2).isLt; omega⟩

theorem piece21 (o : ℕ) (h) (ho : o + 512 ≤ 1024) (p : ℕ) (hs : S656x512.Slices ![640, p] S8x256) (hp : p + 256 ≤ 512) (j : ℕ) (hj : 256 * j = o + p) (hr) (x : S1x1x8x256.Idx) :
    tw (pz x0 x1 x3 o h) ![640, p] hs x = g21 x0 x1 x3 ((Rect.unit (s := S1x4x8x256) ![0, j, 0, 0] ![1, 1, 8, 256] hr).emb x) := by
  obtain ⟨a, s, rfl⟩ : ∃ (a : Fin 8) (s : Fin 256), x = ix4 0 0 a s :=
    ⟨x 2, x 3, funext fun i => match i with
      | ⟨0, _⟩ => Fin.ext (Nat.lt_one_iff.mp (x 0).isLt)
      | ⟨1, _⟩ => Fin.ext (Nat.lt_one_iff.mp (x 1).isLt)
      | ⟨2, _⟩ => rfl
      | ⟨3, _⟩ => rfl⟩
  refine (tw_apply _ 640 p hs (by omega) hp a s).trans ?_
  refine Eq.trans ?_ (congrArg (g21 x0 x1 x3) (emb4_8 j hr (by omega) a s)).symm
  rw [pz_apply x0 x1 x3 o h ho]
  refine congrArg (fun r => pb x0 x1 x3 r ⟨640 + a.val, by omega⟩) (Fin.ext ?_)
  show o + (p + s.val) = 256 * j + s.val
  omega

/-- What is stored of the indexer's weights, at an index. -/
theorem blk21_apply (y : S1x4x8x256.Idx) : blk21 x0 x1 x3 y = g21 x0 x1 x3 y := by
  refine View.canon_apply_of_pieces (Val := Elt Ideal) (e := .f32) (g21 x0 x1 x3) _ ?_ y ?_
  · intro p hp
    rcases List.mem_cons.mp hp with rfl | hp
    · exact fun x => piece21 x0 x1 x3 512 inb_S1024x1024_S512x1024_512_0 (by omega) 256 slices_S656x512_o640_256_S8x256 (by omega) 3 rfl inb_S1x4x8x256_S1x1x8x256_0_3_0_0 x
    rcases List.mem_cons.mp hp with rfl | hp
    · exact fun x => piece21 x0 x1 x3 512 inb_S1024x1024_S512x1024_512_0 (by omega) 0 slices_S656x512_o640_0_S8x256 (by omega) 2 rfl inb_S1x4x8x256_S1x1x8x256_0_2_0_0 x
    rcases List.mem_cons.mp hp with rfl | hp
    · exact fun x => piece21 x0 x1 x3 0 inb_S1024x1024_S512x1024_0_0 (by omega) 256 slices_S656x512_o640_256_S8x256 (by omega) 1 rfl inb_S1x4x8x256_S1x1x8x256_0_1_0_0 x
    obtain rfl := List.mem_singleton.mp hp
    exact fun x => piece21 x0 x1 x3 0 inb_S1024x1024_S512x1024_0_0 (by omega) 0 slices_S656x512_o640_0_S8x256 (by omega) 0 rfl inb_S1x4x8x256_S1x1x8x256_0_0_0_0 x
  · have h0 : (y 1 : Nat) < 4 := (y 1).isLt
    by_cases c0 : (y 1 : Nat) = 3
    · exact ⟨_, List.mem_cons_self, mem4_8 3 inb_S1x4x8x256_S1x1x8x256_0_3_0_0 y (by omega)⟩
    by_cases c1 : (y 1 : Nat) = 2
    · exact ⟨_, (List.mem_cons_of_mem _ List.mem_cons_self), mem4_8 2 inb_S1x4x8x256_S1x1x8x256_0_2_0_0 y (by omega)⟩
    by_cases c2 : (y 1 : Nat) = 1
    · exact ⟨_, (List.mem_cons_of_mem _ (List.mem_cons_of_mem _ List.mem_cons_self)), mem4_8 1 inb_S1x4x8x256_S1x1x8x256_0_1_0_0 y (by omega)⟩
    exact ⟨_, (List.mem_cons_of_mem _ (List.mem_cons_of_mem _ (List.mem_cons_of_mem _ List.mem_cons_self))), mem4_8 0 inb_S1x4x8x256_S1x1x8x256_0_0_0_0 y (by omega)⟩

end Cert.Proof.Front
-- ==== Proof.Front.Prep.lean ====
module

public import proofs.«01_k».proof.Proof.Gen.Kernel4Ideal.Frame.Runs
public import Idealize.ShloMosaic.Lib.Tactic
public import Idealize.ShloMosaic.Lib.Pointwise
public import Idealize.ShloMosaic.Lib.StableHlo.ReadAt

@[expose] public section

noncomputable section

namespace Cert.Proof.Front

open Cert.Kernel4Ideal Cert.Kernel4Ideal.Gen
open Idealize.ShloMosaic Idealize.ShloMosaic.TcCoe Idealize.SL.Sem

variable (m : (ℓ : Loc nD τ sig) → Buf (Elt Ideal) ℓ)

/-- The gain of the rows, as the kernel finds it. -/
theorem gainx (c : Dev nD) (k : Fin 1024) :
    V m c main_v35 (ix2 0 k) = m ((c : Thread nD τ).loc main_arg1) (ix2 0 k) := by
  unfold V
  after_reads_at

/-- The gain of the mixer's second half, as the kernel finds it. -/
theorem gainv (c : Dev nD) (k : Fin 256) :
    V m c main_v38 (ix2 0 k) = m ((c : Thread nD τ).loc main_arg3) (ix2 0 k) := by
  unfold V
  after_reads_at

/-- The four mixing matrices side by side, as the kernel finds them. -/
theorem mixm (c : Dev nD) (t : Fin 128) (g : Fin 4) (s : Fin 128) :
    V m c main_v24 (ix2 t ⟨128 * g.val + s.val, by omega⟩) = m ((c : Thread nD τ).loc main_arg4) (ix4 0 g t s) := by
  unfold V
  after_reads_at

/-- The mixing bias, as the kernel finds it. -/
theorem mixb (c : Dev nD) (t : Fin 128) (n : Fin 256) :
    V m c main_v29 (ix2 t n) = m ((c : Thread nD τ).loc main_arg5) (ix3 0 ⟨n.val / 64, by omega⟩ t) := by
  unfold V
  after_reads_at

/-- The first columns of the packed matrix: the mixer's two halves. -/
theorem w1uv (c : Dev nD) (x : Fin 1024) (n : Fin 512) :
    V m c main_v13 (ix2 x ⟨n.val, by omega⟩) = m ((c : Thread nD τ).loc main_arg2) (ix3 0 x ⟨n.val, by omega⟩) := by
  have hn := n.isLt
  unfold V
  after_reads_at
  after_reads_at

/-- The columns of the keys. -/
theorem w1k (c : Dev nD) (x : Fin 1024) (n : Fin 256) :
    V m c main_v13 (ix2 x ⟨768 + n.val, by omega⟩) = m ((c : Thread nD τ).loc main_arg2) (ix3 0 x ⟨1024 + n.val, by omega⟩) := by
  have hn := n.isLt
  unfold V
  after_reads_at
  rw [dif_neg (by omega), dif_neg (by omega), dif_pos (by omega)]
  after_reads_at
  refine congrArg (m ((c : Thread nD τ).loc main_arg2)) (congrArg (ix3 0 x) (Fin.ext ?_))
  dsimp only
  omega

/-- The columns of the indexer's keys, four times over. -/
theorem w1ki (c : Dev nD) (x : Fin 1024) (n : Fin 128) :
    V m c main_v13 (ix2 x ⟨1536 + n.val, by omega⟩) = m ((c : Thread nD τ).loc main_arg2) (ix3 0 x ⟨1664 + n.val % 32, by omega⟩) := by
  have hn := n.isLt
  unfold V
  after_reads_at
  by_cases h0 : n.val < 32
  · rw [dif_neg (by omega), dif_neg (by omega), dif_neg (by omega), dif_neg (by omega), dif_pos (by omega)]
    after_reads_at
    refine congrArg (m ((c : Thread nD τ).loc main_arg2)) (congrArg (ix3 0 x) (Fin.ext ?_))
    dsimp only
    omega
  by_cases h1 : n.val < 64
  · rw [dif_neg (by omega), dif_neg (by omega), dif_neg (by omega), dif_neg (by omega), dif_neg (by omega), dif_pos (by omega)]
    after_reads_at
    refine congrArg (m ((c : Thread nD τ).loc main_arg2)) (congrArg (ix3 0 x) (Fin.ext ?_))
    dsimp only
    omega
  by_cases h2 : n.val < 96
  · rw [dif_neg (by omega), dif_neg (by omega), dif_neg (by omega), dif_neg (by omega), dif_neg (by omega), dif_neg (by omega), dif_pos (by omega)]
    after_reads_at
    refine congrArg (m ((c : Thread nD τ).loc main_arg2)) (congrArg (ix3 0 x) (Fin.ext ?_))
    dsimp only
    omega
  rw [dif_neg (by omega), dif_neg (by omega), dif_neg (by omega), dif_neg (by omega), dif_neg (by omega), dif_neg (by omega), dif_neg (by omega)]
  after_reads_at
  refine congrArg (m ((c : Thread nD τ).loc main_arg2)) (congrArg (ix3 0 x) (Fin.ext ?_))
  dsimp only
  omega

/-- The queries' rows of the second packed matrix. -/
theorem w2q (c : Dev nD) (x : Fin 1024) (n : Fin 256) :
    V m c main_v17 (ix2 ⟨n.val, by omega⟩ x) = m ((c : Thread nD τ).loc main_arg2) (ix3 0 x ⟨768 + n.val, by omega⟩) := by
  have hn := n.isLt
  unfold V
  after_reads_at
  after_reads_at

/-- The values' rows. -/
theorem w2v (c : Dev nD) (x : Fin 1024) (n : Fin 256) :
    V m c main_v17 (ix2 ⟨256 + n.val, by omega⟩ x) = m ((c : Thread nD τ).loc main_arg2) (ix3 0 x ⟨1280 + n.val, by omega⟩) := by
  have hn := n.isLt
  unfold V
  after_reads_at
  after_reads_at

/-- The rows of the indexer's queries. -/
theorem w2qi (c : Dev nD) (x : Fin 1024) (n : Fin 128) :
    V m c main_v17 (ix2 ⟨512 + n.val, by omega⟩ x) = m ((c : Thread nD τ).loc main_arg2) (ix3 0 x ⟨1536 + n.val, by omega⟩) := by
  have hn := n.isLt
  unfold V
  after_reads_at
  rw [dif_neg (by omega), dif_neg (by omega), dif_pos (by omega)]
  after_reads_at
  refine congrArg (m ((c : Thread nD τ).loc main_arg2)) (congrArg (ix3 0 x) (Fin.ext ?_))
  dsimp only
  omega

/-- The rows of the indexer's weights. -/
theorem w2wi (c : Dev nD) (x : Fin 1024) (n : Fin 8) :
    V m c main_v17 (ix2 ⟨640 + n.val, by omega⟩ x) = if h : n.val < 4 then m ((c : Thread nD τ).loc main_arg2) (ix3 0 x ⟨1696 + n.val, by omega⟩) else (0 : EReal) := by
  have hn := n.isLt
  unfold V
  after_reads_at
  rw [dif_neg (by omega), dif_neg (by omega), dif_neg (by omega)]
  by_cases h : n.val < 4
  · rw [dif_pos h]
    after_reads_at
    rw [dif_pos (by omega)]
    refine congrArg (m ((c : Thread nD τ).loc main_arg2)) (congrArg (ix3 0 x) (Fin.ext ?_))
    dsimp only
    omega
  · rw [dif_neg h]
    after_reads_at
    rw [dif_neg (by omega)]
    show (((0#32 : BitVec 32).toInt : ℝ) : EReal) = 0
    simp

end Cert.Proof.Front
-- ==== Proof.Front.Rows.lean ====
module

public import proofs.«01_k».proof.Proof.Front.Block
public import proofs.«01_k».proof.Proof.Front.Prep

@[expose] public section

noncomputable section

namespace Cert.Proof.Front

open Cert.Kernel4Ideal Cert.Kernel4Ideal.Gen
open Idealize.ShloMosaic Idealize.ShloMosaic.TcCoe Idealize.SL.Sem

/-! ## The results, as functions of the arguments -/

section Results

variable (x0 : FVec Ideal S32768x1024 .f32) (x1 : FVec Ideal S4x1024 .f32) (x2 : FVec Ideal S4x1024x6308 .f32) (x3 : FVec Ideal S4x256 .f32) (x4 : FVec Ideal S4x4x128x128 .f32) (x5 : FVec Ideal S4x4x128 .f32)

/-- A column of the input product. -/
def Z (r : Fin 32768) (n : Fin 6308) : EReal :=
  ∑ x, rn (Ideal.ofBits .f32 0x44800000#32) (fun k => x0 (ix2 r k)) (fun k => x1 (ix2 0 k)) x * x2 (ix3 0 x n)

/-- The gated mixer at row `t` of chunk `j`. -/
def mixed (j : Fin 256) (t : Fin 128) (n : Fin 256) : EReal :=
  gmix (fun t n => gelu (Z x0 x1 x2 ⟨128 * j.val + t.val, by omega⟩ ⟨n.val, by omega⟩))
    (fun t n => rn (Ideal.ofBits .f32 0x43800000#32) (fun k => gelu (Z x0 x1 x2 ⟨128 * j.val + t.val, by omega⟩ ⟨256 + k.val, by omega⟩)) (fun k => x3 (ix2 0 k)) n)
    (fun g t s => x4 (ix4 0 g t s)) (fun t n => x5 (ix3 0 ⟨n.val / 64, by omega⟩ t)) t n

/-- The gated mixer. -/
def resBg : FVec Ideal S32768x256 .bf16 := fun y => mixed x0 x1 x2 x3 x4 x5 ⟨(y 0).val / 128, by have : (y 0).val < 32768 := (y 0).isLt; omega⟩ ⟨(y 0).val % 128, by omega⟩ (y 1)

/-- The keys. -/
def resK : FVec Ideal S32768x256 .bf16 := fun y => Z x0 x1 x2 (y 0) ⟨1024 + (y 1).val, by have : (y 1).val < 256 := (y 1).isLt; omega⟩

/-- The indexer's keys, four times over. -/
def resKi : FVec Ideal S32768x128 .bf16 := fun y => Z x0 x1 x2 (y 0) ⟨1664 + (y 1).val % 32, by omega⟩

/-- The row of the batch a position of a chunk is. -/
def pos (b : Fin 4) (c : Fin 32) (s : Fin 256) : Fin 32768 := ⟨8192 * b.val + (256 * c.val + s.val), by omega⟩

/-- The queries, scaled, chunk by chunk and transposed. -/
def resQ : FVec Ideal S4x32x256x256 .bf16 := fun y => Z x0 x1 x2 (pos (y 0) (y 1) (y 3)) ⟨768 + (y 2).val, by have : (y 2).val < 256 := (y 2).isLt; omega⟩ * Ideal.ofBits .f32 0x3E38AA3B#32

/-- The values, chunk by chunk and transposed. -/
def resV : FVec Ideal S4x32x256x256 .bf16 := fun y => Z x0 x1 x2 (pos (y 0) (y 1) (y 3)) ⟨1280 + (y 2).val, by have : (y 2).val < 256 := (y 2).isLt; omega⟩

/-- The indexer's queries, chunk by chunk and transposed. -/
def resQi : FVec Ideal S4x32x128x256 .bf16 := fun y => Z x0 x1 x2 (pos (y 0) (y 1) (y 3)) ⟨1536 + (y 2).val, by have : (y 2).val < 128 := (y 2).isLt; omega⟩

/-- The indexer's weights, chunk by chunk and transposed, with four rows of zeros. -/
def resWi : FVec Ideal S4x32x8x256 .f32 := fun y => if h : (y 2).val < 4 then Z x0 x1 x2 (pos (y 0) (y 1) (y 3)) ⟨1696 + (y 2).val, by omega⟩ else 0

end Results

/-! ## The blocks the kernel reads -/

variable (m : (ℓ : Loc nD τ sig) → Buf (Elt Ideal) ℓ)

theorem index0 : ∀ t : Fin grid0.N, win0_0.index t 0 = t.val ∧ win0_0.index t 1 = 0 := by decide +kernel

theorem block0 (c : Dev nD) (t : Fin cfg0.N) (r : Fin 1024) (k : Fin 1024) (h : 1024 * t.val + r.val < 32768) :
    (iblk m c 0 t : Vec Ideal S1024x1024 .f32) (ix2 r k) = m ((c : Thread nD τ).loc main_arg0) (ix2 ⟨1024 * t.val + r.val, h⟩ k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * t.val + r.val; rw [(index0 t).1]; omega
  | ⟨1, _⟩ => show win0_0.index t 1 * 1024 + 1 * k.val = k.val; rw [(index0 t).2]; omega

theorem block1 (c : Dev nD) (t : Fin cfg0.N) (i : Fin 1) (k : Fin 1024) :
    (iblk m c 1 t : Vec Ideal S1x1024 .f32) (ix2 i k) = V m c main_v35 (ix2 i k) := by
  unfold iblk
  rw [View.read_apply]
  show V m c main_v35 _ = V m c main_v35 _
  congr 1
  funext a
  apply Fin.ext
  match a with
  | ⟨0, _⟩ => show 0 * 1 + 1 * i.val = i.val; omega
  | ⟨1, _⟩ => show 0 * 1024 + 1 * k.val = k.val; omega

theorem block2 (c : Dev nD) (t : Fin cfg0.N) (i : Fin 1024) (k : Fin 1664) :
    (iblk m c 2 t : Vec Ideal S1024x1664 .bf16) (ix2 i k) = V m c main_v13 (ix2 i k) := by
  unfold iblk
  rw [View.read_apply]
  show V m c main_v13 _ = V m c main_v13 _
  congr 1
  funext a
  apply Fin.ext
  match a with
  | ⟨0, _⟩ => show 0 * 1024 + 1 * i.val = i.val; omega
  | ⟨1, _⟩ => show 0 * 1664 + 1 * k.val = k.val; omega

theorem block3 (c : Dev nD) (t : Fin cfg0.N) (i : Fin 656) (k : Fin 1024) :
    (iblk m c 3 t : Vec Ideal S656x1024 .bf16) (ix2 i k) = V m c main_v17 (ix2 i k) := by
  unfold iblk
  rw [View.read_apply]
  show V m c main_v17 _ = V m c main_v17 _
  congr 1
  funext a
  apply Fin.ext
  match a with
  | ⟨0, _⟩ => show 0 * 656 + 1 * i.val = i.val; omega
  | ⟨1, _⟩ => show 0 * 1024 + 1 * k.val = k.val; omega

theorem block4 (c : Dev nD) (t : Fin cfg0.N) (i : Fin 1) (k : Fin 256) :
    (iblk m c 4 t : Vec Ideal S1x256 .f32) (ix2 i k) = V m c main_v38 (ix2 i k) := by
  unfold iblk
  rw [View.read_apply]
  show V m c main_v38 _ = V m c main_v38 _
  congr 1
  funext a
  apply Fin.ext
  match a with
  | ⟨0, _⟩ => show 0 * 1 + 1 * i.val = i.val; omega
  | ⟨1, _⟩ => show 0 * 256 + 1 * k.val = k.val; omega

theorem block5 (c : Dev nD) (t : Fin cfg0.N) (i : Fin 128) (k : Fin 512) :
    (iblk m c 5 t : Vec Ideal S128x512 .f32) (ix2 i k) = V m c main_v24 (ix2 i k) := by
  unfold iblk
  rw [View.read_apply]
  show V m c main_v24 _ = V m c main_v24 _
  congr 1
  funext a
  apply Fin.ext
  match a with
  | ⟨0, _⟩ => show 0 * 128 + 1 * i.val = i.val; omega
  | ⟨1, _⟩ => show 0 * 512 + 1 * k.val = k.val; omega

theorem block6 (c : Dev nD) (t : Fin cfg0.N) (i : Fin 128) (k : Fin 256) :
    (iblk m c 6 t : Vec Ideal S128x256 .f32) (ix2 i k) = V m c main_v29 (ix2 i k) := by
  unfold iblk
  rw [View.read_apply]
  show V m c main_v29 _ = V m c main_v29 _
  congr 1
  funext a
  apply Fin.ext
  match a with
  | ⟨0, _⟩ => show 0 * 128 + 1 * i.val = i.val; omega
  | ⟨1, _⟩ => show 0 * 256 + 1 * k.val = k.val; omega

/-- A column of the input product, from a start memory. -/
abbrev zc (c : Dev nD) (r : Fin 32768) (n : Fin 6308) : EReal := Z (m ((c : Thread nD τ).loc main_arg0)) (m ((c : Thread nD τ).loc main_arg1)) (m ((c : Thread nD τ).loc main_arg2)) r n

theorem nr_eq (c : Dev nD) (t : Fin cfg0.N) (r x : Fin 1024) (h : 1024 * t.val + r.val < 32768) :
    nr (iblk m c 0 t) (iblk m c 1 t) r x = rn (Ideal.ofBits .f32 0x44800000#32) (fun k => m ((c : Thread nD τ).loc main_arg0) (ix2 ⟨1024 * t.val + r.val, h⟩ k)) (fun k => m ((c : Thread nD τ).loc main_arg1) (ix2 0 k)) x := by
  unfold nr
  simp only [block0 m c t r _ h, block1]
  exact congrArg (fun g => rn _ _ g x) (funext fun k => gainx m c k)

theorem pa_uv (c : Dev nD) (t : Fin cfg0.N) (r : Fin 1024) (h : 1024 * t.val + r.val < 32768) (n : Fin 512) (hn) :
    pa (iblk m c 0 t) (iblk m c 1 t) (iblk m c 2 t) r ⟨n.val, hn⟩ = zc m c ⟨1024 * t.val + r.val, h⟩ ⟨n.val, by omega⟩ := by
  unfold pa zc Z
  refine Finset.sum_congr rfl fun x _ => ?_
  rw [nr_eq m c t r x h, block2, w1uv]

theorem pa_k (c : Dev nD) (t : Fin cfg0.N) (r : Fin 1024) (h : 1024 * t.val + r.val < 32768) (n : Fin 256) (hn) :
    pa (iblk m c 0 t) (iblk m c 1 t) (iblk m c 2 t) r ⟨768 + n.val, hn⟩ = zc m c ⟨1024 * t.val + r.val, h⟩ ⟨1024 + n.val, by omega⟩ := by
  unfold pa zc Z
  refine Finset.sum_congr rfl fun x _ => ?_
  rw [nr_eq m c t r x h, block2, w1k]

theorem pa_ki (c : Dev nD) (t : Fin cfg0.N) (r : Fin 1024) (h : 1024 * t.val + r.val < 32768) (n : Fin 128) (hn) :
    pa (iblk m c 0 t) (iblk m c 1 t) (iblk m c 2 t) r ⟨1536 + n.val, hn⟩ = zc m c ⟨1024 * t.val + r.val, h⟩ ⟨1664 + n.val % 32, by omega⟩ := by
  unfold pa zc Z
  refine Finset.sum_congr rfl fun x _ => ?_
  rw [nr_eq m c t r x h, block2, w1ki]

theorem pb_q (c : Dev nD) (t : Fin cfg0.N) (r : Fin 1024) (h : 1024 * t.val + r.val < 32768) (n : Fin 256) (hn) :
    pb (iblk m c 0 t) (iblk m c 1 t) (iblk m c 3 t) r ⟨0 + n.val, hn⟩ = zc m c ⟨1024 * t.val + r.val, h⟩ ⟨768 + n.val, by omega⟩ := by
  unfold pb zc Z
  refine Finset.sum_congr rfl fun x _ => ?_
  rw [nr_eq m c t r x h, block3, mul_comm]
  exact congrArg (_ * ·) ((congrArg (fun i => V m c main_v17 (ix2 i x)) (Fin.ext (Nat.zero_add _))).trans (w2q m c x n))

theorem pb_v (c : Dev nD) (t : Fin cfg0.N) (r : Fin 1024) (h : 1024 * t.val + r.val < 32768) (n : Fin 256) (hn) :
    pb (iblk m c 0 t) (iblk m c 1 t) (iblk m c 3 t) r ⟨256 + n.val, hn⟩ = zc m c ⟨1024 * t.val + r.val, h⟩ ⟨1280 + n.val, by omega⟩ := by
  unfold pb zc Z
  refine Finset.sum_congr rfl fun x _ => ?_
  rw [nr_eq m c t r x h, block3, mul_comm]
  exact congrArg (_ * ·) ((w2v m c x n))

theorem pb_qi (c : Dev nD) (t : Fin cfg0.N) (r : Fin 1024) (h : 1024 * t.val + r.val < 32768) (n : Fin 128) (hn) :
    pb (iblk m c 0 t) (iblk m c 1 t) (iblk m c 3 t) r ⟨512 + n.val, hn⟩ = zc m c ⟨1024 * t.val + r.val, h⟩ ⟨1536 + n.val, by omega⟩ := by
  unfold pb zc Z
  refine Finset.sum_congr rfl fun x _ => ?_
  rw [nr_eq m c t r x h, block3, mul_comm]
  exact congrArg (_ * ·) ((w2qi m c x n))

theorem pb_wi (c : Dev nD) (t : Fin cfg0.N) (r : Fin 1024) (h : 1024 * t.val + r.val < 32768) (n : Fin 8) (hn) :
    pb (iblk m c 0 t) (iblk m c 1 t) (iblk m c 3 t) r ⟨640 + n.val, hn⟩ = if h' : n.val < 4 then zc m c ⟨1024 * t.val + r.val, h⟩ ⟨1696 + n.val, by omega⟩ else 0 := by
  unfold pb
  by_cases h' : n.val < 4
  · rw [dif_pos h']
    unfold zc Z
    refine Finset.sum_congr rfl fun x _ => ?_
    rw [nr_eq m c t r x h, block3, mul_comm]
    exact congrArg (_ * ·) ((w2wi m c x n).trans (dif_pos h'))
  · rw [dif_neg h']
    refine Finset.sum_eq_zero fun x _ => ?_
    rw [block3]
    have e : V m c main_v17 (ix2 ⟨640 + n.val, hn⟩ x) = (0 : EReal) := (w2wi m c x n).trans (dif_neg h')
    rw [e]
    exact zero_mul (M₀ := EReal) _

theorem cmix_eq (c : Dev nD) (t : Fin cfg0.N) (j : Fin 8) (h : 8 * t.val + j.val < 256) (r : Fin 128) (n : Fin 256) :
    cmix (iblk m c 0 t) (iblk m c 1 t) (iblk m c 2 t) (iblk m c 4 t) (iblk m c 5 t) (iblk m c 6 t) j r n
      = mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨8 * t.val + j.val, h⟩ r n := by
  have er (r : Fin 128) (h1) : (⟨1024 * t.val + (128 * j.val + r.val), h1⟩ : Fin 32768) = ⟨128 * (8 * t.val + j.val) + r.val, by omega⟩ := Fin.ext (by show 1024 * t.val + (128 * j.val + r.val) = 128 * (8 * t.val + j.val) + r.val; omega)
  have eu (r : Fin 128) (n : Fin 256) (h0) (h1) : pa (iblk m c 0 t) (iblk m c 1 t) (iblk m c 2 t) ⟨128 * j.val + r.val, h0⟩ ⟨n.val, h1⟩ = zc m c ⟨128 * (8 * t.val + j.val) + r.val, by omega⟩ ⟨n.val, by omega⟩ := by
    refine (pa_uv m c t ⟨128 * j.val + r.val, h0⟩ (by show 1024 * t.val + (128 * j.val + r.val) < 32768; omega) ⟨n.val, by omega⟩ h1).trans ?_
    exact congrArg (fun r => zc m c r _) (er r _)
  have ew (r : Fin 128) (n : Fin 256) (h0) (h1) : pa (iblk m c 0 t) (iblk m c 1 t) (iblk m c 2 t) ⟨128 * j.val + r.val, h0⟩ ⟨256 + n.val, h1⟩ = zc m c ⟨128 * (8 * t.val + j.val) + r.val, by omega⟩ ⟨256 + n.val, by omega⟩ := by
    refine (pa_uv m c t ⟨128 * j.val + r.val, h0⟩ (by show 1024 * t.val + (128 * j.val + r.val) < 32768; omega) ⟨256 + n.val, by omega⟩ h1).trans ?_
    exact congrArg (fun r => zc m c r _) (er r _)
  unfold cmix mixed
  simp only [eu, ew, block4, block5, block6]
  have e4 : (fun k : Fin 256 => V m c main_v38 (ix2 0 k)) = fun k => m ((c : Thread nD τ).loc main_arg3) (ix2 0 k) := funext fun k => gainv m c k
  have e5 : (fun (g : Fin 4) (t s : Fin 128) => V m c main_v24 (ix2 t ⟨128 * g.val + s.val, by omega⟩)) = fun g t s => m ((c : Thread nD τ).loc main_arg4) (ix4 0 g t s) := funext fun g => funext fun t => funext fun s => mixm m c t g s
  have e6 : (fun (t : Fin 128) (n : Fin 256) => V m c main_v29 (ix2 t n)) = fun t n => m ((c : Thread nD τ).loc main_arg5) (ix3 0 ⟨n.val / 64, by omega⟩ t) := funext fun t => funext fun n => mixb m c t n
  exact congr (congr (congr (congr (congrArg (fun V W b t n => gmix _ V W b t n) (funext fun t => funext fun n => congrArg (fun g => rn _ _ g n) e4)) e5) e6) rfl) rfl

end Cert.Proof.Front
-- ==== Proof.Front.Array.lean ====
module

public import proofs.«01_k».proof.Proof.Front.Run
public import proofs.«01_k».proof.Proof.Front.Body
public import proofs.«01_k».proof.Proof.Front.Rows
public import Idealize.ShloMosaic.Lib.Pipeline.Value

@[expose] public section

set_option maxHeartbeats 2000000

noncomputable section

namespace Cert.Proof.Front

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-! ## The gated mixer -/

theorem index13 : ∀ t : Fin grid0.N, win0_13.index t 0 = t.val ∧ win0_13.index t 1 = 0 := by decide +kernel

theorem outsAt_13 (c : Dev nD) (t : Fin cfg0.N) : (outsAt m c t.val t.isLt).1 = blk13 (iblk m c 0 t) (iblk m c 1 t) (iblk m c 2 t) (iblk m c 4 t) (iblk m c 5 t) (iblk m c 6 t) := by
  by_cases h0 : t.val % 8 = 0
  · rw [outsAt_A m c t h0]
    exact leftA_13 m c t h0
  · rw [outsAt_B m c t h0]
    exact leftB_13 m c t h0 _ _

/-- The gated mixer of a start memory. -/
abbrev G13 (c : Dev nD) : Buf (Elt Ideal) ((c : Thread nD τ).loc main_v79_0) :=
  resBg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a grid point writes is its block of the result. -/
theorem block_13 (c : Dev nD) (t : Fin cfg0.N) (y : S1024x256.Idx) (h : 1024 * t.val + (y 0).val < 32768) :
    blk13 (iblk m c 0 t) (iblk m c 1 t) (iblk m c 2 t) (iblk m c 4 t) (iblk m c 5 t) (iblk m c 6 t) y = G13 m c (ix2 ⟨1024 * t.val + (y 0).val, h⟩ (y 1)) := by
  rw [blk13_apply]
  have h0 : (y 0).val < 1024 := (y 0).isLt
  refine (cmix_eq m c t ⟨(y 0).val / 128, by omega⟩ (by show 8 * t.val + (y 0).val / 128 < 256; omega) ⟨(y 0).val % 128, by omega⟩ (y 1)).trans ?_
  refine congrArg₂ (fun j r => mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j r (y 1)) (Fin.ext ?_) (Fin.ext ?_)
  · show 8 * t.val + (y 0).val / 128 = (1024 * t.val + (y 0).val) / 128
    omega
  · show (y 0).val % 128 = (1024 * t.val + (y 0).val) % 128
    omega

theorem flushed_13 (c : Dev nD) (t : Fin cfg0.N) : (dats m 0 c).flushed 13 t = ((cfg0.win 13).blk t).view.read (Elt Ideal) (G13 m c) := by
  show (cfg0.win 13).cut (grid0.coords t) ((dats m 0 c).after 13 t) = _
  rw [after0_13, outsAt_13]
  funext y
  rw [View.read_apply]
  have ht : t.val < 32 := t.isLt
  have hy : (y 0).val < 1024 := (y 0).isLt
  refine (block_13 m c t y (by omega)).trans (congrArg (G13 m c) (funext fun a => Fin.ext ?_))
  match a with
  | ⟨0, _⟩ => show 1024 * t.val + (y 0).val = win0_13.index t 0 * 1024 + 1 * (y 0).val; rw [(index13 t).1]; omega
  | ⟨1, _⟩ => show (y 1).val = win0_13.index t 1 * 256 + 1 * (y 1).val; rw [(index13 t).2]; omega

/-- The result array after the run. -/
theorem final_13 (c : Dev nD) : (dats m 0 c).arrAt 13 cfg0.N = G13 m c :=
  (dats m 0 c).arrAt_eq_of_cover 13 (G13 m c) (fun t _ => flushed_13 m c t) fun i => by
    have h0 : (i 0 : Nat) < 32768 := (i 0).isLt
    have h1 : (i 1 : Nat) < 256 := (i 1).isLt
    let t : Fin grid0.N := ⟨(i 0).val / 1024, by show (i 0).val / 1024 < 32; omega⟩
    refine ⟨t, flush0_13 t, ?_⟩
    show i ∈ ((View.whole main_v79_0).slice (win0_13.rect t)).set
    rw [View.set_slice_whole, Rect.mem_set_unit]
    intro a
    match a with
    | ⟨0, _⟩ => show win0_13.index t 0 * 1024 ≤ (i 0 : Nat) ∧ (i 0 : Nat) < win0_13.index t 0 * 1024 + 1024
                rw [(index13 t).1]; show (i 0).val / 1024 * 1024 ≤ (i 0 : Nat) ∧ (i 0 : Nat) < (i 0).val / 1024 * 1024 + 1024; omega
    | ⟨1, _⟩ => show win0_13.index t 1 * 256 ≤ (i 1 : Nat) ∧ (i 1 : Nat) < win0_13.index t 1 * 256 + 256
                rw [(index13 t).2]; omega

/-! ## The keys -/

theorem index16 : ∀ t : Fin grid0.N, win0_16.index t 0 = t.val ∧ win0_16.index t 1 = 0 := by decide +kernel

theorem outsAt_16 (c : Dev nD) (t : Fin cfg0.N) : (outsAt m c t.val t.isLt).2.2.2.1 = blk16 (iblk m c 0 t) (iblk m c 1 t) (iblk m c 2 t) := by
  by_cases h0 : t.val % 8 = 0
  · rw [outsAt_A m c t h0]
    exact leftA_16 m c t h0
  · rw [outsAt_B m c t h0]
    exact leftB_16 m c t h0 _ _

/-- The keys of a start memory. -/
abbrev G16 (c : Dev nD) : Buf (Elt Ideal) ((c : Thread nD τ).loc main_v79_3) :=
  resK (m ((c : Thread nD τ).loc main_arg0)) (m ((c : Thread nD τ).loc main_arg1)) (m ((c : Thread nD τ).loc main_arg2))

/-- What a grid point writes is its block of the result. -/
theorem block_16 (c : Dev nD) (t : Fin cfg0.N) (y : S1024x256.Idx) (h : 1024 * t.val + (y 0).val < 32768) :
    blk16 (iblk m c 0 t) (iblk m c 1 t) (iblk m c 2 t) y = G16 m c (ix2 ⟨1024 * t.val + (y 0).val, h⟩ (y 1)) := by
  rw [blk16_apply]
  exact pa_k m c t (y 0) h (y 1) _

theorem flushed_16 (c : Dev nD) (t : Fin cfg0.N) : (dats m 0 c).flushed 16 t = ((cfg0.win 16).blk t).view.read (Elt Ideal) (G16 m c) := by
  show (cfg0.win 16).cut (grid0.coords t) ((dats m 0 c).after 16 t) = _
  rw [after0_16, outsAt_16]
  funext y
  rw [View.read_apply]
  have ht : t.val < 32 := t.isLt
  have hy : (y 0).val < 1024 := (y 0).isLt
  refine (block_16 m c t y (by omega)).trans (congrArg (G16 m c) (funext fun a => Fin.ext ?_))
  match a with
  | ⟨0, _⟩ => show 1024 * t.val + (y 0).val = win0_16.index t 0 * 1024 + 1 * (y 0).val; rw [(index16 t).1]; omega
  | ⟨1, _⟩ => show (y 1).val = win0_16.index t 1 * 256 + 1 * (y 1).val; rw [(index16 t).2]; omega

/-- The result array after the run. -/
theorem final_16 (c : Dev nD) : (dats m 0 c).arrAt 16 cfg0.N = G16 m c :=
  (dats m 0 c).arrAt_eq_of_cover 16 (G16 m c) (fun t _ => flushed_16 m c t) fun i => by
    have h0 : (i 0 : Nat) < 32768 := (i 0).isLt
    have h1 : (i 1 : Nat) < 256 := (i 1).isLt
    let t : Fin grid0.N := ⟨(i 0).val / 1024, by show (i 0).val / 1024 < 32; omega⟩
    refine ⟨t, flush0_16 t, ?_⟩
    show i ∈ ((View.whole main_v79_3).slice (win0_16.rect t)).set
    rw [View.set_slice_whole, Rect.mem_set_unit]
    intro a
    match a with
    | ⟨0, _⟩ => show win0_16.index t 0 * 1024 ≤ (i 0 : Nat) ∧ (i 0 : Nat) < win0_16.index t 0 * 1024 + 1024
                rw [(index16 t).1]; show (i 0).val / 1024 * 1024 ≤ (i 0 : Nat) ∧ (i 0 : Nat) < (i 0).val / 1024 * 1024 + 1024; omega
    | ⟨1, _⟩ => show win0_16.index t 1 * 256 ≤ (i 1 : Nat) ∧ (i 1 : Nat) < win0_16.index t 1 * 256 + 256
                rw [(index16 t).2]; omega

/-! ## The indexer's keys -/

theorem index17 : ∀ t : Fin grid0.N, win0_17.index t 0 = t.val ∧ win0_17.index t 1 = 0 := by decide +kernel

theorem outsAt_17 (c : Dev nD) (t : Fin cfg0.N) : (outsAt m c t.val t.isLt).2.2.2.2.1 = blk17 (iblk m c 0 t) (iblk m c 1 t) (iblk m c 2 t) := by
  by_cases h0 : t.val % 8 = 0
  · rw [outsAt_A m c t h0]
    exact leftA_17 m c t h0
  · rw [outsAt_B m c t h0]
    exact leftB_17 m c t h0 _ _

/-- The indexer's keys of a start memory. -/
abbrev G17 (c : Dev nD) : Buf (Elt Ideal) ((c : Thread nD τ).loc main_v79_4) :=
  resKi (m ((c : Thread nD τ).loc main_arg0)) (m ((c : Thread nD τ).loc main_arg1)) (m ((c : Thread nD τ).loc main_arg2))

/-- What a grid point writes is its block of the result. -/
theorem block_17 (c : Dev nD) (t : Fin cfg0.N) (y : S1024x128.Idx) (h : 1024 * t.val + (y 0).val < 32768) :
    blk17 (iblk m c 0 t) (iblk m c 1 t) (iblk m c 2 t) y = G17 m c (ix2 ⟨1024 * t.val + (y 0).val, h⟩ (y 1)) := by
  rw [blk17_apply]
  exact pa_ki m c t (y 0) h (y 1) _

theorem flushed_17 (c : Dev nD) (t : Fin cfg0.N) : (dats m 0 c).flushed 17 t = ((cfg0.win 17).blk t).view.read (Elt Ideal) (G17 m c) := by
  show (cfg0.win 17).cut (grid0.coords t) ((dats m 0 c).after 17 t) = _
  rw [after0_17, outsAt_17]
  funext y
  rw [View.read_apply]
  have ht : t.val < 32 := t.isLt
  have hy : (y 0).val < 1024 := (y 0).isLt
  refine (block_17 m c t y (by omega)).trans (congrArg (G17 m c) (funext fun a => Fin.ext ?_))
  match a with
  | ⟨0, _⟩ => show 1024 * t.val + (y 0).val = win0_17.index t 0 * 1024 + 1 * (y 0).val; rw [(index17 t).1]; omega
  | ⟨1, _⟩ => show (y 1).val = win0_17.index t 1 * 128 + 1 * (y 1).val; rw [(index17 t).2]; omega

/-- The result array after the run. -/
theorem final_17 (c : Dev nD) : (dats m 0 c).arrAt 17 cfg0.N = G17 m c :=
  (dats m 0 c).arrAt_eq_of_cover 17 (G17 m c) (fun t _ => flushed_17 m c t) fun i => by
    have h0 : (i 0 : Nat) < 32768 := (i 0).isLt
    have h1 : (i 1 : Nat) < 128 := (i 1).isLt
    let t : Fin grid0.N := ⟨(i 0).val / 1024, by show (i 0).val / 1024 < 32; omega⟩
    refine ⟨t, flush0_17 t, ?_⟩
    show i ∈ ((View.whole main_v79_4).slice (win0_17.rect t)).set
    rw [View.set_slice_whole, Rect.mem_set_unit]
    intro a
    match a with
    | ⟨0, _⟩ => show win0_17.index t 0 * 1024 ≤ (i 0 : Nat) ∧ (i 0 : Nat) < win0_17.index t 0 * 1024 + 1024
                rw [(index17 t).1]; show (i 0).val / 1024 * 1024 ≤ (i 0 : Nat) ∧ (i 0 : Nat) < (i 0).val / 1024 * 1024 + 1024; omega
    | ⟨1, _⟩ => show win0_17.index t 1 * 128 ≤ (i 1 : Nat) ∧ (i 1 : Nat) < win0_17.index t 1 * 128 + 128
                rw [(index17 t).2]; omega

/-! ## The queries -/

theorem index18 : ∀ t : Fin grid0.N, win0_18.index t 0 = t.val / 8 ∧ win0_18.index t 1 = t.val % 8 ∧ win0_18.index t 2 = 0 ∧ win0_18.index t 3 = 0 := by decide +kernel

theorem outsAt_18 (c : Dev nD) (t : Fin cfg0.N) : (outsAt m c t.val t.isLt).2.2.2.2.2.1 = blk18 (iblk m c 0 t) (iblk m c 1 t) (iblk m c 3 t) := by
  by_cases h0 : t.val % 8 = 0
  · rw [outsAt_A m c t h0]
    exact leftA_18 m c t h0
  · rw [outsAt_B m c t h0]
    exact leftB_18 m c t h0 _ _

/-- The queries of a start memory. -/
abbrev G18 (c : Dev nD) : Buf (Elt Ideal) ((c : Thread nD τ).loc main_v79_5) :=
  resQ (m ((c : Thread nD τ).loc main_arg0)) (m ((c : Thread nD τ).loc main_arg1)) (m ((c : Thread nD τ).loc main_arg2))

/-- What a grid point writes is its block of the result. -/
theorem block_18 (c : Dev nD) (t : Fin cfg0.N) (y : S1x4x256x256.Idx) (ht : t.val < 32) (h1 : 4 * (t.val % 8) + (y 1).val < 32) :
    blk18 (iblk m c 0 t) (iblk m c 1 t) (iblk m c 3 t) y = G18 m c (ix4 ⟨t.val / 8, by omega⟩ ⟨4 * (t.val % 8) + (y 1).val, h1⟩ (y 2) (y 3)) := by
  have hy1 : (y 1).val < 4 := (y 1).isLt
  have hy2 : (y 2).val < 256 := (y 2).isLt
  have hy3 : (y 3).val < 256 := (y 3).isLt
  rw [blk18_apply]
  refine Eq.trans (congrArg (· * Ideal.ofBits .f32 0x3E38AA3B#32) (pb_q m c t ⟨256 * (y 1).val + (y 3).val, by omega⟩ (by show 1024 * t.val + (256 * (y 1).val + (y 3).val) < 32768; omega) (y 2) _)) ?_
  refine congrArg (fun r => Z (m ((c : Thread nD τ).loc main_arg0)) (m ((c : Thread nD τ).loc main_arg1)) (m ((c : Thread nD τ).loc main_arg2)) r ⟨768 + (y 2).val, by omega⟩ * Ideal.ofBits .f32 0x3E38AA3B#32) (a₂ := pos ⟨t.val / 8, by omega⟩ ⟨4 * (t.val % 8) + (y 1).val, h1⟩ (y 3)) (Fin.ext ?_)
  show 1024 * t.val + (256 * (y 1).val + (y 3).val) = 8192 * (t.val / 8) + (256 * (4 * (t.val % 8) + (y 1).val) + (y 3).val)
  omega

theorem flushed_18 (c : Dev nD) (t : Fin cfg0.N) : (dats m 0 c).flushed 18 t = ((cfg0.win 18).blk t).view.read (Elt Ideal) (G18 m c) := by
  show (cfg0.win 18).cut (grid0.coords t) ((dats m 0 c).after 18 t) = _
  rw [after0_18, outsAt_18]
  funext y
  rw [View.read_apply]
  have ht : t.val < 32 := t.isLt
  have hy0 : (y 0).val < 1 := (y 0).isLt
  have hy1 : (y 1).val < 4 := (y 1).isLt
  refine (block_18 m c t y ht (by omega)).trans (congrArg (G18 m c) (funext fun a => Fin.ext ?_))
  match a with
  | ⟨0, _⟩ => show t.val / 8 = win0_18.index t 0 * 1 + 1 * (y 0).val; rw [(index18 t).1]; omega
  | ⟨1, _⟩ => show 4 * (t.val % 8) + (y 1).val = win0_18.index t 1 * 4 + 1 * (y 1).val; rw [(index18 t).2.1]; omega
  | ⟨2, _⟩ => show (y 2).val = win0_18.index t 2 * 256 + 1 * (y 2).val; rw [(index18 t).2.2.1]; omega
  | ⟨3, _⟩ => show (y 3).val = win0_18.index t 3 * 256 + 1 * (y 3).val; rw [(index18 t).2.2.2]; omega

/-- The result array after the run. -/
theorem final_18 (c : Dev nD) : (dats m 0 c).arrAt 18 cfg0.N = G18 m c :=
  (dats m 0 c).arrAt_eq_of_cover 18 (G18 m c) (fun t _ => flushed_18 m c t) fun i => by
    have h0 : (i 0 : Nat) < 4 := (i 0).isLt
    have h1 : (i 1 : Nat) < 32 := (i 1).isLt
    have h2 : (i 2 : Nat) < 256 := (i 2).isLt
    have h3 : (i 3 : Nat) < 256 := (i 3).isLt
    let t : Fin grid0.N := ⟨8 * (i 0).val + (i 1).val / 4, by show 8 * (i 0).val + (i 1).val / 4 < 32; omega⟩
    refine ⟨t, flush0_18 t, ?_⟩
    show i ∈ ((View.whole main_v79_5).slice (win0_18.rect t)).set
    rw [View.set_slice_whole, Rect.mem_set_unit]
    intro a
    match a with
    | ⟨0, _⟩ => show win0_18.index t 0 * 1 ≤ (i 0 : Nat) ∧ (i 0 : Nat) < win0_18.index t 0 * 1 + 1
                rw [(index18 t).1]; show (8 * (i 0).val + (i 1).val / 4) / 8 * 1 ≤ (i 0 : Nat) ∧ (i 0 : Nat) < (8 * (i 0).val + (i 1).val / 4) / 8 * 1 + 1; omega
    | ⟨1, _⟩ => show win0_18.index t 1 * 4 ≤ (i 1 : Nat) ∧ (i 1 : Nat) < win0_18.index t 1 * 4 + 4
                rw [(index18 t).2.1]; show (8 * (i 0).val + (i 1).val / 4) % 8 * 4 ≤ (i 1 : Nat) ∧ (i 1 : Nat) < (8 * (i 0).val + (i 1).val / 4) % 8 * 4 + 4; omega
    | ⟨2, _⟩ => show win0_18.index t 2 * 256 ≤ (i 2 : Nat) ∧ (i 2 : Nat) < win0_18.index t 2 * 256 + 256
                rw [(index18 t).2.2.1]; omega
    | ⟨3, _⟩ => show win0_18.index t 3 * 256 ≤ (i 3 : Nat) ∧ (i 3 : Nat) < win0_18.index t 3 * 256 + 256
                rw [(index18 t).2.2.2]; omega

/-! ## The values -/

theorem index19 : ∀ t : Fin grid0.N, win0_19.index t 0 = t.val / 8 ∧ win0_19.index t 1 = t.val % 8 ∧ win0_19.index t 2 = 0 ∧ win0_19.index t 3 = 0 := by decide +kernel

theorem outsAt_19 (c : Dev nD) (t : Fin cfg0.N) : (outsAt m c t.val t.isLt).2.2.2.2.2.2.1 = blk19 (iblk m c 0 t) (iblk m c 1 t) (iblk m c 3 t) := by
  by_cases h0 : t.val % 8 = 0
  · rw [outsAt_A m c t h0]
    exact leftA_19 m c t h0
  · rw [outsAt_B m c t h0]
    exact leftB_19 m c t h0 _ _

/-- The values of a start memory. -/
abbrev G19 (c : Dev nD) : Buf (Elt Ideal) ((c : Thread nD τ).loc main_v79_6) :=
  resV (m ((c : Thread nD τ).loc main_arg0)) (m ((c : Thread nD τ).loc main_arg1)) (m ((c : Thread nD τ).loc main_arg2))

/-- What a grid point writes is its block of the result. -/
theorem block_19 (c : Dev nD) (t : Fin cfg0.N) (y : S1x4x256x256.Idx) (ht : t.val < 32) (h1 : 4 * (t.val % 8) + (y 1).val < 32) :
    blk19 (iblk m c 0 t) (iblk m c 1 t) (iblk m c 3 t) y = G19 m c (ix4 ⟨t.val / 8, by omega⟩ ⟨4 * (t.val % 8) + (y 1).val, h1⟩ (y 2) (y 3)) := by
  have hy1 : (y 1).val < 4 := (y 1).isLt
  have hy2 : (y 2).val < 256 := (y 2).isLt
  have hy3 : (y 3).val < 256 := (y 3).isLt
  rw [blk19_apply]
  refine Eq.trans (pb_v m c t ⟨256 * (y 1).val + (y 3).val, by omega⟩ (by show 1024 * t.val + (256 * (y 1).val + (y 3).val) < 32768; omega) (y 2) _) ?_
  refine congrArg (fun r => Z (m ((c : Thread nD τ).loc main_arg0)) (m ((c : Thread nD τ).loc main_arg1)) (m ((c : Thread nD τ).loc main_arg2)) r ⟨1280 + (y 2).val, by omega⟩) (a₂ := pos ⟨t.val / 8, by omega⟩ ⟨4 * (t.val % 8) + (y 1).val, h1⟩ (y 3)) (Fin.ext ?_)
  show 1024 * t.val + (256 * (y 1).val + (y 3).val) = 8192 * (t.val / 8) + (256 * (4 * (t.val % 8) + (y 1).val) + (y 3).val)
  omega

theorem flushed_19 (c : Dev nD) (t : Fin cfg0.N) : (dats m 0 c).flushed 19 t = ((cfg0.win 19).blk t).view.read (Elt Ideal) (G19 m c) := by
  show (cfg0.win 19).cut (grid0.coords t) ((dats m 0 c).after 19 t) = _
  rw [after0_19, outsAt_19]
  funext y
  rw [View.read_apply]
  have ht : t.val < 32 := t.isLt
  have hy0 : (y 0).val < 1 := (y 0).isLt
  have hy1 : (y 1).val < 4 := (y 1).isLt
  refine (block_19 m c t y ht (by omega)).trans (congrArg (G19 m c) (funext fun a => Fin.ext ?_))
  match a with
  | ⟨0, _⟩ => show t.val / 8 = win0_19.index t 0 * 1 + 1 * (y 0).val; rw [(index19 t).1]; omega
  | ⟨1, _⟩ => show 4 * (t.val % 8) + (y 1).val = win0_19.index t 1 * 4 + 1 * (y 1).val; rw [(index19 t).2.1]; omega
  | ⟨2, _⟩ => show (y 2).val = win0_19.index t 2 * 256 + 1 * (y 2).val; rw [(index19 t).2.2.1]; omega
  | ⟨3, _⟩ => show (y 3).val = win0_19.index t 3 * 256 + 1 * (y 3).val; rw [(index19 t).2.2.2]; omega

/-- The result array after the run. -/
theorem final_19 (c : Dev nD) : (dats m 0 c).arrAt 19 cfg0.N = G19 m c :=
  (dats m 0 c).arrAt_eq_of_cover 19 (G19 m c) (fun t _ => flushed_19 m c t) fun i => by
    have h0 : (i 0 : Nat) < 4 := (i 0).isLt
    have h1 : (i 1 : Nat) < 32 := (i 1).isLt
    have h2 : (i 2 : Nat) < 256 := (i 2).isLt
    have h3 : (i 3 : Nat) < 256 := (i 3).isLt
    let t : Fin grid0.N := ⟨8 * (i 0).val + (i 1).val / 4, by show 8 * (i 0).val + (i 1).val / 4 < 32; omega⟩
    refine ⟨t, flush0_19 t, ?_⟩
    show i ∈ ((View.whole main_v79_6).slice (win0_19.rect t)).set
    rw [View.set_slice_whole, Rect.mem_set_unit]
    intro a
    match a with
    | ⟨0, _⟩ => show win0_19.index t 0 * 1 ≤ (i 0 : Nat) ∧ (i 0 : Nat) < win0_19.index t 0 * 1 + 1
                rw [(index19 t).1]; show (8 * (i 0).val + (i 1).val / 4) / 8 * 1 ≤ (i 0 : Nat) ∧ (i 0 : Nat) < (8 * (i 0).val + (i 1).val / 4) / 8 * 1 + 1; omega
    | ⟨1, _⟩ => show win0_19.index t 1 * 4 ≤ (i 1 : Nat) ∧ (i 1 : Nat) < win0_19.index t 1 * 4 + 4
                rw [(index19 t).2.1]; show (8 * (i 0).val + (i 1).val / 4) % 8 * 4 ≤ (i 1 : Nat) ∧ (i 1 : Nat) < (8 * (i 0).val + (i 1).val / 4) % 8 * 4 + 4; omega
    | ⟨2, _⟩ => show win0_19.index t 2 * 256 ≤ (i 2 : Nat) ∧ (i 2 : Nat) < win0_19.index t 2 * 256 + 256
                rw [(index19 t).2.2.1]; omega
    | ⟨3, _⟩ => show win0_19.index t 3 * 256 ≤ (i 3 : Nat) ∧ (i 3 : Nat) < win0_19.index t 3 * 256 + 256
                rw [(index19 t).2.2.2]; omega

/-! ## The indexer's queries -/

theorem index20 : ∀ t : Fin grid0.N, win0_20.index t 0 = t.val / 8 ∧ win0_20.index t 1 = t.val % 8 ∧ win0_20.index t 2 = 0 ∧ win0_20.index t 3 = 0 := by decide +kernel

theorem outsAt_20 (c : Dev nD) (t : Fin cfg0.N) : (outsAt m c t.val t.isLt).2.2.2.2.2.2.2.1 = blk20 (iblk m c 0 t) (iblk m c 1 t) (iblk m c 3 t) := by
  by_cases h0 : t.val % 8 = 0
  · rw [outsAt_A m c t h0]
    exact leftA_20 m c t h0
  · rw [outsAt_B m c t h0]
    exact leftB_20 m c t h0 _ _

/-- The indexer's queries of a start memory. -/
abbrev G20 (c : Dev nD) : Buf (Elt Ideal) ((c : Thread nD τ).loc main_v79_7) :=
  resQi (m ((c : Thread nD τ).loc main_arg0)) (m ((c : Thread nD τ).loc main_arg1)) (m ((c : Thread nD τ).loc main_arg2))

/-- What a grid point writes is its block of the result. -/
theorem block_20 (c : Dev nD) (t : Fin cfg0.N) (y : S1x4x128x256.Idx) (ht : t.val < 32) (h1 : 4 * (t.val % 8) + (y 1).val < 32) :
    blk20 (iblk m c 0 t) (iblk m c 1 t) (iblk m c 3 t) y = G20 m c (ix4 ⟨t.val / 8, by omega⟩ ⟨4 * (t.val % 8) + (y 1).val, h1⟩ (y 2) (y 3)) := by
  have hy1 : (y 1).val < 4 := (y 1).isLt
  have hy2 : (y 2).val < 128 := (y 2).isLt
  have hy3 : (y 3).val < 256 := (y 3).isLt
  rw [blk20_apply]
  refine Eq.trans (pb_qi m c t ⟨256 * (y 1).val + (y 3).val, by omega⟩ (by show 1024 * t.val + (256 * (y 1).val + (y 3).val) < 32768; omega) (y 2) _) ?_
  refine congrArg (fun r => Z (m ((c : Thread nD τ).loc main_arg0)) (m ((c : Thread nD τ).loc main_arg1)) (m ((c : Thread nD τ).loc main_arg2)) r ⟨1536 + (y 2).val, by omega⟩) (a₂ := pos ⟨t.val / 8, by omega⟩ ⟨4 * (t.val % 8) + (y 1).val, h1⟩ (y 3)) (Fin.ext ?_)
  show 1024 * t.val + (256 * (y 1).val + (y 3).val) = 8192 * (t.val / 8) + (256 * (4 * (t.val % 8) + (y 1).val) + (y 3).val)
  omega

theorem flushed_20 (c : Dev nD) (t : Fin cfg0.N) : (dats m 0 c).flushed 20 t = ((cfg0.win 20).blk t).view.read (Elt Ideal) (G20 m c) := by
  show (cfg0.win 20).cut (grid0.coords t) ((dats m 0 c).after 20 t) = _
  rw [after0_20, outsAt_20]
  funext y
  rw [View.read_apply]
  have ht : t.val < 32 := t.isLt
  have hy0 : (y 0).val < 1 := (y 0).isLt
  have hy1 : (y 1).val < 4 := (y 1).isLt
  refine (block_20 m c t y ht (by omega)).trans (congrArg (G20 m c) (funext fun a => Fin.ext ?_))
  match a with
  | ⟨0, _⟩ => show t.val / 8 = win0_20.index t 0 * 1 + 1 * (y 0).val; rw [(index20 t).1]; omega
  | ⟨1, _⟩ => show 4 * (t.val % 8) + (y 1).val = win0_20.index t 1 * 4 + 1 * (y 1).val; rw [(index20 t).2.1]; omega
  | ⟨2, _⟩ => show (y 2).val = win0_20.index t 2 * 128 + 1 * (y 2).val; rw [(index20 t).2.2.1]; omega
  | ⟨3, _⟩ => show (y 3).val = win0_20.index t 3 * 256 + 1 * (y 3).val; rw [(index20 t).2.2.2]; omega

/-- The result array after the run. -/
theorem final_20 (c : Dev nD) : (dats m 0 c).arrAt 20 cfg0.N = G20 m c :=
  (dats m 0 c).arrAt_eq_of_cover 20 (G20 m c) (fun t _ => flushed_20 m c t) fun i => by
    have h0 : (i 0 : Nat) < 4 := (i 0).isLt
    have h1 : (i 1 : Nat) < 32 := (i 1).isLt
    have h2 : (i 2 : Nat) < 128 := (i 2).isLt
    have h3 : (i 3 : Nat) < 256 := (i 3).isLt
    let t : Fin grid0.N := ⟨8 * (i 0).val + (i 1).val / 4, by show 8 * (i 0).val + (i 1).val / 4 < 32; omega⟩
    refine ⟨t, flush0_20 t, ?_⟩
    show i ∈ ((View.whole main_v79_7).slice (win0_20.rect t)).set
    rw [View.set_slice_whole, Rect.mem_set_unit]
    intro a
    match a with
    | ⟨0, _⟩ => show win0_20.index t 0 * 1 ≤ (i 0 : Nat) ∧ (i 0 : Nat) < win0_20.index t 0 * 1 + 1
                rw [(index20 t).1]; show (8 * (i 0).val + (i 1).val / 4) / 8 * 1 ≤ (i 0 : Nat) ∧ (i 0 : Nat) < (8 * (i 0).val + (i 1).val / 4) / 8 * 1 + 1; omega
    | ⟨1, _⟩ => show win0_20.index t 1 * 4 ≤ (i 1 : Nat) ∧ (i 1 : Nat) < win0_20.index t 1 * 4 + 4
                rw [(index20 t).2.1]; show (8 * (i 0).val + (i 1).val / 4) % 8 * 4 ≤ (i 1 : Nat) ∧ (i 1 : Nat) < (8 * (i 0).val + (i 1).val / 4) % 8 * 4 + 4; omega
    | ⟨2, _⟩ => show win0_20.index t 2 * 128 ≤ (i 2 : Nat) ∧ (i 2 : Nat) < win0_20.index t 2 * 128 + 128
                rw [(index20 t).2.2.1]; omega
    | ⟨3, _⟩ => show win0_20.index t 3 * 256 ≤ (i 3 : Nat) ∧ (i 3 : Nat) < win0_20.index t 3 * 256 + 256
                rw [(index20 t).2.2.2]; omega

/-! ## The indexer's weights -/

theorem index21 : ∀ t : Fin grid0.N, win0_21.index t 0 = t.val / 8 ∧ win0_21.index t 1 = t.val % 8 ∧ win0_21.index t 2 = 0 ∧ win0_21.index t 3 = 0 := by decide +kernel

theorem outsAt_21 (c : Dev nD) (t : Fin cfg0.N) : (outsAt m c t.val t.isLt).2.2.2.2.2.2.2.2.1 = blk21 (iblk m c 0 t) (iblk m c 1 t) (iblk m c 3 t) := by
  by_cases h0 : t.val % 8 = 0
  · rw [outsAt_A m c t h0]
    exact leftA_21 m c t h0
  · rw [outsAt_B m c t h0]
    exact leftB_21 m c t h0 _ _

/-- The indexer's weights of a start memory. -/
abbrev G21 (c : Dev nD) : Buf (Elt Ideal) ((c : Thread nD τ).loc main_v79_8) :=
  resWi (m ((c : Thread nD τ).loc main_arg0)) (m ((c : Thread nD τ).loc main_arg1)) (m ((c : Thread nD τ).loc main_arg2))

/-- What a grid point writes is its block of the result. -/
theorem block_21 (c : Dev nD) (t : Fin cfg0.N) (y : S1x4x8x256.Idx) (ht : t.val < 32) (h1 : 4 * (t.val % 8) + (y 1).val < 32) :
    blk21 (iblk m c 0 t) (iblk m c 1 t) (iblk m c 3 t) y = G21 m c (ix4 ⟨t.val / 8, by omega⟩ ⟨4 * (t.val % 8) + (y 1).val, h1⟩ (y 2) (y 3)) := by
  have hy1 : (y 1).val < 4 := (y 1).isLt
  have hy2 : (y 2).val < 8 := (y 2).isLt
  have hy3 : (y 3).val < 256 := (y 3).isLt
  rw [blk21_apply]
  refine Eq.trans (pb_wi m c t ⟨256 * (y 1).val + (y 3).val, by omega⟩ (by show 1024 * t.val + (256 * (y 1).val + (y 3).val) < 32768; omega) (y 2) _) ?_
  refine congrArg (fun r => if h : (y 2).val < 4 then Z (m ((c : Thread nD τ).loc main_arg0)) (m ((c : Thread nD τ).loc main_arg1)) (m ((c : Thread nD τ).loc main_arg2)) r ⟨1696 + (y 2).val, by omega⟩ else 0) (a₂ := pos ⟨t.val / 8, by omega⟩ ⟨4 * (t.val % 8) + (y 1).val, h1⟩ (y 3)) (Fin.ext ?_)
  show 1024 * t.val + (256 * (y 1).val + (y 3).val) = 8192 * (t.val / 8) + (256 * (4 * (t.val % 8) + (y 1).val) + (y 3).val)
  omega

theorem flushed_21 (c : Dev nD) (t : Fin cfg0.N) : (dats m 0 c).flushed 21 t = ((cfg0.win 21).blk t).view.read (Elt Ideal) (G21 m c) := by
  show (cfg0.win 21).cut (grid0.coords t) ((dats m 0 c).after 21 t) = _
  rw [after0_21, outsAt_21]
  funext y
  rw [View.read_apply]
  have ht : t.val < 32 := t.isLt
  have hy0 : (y 0).val < 1 := (y 0).isLt
  have hy1 : (y 1).val < 4 := (y 1).isLt
  refine (block_21 m c t y ht (by omega)).trans (congrArg (G21 m c) (funext fun a => Fin.ext ?_))
  match a with
  | ⟨0, _⟩ => show t.val / 8 = win0_21.index t 0 * 1 + 1 * (y 0).val; rw [(index21 t).1]; omega
  | ⟨1, _⟩ => show 4 * (t.val % 8) + (y 1).val = win0_21.index t 1 * 4 + 1 * (y 1).val; rw [(index21 t).2.1]; omega
  | ⟨2, _⟩ => show (y 2).val = win0_21.index t 2 * 8 + 1 * (y 2).val; rw [(index21 t).2.2.1]; omega
  | ⟨3, _⟩ => show (y 3).val = win0_21.index t 3 * 256 + 1 * (y 3).val; rw [(index21 t).2.2.2]; omega

/-- The result array after the run. -/
theorem final_21 (c : Dev nD) : (dats m 0 c).arrAt 21 cfg0.N = G21 m c :=
  (dats m 0 c).arrAt_eq_of_cover 21 (G21 m c) (fun t _ => flushed_21 m c t) fun i => by
    have h0 : (i 0 : Nat) < 4 := (i 0).isLt
    have h1 : (i 1 : Nat) < 32 := (i 1).isLt
    have h2 : (i 2 : Nat) < 8 := (i 2).isLt
    have h3 : (i 3 : Nat) < 256 := (i 3).isLt
    let t : Fin grid0.N := ⟨8 * (i 0).val + (i 1).val / 4, by show 8 * (i 0).val + (i 1).val / 4 < 32; omega⟩
    refine ⟨t, flush0_21 t, ?_⟩
    show i ∈ ((View.whole main_v79_8).slice (win0_21.rect t)).set
    rw [View.set_slice_whole, Rect.mem_set_unit]
    intro a
    match a with
    | ⟨0, _⟩ => show win0_21.index t 0 * 1 ≤ (i 0 : Nat) ∧ (i 0 : Nat) < win0_21.index t 0 * 1 + 1
                rw [(index21 t).1]; show (8 * (i 0).val + (i 1).val / 4) / 8 * 1 ≤ (i 0 : Nat) ∧ (i 0 : Nat) < (8 * (i 0).val + (i 1).val / 4) / 8 * 1 + 1; omega
    | ⟨1, _⟩ => show win0_21.index t 1 * 4 ≤ (i 1 : Nat) ∧ (i 1 : Nat) < win0_21.index t 1 * 4 + 4
                rw [(index21 t).2.1]; show (8 * (i 0).val + (i 1).val / 4) % 8 * 4 ≤ (i 1 : Nat) ∧ (i 1 : Nat) < (8 * (i 0).val + (i 1).val / 4) % 8 * 4 + 4; omega
    | ⟨2, _⟩ => show win0_21.index t 2 * 8 ≤ (i 2 : Nat) ∧ (i 2 : Nat) < win0_21.index t 2 * 8 + 8
                rw [(index21 t).2.2.1]; omega
    | ⟨3, _⟩ => show win0_21.index t 3 * 256 ≤ (i 3 : Nat) ∧ (i 3 : Nat) < win0_21.index t 3 * 256 + 256
                rw [(index21 t).2.2.2]; omega

end Cert.Proof.Front
-- ==== Proof.Front.Bits.lean ====
/-
  The mixer's front at the machine's own numbers: its program is that of the ideal instance over other float values, so
  the run of `Run.lean`, which is over any float values, is its run too.
-/
module

public import proofs.«01_k».proof.Defs
public import proofs.«01_k».proof.Proof.Gen.Kernel4
public import proofs.«01_k».proof.Proof.Front.Run

@[expose] public section

set_option maxRecDepth 65536
set_option maxHeartbeats 20000000

noncomputable section

namespace Cert.Proof.Front

open Cert.Kernel4Ideal
open Idealize.ShloMosaic Idealize.ShloMosaic.TcCoe Idealize.SL.Sem

/-- The labels' bodies, of the kernel alone. -/
abbrev Bodies := Defs nD τ sig (Elt Bits) Λ₀

/-- The labels of the whole program. -/
abbrev Labs : Labels := Pipeline.Sig Λ₀ (Fin 1) fun p => (pcfgs (F := Bits) p).Adm

theorem bodies_eq : (Cert.Kernel4.defs₀ (F := Bits) : Bodies) = defs₀ := by
  unfold Cert.Kernel4.defs₀ defs₀
  refine congrArg Defs.onTc ?_
  funext l x
  match l, x with
  | 0, (t, s) => rfl
  | ⟨_ + 1, h⟩, _ => exact absurd h (Nat.not_lt.2 (Nat.le_add_left _ _))

theorem defs_eq : (Cert.Kernel4.defs (F := Bits) : Defs nD τ sig (Elt Bits) Labs) = defs :=
  congrArg (fun d : Bodies => Pipeline.defs (pcfgs (F := Bits)) d) bodies_eq

theorem main_eq : (Cert.Kernel4.main (F := Bits) : Dev nD → Prog (TpuEff nD τ sig (Elt Bits) Labs .tc) PUnit) = main := rfl

/-- Two equal programs have the same runs. -/
theorem run_of_eq {d d' : Defs nD τ sig (Elt Bits) Labs} {p p' : Dev nD → Prog (TpuEff nD τ sig (Elt Bits) Labs .tc) PUnit}
    (hd : d = d') (hp : p = p') {s : MemSt nD τ sig (Elt Bits)} {Q : (PUnit × MemSt nD τ sig (Elt Bits)) → Prop}
    (h : θ_run d' (onTc (τ := τ) p') s Q) : θ_run d (onTc (τ := τ) p) s Q := by
  subst hd hp
  exact h

theorem frame_bits : Cert.quiescent_Kernel4 (hKernel4 := Cert.Kernel4.Gen.facts) := fun m g _ =>
  run_of_eq defs_eq main_eq (frame (F := Bits) m g)

end Cert.Proof.Front

end
-- ==== Proof.Front.Ref.lean ====
module

public import proofs.«01_k».proof.Proof.Front.Rows
public import proofs.«01_k».proof.Proof.Gen.Reference4Ideal.Read
public import Idealize.ShloMosaic.Lib.KernelVsHost
public import Idealize.ShloMosaic.Lib.ValueIdxRank6

@[expose] public section

noncomputable section

namespace Cert.Proof.Front.Ref

open Cert.Reference4Ideal Cert.Reference4Ideal.Gen Cert.Reference4Ideal.Read
open Idealize.ShloMosaic Idealize.ShloMosaic.TcCoe Idealize.SL.Sem

variable (x0 : (⟨S32768x1024, .f32⟩ : BufTy).Contents (Elt Ideal)) (x1 : (⟨S4x1024, .f32⟩ : BufTy).Contents (Elt Ideal)) (x2 : (⟨S4x1024x6308, .f32⟩ : BufTy).Contents (Elt Ideal))
  (x3 : (⟨S4x256, .f32⟩ : BufTy).Contents (Elt Ideal)) (x4 : (⟨S4x4x128x128, .f32⟩ : BufTy).Contents (Elt Ideal)) (x5 : (⟨S4x4x128, .f32⟩ : BufTy).Contents (Elt Ideal))

/-- A position of a batch as a row. -/
def row (b : Fin 4) (s : Fin 8192) : Fin 32768 := ⟨8192 * b.val + s.val, by omega⟩

theorem row_div (r : Fin 32768) : row ⟨r.val / 8192, by omega⟩ ⟨r.val % 8192, by omega⟩ = r :=
  Fin.ext (show 8192 * (r.val / 8192) + r.val % 8192 = r.val by omega)

theorem row_pos (b : Fin 4) (c : Fin 32) (s : Fin 256) : row b ⟨256 * c.val + s.val, by omega⟩ = pos b c s := rfl

theorem row_chunk (b : Fin 4) (j : Fin 64) (t : Fin 128) : row b ⟨128 * j.val + t.val, by omega⟩ = ⟨128 * (64 * b.val + j.val) + t.val, by omega⟩ :=
  Fin.ext (show 8192 * b.val + (128 * j.val + t.val) = 128 * (64 * b.val + j.val) + t.val by omega)

/-- The first norm. -/
theorem norm1 (r : Fin 32768) (n : Fin 1024) :
    val_main_v14 (F := Ideal) x0 x1 (ix2 r n) = rn (Ideal.ofBits .f32 0x44800000#32) (fun k => x0 (ix2 r k)) (fun k => x1 (ix2 0 k)) n := by
  have e0 (k : Fin 1024) : idx_main_v3 (idx_main_v4 (idx_main_v10 (ix2 r n))) k = ix2 r k := by
    funext a; match a with | ⟨0, _⟩ => rfl | ⟨1, _⟩ => rfl
  have e1 : idx_main_v0 (idx_main_v1 (idx_main_v12 (idx_main_v13 (ix2 r n)))) = ix2 0 n := by
    funext a
    match a with
    | ⟨0, _⟩ => rfl
    | ⟨1, _⟩ => exact Fin.ext (Nat.mod_eq_of_lt n.isLt)
  unfold rn
  simp only [val_main_v14_apply, val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_v12_apply, val_main_v13_apply, val_main_cst_apply, val_main_cst_0_apply, val_main_cst_1_apply, e0, e1]
  show x0 (ix2 r n) * Ideal.rsqrt (Ideal.div (Ideal.ofBits .f32 0x00000000#32 + ∑ k, x0 (ix2 r k) * x0 (ix2 r k)) _ + _) * _ = _
  rw [Ideal.ofBits_zero_f32, zero_add]
  rfl

/-- A column of the input product. -/
theorem prod (r : Fin 32768) (j : Fin 6308) : val_main_v17 (F := Ideal) x0 x1 x2 (ix2 r j) = Z x0 x1 x2 r j := by
  rw [val_main_v17_apply]
  unfold Z
  refine Finset.sum_congr rfl fun k _ => ?_
  have el : lidx_main_v17 (ix2 r j) k = ix2 r k := by
    funext a; match a with | ⟨0, _⟩ => rfl | ⟨1, _⟩ => rfl
  have er : idx_main_v15 (idx_main_v16 (ridx_main_v17 (ix2 r j) k)) = ix3 0 k j := by
    have hk := k.isLt
    have hj := j.isLt
    funext a
    match a with
    | ⟨0, _⟩ => rfl
    | ⟨1, _⟩ => exact Fin.ext (show (k.val * 6308 + j.val) / 6308 % 1024 = k.val by omega)
    | ⟨2, _⟩ => exact Fin.ext (show (k.val * 6308 + j.val) % 6308 = j.val by omega)
  rw [el, norm1, val_main_v16_apply, val_main_v15_apply, er]

theorem prod3 (b : Fin 4) (s : Fin 8192) (n : Fin 6308) : val_main_v18 (F := Ideal) x0 x1 x2 (ix3 b s n) = Z x0 x1 x2 (row b s) n := by
  have hb := b.isLt
  have hs := s.isLt
  have hn := n.isLt
  have e : idx_main_v18 (ix3 b s n) = ix2 (row b s) n := by
    funext a
    match a with
    | ⟨0, _⟩ => exact Fin.ext (show ((b.val * 8192 + s.val) * 6308 + n.val) / 6308 = 8192 * b.val + s.val by omega)
    | ⟨1, _⟩ => exact Fin.ext (show ((b.val * 8192 + s.val) * 6308 + n.val) % 6308 = n.val by omega)
  rw [val_main_v18_apply, e, prod]

/-! ## The gated mixer -/

theorem gelu_eq (b : Fin 4) (s : Fin 8192) (n : Fin 512) : val_main_v38 (F := Ideal) x0 x1 x2 (ix3 b s n) = gelu (Z x0 x1 x2 (row b s) ⟨n.val, by omega⟩) := by
  have e : idx_main_v19 (ix3 b s n) = ix3 b s ⟨n.val, by omega⟩ := by
    funext a; match a with | ⟨0, _⟩ => rfl | ⟨1, _⟩ => rfl | ⟨2, _⟩ => rfl
  simp only [val_main_v38_apply, val_main_v37_apply, val_main_v36_apply, val_main_v35_apply, val_main_v34_apply, val_main_v33_apply, val_main_v32_apply, val_main_v31_apply, val_main_v30_apply,
    val_main_v29_apply, val_main_v28_apply, val_main_v27_apply, val_main_v26_apply, val_main_v19_apply, val_main_cst_2_apply, val_main_cst_3_apply, val_main_cst_4_apply, val_main_cst_5_apply, e, prod3]
  generalize Z x0 x1 x2 (row b s) ⟨n.val, _⟩ = z
  show z * (Ideal.ofBits .f32 0x3F000000#32 * (Ideal.ofBits .f32 0x3F800000#32 + Ideal.tanh (Ideal.ofBits .f32 0x3F4C422A#32 * (z + Ideal.ofBits .f32 0x3D372713#32 * (z * z * z))))) = _
  rw [mul_comm (z * z) z]
  rfl

theorem uhalf (b : Fin 4) (s : Fin 8192) (n : Fin 256) : val_main_v39 (F := Ideal) x0 x1 x2 (ix3 b s n) = gelu (Z x0 x1 x2 (row b s) ⟨n.val, by omega⟩) := by
  have e : idx_main_v39 (ix3 b s n) = ix3 b s ⟨n.val, by omega⟩ := by
    funext a; match a with | ⟨0, _⟩ => rfl | ⟨1, _⟩ => rfl | ⟨2, _⟩ => rfl
  rw [val_main_v39_apply, e, gelu_eq]

theorem vhalf (b : Fin 4) (s : Fin 8192) (n : Fin 256) : val_main_v40 (F := Ideal) x0 x1 x2 (ix3 b s n) = gelu (Z x0 x1 x2 (row b s) ⟨256 + n.val, by omega⟩) := by
  have e : idx_main_v40 (ix3 b s n) = ix3 b s ⟨256 + n.val, by omega⟩ := by
    funext a; match a with | ⟨0, _⟩ => rfl | ⟨1, _⟩ => rfl | ⟨2, _⟩ => rfl
  rw [val_main_v40_apply, e, gelu_eq]

/-- The norm inside the gated mixer. -/
theorem norm2 (b : Fin 4) (s : Fin 8192) (n : Fin 256) :
    val_main_v53 (F := Ideal) x0 x1 x2 x3 (ix3 b s n)
      = rn (Ideal.ofBits .f32 0x43800000#32) (fun k => gelu (Z x0 x1 x2 (row b s) ⟨256 + k.val, by omega⟩)) (fun k => x3 (ix2 0 k)) n := by
  have e0 (k : Fin 256) : idx_main_v42 (idx_main_v43 (idx_main_v49 (ix3 b s n))) k = ix3 b s k := by
    funext a; match a with | ⟨0, _⟩ => rfl | ⟨1, _⟩ => rfl | ⟨2, _⟩ => rfl
  have e1 : idx_main_v20 (idx_main_v21 (idx_main_v51 (idx_main_v52 (ix3 b s n)))) = ix2 0 n := by
    funext a
    match a with
    | ⟨0, _⟩ => rfl
    | ⟨1, _⟩ => exact Fin.ext (Nat.mod_eq_of_lt n.isLt)
  unfold rn
  simp only [val_main_v53_apply, val_main_v52_apply, val_main_v51_apply, val_main_v50_apply, val_main_v49_apply, val_main_v48_apply, val_main_v47_apply, val_main_v46_apply, val_main_v45_apply, val_main_v44_apply,
    val_main_v43_apply, val_main_v42_apply, val_main_v41_apply, val_main_v21_apply, val_main_v20_apply, val_main_cst_6_apply, val_main_cst_7_apply, val_main_cst_8_apply, e0, e1, vhalf]
  generalize (fun k : Fin 256 => gelu (Z x0 x1 x2 (row b s) ⟨256 + k.val, _⟩)) = h
  show _ * Ideal.rsqrt (Ideal.div (Ideal.ofBits .f32 0x00000000#32 + ∑ k, _ * _) _ + _) * _ = _
  rw [Ideal.ofBits_zero_f32, zero_add]
  rfl

theorem tril : ∀ t s : Fin 128, Scalar.select (IntOp.cmpi .sge (IntOp.addi (BitVec.ofNat 32 t.val) 0#32) (BitVec.ofNat 32 s.val)) (1#1) (0#1) = if s.val ≤ t.val then 1#1 else 0#1 := by decide +kernel

/-- The masked mixing matrices. -/
theorem masked (g : Fin 4) (t s : Fin 128) : val_main_v58 (F := Ideal) x4 (ix3 g t s) = if s.val ≤ t.val then x4 (ix4 0 g t s) else 0 := by
  have hg := g.isLt
  have ht := t.isLt
  have hs := s.isLt
  have e : idx_main_v22 (idx_main_v23 (ix3 g t s)) = ix4 0 g t s := by
    funext a
    match a with
    | ⟨0, _⟩ => rfl
    | ⟨1, _⟩ => exact Fin.ext (show ((g.val * 128 + t.val) * 128 + s.val) / 16384 % 4 = g.val by omega)
    | ⟨2, _⟩ => exact Fin.ext (show ((g.val * 128 + t.val) * 128 + s.val) / 128 % 128 = t.val by omega)
    | ⟨3, _⟩ => exact Fin.ext (show ((g.val * 128 + t.val) * 128 + s.val) % 128 = s.val by omega)
  have ec : val_main_call1_v1 (F := Ideal) (ix3 g t s) = if s.val ≤ t.val then 1#1 else 0#1 := by
    rw [val_main_call1_v1_apply, val_main_v57_apply]
    exact tril t s
  have ez : val_main_call1_v2 (F := Ideal) (ix3 g t s) = (0 : EReal) := by
    rw [val_main_call1_v2_apply]
    exact Ideal.ofBits_zero_f32
  rw [val_main_v58_apply, ec, ez, val_main_v23_apply, val_main_v22_apply, e]
  by_cases h : s.val ≤ t.val
  · rw [if_pos h, if_pos h]; rfl
  · rw [if_neg h, if_neg h]; rfl

/-- The mixed rows of a chunk. -/
theorem mixrow (b : Fin 4) (j : Fin 64) (t : Fin 128) (g : Fin 4) (d : Fin 64) :
    val_main_v60 (F := Ideal) x0 x1 x2 x3 x4 (ValueIdx.ix5 b j t g d)
      = ∑ k : Fin 128, val_main_v53 (F := Ideal) x0 x1 x2 x3 (ix3 b ⟨128 * j.val + k.val, by omega⟩ ⟨64 * g.val + d.val, by omega⟩) * val_main_v58 (F := Ideal) x4 (ix3 g t k) := by
  have hb := b.isLt
  have hj := j.isLt
  have hg := g.isLt
  have hd := d.isLt
  rw [val_main_v60_apply, val_main_v59_apply]
  refine Finset.sum_congr rfl fun k _ => ?_
  have hk := k.isLt
  have el : idx_main_v54 (lidx_main_v59 (idx_main_v60 (ValueIdx.ix5 b j t g d)) k) = ix3 b ⟨128 * j.val + k.val, by omega⟩ ⟨64 * g.val + d.val, by omega⟩ := by
    funext a
    match a with
    | ⟨0, _⟩ => exact Fin.ext (show ((((b.val * 64 + j.val) * 128 + k.val) * 4 + g.val) * 64 + d.val) / 2097152 = b.val by omega)
    | ⟨1, _⟩ => exact Fin.ext (show ((((b.val * 64 + j.val) * 128 + k.val) * 4 + g.val) * 64 + d.val) / 256 % 8192 = 128 * j.val + k.val by omega)
    | ⟨2, _⟩ => exact Fin.ext (show ((((b.val * 64 + j.val) * 128 + k.val) * 4 + g.val) * 64 + d.val) % 256 = 64 * g.val + d.val by omega)
  have er : ridx_main_v59 (idx_main_v60 (ValueIdx.ix5 b j t g d)) k = ix3 g t k := by
    funext a; match a with | ⟨0, _⟩ => rfl | ⟨1, _⟩ => rfl | ⟨2, _⟩ => rfl
  rw [val_main_v54_apply, el, er]

/-- The bias of a chunk. -/
theorem bias (b : Fin 4) (j : Fin 64) (t : Fin 128) (g : Fin 4) (d : Fin 64) : val_main_v63 (F := Ideal) x5 (ValueIdx.ix5 b j t g d) = x5 (ix3 0 g t) := by
  have hg := g.isLt
  have ht := t.isLt
  have e : idx_main_v24 (idx_main_v25 (idx_main_v61 (idx_main_v62 (idx_main_v63 (ValueIdx.ix5 b j t g d))))) = ix3 0 g t := by
    funext a
    match a with
    | ⟨0, _⟩ => rfl
    | ⟨1, _⟩ => exact Fin.ext (show (g.val * 128 + t.val) / 128 % 4 = g.val by omega)
    | ⟨2, _⟩ => exact Fin.ext (show (g.val * 128 + t.val) % 128 = t.val by omega)
  rw [val_main_v63_apply, val_main_v62_apply, val_main_v61_apply, val_main_v25_apply, val_main_v24_apply, e]

theorem gated (b : Fin 4) (j : Fin 64) (t : Fin 128) (n : Fin 256) :
    val_main_v66 (F := Ideal) x0 x1 x2 x3 x4 x5 (ix3 b ⟨128 * j.val + t.val, by omega⟩ n) = mixed x0 x1 x2 x3 x4 x5 ⟨64 * b.val + j.val, by omega⟩ t n := by
  have hb := b.isLt
  have hj := j.isLt
  have ht := t.isLt
  have hn := n.isLt
  have e : idx_main_v65 (ix3 b ⟨128 * j.val + t.val, by omega⟩ n) = ValueIdx.ix5 b j t ⟨n.val / 64, by omega⟩ ⟨n.val % 64, by omega⟩ := by
    funext a
    match a with
    | ⟨0, _⟩ => exact Fin.ext (show ((b.val * 8192 + (128 * j.val + t.val)) * 256 + n.val) / 2097152 = b.val by omega)
    | ⟨1, _⟩ => exact Fin.ext (show ((b.val * 8192 + (128 * j.val + t.val)) * 256 + n.val) / 32768 % 64 = j.val by omega)
    | ⟨2, _⟩ => exact Fin.ext (show ((b.val * 8192 + (128 * j.val + t.val)) * 256 + n.val) / 256 % 128 = t.val by omega)
    | ⟨3, _⟩ => exact Fin.ext (show ((b.val * 8192 + (128 * j.val + t.val)) * 256 + n.val) / 64 % 4 = n.val / 64 by omega)
    | ⟨4, _⟩ => exact Fin.ext (show ((b.val * 8192 + (128 * j.val + t.val)) * 256 + n.val) % 64 = n.val % 64 by omega)
  have en : (⟨64 * (n.val / 64) + n.val % 64, by omega⟩ : Fin 256) = n := Fin.ext (show 64 * (n.val / 64) + n.val % 64 = n.val by omega)
  unfold mixed gmix
  rw [val_main_v66_apply, val_main_v65_apply, val_main_v64_apply, e, mixrow, bias, uhalf, row_chunk]
  refine congrArg (fun z => gelu (Z x0 x1 x2 ⟨128 * (64 * b.val + j.val) + t.val, by omega⟩ ⟨n.val, by omega⟩) * (z + x5 (ix3 0 ⟨n.val / 64, by omega⟩ t))) (Finset.sum_congr rfl fun k _ => ?_)
  rw [masked, norm2, row_chunk]
  refine (mul_comm _ _).trans ?_
  rw [en]

/-! ## The results -/

theorem bg_eq : val_main_v80 (F := Ideal) x0 x1 x2 x3 x4 x5 = resBg x0 x1 x2 x3 x4 x5 := by
  funext y
  obtain ⟨r, n, rfl⟩ : ∃ (r : Fin 32768) (n : Fin 256), y = ix2 r n := ⟨y 0, y 1, eq_ix2 y⟩
  have hr := r.isLt
  have hn := n.isLt
  have e : idx_main_v79 (ix2 r n) = ix3 ⟨r.val / 8192, by omega⟩ ⟨128 * (r.val / 128 % 64) + r.val % 128, by omega⟩ n := by
    funext a
    match a with
    | ⟨0, _⟩ => exact Fin.ext (show (r.val * 256 + n.val) / 2097152 = r.val / 8192 by omega)
    | ⟨1, _⟩ => exact Fin.ext (show (r.val * 256 + n.val) / 256 % 8192 = 128 * (r.val / 128 % 64) + r.val % 128 by omega)
    | ⟨2, _⟩ => exact Fin.ext (show (r.val * 256 + n.val) % 256 = n.val by omega)
  have h := gated x0 x1 x2 x3 x4 x5 ⟨r.val / 8192, by omega⟩ ⟨r.val / 128 % 64, by omega⟩ ⟨r.val % 128, by omega⟩ n
  rw [val_main_v80_apply, val_main_v79_apply, e]
  refine h.trans (congrArg (fun q => mixed x0 x1 x2 x3 x4 x5 q ⟨r.val % 128, by omega⟩ n) (a₂ := ⟨r.val / 128, by omega⟩) (Fin.ext ?_))
  show 64 * (r.val / 8192) + r.val / 128 % 64 = r.val / 128
  omega

theorem k_eq : val_main_v82 (F := Ideal) x0 x1 x2 = resK x0 x1 x2 := by
  funext y
  obtain ⟨r, n, rfl⟩ : ∃ (r : Fin 32768) (n : Fin 256), y = ix2 r n := ⟨y 0, y 1, eq_ix2 y⟩
  have hr := r.isLt
  have hn := n.isLt
  have e : idx_main_v70 (idx_main_v81 (ix2 r n)) = ix3 ⟨r.val / 8192, by omega⟩ ⟨r.val % 8192, by omega⟩ ⟨1024 + n.val, by omega⟩ := by
    funext a
    match a with
    | ⟨0, _⟩ => exact Fin.ext (show (r.val * 256 + n.val) / 2097152 = r.val / 8192 by omega)
    | ⟨1, _⟩ => exact Fin.ext (show (r.val * 256 + n.val) / 256 % 8192 = r.val % 8192 by omega)
    | ⟨2, _⟩ => exact Fin.ext (show 1024 + (r.val * 256 + n.val) % 256 = 1024 + n.val by omega)
  rw [val_main_v82_apply, val_main_v81_apply, val_main_v70_apply, e, prod3, row_div]
  rfl

/-- The indexer's keys, four times over, at a position. -/
theorem four (b : Fin 4) (s : Fin 8192) (n : Fin 128) : val_main_v76 (F := Ideal) x0 x1 x2 (ix3 b s n) = Z x0 x1 x2 (row b s) ⟨1664 + n.val % 32, by omega⟩ := by
  have hn := n.isLt
  have e1 : val_main_v76 (F := Ideal) x0 x1 x2 (ix3 b s n) = val_main_v75 (F := Ideal) x0 x1 x2 (ValueIdx.ix6 0 b 0 s ⟨n.val / 32, by omega⟩ ⟨n.val % 32, by omega⟩) := by
    unfold val_main_v76
    generalize val_main_v75 (F := Ideal) x0 x1 x2 = y
    exact shapeCast_apply y shapeCasts_S1x4x1x8192x4x32_S4x8192x128 (ix3 b s n) (ValueIdx.ix6 0 b 0 s ⟨n.val / 32, by omega⟩ ⟨n.val % 32, by omega⟩)
      (by rewrite [Shape.rowMajor_val_six, Shape.rowMajor_val_three]; show ((((0 * 4 + b.val) * 1 + 0) * 8192 + s.val) * 4 + n.val / 32) * 32 + n.val % 32 = (b.val * 8192 + s.val) * 128 + n.val; omega)
  have e2 (d : Fin 32) : val_main_v74 (F := Ideal) x0 x1 x2 (ValueIdx.ix6 0 b 0 s 0 d) = val_main_v73 (F := Ideal) x0 x1 x2 (ix3 b s d) := by
    unfold val_main_v74
    generalize val_main_v73 (F := Ideal) x0 x1 x2 = y
    exact shapeCast_apply y shapeCasts_S4x8192x32_S1x4x1x8192x1x32 (ValueIdx.ix6 0 b 0 s 0 d) (ix3 b s d)
      (by rewrite [Shape.rowMajor_val_three, Shape.rowMajor_val_six]; show (b.val * 8192 + s.val) * 32 + d.val = ((((0 * 4 + b.val) * 1 + 0) * 8192 + s.val) * 1 + 0) * 32 + d.val; omega)
  have e3 : idx_main_v75 (ValueIdx.ix6 0 b 0 s ⟨n.val / 32, by omega⟩ ⟨n.val % 32, by omega⟩) = ValueIdx.ix6 0 b 0 s 0 ⟨n.val % 32, by omega⟩ := by
    funext a; match a with | ⟨0, _⟩ => rfl | ⟨1, _⟩ => rfl | ⟨2, _⟩ => rfl | ⟨3, _⟩ => rfl | ⟨4, _⟩ => rfl | ⟨5, _⟩ => rfl
  have e4 (d : Fin 32) : idx_main_v73 (ix3 b s d) = ix3 b s ⟨1664 + d.val, by omega⟩ := by
    funext a; match a with | ⟨0, _⟩ => rfl | ⟨1, _⟩ => rfl | ⟨2, _⟩ => rfl
  rw [e1, val_main_v75_apply, e3, e2, val_main_v73_apply, e4, prod3]

theorem ki_eq : val_main_v84 (F := Ideal) x0 x1 x2 = resKi x0 x1 x2 := by
  funext y
  obtain ⟨r, n, rfl⟩ : ∃ (r : Fin 32768) (n : Fin 128), y = ix2 r n := ⟨y 0, y 1, eq_ix2 y⟩
  have hr := r.isLt
  have hn := n.isLt
  have e : idx_main_v83 (ix2 r n) = ix3 ⟨r.val / 8192, by omega⟩ ⟨r.val % 8192, by omega⟩ n := by
    funext a
    match a with
    | ⟨0, _⟩ => exact Fin.ext (show (r.val * 128 + n.val) / 1048576 = r.val / 8192 by omega)
    | ⟨1, _⟩ => exact Fin.ext (show (r.val * 128 + n.val) / 128 % 8192 = r.val % 8192 by omega)
    | ⟨2, _⟩ => exact Fin.ext (show (r.val * 128 + n.val) % 128 = n.val by omega)
  rw [val_main_v84_apply, val_main_v83_apply, e, four, row_div]
  rfl

theorem q_eq : val_main_v87 (F := Ideal) x0 x1 x2 = resQ x0 x1 x2 := by
  funext y
  obtain ⟨b, c, n, s, rfl⟩ : ∃ (b : Fin 4) (c : Fin 32) (n : Fin 256) (s : Fin 256), y = ix4 b c n s := ⟨y 0, y 1, y 2, y 3, eq_ix4 y⟩
  have hb := b.isLt
  have hc := c.isLt
  have hn := n.isLt
  have hs := s.isLt
  have e : idx_main_v85 (idx_main_v86 (ix4 b c n s)) = ix3 b ⟨256 * c.val + s.val, by omega⟩ n := by
    funext a
    match a with
    | ⟨0, _⟩ => exact Fin.ext (show (((b.val * 32 + c.val) * 256 + s.val) * 256 + n.val) / 2097152 = b.val by omega)
    | ⟨1, _⟩ => exact Fin.ext (show (((b.val * 32 + c.val) * 256 + s.val) * 256 + n.val) / 256 % 8192 = 256 * c.val + s.val by omega)
    | ⟨2, _⟩ => exact Fin.ext (show (((b.val * 32 + c.val) * 256 + s.val) * 256 + n.val) % 256 = n.val by omega)
  have e2 : idx_main_v67 (ix3 b ⟨256 * c.val + s.val, by omega⟩ n) = ix3 b ⟨256 * c.val + s.val, by omega⟩ ⟨768 + n.val, by omega⟩ := by
    funext a; match a with | ⟨0, _⟩ => rfl | ⟨1, _⟩ => rfl | ⟨2, _⟩ => rfl
  rw [val_main_v87_apply, val_main_v86_apply, val_main_v85_apply, e, val_main_v69_apply, val_main_v68_apply, val_main_cst_10_apply, val_main_v67_apply, e2, prod3, row_pos]
  rfl

theorem v_eq : val_main_v90 (F := Ideal) x0 x1 x2 = resV x0 x1 x2 := by
  funext y
  obtain ⟨b, c, n, s, rfl⟩ : ∃ (b : Fin 4) (c : Fin 32) (n : Fin 256) (s : Fin 256), y = ix4 b c n s := ⟨y 0, y 1, y 2, y 3, eq_ix4 y⟩
  have hb := b.isLt
  have hc := c.isLt
  have hn := n.isLt
  have hs := s.isLt
  have e : idx_main_v71 (idx_main_v88 (idx_main_v89 (ix4 b c n s))) = ix3 b ⟨256 * c.val + s.val, by omega⟩ ⟨1280 + n.val, by omega⟩ := by
    funext a
    match a with
    | ⟨0, _⟩ => exact Fin.ext (show (((b.val * 32 + c.val) * 256 + s.val) * 256 + n.val) / 2097152 = b.val by omega)
    | ⟨1, _⟩ => exact Fin.ext (show (((b.val * 32 + c.val) * 256 + s.val) * 256 + n.val) / 256 % 8192 = 256 * c.val + s.val by omega)
    | ⟨2, _⟩ => exact Fin.ext (show 1280 + (((b.val * 32 + c.val) * 256 + s.val) * 256 + n.val) % 256 = 1280 + n.val by omega)
  rw [val_main_v90_apply, val_main_v89_apply, val_main_v88_apply, val_main_v71_apply, e, prod3, row_pos]
  rfl

theorem qi_eq : val_main_v93 (F := Ideal) x0 x1 x2 = resQi x0 x1 x2 := by
  funext y
  obtain ⟨b, c, n, s, rfl⟩ : ∃ (b : Fin 4) (c : Fin 32) (n : Fin 128) (s : Fin 256), y = ix4 b c n s := ⟨y 0, y 1, y 2, y 3, eq_ix4 y⟩
  have hb := b.isLt
  have hc := c.isLt
  have hn := n.isLt
  have hs := s.isLt
  have e : idx_main_v72 (idx_main_v91 (idx_main_v92 (ix4 b c n s))) = ix3 b ⟨256 * c.val + s.val, by omega⟩ ⟨1536 + n.val, by omega⟩ := by
    funext a
    match a with
    | ⟨0, _⟩ => exact Fin.ext (show (((b.val * 32 + c.val) * 256 + s.val) * 128 + n.val) / 1048576 = b.val by omega)
    | ⟨1, _⟩ => exact Fin.ext (show (((b.val * 32 + c.val) * 256 + s.val) * 128 + n.val) / 128 % 8192 = 256 * c.val + s.val by omega)
    | ⟨2, _⟩ => exact Fin.ext (show 1536 + (((b.val * 32 + c.val) * 256 + s.val) * 128 + n.val) % 128 = 1536 + n.val by omega)
  rw [val_main_v93_apply, val_main_v92_apply, val_main_v91_apply, val_main_v72_apply, e, prod3, row_pos]
  rfl

/-- The indexer's weights with the zeros after them, at a position. -/
theorem padded (b : Fin 4) (s : Fin 8192) (n : Fin 8) : val_main_v78 (F := Ideal) x0 x1 x2 (ix3 b s n) = if h : n.val < 4 then Z x0 x1 x2 (row b s) ⟨1696 + n.val, by omega⟩ else 0 := by
  unfold val_main_v78
  by_cases h : n.val < 4
  · rw [dif_pos h]
    have e : idx_main_v77 (ix3 b s ⟨n.val, h⟩) = ix3 b s ⟨1696 + n.val, by omega⟩ := by
      funext a; match a with | ⟨0, _⟩ => rfl | ⟨1, _⟩ => rfl | ⟨2, _⟩ => rfl
    refine (pad_apply_of_inside _ _ _ _ _ _ _ (ix3 b s n) (ix3 b s ⟨n.val, h⟩) fun a => ?_).trans ?_
    · match a with
      | ⟨0, _⟩ => show b.val = 0 + b.val * (0 + 1); omega
      | ⟨1, _⟩ => show s.val = 0 + s.val * (0 + 1); omega
      | ⟨2, _⟩ => show n.val = 0 + n.val * (0 + 1); omega
    · rw [val_main_v77_apply, e, prod3]
  · rw [dif_neg h]
    refine (pad_apply_of_not_inside _ _ _ _ _ _ _ (ix3 b s n) (2 : Fin 3) fun hin => h ?_).trans ?_
    · have h2 : (n.val - 0) / (0 + 1) < 4 := hin.2.2
      omega
    · show (((0#32 : BitVec 32).toInt : ℝ) : EReal) = 0
      simp

theorem wi_eq : val_main_v95 (F := Ideal) x0 x1 x2 = resWi x0 x1 x2 := by
  funext y
  obtain ⟨b, c, n, s, rfl⟩ : ∃ (b : Fin 4) (c : Fin 32) (n : Fin 8) (s : Fin 256), y = ix4 b c n s := ⟨y 0, y 1, y 2, y 3, eq_ix4 y⟩
  have hb := b.isLt
  have hc := c.isLt
  have hn := n.isLt
  have hs := s.isLt
  have e : idx_main_v94 (idx_main_v95 (ix4 b c n s)) = ix3 b ⟨256 * c.val + s.val, by omega⟩ n := by
    funext a
    match a with
    | ⟨0, _⟩ => exact Fin.ext (show (((b.val * 32 + c.val) * 256 + s.val) * 8 + n.val) / 65536 = b.val by omega)
    | ⟨1, _⟩ => exact Fin.ext (show (((b.val * 32 + c.val) * 256 + s.val) * 8 + n.val) / 8 % 8192 = 256 * c.val + s.val by omega)
    | ⟨2, _⟩ => exact Fin.ext (show (((b.val * 32 + c.val) * 256 + s.val) * 8 + n.val) % 8 = n.val by omega)
  rw [val_main_v95_apply, val_main_v94_apply, e, padded]
  rfl

end Cert.Proof.Front.Ref
-- ==== Proof.lean ====
/-
  The certificate's claims: at the ideal instance the attention kernel runs, from any memory, to an end and without a fault,
  its argument arrays end as they began, and every semaphore counter reads zero again; the feed-forward kernel, the kernels
  at the mixer's front and at its end and their references do so too, the three kernels also at the machine's own numbers;
  and over the extended reals each of the three computes the same results as its reference from the same arguments.
-/
module

public import proofs.«01_k».proof.Defs
public import proofs.«01_k».proof.Proof.Gen.KernelIdeal
public import proofs.«01_k».proof.Proof.Att.Run
public import proofs.«01_k».proof.Proof.Gen.Kernel2
public import proofs.«01_k».proof.Proof.Gen.Kernel2.Value
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Value
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Ffn.Ref
public import proofs.«01_k».proof.Proof.Back.Ref
public import proofs.«01_k».proof.Proof.Front.Array
public import proofs.«01_k».proof.Proof.Front.Bits
public import proofs.«01_k».proof.Proof.Front.Ref
public import Idealize.ShloMosaic.Lib.Quiescent

@[expose] public section

noncomputable section

namespace Cert.Proof

open Idealize.ShloMosaic Idealize.ShloMosaic.TcCoe Idealize.SL.Sem

theorem frame_attention : Cert.quiescent_KernelIdeal (hKernelIdeal := Cert.KernelIdeal.Gen.facts) := by
  intro m g _
  refine Att.run_main m g _ fun r h => ⟨fun c => ⟨?_, ?_, ?_, ?_, ?_, ?_, ?_⟩, h.2⟩
  · exact h.1.arr_in c 0 rfl
  · exact h.1.arr_in c 1 rfl
  · exact h.1.arr_in c 2 rfl
  · exact h.1.arr_in c 3 rfl
  · exact h.1.arr_in c 4 rfl
  · exact h.1.arr_in c 5 rfl
  · exact h.1.arr_in c 6 rfl

theorem frame_reference : Cert.quiescent_Reference2Ideal (hReference2Ideal := Cert.Reference2Ideal.Gen.facts) := fun m g _ =>
  (θ_run Cert.Reference2Ideal.defs _ _).mono (fun r h => ⟨fun c => (h c).2, sem_eq_zero_of_no_sems rfl r.2⟩) (Cert.Reference2Ideal.Value.run m g)

theorem algebraic_ffn : Cert.algebraic_Kernel2Ideal_Reference2Ideal (hKernel2Ideal := Cert.Kernel2Ideal.Gen.facts) (hReference2Ideal := Cert.Reference2Ideal.Gen.facts) := by
  intro m g m' g' _ hargs
  refine ⟨fun c => Ffn.G m c, ?_, ?_⟩
  · refine (θ_run Cert.Kernel2Ideal.defs _ _).mono (fun r h c => ?_) (Cert.Kernel2Ideal.Value.run_blocks m g)
    obtain ⟨hv, h⟩ := h c
    exact ⟨hv.trans (Ffn.final m c), h⟩
  · refine (θ_run Cert.Reference2Ideal.defs _ _).mono (fun r h c => ?_) (Cert.Reference2Ideal.Value.run m' g')
    obtain ⟨hv, h⟩ := h c
    refine ⟨hv.trans ((Cert.Reference2Ideal.Read.val_main_v45_eq m' c).trans ((Ffn.Ref.ref_eq ..).trans ?_)), h⟩
    obtain ⟨h0, h1, h2, h3, h4⟩ := hargs c
    rw [h0, h1, h2, h3, h4]

theorem frame_back_reference : Cert.quiescent_Reference3Ideal (hReference3Ideal := Cert.Reference3Ideal.Gen.facts) := fun m g _ =>
  (θ_run Cert.Reference3Ideal.defs _ _).mono (fun r h => ⟨fun c => (h c).2, sem_eq_zero_of_no_sems rfl r.2⟩) (Cert.Reference3Ideal.Value.run m g)

theorem algebraic_back : Cert.algebraic_Kernel3Ideal_Reference3Ideal (hKernel3Ideal := Cert.Kernel3Ideal.Gen.facts) (hReference3Ideal := Cert.Reference3Ideal.Gen.facts) := by
  intro m g m' g' _ hargs
  refine ⟨fun c => Back.G m c, ?_, ?_⟩
  · refine (θ_run Cert.Kernel3Ideal.defs _ _).mono (fun r h c => ?_) (Cert.Kernel3Ideal.Value.run_blocks m g)
    obtain ⟨hv, h⟩ := h c
    exact ⟨hv.trans (Back.final m c), h⟩
  · refine (θ_run Cert.Reference3Ideal.defs _ _).mono (fun r h c => ?_) (Cert.Reference3Ideal.Value.run m' g')
    obtain ⟨hv, h⟩ := h c
    refine ⟨hv.trans ((Cert.Reference3Ideal.Read.val_main_v76_eq m' c).trans ((Back.Ref.ref_eq ..).trans ?_)), h⟩
    obtain ⟨h0, h1, h2, h3, h4, h5, h6, h7, h8, h9⟩ := hargs c
    rw [h0, h1, h2, h3, h4, h5, h6, h7, h8, h9]

theorem frame_front_reference : Cert.quiescent_Reference4Ideal (hReference4Ideal := Cert.Reference4Ideal.Gen.facts) := fun m g _ =>
  (θ_run Cert.Reference4Ideal.defs _ _).mono (fun r h => ⟨fun c => (h c).2.2.2.2.2.2.2, sem_eq_zero_of_no_sems rfl r.2⟩)
    (Cert.Reference4Ideal.Value.run m g)

theorem algebraic_front : Cert.algebraic_Kernel4Ideal_Reference4Ideal (hKernel4Ideal := Cert.Kernel4Ideal.Gen.facts) (hReference4Ideal := Cert.Reference4Ideal.Gen.facts) := by
  intro m g m' g' _ hargs
  refine ⟨fun c => Front.G13 m c, fun c => Front.G16 m c, fun c => Front.G17 m c, fun c => Front.G18 m c, fun c => Front.G19 m c, fun c => Front.G20 m c, fun c => Front.G21 m c, ?_, ?_⟩
  · refine (θ_run Cert.Kernel4Ideal.defs _ _).mono (fun r h c => ?_) (θ_run_and (Front.unchanged m g) (Front.run_main m g))
    exact ⟨(Front.post13 m r h.2 c).trans (Front.final_13 m c),
      (Front.post16 m r h.2 c).trans (Front.final_16 m c),
      (Front.post17 m r h.2 c).trans (Front.final_17 m c),
      (Front.post18 m r h.2 c).trans (Front.final_18 m c),
      (Front.post19 m r h.2 c).trans (Front.final_19 m c),
      (Front.post20 m r h.2 c).trans (Front.final_20 m c),
      (Front.post21 m r h.2 c).trans (Front.final_21 m c), h.1 c⟩
  · refine (θ_run Cert.Reference4Ideal.defs _ _).mono (fun r h c => ?_) (Cert.Reference4Ideal.Value.run m' g')
    obtain ⟨hbg, hk, hki, hq, hv, hqi, hwi, h⟩ := h c
    obtain ⟨h0, h1, h2, h3, h4, h5, -⟩ := hargs c
    refine ⟨hbg.trans ((Cert.Reference4Ideal.Read.val_main_v80_eq m' c).trans ((Front.Ref.bg_eq ..).trans ?_)),
      hk.trans ((Cert.Reference4Ideal.Read.val_main_v82_eq ..).trans ((Front.Ref.k_eq ..).trans ?_)),
      hki.trans ((Cert.Reference4Ideal.Read.val_main_v84_eq ..).trans ((Front.Ref.ki_eq ..).trans ?_)),
      hq.trans ((Cert.Reference4Ideal.Read.val_main_v87_eq ..).trans ((Front.Ref.q_eq ..).trans ?_)),
      hv.trans ((Cert.Reference4Ideal.Read.val_main_v90_eq ..).trans ((Front.Ref.v_eq ..).trans ?_)),
      hqi.trans ((Cert.Reference4Ideal.Read.val_main_v93_eq ..).trans ((Front.Ref.qi_eq ..).trans ?_)),
      hwi.trans ((Cert.Reference4Ideal.Read.val_main_v95_eq ..).trans ((Front.Ref.wi_eq ..).trans ?_)), h⟩
    · rw [h0, h1, h2, h3, h4, h5]
    all_goals rw [h0, h1, h2]

theorem claim : Cert.Claim :=
  ⟨Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    frame_attention, fun m g _ => Cert.Kernel2.Gen.frame m g, fun m g _ => Cert.Kernel2Ideal.Gen.frame m g,
    frame_reference, fun m g _ => Cert.Kernel3.Gen.frame m g, fun m g _ => Cert.Kernel3Ideal.Gen.frame m g,
    frame_back_reference, Front.frame_bits, fun m g _ => Front.frame m g, frame_front_reference,
    trivial, algebraic_ffn, trivial, algebraic_back, trivial, algebraic_front⟩

end Cert.Proof

end
